-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_LayerEnd (m : (ℓ : Loc Cert.LayerEnd.nD Cert.LayerEnd.τ Cert.LayerEnd.sig) → Buf (Elt Bits) ℓ) : Prop :=
  True

def Pre_LayerEndIdeal (m : (ℓ : Loc Cert.LayerEndIdeal.nD Cert.LayerEndIdeal.τ Cert.LayerEndIdeal.sig) → Buf (Elt Ideal) ℓ) : Prop :=
  True

def Pre_LayerEndVjpIdeal (m : (ℓ : Loc Cert.LayerEndVjpIdeal.nD Cert.LayerEndVjpIdeal.τ Cert.LayerEndVjpIdeal.sig) → Buf (Elt Ideal) ℓ) : Prop :=
  True

def Pre_AdamwLate (m : (ℓ : Loc Cert.AdamwLate.nD Cert.AdamwLate.τ Cert.AdamwLate.sig) → Buf (Elt Bits) ℓ) : Prop :=
  True

def Pre_AdamwLateIdeal (m : (ℓ : Loc Cert.AdamwLateIdeal.nD Cert.AdamwLateIdeal.τ Cert.AdamwLateIdeal.sig) → Buf (Elt Ideal) ℓ) : Prop :=
  True

def Pre_AdamwRefLateIdeal (m : (ℓ : Loc Cert.AdamwRefLateIdeal.nD Cert.AdamwRefLateIdeal.τ Cert.AdamwRefLateIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwRefInIdeal (m : (ℓ : Loc Cert.AdamwRefInIdeal.nD Cert.AdamwRefInIdeal.τ Cert.AdamwRefInIdeal.sig) → Buf (Elt Ideal) ℓ) : Prop :=
  True

def Pre_AdamwUq (m : (ℓ : Loc Cert.AdamwUq.nD Cert.AdamwUq.τ Cert.AdamwUq.sig) → Buf (Elt Bits) ℓ) : Prop :=
  True

def Pre_AdamwUqIdeal (m : (ℓ : Loc Cert.AdamwUqIdeal.nD Cert.AdamwUqIdeal.τ Cert.AdamwUqIdeal.sig) → Buf (Elt Ideal) ℓ) : Prop :=
  True

def Pre_AdamwRefUqIdeal (m : (ℓ : Loc Cert.AdamwRefUqIdeal.nD Cert.AdamwRefUqIdeal.τ Cert.AdamwRefUqIdeal.sig) → Buf (Elt Ideal) ℓ) : Prop :=
  True

def Pre_AdamwUkv (m : (ℓ : Loc Cert.AdamwUkv.nD Cert.AdamwUkv.τ Cert.AdamwUkv.sig) → Buf (Elt Bits) ℓ) : Prop :=
  True

def Pre_AdamwUkvIdeal (m : (ℓ : Loc Cert.AdamwUkvIdeal.nD Cert.AdamwUkvIdeal.τ Cert.AdamwUkvIdeal.sig) → Buf (Elt Ideal) ℓ) : Prop :=
  True

def Pre_AdamwRefUkvIdeal (m : (ℓ : Loc Cert.AdamwRefUkvIdeal.nD Cert.AdamwRefUkvIdeal.τ Cert.AdamwRefUkvIdeal.sig) → Buf (Elt Ideal) ℓ) : Prop :=
  True

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsVjpIdeal (m : (ℓ : Loc Cert.ProjectionsVjpIdeal.nD Cert.ProjectionsVjpIdeal.τ Cert.ProjectionsVjpIdeal.sig) → Buf (Elt Ideal) ℓ) : Prop :=
  True

def Pre_SmallSums (m : (ℓ : Loc Cert.SmallSums.nD Cert.SmallSums.τ Cert.SmallSums.sig) → Buf (Elt Bits) ℓ) : Prop :=
  True

def Pre_SmallSumsIdeal (m : (ℓ : Loc Cert.SmallSumsIdeal.nD Cert.SmallSumsIdeal.τ Cert.SmallSumsIdeal.sig) → Buf (Elt Ideal) ℓ) : Prop :=
  True

def Pre_SmallSumsRefIdeal (m : (ℓ : Loc Cert.SmallSumsRefIdeal.nD Cert.SmallSumsRefIdeal.τ Cert.SmallSumsRefIdeal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_LayerEnd [hLayerEnd : Cert.LayerEnd.Facts] : Prop :=
  ∀ (m : (ℓ : Loc Cert.LayerEnd.nD Cert.LayerEnd.τ Cert.LayerEnd.sig) → Buf (Elt Bits) ℓ) (g : Dev Cert.LayerEnd.nD → PrngReg), Pre_LayerEnd m →
    θ_run (Cert.LayerEnd.defs (F := Bits)) (onTc (τ := Cert.LayerEnd.τ) (Cert.LayerEnd.main (F := Bits))) ⟨m, fun _ => 0, g⟩ (fun r => (∀ c : Dev Cert.LayerEnd.nD,
      r.2.mem ((c.tc : Thread Cert.LayerEnd.nD Cert.LayerEnd.τ).loc Cert.LayerEnd.main_arg0) = m ((c.tc : Thread Cert.LayerEnd.nD Cert.LayerEnd.τ).loc Cert.LayerEnd.main_arg0)
      ∧ r.2.mem ((c.tc : Thread Cert.LayerEnd.nD Cert.LayerEnd.τ).loc Cert.LayerEnd.main_arg1) = m ((c.tc : Thread Cert.LayerEnd.nD Cert.LayerEnd.τ).loc Cert.LayerEnd.main_arg1)
      ∧ r.2.mem ((c.tc : Thread Cert.LayerEnd.nD Cert.LayerEnd.τ).loc Cert.LayerEnd.main_arg2) = m ((c.tc : Thread Cert.LayerEnd.nD Cert.LayerEnd.τ).loc Cert.LayerEnd.main_arg2)
      ∧ r.2.mem ((c.tc : Thread Cert.LayerEnd.nD Cert.LayerEnd.τ).loc Cert.LayerEnd.main_arg3) = m ((c.tc : Thread Cert.LayerEnd.nD Cert.LayerEnd.τ).loc Cert.LayerEnd.main_arg3)
      ∧ r.2.mem ((c.tc : Thread Cert.LayerEnd.nD Cert.LayerEnd.τ).loc Cert.LayerEnd.main_arg4) = m ((c.tc : Thread Cert.LayerEnd.nD Cert.LayerEnd.τ).loc Cert.LayerEnd.main_arg4)
      ∧ r.2.mem ((c.tc : Thread Cert.LayerEnd.nD Cert.LayerEnd.τ).loc Cert.LayerEnd.main_arg5) = m ((c.tc : Thread Cert.LayerEnd.nD Cert.LayerEnd.τ).loc Cert.LayerEnd.main_arg5)
      ∧ r.2.mem ((c.tc : Thread Cert.LayerEnd.nD Cert.LayerEnd.τ).loc Cert.LayerEnd.main_arg6) = m ((c.tc : Thread Cert.LayerEnd.nD Cert.LayerEnd.τ).loc Cert.LayerEnd.main_arg6)
      ∧ r.2.mem ((c.tc : Thread Cert.LayerEnd.nD Cert.LayerEnd.τ).loc Cert.LayerEnd.main_arg7) = m ((c.tc : Thread Cert.LayerEnd.nD Cert.LayerEnd.τ).loc Cert.LayerEnd.main_arg7)
      ∧ r.2.mem ((c.tc : Thread Cert.LayerEnd.nD Cert.LayerEnd.τ).loc Cert.LayerEnd.main_arg8) = m ((c.tc : Thread Cert.LayerEnd.nD Cert.LayerEnd.τ).loc Cert.LayerEnd.main_arg8)
      ∧ r.2.mem ((c.tc : Thread Cert.LayerEnd.nD Cert.LayerEnd.τ).loc Cert.LayerEnd.main_arg9) = m ((c.tc : Thread Cert.LayerEnd.nD Cert.LayerEnd.τ).loc Cert.LayerEnd.main_arg9)
      ∧ r.2.mem ((c.tc : Thread Cert.LayerEnd.nD Cert.LayerEnd.τ).loc Cert.LayerEnd.main_arg10) = m ((c.tc : Thread Cert.LayerEnd.nD Cert.LayerEnd.τ).loc Cert.LayerEnd.main_arg10))
      ∧ r.2.sem = fun _ => 0)

def quiescent_LayerEndIdeal [hLayerEndIdeal : Cert.LayerEndIdeal.Facts] : Prop :=
  ∀ (m : (ℓ : Loc Cert.LayerEndIdeal.nD Cert.LayerEndIdeal.τ Cert.LayerEndIdeal.sig) → Buf (Elt Ideal) ℓ) (g : Dev Cert.LayerEndIdeal.nD → PrngReg), Pre_LayerEndIdeal m →
    θ_run (Cert.LayerEndIdeal.defs (F := Ideal)) (onTc (τ := Cert.LayerEndIdeal.τ) (Cert.LayerEndIdeal.main (F := Ideal))) ⟨m, fun _ => 0, g⟩ (fun r => (∀ c : Dev Cert.LayerEndIdeal.nD,
      r.2.mem ((c.tc : Thread Cert.LayerEndIdeal.nD Cert.LayerEndIdeal.τ).loc Cert.LayerEndIdeal.main_arg0) = m ((c.tc : Thread Cert.LayerEndIdeal.nD Cert.LayerEndIdeal.τ).loc Cert.LayerEndIdeal.main_arg0)
      ∧ r.2.mem ((c.tc : Thread Cert.LayerEndIdeal.nD Cert.LayerEndIdeal.τ).loc Cert.LayerEndIdeal.main_arg1) = m ((c.tc : Thread Cert.LayerEndIdeal.nD Cert.LayerEndIdeal.τ).loc Cert.LayerEndIdeal.main_arg1)
      ∧ r.2.mem ((c.tc : Thread Cert.LayerEndIdeal.nD Cert.LayerEndIdeal.τ).loc Cert.LayerEndIdeal.main_arg2) = m ((c.tc : Thread Cert.LayerEndIdeal.nD Cert.LayerEndIdeal.τ).loc Cert.LayerEndIdeal.main_arg2)
      ∧ r.2.mem ((c.tc : Thread Cert.LayerEndIdeal.nD Cert.LayerEndIdeal.τ).loc Cert.LayerEndIdeal.main_arg3) = m ((c.tc : Thread Cert.LayerEndIdeal.nD Cert.LayerEndIdeal.τ).loc Cert.LayerEndIdeal.main_arg3)
      ∧ r.2.mem ((c.tc : Thread Cert.LayerEndIdeal.nD Cert.LayerEndIdeal.τ).loc Cert.LayerEndIdeal.main_arg4) = m ((c.tc : Thread Cert.LayerEndIdeal.nD Cert.LayerEndIdeal.τ).loc Cert.LayerEndIdeal.main_arg4)
      ∧ r.2.mem ((c.tc : Thread Cert.LayerEndIdeal.nD Cert.LayerEndIdeal.τ).loc Cert.LayerEndIdeal.main_arg5) = m ((c.tc : Thread Cert.LayerEndIdeal.nD Cert.LayerEndIdeal.τ).loc Cert.LayerEndIdeal.main_arg5)
      ∧ r.2.mem ((c.tc : Thread Cert.LayerEndIdeal.nD Cert.LayerEndIdeal.τ).loc Cert.LayerEndIdeal.main_arg6) = m ((c.tc : Thread Cert.LayerEndIdeal.nD Cert.LayerEndIdeal.τ).loc Cert.LayerEndIdeal.main_arg6)
      ∧ r.2.mem ((c.tc : Thread Cert.LayerEndIdeal.nD Cert.LayerEndIdeal.τ).loc Cert.LayerEndIdeal.main_arg7) = m ((c.tc : Thread Cert.LayerEndIdeal.nD Cert.LayerEndIdeal.τ).loc Cert.LayerEndIdeal.main_arg7)
      ∧ r.2.mem ((c.tc : Thread Cert.LayerEndIdeal.nD Cert.LayerEndIdeal.τ).loc Cert.LayerEndIdeal.main_arg8) = m ((c.tc : Thread Cert.LayerEndIdeal.nD Cert.LayerEndIdeal.τ).loc Cert.LayerEndIdeal.main_arg8)
      ∧ r.2.mem ((c.tc : Thread Cert.LayerEndIdeal.nD Cert.LayerEndIdeal.τ).loc Cert.LayerEndIdeal.main_arg9) = m ((c.tc : Thread Cert.LayerEndIdeal.nD Cert.LayerEndIdeal.τ).loc Cert.LayerEndIdeal.main_arg9)
      ∧ r.2.mem ((c.tc : Thread Cert.LayerEndIdeal.nD Cert.LayerEndIdeal.τ).loc Cert.LayerEndIdeal.main_arg10) = m ((c.tc : Thread Cert.LayerEndIdeal.nD Cert.LayerEndIdeal.τ).loc Cert.LayerEndIdeal.main_arg10))
      ∧ r.2.sem = fun _ => 0)

def quiescent_LayerEndVjpIdeal [hLayerEndVjpIdeal : Cert.LayerEndVjpIdeal.Facts] : Prop :=
  ∀ (m : (ℓ : Loc Cert.LayerEndVjpIdeal.nD Cert.LayerEndVjpIdeal.τ Cert.LayerEndVjpIdeal.sig) → Buf (Elt Ideal) ℓ) (g : Dev Cert.LayerEndVjpIdeal.nD → PrngReg), Pre_LayerEndVjpIdeal m →
    θ_run (Cert.LayerEndVjpIdeal.defs (F := Ideal)) (onTc (τ := Cert.LayerEndVjpIdeal.τ) (Cert.LayerEndVjpIdeal.main (F := Ideal))) ⟨m, fun _ => 0, g⟩ (fun r => (∀ c : Dev Cert.LayerEndVjpIdeal.nD,
      r.2.mem ((c.tc : Thread Cert.LayerEndVjpIdeal.nD Cert.LayerEndVjpIdeal.τ).loc Cert.LayerEndVjpIdeal.main_arg0) = m ((c.tc : Thread Cert.LayerEndVjpIdeal.nD Cert.LayerEndVjpIdeal.τ).loc Cert.LayerEndVjpIdeal.main_arg0)
      ∧ r.2.mem ((c.tc : Thread Cert.LayerEndVjpIdeal.nD Cert.LayerEndVjpIdeal.τ).loc Cert.LayerEndVjpIdeal.main_arg1) = m ((c.tc : Thread Cert.LayerEndVjpIdeal.nD Cert.LayerEndVjpIdeal.τ).loc Cert.LayerEndVjpIdeal.main_arg1)
      ∧ r.2.mem ((c.tc : Thread Cert.LayerEndVjpIdeal.nD Cert.LayerEndVjpIdeal.τ).loc Cert.LayerEndVjpIdeal.main_arg2) = m ((c.tc : Thread Cert.LayerEndVjpIdeal.nD Cert.LayerEndVjpIdeal.τ).loc Cert.LayerEndVjpIdeal.main_arg2)
      ∧ r.2.mem ((c.tc : Thread Cert.LayerEndVjpIdeal.nD Cert.LayerEndVjpIdeal.τ).loc Cert.LayerEndVjpIdeal.main_arg3) = m ((c.tc : Thread Cert.LayerEndVjpIdeal.nD Cert.LayerEndVjpIdeal.τ).loc Cert.LayerEndVjpIdeal.main_arg3)
      ∧ r.2.mem ((c.tc : Thread Cert.LayerEndVjpIdeal.nD Cert.LayerEndVjpIdeal.τ).loc Cert.LayerEndVjpIdeal.main_arg4) = m ((c.tc : Thread Cert.LayerEndVjpIdeal.nD Cert.LayerEndVjpIdeal.τ).loc Cert.LayerEndVjpIdeal.main_arg4)
      ∧ r.2.mem ((c.tc : Thread Cert.LayerEndVjpIdeal.nD Cert.LayerEndVjpIdeal.τ).loc Cert.LayerEndVjpIdeal.main_arg5) = m ((c.tc : Thread Cert.LayerEndVjpIdeal.nD Cert.LayerEndVjpIdeal.τ).loc Cert.LayerEndVjpIdeal.main_arg5)
      ∧ r.2.mem ((c.tc : Thread Cert.LayerEndVjpIdeal.nD Cert.LayerEndVjpIdeal.τ).loc Cert.LayerEndVjpIdeal.main_arg6) = m ((c.tc : Thread Cert.LayerEndVjpIdeal.nD Cert.LayerEndVjpIdeal.τ).loc Cert.LayerEndVjpIdeal.main_arg6)
      ∧ r.2.mem ((c.tc : Thread Cert.LayerEndVjpIdeal.nD Cert.LayerEndVjpIdeal.τ).loc Cert.LayerEndVjpIdeal.main_arg7) = m ((c.tc : Thread Cert.LayerEndVjpIdeal.nD Cert.LayerEndVjpIdeal.τ).loc Cert.LayerEndVjpIdeal.main_arg7)
      ∧ r.2.mem ((c.tc : Thread Cert.LayerEndVjpIdeal.nD Cert.LayerEndVjpIdeal.τ).loc Cert.LayerEndVjpIdeal.main_arg8) = m ((c.tc : Thread Cert.LayerEndVjpIdeal.nD Cert.LayerEndVjpIdeal.τ).loc Cert.LayerEndVjpIdeal.main_arg8)
      ∧ r.2.mem ((c.tc : Thread Cert.LayerEndVjpIdeal.nD Cert.LayerEndVjpIdeal.τ).loc Cert.LayerEndVjpIdeal.main_arg9) = m ((c.tc : Thread Cert.LayerEndVjpIdeal.nD Cert.LayerEndVjpIdeal.τ).loc Cert.LayerEndVjpIdeal.main_arg9)
      ∧ r.2.mem ((c.tc : Thread Cert.LayerEndVjpIdeal.nD Cert.LayerEndVjpIdeal.τ).loc Cert.LayerEndVjpIdeal.main_arg10) = m ((c.tc : Thread Cert.LayerEndVjpIdeal.nD Cert.LayerEndVjpIdeal.τ).loc Cert.LayerEndVjpIdeal.main_arg10))
      ∧ r.2.sem = fun _ => 0)

def quiescent_AdamwLate [hAdamwLate : Cert.AdamwLate.Facts] : Prop :=
  ∀ (m : (ℓ : Loc Cert.AdamwLate.nD Cert.AdamwLate.τ Cert.AdamwLate.sig) → Buf (Elt Bits) ℓ) (g : Dev Cert.AdamwLate.nD → PrngReg), Pre_AdamwLate m →
    θ_run (Cert.AdamwLate.defs (F := Bits)) (onTc (τ := Cert.AdamwLate.τ) (Cert.AdamwLate.main (F := Bits))) ⟨m, fun _ => 0, g⟩ (fun r => (∀ c : Dev Cert.AdamwLate.nD,
      r.2.mem ((c.tc : Thread Cert.AdamwLate.nD Cert.AdamwLate.τ).loc Cert.AdamwLate.main_arg0) = m ((c.tc : Thread Cert.AdamwLate.nD Cert.AdamwLate.τ).loc Cert.AdamwLate.main_arg0)
      ∧ r.2.mem ((c.tc : Thread Cert.AdamwLate.nD Cert.AdamwLate.τ).loc Cert.AdamwLate.main_arg1) = m ((c.tc : Thread Cert.AdamwLate.nD Cert.AdamwLate.τ).loc Cert.AdamwLate.main_arg1)
      ∧ r.2.mem ((c.tc : Thread Cert.AdamwLate.nD Cert.AdamwLate.τ).loc Cert.AdamwLate.main_arg2) = m ((c.tc : Thread Cert.AdamwLate.nD Cert.AdamwLate.τ).loc Cert.AdamwLate.main_arg2)
      ∧ r.2.mem ((c.tc : Thread Cert.AdamwLate.nD Cert.AdamwLate.τ).loc Cert.AdamwLate.main_arg3) = m ((c.tc : Thread Cert.AdamwLate.nD Cert.AdamwLate.τ).loc Cert.AdamwLate.main_arg3)
      ∧ r.2.mem ((c.tc : Thread Cert.AdamwLate.nD Cert.AdamwLate.τ).loc Cert.AdamwLate.main_arg4) = m ((c.tc : Thread Cert.AdamwLate.nD Cert.AdamwLate.τ).loc Cert.AdamwLate.main_arg4)
      ∧ r.2.mem ((c.tc : Thread Cert.AdamwLate.nD Cert.AdamwLate.τ).loc Cert.AdamwLate.main_arg5) = m ((c.tc : Thread Cert.AdamwLate.nD Cert.AdamwLate.τ).loc Cert.AdamwLate.main_arg5)
      ∧ r.2.mem ((c.tc : Thread Cert.AdamwLate.nD Cert.AdamwLate.τ).loc Cert.AdamwLate.main_arg6) = m ((c.tc : Thread Cert.AdamwLate.nD Cert.AdamwLate.τ).loc Cert.AdamwLate.main_arg6)
      ∧ r.2.mem ((c.tc : Thread Cert.AdamwLate.nD Cert.AdamwLate.τ).loc Cert.AdamwLate.main_arg7) = m ((c.tc : Thread Cert.AdamwLate.nD Cert.AdamwLate.τ).loc Cert.AdamwLate.main_arg7)
      ∧ r.2.mem ((c.tc : Thread Cert.AdamwLate.nD Cert.AdamwLate.τ).loc Cert.AdamwLate.main_arg8) = m ((c.tc : Thread Cert.AdamwLate.nD Cert.AdamwLate.τ).loc Cert.AdamwLate.main_arg8)
      ∧ r.2.mem ((c.tc : Thread Cert.AdamwLate.nD Cert.AdamwLate.τ).loc Cert.AdamwLate.main_arg9) = m ((c.tc : Thread Cert.AdamwLate.nD Cert.AdamwLate.τ).loc Cert.AdamwLate.main_arg9)
      ∧ r.2.mem ((c.tc : Thread Cert.AdamwLate.nD Cert.AdamwLate.τ).loc Cert.AdamwLate.main_arg10) = m ((c.tc : Thread Cert.AdamwLate.nD Cert.AdamwLate.τ).loc Cert.AdamwLate.main_arg10)
      ∧ r.2.mem ((c.tc : Thread Cert.AdamwLate.nD Cert.AdamwLate.τ).loc Cert.AdamwLate.main_arg11) = m ((c.tc : Thread Cert.AdamwLate.nD Cert.AdamwLate.τ).loc Cert.AdamwLate.main_arg11)
      ∧ r.2.mem ((c.tc : Thread Cert.AdamwLate.nD Cert.AdamwLate.τ).loc Cert.AdamwLate.main_arg12) = m ((c.tc : Thread Cert.AdamwLate.nD Cert.AdamwLate.τ).loc Cert.AdamwLate.main_arg12)
      ∧ r.2.mem ((c.tc : Thread Cert.AdamwLate.nD Cert.AdamwLate.τ).loc Cert.AdamwLate.main_arg13) = m ((c.tc : Thread Cert.AdamwLate.nD Cert.AdamwLate.τ).loc Cert.AdamwLate.main_arg13)
      ∧ r.2.mem ((c.tc : Thread Cert.AdamwLate.nD Cert.AdamwLate.τ).loc Cert.AdamwLate.main_arg14) = m ((c.tc : Thread Cert.AdamwLate.nD Cert.AdamwLate.τ).loc Cert.AdamwLate.main_arg14)
      ∧ r.2.mem ((c.tc : Thread Cert.AdamwLate.nD Cert.AdamwLate.τ).loc Cert.AdamwLate.main_arg15) = m ((c.tc : Thread Cert.AdamwLate.nD Cert.AdamwLate.τ).loc Cert.AdamwLate.main_arg15))
      ∧ r.2.sem = fun _ => 0)

def quiescent_AdamwLateIdeal [hAdamwLateIdeal : Cert.AdamwLateIdeal.Facts] : Prop :=
  ∀ (m : (ℓ : Loc Cert.AdamwLateIdeal.nD Cert.AdamwLateIdeal.τ Cert.AdamwLateIdeal.sig) → Buf (Elt Ideal) ℓ) (g : Dev Cert.AdamwLateIdeal.nD → PrngReg), Pre_AdamwLateIdeal m →
    θ_run (Cert.AdamwLateIdeal.defs (F := Ideal)) (onTc (τ := Cert.AdamwLateIdeal.τ) (Cert.AdamwLateIdeal.main (F := Ideal))) ⟨m, fun _ => 0, g⟩ (fun r => (∀ c : Dev Cert.AdamwLateIdeal.nD,
      r.2.mem ((c.tc : Thread Cert.AdamwLateIdeal.nD Cert.AdamwLateIdeal.τ).loc Cert.AdamwLateIdeal.main_arg0) = m ((c.tc : Thread Cert.AdamwLateIdeal.nD Cert.AdamwLateIdeal.τ).loc Cert.AdamwLateIdeal.main_arg0)
      ∧ r.2.mem ((c.tc : Thread Cert.AdamwLateIdeal.nD Cert.AdamwLateIdeal.τ).loc Cert.AdamwLateIdeal.main_arg1) = m ((c.tc : Thread Cert.AdamwLateIdeal.nD Cert.AdamwLateIdeal.τ).loc Cert.AdamwLateIdeal.main_arg1)
      ∧ r.2.mem ((c.tc : Thread Cert.AdamwLateIdeal.nD Cert.AdamwLateIdeal.τ).loc Cert.AdamwLateIdeal.main_arg2) = m ((c.tc : Thread Cert.AdamwLateIdeal.nD Cert.AdamwLateIdeal.τ).loc Cert.AdamwLateIdeal.main_arg2)
      ∧ r.2.mem ((c.tc : Thread Cert.AdamwLateIdeal.nD Cert.AdamwLateIdeal.τ).loc Cert.AdamwLateIdeal.main_arg3) = m ((c.tc : Thread Cert.AdamwLateIdeal.nD Cert.AdamwLateIdeal.τ).loc Cert.AdamwLateIdeal.main_arg3)
      ∧ r.2.mem ((c.tc : Thread Cert.AdamwLateIdeal.nD Cert.AdamwLateIdeal.τ).loc Cert.AdamwLateIdeal.main_arg4) = m ((c.tc : Thread Cert.AdamwLateIdeal.nD Cert.AdamwLateIdeal.τ).loc Cert.AdamwLateIdeal.main_arg4)
      ∧ r.2.mem ((c.tc : Thread Cert.AdamwLateIdeal.nD Cert.AdamwLateIdeal.τ).loc Cert.AdamwLateIdeal.main_arg5) = m ((c.tc : Thread Cert.AdamwLateIdeal.nD Cert.AdamwLateIdeal.τ).loc Cert.AdamwLateIdeal.main_arg5)
      ∧ r.2.mem ((c.tc : Thread Cert.AdamwLateIdeal.nD Cert.AdamwLateIdeal.τ).loc Cert.AdamwLateIdeal.main_arg6) = m ((c.tc : Thread Cert.AdamwLateIdeal.nD Cert.AdamwLateIdeal.τ).loc Cert.AdamwLateIdeal.main_arg6)
      ∧ r.2.mem ((c.tc : Thread Cert.AdamwLateIdeal.nD Cert.AdamwLateIdeal.τ).loc Cert.AdamwLateIdeal.main_arg7) = m ((c.tc : Thread Cert.AdamwLateIdeal.nD Cert.AdamwLateIdeal.τ).loc Cert.AdamwLateIdeal.main_arg7)
      ∧ r.2.mem ((c.tc : Thread Cert.AdamwLateIdeal.nD Cert.AdamwLateIdeal.τ).loc Cert.AdamwLateIdeal.main_arg8) = m ((c.tc : Thread Cert.AdamwLateIdeal.nD Cert.AdamwLateIdeal.τ).loc Cert.AdamwLateIdeal.main_arg8)
      ∧ r.2.mem ((c.tc : Thread Cert.AdamwLateIdeal.nD Cert.AdamwLateIdeal.τ).loc Cert.AdamwLateIdeal.main_arg9) = m ((c.tc : Thread Cert.AdamwLateIdeal.nD Cert.AdamwLateIdeal.τ).loc Cert.AdamwLateIdeal.main_arg9)
      ∧ r.2.mem ((c.tc : Thread Cert.AdamwLateIdeal.nD Cert.AdamwLateIdeal.τ).loc Cert.AdamwLateIdeal.main_arg10) = m ((c.tc : Thread Cert.AdamwLateIdeal.nD Cert.AdamwLateIdeal.τ).loc Cert.AdamwLateIdeal.main_arg10)
      ∧ r.2.mem ((c.tc : Thread Cert.AdamwLateIdeal.nD Cert.AdamwLateIdeal.τ).loc Cert.AdamwLateIdeal.main_arg11) = m ((c.tc : Thread Cert.AdamwLateIdeal.nD Cert.AdamwLateIdeal.τ).loc Cert.AdamwLateIdeal.main_arg11)
      ∧ r.2.mem ((c.tc : Thread Cert.AdamwLateIdeal.nD Cert.AdamwLateIdeal.τ).loc Cert.AdamwLateIdeal.main_arg12) = m ((c.tc : Thread Cert.AdamwLateIdeal.nD Cert.AdamwLateIdeal.τ).loc Cert.AdamwLateIdeal.main_arg12)
      ∧ r.2.mem ((c.tc : Thread Cert.AdamwLateIdeal.nD Cert.AdamwLateIdeal.τ).loc Cert.AdamwLateIdeal.main_arg13) = m ((c.tc : Thread Cert.AdamwLateIdeal.nD Cert.AdamwLateIdeal.τ).loc Cert.AdamwLateIdeal.main_arg13)
      ∧ r.2.mem ((c.tc : Thread Cert.AdamwLateIdeal.nD Cert.AdamwLateIdeal.τ).loc Cert.AdamwLateIdeal.main_arg14) = m ((c.tc : Thread Cert.AdamwLateIdeal.nD Cert.AdamwLateIdeal.τ).loc Cert.AdamwLateIdeal.main_arg14)
      ∧ r.2.mem ((c.tc : Thread Cert.AdamwLateIdeal.nD Cert.AdamwLateIdeal.τ).loc Cert.AdamwLateIdeal.main_arg15) = m ((c.tc : Thread Cert.AdamwLateIdeal.nD Cert.AdamwLateIdeal.τ).loc Cert.AdamwLateIdeal.main_arg15))
      ∧ r.2.sem = fun _ => 0)

def quiescent_AdamwRefLateIdeal [hAdamwRefLateIdeal : Cert.AdamwRefLateIdeal.Facts] : Prop :=
  ∀ (m : (ℓ : Loc Cert.AdamwRefLateIdeal.nD Cert.AdamwRefLateIdeal.τ Cert.AdamwRefLateIdeal.sig) → Buf (Elt Ideal) ℓ) (g : Dev Cert.AdamwRefLateIdeal.nD → PrngReg), Pre_AdamwRefLateIdeal m →
    θ_run (Cert.AdamwRefLateIdeal.defs (F := Ideal)) (onTc (τ := Cert.AdamwRefLateIdeal.τ) (Cert.AdamwRefLateIdeal.main (F := Ideal))) ⟨m, fun _ => 0, g⟩ (fun r => (∀ c : Dev Cert.AdamwRefLateIdeal.nD,
      r.2.mem ((c.tc : Thread Cert.AdamwRefLateIdeal.nD Cert.AdamwRefLateIdeal.τ).loc Cert.AdamwRefLateIdeal.main_arg0) = m ((c.tc : Thread Cert.AdamwRefLateIdeal.nD Cert.AdamwRefLateIdeal.τ).loc Cert.AdamwRefLateIdeal.main_arg0)
      ∧ r.2.mem ((c.tc : Thread Cert.AdamwRefLateIdeal.nD Cert.AdamwRefLateIdeal.τ).loc Cert.AdamwRefLateIdeal.main_arg1) = m ((c.tc : Thread Cert.AdamwRefLateIdeal.nD Cert.AdamwRefLateIdeal.τ).loc Cert.AdamwRefLateIdeal.main_arg1)
      ∧ r.2.mem ((c.tc : Thread Cert.AdamwRefLateIdeal.nD Cert.AdamwRefLateIdeal.τ).loc Cert.AdamwRefLateIdeal.main_arg2) = m ((c.tc : Thread Cert.AdamwRefLateIdeal.nD Cert.AdamwRefLateIdeal.τ).loc Cert.AdamwRefLateIdeal.main_arg2)
      ∧ r.2.mem ((c.tc : Thread Cert.AdamwRefLateIdeal.nD Cert.AdamwRefLateIdeal.τ).loc Cert.AdamwRefLateIdeal.main_arg3) = m ((c.tc : Thread Cert.AdamwRefLateIdeal.nD Cert.AdamwRefLateIdeal.τ).loc Cert.AdamwRefLateIdeal.main_arg3)
      ∧ r.2.mem ((c.tc : Thread Cert.AdamwRefLateIdeal.nD Cert.AdamwRefLateIdeal.τ).loc Cert.AdamwRefLateIdeal.main_arg4) = m ((c.tc : Thread Cert.AdamwRefLateIdeal.nD Cert.AdamwRefLateIdeal.τ).loc Cert.AdamwRefLateIdeal.main_arg4)
      ∧ r.2.mem ((c.tc : Thread Cert.AdamwRefLateIdeal.nD Cert.AdamwRefLateIdeal.τ).loc Cert.AdamwRefLateIdeal.main_arg5) = m ((c.tc : Thread Cert.AdamwRefLateIdeal.nD Cert.AdamwRefLateIdeal.τ).loc Cert.AdamwRefLateIdeal.main_arg5)
      ∧ r.2.mem ((c.tc : Thread Cert.AdamwRefLateIdeal.nD Cert.AdamwRefLateIdeal.τ).loc Cert.AdamwRefLateIdeal.main_arg6) = m ((c.tc : Thread Cert.AdamwRefLateIdeal.nD Cert.AdamwRefLateIdeal.τ).loc Cert.AdamwRefLateIdeal.main_arg6)
      ∧ r.2.mem ((c.tc : Thread Cert.AdamwRefLateIdeal.nD Cert.AdamwRefLateIdeal.τ).loc Cert.AdamwRefLateIdeal.main_arg7) = m ((c.tc : Thread Cert.AdamwRefLateIdeal.nD Cert.AdamwRefLateIdeal.τ).loc Cert.AdamwRefLateIdeal.main_arg7)
      ∧ r.2.mem ((c.tc : Thread Cert.AdamwRefLateIdeal.nD Cert.AdamwRefLateIdeal.τ).loc Cert.AdamwRefLateIdeal.main_arg8) = m ((c.tc : Thread Cert.AdamwRefLateIdeal.nD Cert.AdamwRefLateIdeal.τ).loc Cert.AdamwRefLateIdeal.main_arg8)
      ∧ r.2.mem ((c.tc : Thread Cert.AdamwRefLateIdeal.nD Cert.AdamwRefLateIdeal.τ).loc Cert.AdamwRefLateIdeal.main_arg9) = m ((c.tc : Thread Cert.AdamwRefLateIdeal.nD Cert.AdamwRefLateIdeal.τ).loc Cert.AdamwRefLateIdeal.main_arg9)
      ∧ r.2.mem ((c.tc : Thread Cert.AdamwRefLateIdeal.nD Cert.AdamwRefLateIdeal.τ).loc Cert.AdamwRefLateIdeal.main_arg10) = m ((c.tc : Thread Cert.AdamwRefLateIdeal.nD Cert.AdamwRefLateIdeal.τ).loc Cert.AdamwRefLateIdeal.main_arg10)
      ∧ r.2.mem ((c.tc : Thread Cert.AdamwRefLateIdeal.nD Cert.AdamwRefLateIdeal.τ).loc Cert.AdamwRefLateIdeal.main_arg11) = m ((c.tc : Thread Cert.AdamwRefLateIdeal.nD Cert.AdamwRefLateIdeal.τ).loc Cert.AdamwRefLateIdeal.main_arg11)
      ∧ r.2.mem ((c.tc : Thread Cert.AdamwRefLateIdeal.nD Cert.AdamwRefLateIdeal.τ).loc Cert.AdamwRefLateIdeal.main_arg12) = m ((c.tc : Thread Cert.AdamwRefLateIdeal.nD Cert.AdamwRefLateIdeal.τ).loc Cert.AdamwRefLateIdeal.main_arg12)
      ∧ r.2.mem ((c.tc : Thread Cert.AdamwRefLateIdeal.nD Cert.AdamwRefLateIdeal.τ).loc Cert.AdamwRefLateIdeal.main_arg13) = m ((c.tc : Thread Cert.AdamwRefLateIdeal.nD Cert.AdamwRefLateIdeal.τ).loc Cert.AdamwRefLateIdeal.main_arg13)
      ∧ r.2.mem ((c.tc : Thread Cert.AdamwRefLateIdeal.nD Cert.AdamwRefLateIdeal.τ).loc Cert.AdamwRefLateIdeal.main_arg14) = m ((c.tc : Thread Cert.AdamwRefLateIdeal.nD Cert.AdamwRefLateIdeal.τ).loc Cert.AdamwRefLateIdeal.main_arg14)
      ∧ r.2.mem ((c.tc : Thread Cert.AdamwRefLateIdeal.nD Cert.AdamwRefLateIdeal.τ).loc Cert.AdamwRefLateIdeal.main_arg15) = m ((c.tc : Thread Cert.AdamwRefLateIdeal.nD Cert.AdamwRefLateIdeal.τ).loc Cert.AdamwRefLateIdeal.main_arg15))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwRefInIdeal [hAdamwRefInIdeal : Cert.AdamwRefInIdeal.Facts] : Prop :=
  ∀ (m : (ℓ : Loc Cert.AdamwRefInIdeal.nD Cert.AdamwRefInIdeal.τ Cert.AdamwRefInIdeal.sig) → Buf (Elt Ideal) ℓ) (g : Dev Cert.AdamwRefInIdeal.nD → PrngReg), Pre_AdamwRefInIdeal m →
    θ_run (Cert.AdamwRefInIdeal.defs (F := Ideal)) (onTc (τ := Cert.AdamwRefInIdeal.τ) (Cert.AdamwRefInIdeal.main (F := Ideal))) ⟨m, fun _ => 0, g⟩ (fun r => (∀ c : Dev Cert.AdamwRefInIdeal.nD,
      r.2.mem ((c.tc : Thread Cert.AdamwRefInIdeal.nD Cert.AdamwRefInIdeal.τ).loc Cert.AdamwRefInIdeal.main_arg0) = m ((c.tc : Thread Cert.AdamwRefInIdeal.nD Cert.AdamwRefInIdeal.τ).loc Cert.AdamwRefInIdeal.main_arg0)
      ∧ r.2.mem ((c.tc : Thread Cert.AdamwRefInIdeal.nD Cert.AdamwRefInIdeal.τ).loc Cert.AdamwRefInIdeal.main_arg1) = m ((c.tc : Thread Cert.AdamwRefInIdeal.nD Cert.AdamwRefInIdeal.τ).loc Cert.AdamwRefInIdeal.main_arg1)
      ∧ r.2.mem ((c.tc : Thread Cert.AdamwRefInIdeal.nD Cert.AdamwRefInIdeal.τ).loc Cert.AdamwRefInIdeal.main_arg2) = m ((c.tc : Thread Cert.AdamwRefInIdeal.nD Cert.AdamwRefInIdeal.τ).loc Cert.AdamwRefInIdeal.main_arg2)
      ∧ r.2.mem ((c.tc : Thread Cert.AdamwRefInIdeal.nD Cert.AdamwRefInIdeal.τ).loc Cert.AdamwRefInIdeal.main_arg3) = m ((c.tc : Thread Cert.AdamwRefInIdeal.nD Cert.AdamwRefInIdeal.τ).loc Cert.AdamwRefInIdeal.main_arg3))
      ∧ r.2.sem = fun _ => 0)

def quiescent_AdamwUq [hAdamwUq : Cert.AdamwUq.Facts] : Prop :=
  ∀ (m : (ℓ : Loc Cert.AdamwUq.nD Cert.AdamwUq.τ Cert.AdamwUq.sig) → Buf (Elt Bits) ℓ) (g : Dev Cert.AdamwUq.nD → PrngReg), Pre_AdamwUq m →
    θ_run (Cert.AdamwUq.defs (F := Bits)) (onTc (τ := Cert.AdamwUq.τ) (Cert.AdamwUq.main (F := Bits))) ⟨m, fun _ => 0, g⟩ (fun r => (∀ c : Dev Cert.AdamwUq.nD,
      r.2.mem ((c.tc : Thread Cert.AdamwUq.nD Cert.AdamwUq.τ).loc Cert.AdamwUq.main_arg0) = m ((c.tc : Thread Cert.AdamwUq.nD Cert.AdamwUq.τ).loc Cert.AdamwUq.main_arg0)
      ∧ r.2.mem ((c.tc : Thread Cert.AdamwUq.nD Cert.AdamwUq.τ).loc Cert.AdamwUq.main_arg1) = m ((c.tc : Thread Cert.AdamwUq.nD Cert.AdamwUq.τ).loc Cert.AdamwUq.main_arg1)
      ∧ r.2.mem ((c.tc : Thread Cert.AdamwUq.nD Cert.AdamwUq.τ).loc Cert.AdamwUq.main_arg2) = m ((c.tc : Thread Cert.AdamwUq.nD Cert.AdamwUq.τ).loc Cert.AdamwUq.main_arg2)
      ∧ r.2.mem ((c.tc : Thread Cert.AdamwUq.nD Cert.AdamwUq.τ).loc Cert.AdamwUq.main_arg3) = m ((c.tc : Thread Cert.AdamwUq.nD Cert.AdamwUq.τ).loc Cert.AdamwUq.main_arg3))
      ∧ r.2.sem = fun _ => 0)

def quiescent_AdamwUqIdeal [hAdamwUqIdeal : Cert.AdamwUqIdeal.Facts] : Prop :=
  ∀ (m : (ℓ : Loc Cert.AdamwUqIdeal.nD Cert.AdamwUqIdeal.τ Cert.AdamwUqIdeal.sig) → Buf (Elt Ideal) ℓ) (g : Dev Cert.AdamwUqIdeal.nD → PrngReg), Pre_AdamwUqIdeal m →
    θ_run (Cert.AdamwUqIdeal.defs (F := Ideal)) (onTc (τ := Cert.AdamwUqIdeal.τ) (Cert.AdamwUqIdeal.main (F := Ideal))) ⟨m, fun _ => 0, g⟩ (fun r => (∀ c : Dev Cert.AdamwUqIdeal.nD,
      r.2.mem ((c.tc : Thread Cert.AdamwUqIdeal.nD Cert.AdamwUqIdeal.τ).loc Cert.AdamwUqIdeal.main_arg0) = m ((c.tc : Thread Cert.AdamwUqIdeal.nD Cert.AdamwUqIdeal.τ).loc Cert.AdamwUqIdeal.main_arg0)
      ∧ r.2.mem ((c.tc : Thread Cert.AdamwUqIdeal.nD Cert.AdamwUqIdeal.τ).loc Cert.AdamwUqIdeal.main_arg1) = m ((c.tc : Thread Cert.AdamwUqIdeal.nD Cert.AdamwUqIdeal.τ).loc Cert.AdamwUqIdeal.main_arg1)
      ∧ r.2.mem ((c.tc : Thread Cert.AdamwUqIdeal.nD Cert.AdamwUqIdeal.τ).loc Cert.AdamwUqIdeal.main_arg2) = m ((c.tc : Thread Cert.AdamwUqIdeal.nD Cert.AdamwUqIdeal.τ).loc Cert.AdamwUqIdeal.main_arg2)
      ∧ r.2.mem ((c.tc : Thread Cert.AdamwUqIdeal.nD Cert.AdamwUqIdeal.τ).loc Cert.AdamwUqIdeal.main_arg3) = m ((c.tc : Thread Cert.AdamwUqIdeal.nD Cert.AdamwUqIdeal.τ).loc Cert.AdamwUqIdeal.main_arg3))
      ∧ r.2.sem = fun _ => 0)

def quiescent_AdamwRefUqIdeal [hAdamwRefUqIdeal : Cert.AdamwRefUqIdeal.Facts] : Prop :=
  ∀ (m : (ℓ : Loc Cert.AdamwRefUqIdeal.nD Cert.AdamwRefUqIdeal.τ Cert.AdamwRefUqIdeal.sig) → Buf (Elt Ideal) ℓ) (g : Dev Cert.AdamwRefUqIdeal.nD → PrngReg), Pre_AdamwRefUqIdeal m →
    θ_run (Cert.AdamwRefUqIdeal.defs (F := Ideal)) (onTc (τ := Cert.AdamwRefUqIdeal.τ) (Cert.AdamwRefUqIdeal.main (F := Ideal))) ⟨m, fun _ => 0, g⟩ (fun r => (∀ c : Dev Cert.AdamwRefUqIdeal.nD,
      r.2.mem ((c.tc : Thread Cert.AdamwRefUqIdeal.nD Cert.AdamwRefUqIdeal.τ).loc Cert.AdamwRefUqIdeal.main_arg0) = m ((c.tc : Thread Cert.AdamwRefUqIdeal.nD Cert.AdamwRefUqIdeal.τ).loc Cert.AdamwRefUqIdeal.main_arg0)
      ∧ r.2.mem ((c.tc : Thread Cert.AdamwRefUqIdeal.nD Cert.AdamwRefUqIdeal.τ).loc Cert.AdamwRefUqIdeal.main_arg1) = m ((c.tc : Thread Cert.AdamwRefUqIdeal.nD Cert.AdamwRefUqIdeal.τ).loc Cert.AdamwRefUqIdeal.main_arg1)
      ∧ r.2.mem ((c.tc : Thread Cert.AdamwRefUqIdeal.nD Cert.AdamwRefUqIdeal.τ).loc Cert.AdamwRefUqIdeal.main_arg2) = m ((c.tc : Thread Cert.AdamwRefUqIdeal.nD Cert.AdamwRefUqIdeal.τ).loc Cert.AdamwRefUqIdeal.main_arg2)
      ∧ r.2.mem ((c.tc : Thread Cert.AdamwRefUqIdeal.nD Cert.AdamwRefUqIdeal.τ).loc Cert.AdamwRefUqIdeal.main_arg3) = m ((c.tc : Thread Cert.AdamwRefUqIdeal.nD Cert.AdamwRefUqIdeal.τ).loc Cert.AdamwRefUqIdeal.main_arg3))
      ∧ r.2.sem = fun _ => 0)

def quiescent_AdamwUkv [hAdamwUkv : Cert.AdamwUkv.Facts] : Prop :=
  ∀ (m : (ℓ : Loc Cert.AdamwUkv.nD Cert.AdamwUkv.τ Cert.AdamwUkv.sig) → Buf (Elt Bits) ℓ) (g : Dev Cert.AdamwUkv.nD → PrngReg), Pre_AdamwUkv m →
    θ_run (Cert.AdamwUkv.defs (F := Bits)) (onTc (τ := Cert.AdamwUkv.τ) (Cert.AdamwUkv.main (F := Bits))) ⟨m, fun _ => 0, g⟩ (fun r => (∀ c : Dev Cert.AdamwUkv.nD,
      r.2.mem ((c.tc : Thread Cert.AdamwUkv.nD Cert.AdamwUkv.τ).loc Cert.AdamwUkv.main_arg0) = m ((c.tc : Thread Cert.AdamwUkv.nD Cert.AdamwUkv.τ).loc Cert.AdamwUkv.main_arg0)
      ∧ r.2.mem ((c.tc : Thread Cert.AdamwUkv.nD Cert.AdamwUkv.τ).loc Cert.AdamwUkv.main_arg1) = m ((c.tc : Thread Cert.AdamwUkv.nD Cert.AdamwUkv.τ).loc Cert.AdamwUkv.main_arg1)
      ∧ r.2.mem ((c.tc : Thread Cert.AdamwUkv.nD Cert.AdamwUkv.τ).loc Cert.AdamwUkv.main_arg2) = m ((c.tc : Thread Cert.AdamwUkv.nD Cert.AdamwUkv.τ).loc Cert.AdamwUkv.main_arg2)
      ∧ r.2.mem ((c.tc : Thread Cert.AdamwUkv.nD Cert.AdamwUkv.τ).loc Cert.AdamwUkv.main_arg3) = m ((c.tc : Thread Cert.AdamwUkv.nD Cert.AdamwUkv.τ).loc Cert.AdamwUkv.main_arg3))
      ∧ r.2.sem = fun _ => 0)

def quiescent_AdamwUkvIdeal [hAdamwUkvIdeal : Cert.AdamwUkvIdeal.Facts] : Prop :=
  ∀ (m : (ℓ : Loc Cert.AdamwUkvIdeal.nD Cert.AdamwUkvIdeal.τ Cert.AdamwUkvIdeal.sig) → Buf (Elt Ideal) ℓ) (g : Dev Cert.AdamwUkvIdeal.nD → PrngReg), Pre_AdamwUkvIdeal m →
    θ_run (Cert.AdamwUkvIdeal.defs (F := Ideal)) (onTc (τ := Cert.AdamwUkvIdeal.τ) (Cert.AdamwUkvIdeal.main (F := Ideal))) ⟨m, fun _ => 0, g⟩ (fun r => (∀ c : Dev Cert.AdamwUkvIdeal.nD,
      r.2.mem ((c.tc : Thread Cert.AdamwUkvIdeal.nD Cert.AdamwUkvIdeal.τ).loc Cert.AdamwUkvIdeal.main_arg0) = m ((c.tc : Thread Cert.AdamwUkvIdeal.nD Cert.AdamwUkvIdeal.τ).loc Cert.AdamwUkvIdeal.main_arg0)
      ∧ r.2.mem ((c.tc : Thread Cert.AdamwUkvIdeal.nD Cert.AdamwUkvIdeal.τ).loc Cert.AdamwUkvIdeal.main_arg1) = m ((c.tc : Thread Cert.AdamwUkvIdeal.nD Cert.AdamwUkvIdeal.τ).loc Cert.AdamwUkvIdeal.main_arg1)
      ∧ r.2.mem ((c.tc : Thread Cert.AdamwUkvIdeal.nD Cert.AdamwUkvIdeal.τ).loc Cert.AdamwUkvIdeal.main_arg2) = m ((c.tc : Thread Cert.AdamwUkvIdeal.nD Cert.AdamwUkvIdeal.τ).loc Cert.AdamwUkvIdeal.main_arg2)
      ∧ r.2.mem ((c.tc : Thread Cert.AdamwUkvIdeal.nD Cert.AdamwUkvIdeal.τ).loc Cert.AdamwUkvIdeal.main_arg3) = m ((c.tc : Thread Cert.AdamwUkvIdeal.nD Cert.AdamwUkvIdeal.τ).loc Cert.AdamwUkvIdeal.main_arg3))
      ∧ r.2.sem = fun _ => 0)

def quiescent_AdamwRefUkvIdeal [hAdamwRefUkvIdeal : Cert.AdamwRefUkvIdeal.Facts] : Prop :=
  ∀ (m : (ℓ : Loc Cert.AdamwRefUkvIdeal.nD Cert.AdamwRefUkvIdeal.τ Cert.AdamwRefUkvIdeal.sig) → Buf (Elt Ideal) ℓ) (g : Dev Cert.AdamwRefUkvIdeal.nD → PrngReg), Pre_AdamwRefUkvIdeal m →
    θ_run (Cert.AdamwRefUkvIdeal.defs (F := Ideal)) (onTc (τ := Cert.AdamwRefUkvIdeal.τ) (Cert.AdamwRefUkvIdeal.main (F := Ideal))) ⟨m, fun _ => 0, g⟩ (fun r => (∀ c : Dev Cert.AdamwRefUkvIdeal.nD,
      r.2.mem ((c.tc : Thread Cert.AdamwRefUkvIdeal.nD Cert.AdamwRefUkvIdeal.τ).loc Cert.AdamwRefUkvIdeal.main_arg0) = m ((c.tc : Thread Cert.AdamwRefUkvIdeal.nD Cert.AdamwRefUkvIdeal.τ).loc Cert.AdamwRefUkvIdeal.main_arg0)
      ∧ r.2.mem ((c.tc : Thread Cert.AdamwRefUkvIdeal.nD Cert.AdamwRefUkvIdeal.τ).loc Cert.AdamwRefUkvIdeal.main_arg1) = m ((c.tc : Thread Cert.AdamwRefUkvIdeal.nD Cert.AdamwRefUkvIdeal.τ).loc Cert.AdamwRefUkvIdeal.main_arg1)
      ∧ r.2.mem ((c.tc : Thread Cert.AdamwRefUkvIdeal.nD Cert.AdamwRefUkvIdeal.τ).loc Cert.AdamwRefUkvIdeal.main_arg2) = m ((c.tc : Thread Cert.AdamwRefUkvIdeal.nD Cert.AdamwRefUkvIdeal.τ).loc Cert.AdamwRefUkvIdeal.main_arg2)
      ∧ r.2.mem ((c.tc : Thread Cert.AdamwRefUkvIdeal.nD Cert.AdamwRefUkvIdeal.τ).loc Cert.AdamwRefUkvIdeal.main_arg3) = m ((c.tc : Thread Cert.AdamwRefUkvIdeal.nD Cert.AdamwRefUkvIdeal.τ).loc Cert.AdamwRefUkvIdeal.main_arg3))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6))
      ∧ r.2.sem = fun _ => 0)

def quiescent_ProjectionsVjpIdeal [hProjectionsVjpIdeal : Cert.ProjectionsVjpIdeal.Facts] : Prop :=
  ∀ (m : (ℓ : Loc Cert.ProjectionsVjpIdeal.nD Cert.ProjectionsVjpIdeal.τ Cert.ProjectionsVjpIdeal.sig) → Buf (Elt Ideal) ℓ) (g : Dev Cert.ProjectionsVjpIdeal.nD → PrngReg), Pre_ProjectionsVjpIdeal m →
    θ_run (Cert.ProjectionsVjpIdeal.defs (F := Ideal)) (onTc (τ := Cert.ProjectionsVjpIdeal.τ) (Cert.ProjectionsVjpIdeal.main (F := Ideal))) ⟨m, fun _ => 0, g⟩ (fun r => (∀ c : Dev Cert.ProjectionsVjpIdeal.nD,
      r.2.mem ((c.tc : Thread Cert.ProjectionsVjpIdeal.nD Cert.ProjectionsVjpIdeal.τ).loc Cert.ProjectionsVjpIdeal.main_arg0) = m ((c.tc : Thread Cert.ProjectionsVjpIdeal.nD Cert.ProjectionsVjpIdeal.τ).loc Cert.ProjectionsVjpIdeal.main_arg0)
      ∧ r.2.mem ((c.tc : Thread Cert.ProjectionsVjpIdeal.nD Cert.ProjectionsVjpIdeal.τ).loc Cert.ProjectionsVjpIdeal.main_arg1) = m ((c.tc : Thread Cert.ProjectionsVjpIdeal.nD Cert.ProjectionsVjpIdeal.τ).loc Cert.ProjectionsVjpIdeal.main_arg1)
      ∧ r.2.mem ((c.tc : Thread Cert.ProjectionsVjpIdeal.nD Cert.ProjectionsVjpIdeal.τ).loc Cert.ProjectionsVjpIdeal.main_arg2) = m ((c.tc : Thread Cert.ProjectionsVjpIdeal.nD Cert.ProjectionsVjpIdeal.τ).loc Cert.ProjectionsVjpIdeal.main_arg2)
      ∧ r.2.mem ((c.tc : Thread Cert.ProjectionsVjpIdeal.nD Cert.ProjectionsVjpIdeal.τ).loc Cert.ProjectionsVjpIdeal.main_arg3) = m ((c.tc : Thread Cert.ProjectionsVjpIdeal.nD Cert.ProjectionsVjpIdeal.τ).loc Cert.ProjectionsVjpIdeal.main_arg3)
      ∧ r.2.mem ((c.tc : Thread Cert.ProjectionsVjpIdeal.nD Cert.ProjectionsVjpIdeal.τ).loc Cert.ProjectionsVjpIdeal.main_arg4) = m ((c.tc : Thread Cert.ProjectionsVjpIdeal.nD Cert.ProjectionsVjpIdeal.τ).loc Cert.ProjectionsVjpIdeal.main_arg4)
      ∧ r.2.mem ((c.tc : Thread Cert.ProjectionsVjpIdeal.nD Cert.ProjectionsVjpIdeal.τ).loc Cert.ProjectionsVjpIdeal.main_arg5) = m ((c.tc : Thread Cert.ProjectionsVjpIdeal.nD Cert.ProjectionsVjpIdeal.τ).loc Cert.ProjectionsVjpIdeal.main_arg5)
      ∧ r.2.mem ((c.tc : Thread Cert.ProjectionsVjpIdeal.nD Cert.ProjectionsVjpIdeal.τ).loc Cert.ProjectionsVjpIdeal.main_arg6) = m ((c.tc : Thread Cert.ProjectionsVjpIdeal.nD Cert.ProjectionsVjpIdeal.τ).loc Cert.ProjectionsVjpIdeal.main_arg6))
      ∧ r.2.sem = fun _ => 0)

def quiescent_SmallSums [hSmallSums : Cert.SmallSums.Facts] : Prop :=
  ∀ (m : (ℓ : Loc Cert.SmallSums.nD Cert.SmallSums.τ Cert.SmallSums.sig) → Buf (Elt Bits) ℓ) (g : Dev Cert.SmallSums.nD → PrngReg), Pre_SmallSums m →
    θ_run (Cert.SmallSums.defs (F := Bits)) (onTc (τ := Cert.SmallSums.τ) (Cert.SmallSums.main (F := Bits))) ⟨m, fun _ => 0, g⟩ (fun r => (∀ c : Dev Cert.SmallSums.nD,
      r.2.mem ((c.tc : Thread Cert.SmallSums.nD Cert.SmallSums.τ).loc Cert.SmallSums.main_arg0) = m ((c.tc : Thread Cert.SmallSums.nD Cert.SmallSums.τ).loc Cert.SmallSums.main_arg0)
      ∧ r.2.mem ((c.tc : Thread Cert.SmallSums.nD Cert.SmallSums.τ).loc Cert.SmallSums.main_arg1) = m ((c.tc : Thread Cert.SmallSums.nD Cert.SmallSums.τ).loc Cert.SmallSums.main_arg1)
      ∧ r.2.mem ((c.tc : Thread Cert.SmallSums.nD Cert.SmallSums.τ).loc Cert.SmallSums.main_arg2) = m ((c.tc : Thread Cert.SmallSums.nD Cert.SmallSums.τ).loc Cert.SmallSums.main_arg2)
      ∧ r.2.mem ((c.tc : Thread Cert.SmallSums.nD Cert.SmallSums.τ).loc Cert.SmallSums.main_arg3) = m ((c.tc : Thread Cert.SmallSums.nD Cert.SmallSums.τ).loc Cert.SmallSums.main_arg3)
      ∧ r.2.mem ((c.tc : Thread Cert.SmallSums.nD Cert.SmallSums.τ).loc Cert.SmallSums.main_arg4) = m ((c.tc : Thread Cert.SmallSums.nD Cert.SmallSums.τ).loc Cert.SmallSums.main_arg4)
      ∧ r.2.mem ((c.tc : Thread Cert.SmallSums.nD Cert.SmallSums.τ).loc Cert.SmallSums.main_arg5) = m ((c.tc : Thread Cert.SmallSums.nD Cert.SmallSums.τ).loc Cert.SmallSums.main_arg5))
      ∧ r.2.sem = fun _ => 0)

def quiescent_SmallSumsIdeal [hSmallSumsIdeal : Cert.SmallSumsIdeal.Facts] : Prop :=
  ∀ (m : (ℓ : Loc Cert.SmallSumsIdeal.nD Cert.SmallSumsIdeal.τ Cert.SmallSumsIdeal.sig) → Buf (Elt Ideal) ℓ) (g : Dev Cert.SmallSumsIdeal.nD → PrngReg), Pre_SmallSumsIdeal m →
    θ_run (Cert.SmallSumsIdeal.defs (F := Ideal)) (onTc (τ := Cert.SmallSumsIdeal.τ) (Cert.SmallSumsIdeal.main (F := Ideal))) ⟨m, fun _ => 0, g⟩ (fun r => (∀ c : Dev Cert.SmallSumsIdeal.nD,
      r.2.mem ((c.tc : Thread Cert.SmallSumsIdeal.nD Cert.SmallSumsIdeal.τ).loc Cert.SmallSumsIdeal.main_arg0) = m ((c.tc : Thread Cert.SmallSumsIdeal.nD Cert.SmallSumsIdeal.τ).loc Cert.SmallSumsIdeal.main_arg0)
      ∧ r.2.mem ((c.tc : Thread Cert.SmallSumsIdeal.nD Cert.SmallSumsIdeal.τ).loc Cert.SmallSumsIdeal.main_arg1) = m ((c.tc : Thread Cert.SmallSumsIdeal.nD Cert.SmallSumsIdeal.τ).loc Cert.SmallSumsIdeal.main_arg1)
      ∧ r.2.mem ((c.tc : Thread Cert.SmallSumsIdeal.nD Cert.SmallSumsIdeal.τ).loc Cert.SmallSumsIdeal.main_arg2) = m ((c.tc : Thread Cert.SmallSumsIdeal.nD Cert.SmallSumsIdeal.τ).loc Cert.SmallSumsIdeal.main_arg2)
      ∧ r.2.mem ((c.tc : Thread Cert.SmallSumsIdeal.nD Cert.SmallSumsIdeal.τ).loc Cert.SmallSumsIdeal.main_arg3) = m ((c.tc : Thread Cert.SmallSumsIdeal.nD Cert.SmallSumsIdeal.τ).loc Cert.SmallSumsIdeal.main_arg3)
      ∧ r.2.mem ((c.tc : Thread Cert.SmallSumsIdeal.nD Cert.SmallSumsIdeal.τ).loc Cert.SmallSumsIdeal.main_arg4) = m ((c.tc : Thread Cert.SmallSumsIdeal.nD Cert.SmallSumsIdeal.τ).loc Cert.SmallSumsIdeal.main_arg4)
      ∧ r.2.mem ((c.tc : Thread Cert.SmallSumsIdeal.nD Cert.SmallSumsIdeal.τ).loc Cert.SmallSumsIdeal.main_arg5) = m ((c.tc : Thread Cert.SmallSumsIdeal.nD Cert.SmallSumsIdeal.τ).loc Cert.SmallSumsIdeal.main_arg5))
      ∧ r.2.sem = fun _ => 0)

def quiescent_SmallSumsRefIdeal [hSmallSumsRefIdeal : Cert.SmallSumsRefIdeal.Facts] : Prop :=
  ∀ (m : (ℓ : Loc Cert.SmallSumsRefIdeal.nD Cert.SmallSumsRefIdeal.τ Cert.SmallSumsRefIdeal.sig) → Buf (Elt Ideal) ℓ) (g : Dev Cert.SmallSumsRefIdeal.nD → PrngReg), Pre_SmallSumsRefIdeal m →
    θ_run (Cert.SmallSumsRefIdeal.defs (F := Ideal)) (onTc (τ := Cert.SmallSumsRefIdeal.τ) (Cert.SmallSumsRefIdeal.main (F := Ideal))) ⟨m, fun _ => 0, g⟩ (fun r => (∀ c : Dev Cert.SmallSumsRefIdeal.nD,
      r.2.mem ((c.tc : Thread Cert.SmallSumsRefIdeal.nD Cert.SmallSumsRefIdeal.τ).loc Cert.SmallSumsRefIdeal.main_arg0) = m ((c.tc : Thread Cert.SmallSumsRefIdeal.nD Cert.SmallSumsRefIdeal.τ).loc Cert.SmallSumsRefIdeal.main_arg0)
      ∧ r.2.mem ((c.tc : Thread Cert.SmallSumsRefIdeal.nD Cert.SmallSumsRefIdeal.τ).loc Cert.SmallSumsRefIdeal.main_arg1) = m ((c.tc : Thread Cert.SmallSumsRefIdeal.nD Cert.SmallSumsRefIdeal.τ).loc Cert.SmallSumsRefIdeal.main_arg1)
      ∧ r.2.mem ((c.tc : Thread Cert.SmallSumsRefIdeal.nD Cert.SmallSumsRefIdeal.τ).loc Cert.SmallSumsRefIdeal.main_arg2) = m ((c.tc : Thread Cert.SmallSumsRefIdeal.nD Cert.SmallSumsRefIdeal.τ).loc Cert.SmallSumsRefIdeal.main_arg2)
      ∧ r.2.mem ((c.tc : Thread Cert.SmallSumsRefIdeal.nD Cert.SmallSumsRefIdeal.τ).loc Cert.SmallSumsRefIdeal.main_arg3) = m ((c.tc : Thread Cert.SmallSumsRefIdeal.nD Cert.SmallSumsRefIdeal.τ).loc Cert.SmallSumsRefIdeal.main_arg3)
      ∧ r.2.mem ((c.tc : Thread Cert.SmallSumsRefIdeal.nD Cert.SmallSumsRefIdeal.τ).loc Cert.SmallSumsRefIdeal.main_arg4) = m ((c.tc : Thread Cert.SmallSumsRefIdeal.nD Cert.SmallSumsRefIdeal.τ).loc Cert.SmallSumsRefIdeal.main_arg4)
      ∧ r.2.mem ((c.tc : Thread Cert.SmallSumsRefIdeal.nD Cert.SmallSumsRefIdeal.τ).loc Cert.SmallSumsRefIdeal.main_arg5) = m ((c.tc : Thread Cert.SmallSumsRefIdeal.nD Cert.SmallSumsRefIdeal.τ).loc Cert.SmallSumsRefIdeal.main_arg5))
      ∧ r.2.sem = fun _ => 0)

def preserves_Kernel_KernelIdeal : Prop :=
  IdealRules.named_const.Statement Cert.KernelIdeal.κ "s_log2" .f32 0x3E16C740#32 (((3424635 / 33554432) * (Real.log 2)⁻¹ : ℝ) : EReal)
  ∧ IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_LayerEnd_LayerEndIdeal : Prop :=
  True

def algebraic_LayerEndIdeal_LayerEndVjpIdeal [hLayerEndIdeal : Cert.LayerEndIdeal.Facts] [hLayerEndVjpIdeal : Cert.LayerEndVjpIdeal.Facts] : Prop :=
  ∀ (m : (ℓ : Loc Cert.LayerEndIdeal.nD Cert.LayerEndIdeal.τ Cert.LayerEndIdeal.sig) → Buf (Elt Ideal) ℓ) (g : Dev Cert.LayerEndIdeal.nD → PrngReg)
    (m' : (ℓ : Loc Cert.LayerEndVjpIdeal.nD Cert.LayerEndVjpIdeal.τ Cert.LayerEndVjpIdeal.sig) → Buf (Elt Ideal) ℓ) (g' : Dev Cert.LayerEndVjpIdeal.nD → PrngReg), Pre_LayerEndIdeal m →
    (∀ c : Dev Cert.LayerEndIdeal.nD,
      m' ((c.tc : Thread Cert.LayerEndVjpIdeal.nD Cert.LayerEndVjpIdeal.τ).loc Cert.LayerEndVjpIdeal.main_arg0) = m ((c.tc : Thread Cert.LayerEndIdeal.nD Cert.LayerEndIdeal.τ).loc Cert.LayerEndIdeal.main_arg0)
      ∧ m' ((c.tc : Thread Cert.LayerEndVjpIdeal.nD Cert.LayerEndVjpIdeal.τ).loc Cert.LayerEndVjpIdeal.main_arg1) = m ((c.tc : Thread Cert.LayerEndIdeal.nD Cert.LayerEndIdeal.τ).loc Cert.LayerEndIdeal.main_arg1)
      ∧ m' ((c.tc : Thread Cert.LayerEndVjpIdeal.nD Cert.LayerEndVjpIdeal.τ).loc Cert.LayerEndVjpIdeal.main_arg2) = m ((c.tc : Thread Cert.LayerEndIdeal.nD Cert.LayerEndIdeal.τ).loc Cert.LayerEndIdeal.main_arg2)
      ∧ m' ((c.tc : Thread Cert.LayerEndVjpIdeal.nD Cert.LayerEndVjpIdeal.τ).loc Cert.LayerEndVjpIdeal.main_arg3) = m ((c.tc : Thread Cert.LayerEndIdeal.nD Cert.LayerEndIdeal.τ).loc Cert.LayerEndIdeal.main_arg3)
      ∧ m' ((c.tc : Thread Cert.LayerEndVjpIdeal.nD Cert.LayerEndVjpIdeal.τ).loc Cert.LayerEndVjpIdeal.main_arg4) = m ((c.tc : Thread Cert.LayerEndIdeal.nD Cert.LayerEndIdeal.τ).loc Cert.LayerEndIdeal.main_arg4)
      ∧ m' ((c.tc : Thread Cert.LayerEndVjpIdeal.nD Cert.LayerEndVjpIdeal.τ).loc Cert.LayerEndVjpIdeal.main_arg5) = m ((c.tc : Thread Cert.LayerEndIdeal.nD Cert.LayerEndIdeal.τ).loc Cert.LayerEndIdeal.main_arg5)
      ∧ m' ((c.tc : Thread Cert.LayerEndVjpIdeal.nD Cert.LayerEndVjpIdeal.τ).loc Cert.LayerEndVjpIdeal.main_arg6) = m ((c.tc : Thread Cert.LayerEndIdeal.nD Cert.LayerEndIdeal.τ).loc Cert.LayerEndIdeal.main_arg6)
      ∧ m' ((c.tc : Thread Cert.LayerEndVjpIdeal.nD Cert.LayerEndVjpIdeal.τ).loc Cert.LayerEndVjpIdeal.main_arg7) = m ((c.tc : Thread Cert.LayerEndIdeal.nD Cert.LayerEndIdeal.τ).loc Cert.LayerEndIdeal.main_arg7)
      ∧ m' ((c.tc : Thread Cert.LayerEndVjpIdeal.nD Cert.LayerEndVjpIdeal.τ).loc Cert.LayerEndVjpIdeal.main_arg8) = m ((c.tc : Thread Cert.LayerEndIdeal.nD Cert.LayerEndIdeal.τ).loc Cert.LayerEndIdeal.main_arg8)
      ∧ m' ((c.tc : Thread Cert.LayerEndVjpIdeal.nD Cert.LayerEndVjpIdeal.τ).loc Cert.LayerEndVjpIdeal.main_arg9) = m ((c.tc : Thread Cert.LayerEndIdeal.nD Cert.LayerEndIdeal.τ).loc Cert.LayerEndIdeal.main_arg9)
      ∧ m' ((c.tc : Thread Cert.LayerEndVjpIdeal.nD Cert.LayerEndVjpIdeal.τ).loc Cert.LayerEndVjpIdeal.main_arg10) = m ((c.tc : Thread Cert.LayerEndIdeal.nD Cert.LayerEndIdeal.τ).loc Cert.LayerEndIdeal.main_arg10)) →
    ∃ (v0 : (c : Dev Cert.LayerEndIdeal.nD) → Buf (Elt Ideal) ((c.tc : Thread Cert.LayerEndIdeal.nD Cert.LayerEndIdeal.τ).loc Cert.LayerEndIdeal.main_v22)) (v1 : (c : Dev Cert.LayerEndIdeal.nD) → Buf (Elt Ideal) ((c.tc : Thread Cert.LayerEndIdeal.nD Cert.LayerEndIdeal.τ).loc Cert.LayerEndIdeal.main_v24)) (v2 : (c : Dev Cert.LayerEndIdeal.nD) → Buf (Elt Ideal) ((c.tc : Thread Cert.LayerEndIdeal.nD Cert.LayerEndIdeal.τ).loc Cert.LayerEndIdeal.main_v26)) (v3 : (c : Dev Cert.LayerEndIdeal.nD) → Buf (Elt Ideal) ((c.tc : Thread Cert.LayerEndIdeal.nD Cert.LayerEndIdeal.τ).loc Cert.LayerEndIdeal.main_v28)) (v4 : (c : Dev Cert.LayerEndIdeal.nD) → Buf (Elt Ideal) ((c.tc : Thread Cert.LayerEndIdeal.nD Cert.LayerEndIdeal.τ).loc Cert.LayerEndIdeal.main_v29)) (v5 : (c : Dev Cert.LayerEndIdeal.nD) → Buf (Elt Ideal) ((c.tc : Thread Cert.LayerEndIdeal.nD Cert.LayerEndIdeal.τ).loc Cert.LayerEndIdeal.main_v30)) (v6 : (c : Dev Cert.LayerEndIdeal.nD) → Buf (Elt Ideal) ((c.tc : Thread Cert.LayerEndIdeal.nD Cert.LayerEndIdeal.τ).loc Cert.LayerEndIdeal.main_v18)) (v7 : (c : Dev Cert.LayerEndIdeal.nD) → Buf (Elt Ideal) ((c.tc : Thread Cert.LayerEndIdeal.nD Cert.LayerEndIdeal.τ).loc Cert.LayerEndIdeal.main_v31)) (v8 : (c : Dev Cert.LayerEndIdeal.nD) → Buf (Elt Ideal) ((c.tc : Thread Cert.LayerEndIdeal.nD Cert.LayerEndIdeal.τ).loc Cert.LayerEndIdeal.main_v32)) (v9 : (c : Dev Cert.LayerEndIdeal.nD) → Buf (Elt Ideal) ((c.tc : Thread Cert.LayerEndIdeal.nD Cert.LayerEndIdeal.τ).loc Cert.LayerEndIdeal.main_v33)) (v10 : (c : Dev Cert.LayerEndIdeal.nD) → Buf (Elt Ideal) ((c.tc : Thread Cert.LayerEndIdeal.nD Cert.LayerEndIdeal.τ).loc Cert.LayerEndIdeal.main_v21)),
      θ_run (Cert.LayerEndIdeal.defs (F := Ideal)) (onTc (τ := Cert.LayerEndIdeal.τ) (Cert.LayerEndIdeal.main (F := Ideal))) ⟨m, fun _ => 0, g⟩ (fun r => ∀ c : Dev Cert.LayerEndIdeal.nD,
          r.2.mem ((c.tc : Thread Cert.LayerEndIdeal.nD Cert.LayerEndIdeal.τ).loc Cert.LayerEndIdeal.main_v22) = v0 c
          ∧ r.2.mem ((c.tc : Thread Cert.LayerEndIdeal.nD Cert.LayerEndIdeal.τ).loc Cert.LayerEndIdeal.main_v24) = v1 c
          ∧ r.2.mem ((c.tc : Thread Cert.LayerEndIdeal.nD Cert.LayerEndIdeal.τ).loc Cert.LayerEndIdeal.main_v26) = v2 c
          ∧ r.2.mem ((c.tc : Thread Cert.LayerEndIdeal.nD Cert.LayerEndIdeal.τ).loc Cert.LayerEndIdeal.main_v28) = v3 c
          ∧ r.2.mem ((c.tc : Thread Cert.LayerEndIdeal.nD Cert.LayerEndIdeal.τ).loc Cert.LayerEndIdeal.main_v29) = v4 c
          ∧ r.2.mem ((c.tc : Thread Cert.LayerEndIdeal.nD Cert.LayerEndIdeal.τ).loc Cert.LayerEndIdeal.main_v30) = v5 c
          ∧ r.2.mem ((c.tc : Thread Cert.LayerEndIdeal.nD Cert.LayerEndIdeal.τ).loc Cert.LayerEndIdeal.main_v18) = v6 c
          ∧ r.2.mem ((c.tc : Thread Cert.LayerEndIdeal.nD Cert.LayerEndIdeal.τ).loc Cert.LayerEndIdeal.main_v31) = v7 c
          ∧ r.2.mem ((c.tc : Thread Cert.LayerEndIdeal.nD Cert.LayerEndIdeal.τ).loc Cert.LayerEndIdeal.main_v32) = v8 c
          ∧ r.2.mem ((c.tc : Thread Cert.LayerEndIdeal.nD Cert.LayerEndIdeal.τ).loc Cert.LayerEndIdeal.main_v33) = v9 c
          ∧ r.2.mem ((c.tc : Thread Cert.LayerEndIdeal.nD Cert.LayerEndIdeal.τ).loc Cert.LayerEndIdeal.main_v21) = v10 c
          ∧ r.2.mem ((c.tc : Thread Cert.LayerEndIdeal.nD Cert.LayerEndIdeal.τ).loc Cert.LayerEndIdeal.main_arg0) = m ((c.tc : Thread Cert.LayerEndIdeal.nD Cert.LayerEndIdeal.τ).loc Cert.LayerEndIdeal.main_arg0)
          ∧ r.2.mem ((c.tc : Thread Cert.LayerEndIdeal.nD Cert.LayerEndIdeal.τ).loc Cert.LayerEndIdeal.main_arg1) = m ((c.tc : Thread Cert.LayerEndIdeal.nD Cert.LayerEndIdeal.τ).loc Cert.LayerEndIdeal.main_arg1)
          ∧ r.2.mem ((c.tc : Thread Cert.LayerEndIdeal.nD Cert.LayerEndIdeal.τ).loc Cert.LayerEndIdeal.main_arg2) = m ((c.tc : Thread Cert.LayerEndIdeal.nD Cert.LayerEndIdeal.τ).loc Cert.LayerEndIdeal.main_arg2)
          ∧ r.2.mem ((c.tc : Thread Cert.LayerEndIdeal.nD Cert.LayerEndIdeal.τ).loc Cert.LayerEndIdeal.main_arg3) = m ((c.tc : Thread Cert.LayerEndIdeal.nD Cert.LayerEndIdeal.τ).loc Cert.LayerEndIdeal.main_arg3)
          ∧ r.2.mem ((c.tc : Thread Cert.LayerEndIdeal.nD Cert.LayerEndIdeal.τ).loc Cert.LayerEndIdeal.main_arg4) = m ((c.tc : Thread Cert.LayerEndIdeal.nD Cert.LayerEndIdeal.τ).loc Cert.LayerEndIdeal.main_arg4)
          ∧ r.2.mem ((c.tc : Thread Cert.LayerEndIdeal.nD Cert.LayerEndIdeal.τ).loc Cert.LayerEndIdeal.main_arg5) = m ((c.tc : Thread Cert.LayerEndIdeal.nD Cert.LayerEndIdeal.τ).loc Cert.LayerEndIdeal.main_arg5)
          ∧ r.2.mem ((c.tc : Thread Cert.LayerEndIdeal.nD Cert.LayerEndIdeal.τ).loc Cert.LayerEndIdeal.main_arg6) = m ((c.tc : Thread Cert.LayerEndIdeal.nD Cert.LayerEndIdeal.τ).loc Cert.LayerEndIdeal.main_arg6)
          ∧ r.2.mem ((c.tc : Thread Cert.LayerEndIdeal.nD Cert.LayerEndIdeal.τ).loc Cert.LayerEndIdeal.main_arg7) = m ((c.tc : Thread Cert.LayerEndIdeal.nD Cert.LayerEndIdeal.τ).loc Cert.LayerEndIdeal.main_arg7)
          ∧ r.2.mem ((c.tc : Thread Cert.LayerEndIdeal.nD Cert.LayerEndIdeal.τ).loc Cert.LayerEndIdeal.main_arg8) = m ((c.tc : Thread Cert.LayerEndIdeal.nD Cert.LayerEndIdeal.τ).loc Cert.LayerEndIdeal.main_arg8)
          ∧ r.2.mem ((c.tc : Thread Cert.LayerEndIdeal.nD Cert.LayerEndIdeal.τ).loc Cert.LayerEndIdeal.main_arg9) = m ((c.tc : Thread Cert.LayerEndIdeal.nD Cert.LayerEndIdeal.τ).loc Cert.LayerEndIdeal.main_arg9)
          ∧ r.2.mem ((c.tc : Thread Cert.LayerEndIdeal.nD Cert.LayerEndIdeal.τ).loc Cert.LayerEndIdeal.main_arg10) = m ((c.tc : Thread Cert.LayerEndIdeal.nD Cert.LayerEndIdeal.τ).loc Cert.LayerEndIdeal.main_arg10))
      ∧ θ_run (Cert.LayerEndVjpIdeal.defs (F := Ideal)) (onTc (τ := Cert.LayerEndVjpIdeal.τ) (Cert.LayerEndVjpIdeal.main (F := Ideal))) ⟨m', fun _ => 0, g'⟩ (fun r => ∀ c : Dev Cert.LayerEndVjpIdeal.nD,
          r.2.mem ((c.tc : Thread Cert.LayerEndVjpIdeal.nD Cert.LayerEndVjpIdeal.τ).loc Cert.LayerEndVjpIdeal.main_v66) = v0 c
          ∧ r.2.mem ((c.tc : Thread Cert.LayerEndVjpIdeal.nD Cert.LayerEndVjpIdeal.τ).loc Cert.LayerEndVjpIdeal.main_v107) = v1 c
          ∧ r.2.mem ((c.tc : Thread Cert.LayerEndVjpIdeal.nD Cert.LayerEndVjpIdeal.τ).loc Cert.LayerEndVjpIdeal.main_v152) = v2 c
          ∧ r.2.mem ((c.tc : Thread Cert.LayerEndVjpIdeal.nD Cert.LayerEndVjpIdeal.τ).loc Cert.LayerEndVjpIdeal.main_v132) = v3 c
          ∧ r.2.mem ((c.tc : Thread Cert.LayerEndVjpIdeal.nD Cert.LayerEndVjpIdeal.τ).loc Cert.LayerEndVjpIdeal.main_v138) = v4 c
          ∧ r.2.mem ((c.tc : Thread Cert.LayerEndVjpIdeal.nD Cert.LayerEndVjpIdeal.τ).loc Cert.LayerEndVjpIdeal.main_v118) = v5 c
          ∧ r.2.mem ((c.tc : Thread Cert.LayerEndVjpIdeal.nD Cert.LayerEndVjpIdeal.τ).loc Cert.LayerEndVjpIdeal.main_v109) = v6 c
          ∧ r.2.mem ((c.tc : Thread Cert.LayerEndVjpIdeal.nD Cert.LayerEndVjpIdeal.τ).loc Cert.LayerEndVjpIdeal.main_v92) = v7 c
          ∧ r.2.mem ((c.tc : Thread Cert.LayerEndVjpIdeal.nD Cert.LayerEndVjpIdeal.τ).loc Cert.LayerEndVjpIdeal.main_v84) = v8 c
          ∧ r.2.mem ((c.tc : Thread Cert.LayerEndVjpIdeal.nD Cert.LayerEndVjpIdeal.τ).loc Cert.LayerEndVjpIdeal.main_v80) = v9 c
          ∧ r.2.mem ((c.tc : Thread Cert.LayerEndVjpIdeal.nD Cert.LayerEndVjpIdeal.τ).loc Cert.LayerEndVjpIdeal.main_v75) = v10 c
          ∧ r.2.mem ((c.tc : Thread Cert.LayerEndVjpIdeal.nD Cert.LayerEndVjpIdeal.τ).loc Cert.LayerEndVjpIdeal.main_arg0) = m' ((c.tc : Thread Cert.LayerEndVjpIdeal.nD Cert.LayerEndVjpIdeal.τ).loc Cert.LayerEndVjpIdeal.main_arg0)
          ∧ r.2.mem ((c.tc : Thread Cert.LayerEndVjpIdeal.nD Cert.LayerEndVjpIdeal.τ).loc Cert.LayerEndVjpIdeal.main_arg1) = m' ((c.tc : Thread Cert.LayerEndVjpIdeal.nD Cert.LayerEndVjpIdeal.τ).loc Cert.LayerEndVjpIdeal.main_arg1)
          ∧ r.2.mem ((c.tc : Thread Cert.LayerEndVjpIdeal.nD Cert.LayerEndVjpIdeal.τ).loc Cert.LayerEndVjpIdeal.main_arg2) = m' ((c.tc : Thread Cert.LayerEndVjpIdeal.nD Cert.LayerEndVjpIdeal.τ).loc Cert.LayerEndVjpIdeal.main_arg2)
          ∧ r.2.mem ((c.tc : Thread Cert.LayerEndVjpIdeal.nD Cert.LayerEndVjpIdeal.τ).loc Cert.LayerEndVjpIdeal.main_arg3) = m' ((c.tc : Thread Cert.LayerEndVjpIdeal.nD Cert.LayerEndVjpIdeal.τ).loc Cert.LayerEndVjpIdeal.main_arg3)
          ∧ r.2.mem ((c.tc : Thread Cert.LayerEndVjpIdeal.nD Cert.LayerEndVjpIdeal.τ).loc Cert.LayerEndVjpIdeal.main_arg4) = m' ((c.tc : Thread Cert.LayerEndVjpIdeal.nD Cert.LayerEndVjpIdeal.τ).loc Cert.LayerEndVjpIdeal.main_arg4)
          ∧ r.2.mem ((c.tc : Thread Cert.LayerEndVjpIdeal.nD Cert.LayerEndVjpIdeal.τ).loc Cert.LayerEndVjpIdeal.main_arg5) = m' ((c.tc : Thread Cert.LayerEndVjpIdeal.nD Cert.LayerEndVjpIdeal.τ).loc Cert.LayerEndVjpIdeal.main_arg5)
          ∧ r.2.mem ((c.tc : Thread Cert.LayerEndVjpIdeal.nD Cert.LayerEndVjpIdeal.τ).loc Cert.LayerEndVjpIdeal.main_arg6) = m' ((c.tc : Thread Cert.LayerEndVjpIdeal.nD Cert.LayerEndVjpIdeal.τ).loc Cert.LayerEndVjpIdeal.main_arg6)
          ∧ r.2.mem ((c.tc : Thread Cert.LayerEndVjpIdeal.nD Cert.LayerEndVjpIdeal.τ).loc Cert.LayerEndVjpIdeal.main_arg7) = m' ((c.tc : Thread Cert.LayerEndVjpIdeal.nD Cert.LayerEndVjpIdeal.τ).loc Cert.LayerEndVjpIdeal.main_arg7)
          ∧ r.2.mem ((c.tc : Thread Cert.LayerEndVjpIdeal.nD Cert.LayerEndVjpIdeal.τ).loc Cert.LayerEndVjpIdeal.main_arg8) = m' ((c.tc : Thread Cert.LayerEndVjpIdeal.nD Cert.LayerEndVjpIdeal.τ).loc Cert.LayerEndVjpIdeal.main_arg8)
          ∧ r.2.mem ((c.tc : Thread Cert.LayerEndVjpIdeal.nD Cert.LayerEndVjpIdeal.τ).loc Cert.LayerEndVjpIdeal.main_arg9) = m' ((c.tc : Thread Cert.LayerEndVjpIdeal.nD Cert.LayerEndVjpIdeal.τ).loc Cert.LayerEndVjpIdeal.main_arg9)
          ∧ r.2.mem ((c.tc : Thread Cert.LayerEndVjpIdeal.nD Cert.LayerEndVjpIdeal.τ).loc Cert.LayerEndVjpIdeal.main_arg10) = m' ((c.tc : Thread Cert.LayerEndVjpIdeal.nD Cert.LayerEndVjpIdeal.τ).loc Cert.LayerEndVjpIdeal.main_arg10))

def preserves_AdamwLate_AdamwLateIdeal : Prop :=
  True

def algebraic_AdamwLateIdeal_AdamwRefLateIdeal [hAdamwLateIdeal : Cert.AdamwLateIdeal.Facts] [hAdamwRefLateIdeal : Cert.AdamwRefLateIdeal.Facts] : Prop :=
  ∀ (m : (ℓ : Loc Cert.AdamwLateIdeal.nD Cert.AdamwLateIdeal.τ Cert.AdamwLateIdeal.sig) → Buf (Elt Ideal) ℓ) (g : Dev Cert.AdamwLateIdeal.nD → PrngReg)
    (m' : (ℓ : Loc Cert.AdamwRefLateIdeal.nD Cert.AdamwRefLateIdeal.τ Cert.AdamwRefLateIdeal.sig) → Buf (Elt Ideal) ℓ) (g' : Dev Cert.AdamwRefLateIdeal.nD → PrngReg), Pre_AdamwLateIdeal m →
    (∀ c : Dev Cert.AdamwLateIdeal.nD,
      m' ((c.tc : Thread Cert.AdamwRefLateIdeal.nD Cert.AdamwRefLateIdeal.τ).loc Cert.AdamwRefLateIdeal.main_arg0) = m ((c.tc : Thread Cert.AdamwLateIdeal.nD Cert.AdamwLateIdeal.τ).loc Cert.AdamwLateIdeal.main_arg0)
      ∧ m' ((c.tc : Thread Cert.AdamwRefLateIdeal.nD Cert.AdamwRefLateIdeal.τ).loc Cert.AdamwRefLateIdeal.main_arg1) = m ((c.tc : Thread Cert.AdamwLateIdeal.nD Cert.AdamwLateIdeal.τ).loc Cert.AdamwLateIdeal.main_arg1)
      ∧ m' ((c.tc : Thread Cert.AdamwRefLateIdeal.nD Cert.AdamwRefLateIdeal.τ).loc Cert.AdamwRefLateIdeal.main_arg2) = m ((c.tc : Thread Cert.AdamwLateIdeal.nD Cert.AdamwLateIdeal.τ).loc Cert.AdamwLateIdeal.main_arg2)
      ∧ m' ((c.tc : Thread Cert.AdamwRefLateIdeal.nD Cert.AdamwRefLateIdeal.τ).loc Cert.AdamwRefLateIdeal.main_arg3) = m ((c.tc : Thread Cert.AdamwLateIdeal.nD Cert.AdamwLateIdeal.τ).loc Cert.AdamwLateIdeal.main_arg3)
      ∧ m' ((c.tc : Thread Cert.AdamwRefLateIdeal.nD Cert.AdamwRefLateIdeal.τ).loc Cert.AdamwRefLateIdeal.main_arg4) = m ((c.tc : Thread Cert.AdamwLateIdeal.nD Cert.AdamwLateIdeal.τ).loc Cert.AdamwLateIdeal.main_arg4)
      ∧ m' ((c.tc : Thread Cert.AdamwRefLateIdeal.nD Cert.AdamwRefLateIdeal.τ).loc Cert.AdamwRefLateIdeal.main_arg5) = m ((c.tc : Thread Cert.AdamwLateIdeal.nD Cert.AdamwLateIdeal.τ).loc Cert.AdamwLateIdeal.main_arg5)
      ∧ m' ((c.tc : Thread Cert.AdamwRefLateIdeal.nD Cert.AdamwRefLateIdeal.τ).loc Cert.AdamwRefLateIdeal.main_arg6) = m ((c.tc : Thread Cert.AdamwLateIdeal.nD Cert.AdamwLateIdeal.τ).loc Cert.AdamwLateIdeal.main_arg6)
      ∧ m' ((c.tc : Thread Cert.AdamwRefLateIdeal.nD Cert.AdamwRefLateIdeal.τ).loc Cert.AdamwRefLateIdeal.main_arg7) = m ((c.tc : Thread Cert.AdamwLateIdeal.nD Cert.AdamwLateIdeal.τ).loc Cert.AdamwLateIdeal.main_arg7)
      ∧ m' ((c.tc : Thread Cert.AdamwRefLateIdeal.nD Cert.AdamwRefLateIdeal.τ).loc Cert.AdamwRefLateIdeal.main_arg8) = m ((c.tc : Thread Cert.AdamwLateIdeal.nD Cert.AdamwLateIdeal.τ).loc Cert.AdamwLateIdeal.main_arg8)
      ∧ m' ((c.tc : Thread Cert.AdamwRefLateIdeal.nD Cert.AdamwRefLateIdeal.τ).loc Cert.AdamwRefLateIdeal.main_arg9) = m ((c.tc : Thread Cert.AdamwLateIdeal.nD Cert.AdamwLateIdeal.τ).loc Cert.AdamwLateIdeal.main_arg9)
      ∧ m' ((c.tc : Thread Cert.AdamwRefLateIdeal.nD Cert.AdamwRefLateIdeal.τ).loc Cert.AdamwRefLateIdeal.main_arg10) = m ((c.tc : Thread Cert.AdamwLateIdeal.nD Cert.AdamwLateIdeal.τ).loc Cert.AdamwLateIdeal.main_arg10)
      ∧ m' ((c.tc : Thread Cert.AdamwRefLateIdeal.nD Cert.AdamwRefLateIdeal.τ).loc Cert.AdamwRefLateIdeal.main_arg11) = m ((c.tc : Thread Cert.AdamwLateIdeal.nD Cert.AdamwLateIdeal.τ).loc Cert.AdamwLateIdeal.main_arg11)
      ∧ m' ((c.tc : Thread Cert.AdamwRefLateIdeal.nD Cert.AdamwRefLateIdeal.τ).loc Cert.AdamwRefLateIdeal.main_arg12) = m ((c.tc : Thread Cert.AdamwLateIdeal.nD Cert.AdamwLateIdeal.τ).loc Cert.AdamwLateIdeal.main_arg12)
      ∧ m' ((c.tc : Thread Cert.AdamwRefLateIdeal.nD Cert.AdamwRefLateIdeal.τ).loc Cert.AdamwRefLateIdeal.main_arg13) = m ((c.tc : Thread Cert.AdamwLateIdeal.nD Cert.AdamwLateIdeal.τ).loc Cert.AdamwLateIdeal.main_arg13)
      ∧ m' ((c.tc : Thread Cert.AdamwRefLateIdeal.nD Cert.AdamwRefLateIdeal.τ).loc Cert.AdamwRefLateIdeal.main_arg14) = m ((c.tc : Thread Cert.AdamwLateIdeal.nD Cert.AdamwLateIdeal.τ).loc Cert.AdamwLateIdeal.main_arg14)
      ∧ m' ((c.tc : Thread Cert.AdamwRefLateIdeal.nD Cert.AdamwRefLateIdeal.τ).loc Cert.AdamwRefLateIdeal.main_arg15) = m ((c.tc : Thread Cert.AdamwLateIdeal.nD Cert.AdamwLateIdeal.τ).loc Cert.AdamwLateIdeal.main_arg15)) →
    ∃ (v0 : (c : Dev Cert.AdamwLateIdeal.nD) → Buf (Elt Ideal) ((c.tc : Thread Cert.AdamwLateIdeal.nD Cert.AdamwLateIdeal.τ).loc Cert.AdamwLateIdeal.main_v0_0)) (v1 : (c : Dev Cert.AdamwLateIdeal.nD) → Buf (Elt Ideal) ((c.tc : Thread Cert.AdamwLateIdeal.nD Cert.AdamwLateIdeal.τ).loc Cert.AdamwLateIdeal.main_v0_1)) (v2 : (c : Dev Cert.AdamwLateIdeal.nD) → Buf (Elt Ideal) ((c.tc : Thread Cert.AdamwLateIdeal.nD Cert.AdamwLateIdeal.τ).loc Cert.AdamwLateIdeal.main_v0_2)) (v3 : (c : Dev Cert.AdamwLateIdeal.nD) → Buf (Elt Ideal) ((c.tc : Thread Cert.AdamwLateIdeal.nD Cert.AdamwLateIdeal.τ).loc Cert.AdamwLateIdeal.main_v0_3)) (v4 : (c : Dev Cert.AdamwLateIdeal.nD) → Buf (Elt Ideal) ((c.tc : Thread Cert.AdamwLateIdeal.nD Cert.AdamwLateIdeal.τ).loc Cert.AdamwLateIdeal.main_v0_4)) (v5 : (c : Dev Cert.AdamwLateIdeal.nD) → Buf (Elt Ideal) ((c.tc : Thread Cert.AdamwLateIdeal.nD Cert.AdamwLateIdeal.τ).loc Cert.AdamwLateIdeal.main_v0_5)) (v6 : (c : Dev Cert.AdamwLateIdeal.nD) → Buf (Elt Ideal) ((c.tc : Thread Cert.AdamwLateIdeal.nD Cert.AdamwLateIdeal.τ).loc Cert.AdamwLateIdeal.main_v0_6)) (v7 : (c : Dev Cert.AdamwLateIdeal.nD) → Buf (Elt Ideal) ((c.tc : Thread Cert.AdamwLateIdeal.nD Cert.AdamwLateIdeal.τ).loc Cert.AdamwLateIdeal.main_v0_7)) (v8 : (c : Dev Cert.AdamwLateIdeal.nD) → Buf (Elt Ideal) ((c.tc : Thread Cert.AdamwLateIdeal.nD Cert.AdamwLateIdeal.τ).loc Cert.AdamwLateIdeal.main_v0_8)) (v9 : (c : Dev Cert.AdamwLateIdeal.nD) → Buf (Elt Ideal) ((c.tc : Thread Cert.AdamwLateIdeal.nD Cert.AdamwLateIdeal.τ).loc Cert.AdamwLateIdeal.main_v0_9)) (v10 : (c : Dev Cert.AdamwLateIdeal.nD) → Buf (Elt Ideal) ((c.tc : Thread Cert.AdamwLateIdeal.nD Cert.AdamwLateIdeal.τ).loc Cert.AdamwLateIdeal.main_v0_10)) (v11 : (c : Dev Cert.AdamwLateIdeal.nD) → Buf (Elt Ideal) ((c.tc : Thread Cert.AdamwLateIdeal.nD Cert.AdamwLateIdeal.τ).loc Cert.AdamwLateIdeal.main_v0_11)),
      θ_run (Cert.AdamwLateIdeal.defs (F := Ideal)) (onTc (τ := Cert.AdamwLateIdeal.τ) (Cert.AdamwLateIdeal.main (F := Ideal))) ⟨m, fun _ => 0, g⟩ (fun r => ∀ c : Dev Cert.AdamwLateIdeal.nD,
          r.2.mem ((c.tc : Thread Cert.AdamwLateIdeal.nD Cert.AdamwLateIdeal.τ).loc Cert.AdamwLateIdeal.main_v0_0) = v0 c
          ∧ r.2.mem ((c.tc : Thread Cert.AdamwLateIdeal.nD Cert.AdamwLateIdeal.τ).loc Cert.AdamwLateIdeal.main_v0_1) = v1 c
          ∧ r.2.mem ((c.tc : Thread Cert.AdamwLateIdeal.nD Cert.AdamwLateIdeal.τ).loc Cert.AdamwLateIdeal.main_v0_2) = v2 c
          ∧ r.2.mem ((c.tc : Thread Cert.AdamwLateIdeal.nD Cert.AdamwLateIdeal.τ).loc Cert.AdamwLateIdeal.main_v0_3) = v3 c
          ∧ r.2.mem ((c.tc : Thread Cert.AdamwLateIdeal.nD Cert.AdamwLateIdeal.τ).loc Cert.AdamwLateIdeal.main_v0_4) = v4 c
          ∧ r.2.mem ((c.tc : Thread Cert.AdamwLateIdeal.nD Cert.AdamwLateIdeal.τ).loc Cert.AdamwLateIdeal.main_v0_5) = v5 c
          ∧ r.2.mem ((c.tc : Thread Cert.AdamwLateIdeal.nD Cert.AdamwLateIdeal.τ).loc Cert.AdamwLateIdeal.main_v0_6) = v6 c
          ∧ r.2.mem ((c.tc : Thread Cert.AdamwLateIdeal.nD Cert.AdamwLateIdeal.τ).loc Cert.AdamwLateIdeal.main_v0_7) = v7 c
          ∧ r.2.mem ((c.tc : Thread Cert.AdamwLateIdeal.nD Cert.AdamwLateIdeal.τ).loc Cert.AdamwLateIdeal.main_v0_8) = v8 c
          ∧ r.2.mem ((c.tc : Thread Cert.AdamwLateIdeal.nD Cert.AdamwLateIdeal.τ).loc Cert.AdamwLateIdeal.main_v0_9) = v9 c
          ∧ r.2.mem ((c.tc : Thread Cert.AdamwLateIdeal.nD Cert.AdamwLateIdeal.τ).loc Cert.AdamwLateIdeal.main_v0_10) = v10 c
          ∧ r.2.mem ((c.tc : Thread Cert.AdamwLateIdeal.nD Cert.AdamwLateIdeal.τ).loc Cert.AdamwLateIdeal.main_v0_11) = v11 c
          ∧ r.2.mem ((c.tc : Thread Cert.AdamwLateIdeal.nD Cert.AdamwLateIdeal.τ).loc Cert.AdamwLateIdeal.main_arg0) = m ((c.tc : Thread Cert.AdamwLateIdeal.nD Cert.AdamwLateIdeal.τ).loc Cert.AdamwLateIdeal.main_arg0)
          ∧ r.2.mem ((c.tc : Thread Cert.AdamwLateIdeal.nD Cert.AdamwLateIdeal.τ).loc Cert.AdamwLateIdeal.main_arg1) = m ((c.tc : Thread Cert.AdamwLateIdeal.nD Cert.AdamwLateIdeal.τ).loc Cert.AdamwLateIdeal.main_arg1)
          ∧ r.2.mem ((c.tc : Thread Cert.AdamwLateIdeal.nD Cert.AdamwLateIdeal.τ).loc Cert.AdamwLateIdeal.main_arg2) = m ((c.tc : Thread Cert.AdamwLateIdeal.nD Cert.AdamwLateIdeal.τ).loc Cert.AdamwLateIdeal.main_arg2)
          ∧ r.2.mem ((c.tc : Thread Cert.AdamwLateIdeal.nD Cert.AdamwLateIdeal.τ).loc Cert.AdamwLateIdeal.main_arg3) = m ((c.tc : Thread Cert.AdamwLateIdeal.nD Cert.AdamwLateIdeal.τ).loc Cert.AdamwLateIdeal.main_arg3)
          ∧ r.2.mem ((c.tc : Thread Cert.AdamwLateIdeal.nD Cert.AdamwLateIdeal.τ).loc Cert.AdamwLateIdeal.main_arg4) = m ((c.tc : Thread Cert.AdamwLateIdeal.nD Cert.AdamwLateIdeal.τ).loc Cert.AdamwLateIdeal.main_arg4)
          ∧ r.2.mem ((c.tc : Thread Cert.AdamwLateIdeal.nD Cert.AdamwLateIdeal.τ).loc Cert.AdamwLateIdeal.main_arg5) = m ((c.tc : Thread Cert.AdamwLateIdeal.nD Cert.AdamwLateIdeal.τ).loc Cert.AdamwLateIdeal.main_arg5)
          ∧ r.2.mem ((c.tc : Thread Cert.AdamwLateIdeal.nD Cert.AdamwLateIdeal.τ).loc Cert.AdamwLateIdeal.main_arg6) = m ((c.tc : Thread Cert.AdamwLateIdeal.nD Cert.AdamwLateIdeal.τ).loc Cert.AdamwLateIdeal.main_arg6)
          ∧ r.2.mem ((c.tc : Thread Cert.AdamwLateIdeal.nD Cert.AdamwLateIdeal.τ).loc Cert.AdamwLateIdeal.main_arg7) = m ((c.tc : Thread Cert.AdamwLateIdeal.nD Cert.AdamwLateIdeal.τ).loc Cert.AdamwLateIdeal.main_arg7)
          ∧ r.2.mem ((c.tc : Thread Cert.AdamwLateIdeal.nD Cert.AdamwLateIdeal.τ).loc Cert.AdamwLateIdeal.main_arg8) = m ((c.tc : Thread Cert.AdamwLateIdeal.nD Cert.AdamwLateIdeal.τ).loc Cert.AdamwLateIdeal.main_arg8)
          ∧ r.2.mem ((c.tc : Thread Cert.AdamwLateIdeal.nD Cert.AdamwLateIdeal.τ).loc Cert.AdamwLateIdeal.main_arg9) = m ((c.tc : Thread Cert.AdamwLateIdeal.nD Cert.AdamwLateIdeal.τ).loc Cert.AdamwLateIdeal.main_arg9)
          ∧ r.2.mem ((c.tc : Thread Cert.AdamwLateIdeal.nD Cert.AdamwLateIdeal.τ).loc Cert.AdamwLateIdeal.main_arg10) = m ((c.tc : Thread Cert.AdamwLateIdeal.nD Cert.AdamwLateIdeal.τ).loc Cert.AdamwLateIdeal.main_arg10)
          ∧ r.2.mem ((c.tc : Thread Cert.AdamwLateIdeal.nD Cert.AdamwLateIdeal.τ).loc Cert.AdamwLateIdeal.main_arg11) = m ((c.tc : Thread Cert.AdamwLateIdeal.nD Cert.AdamwLateIdeal.τ).loc Cert.AdamwLateIdeal.main_arg11)
          ∧ r.2.mem ((c.tc : Thread Cert.AdamwLateIdeal.nD Cert.AdamwLateIdeal.τ).loc Cert.AdamwLateIdeal.main_arg12) = m ((c.tc : Thread Cert.AdamwLateIdeal.nD Cert.AdamwLateIdeal.τ).loc Cert.AdamwLateIdeal.main_arg12)
          ∧ r.2.mem ((c.tc : Thread Cert.AdamwLateIdeal.nD Cert.AdamwLateIdeal.τ).loc Cert.AdamwLateIdeal.main_arg13) = m ((c.tc : Thread Cert.AdamwLateIdeal.nD Cert.AdamwLateIdeal.τ).loc Cert.AdamwLateIdeal.main_arg13)
          ∧ r.2.mem ((c.tc : Thread Cert.AdamwLateIdeal.nD Cert.AdamwLateIdeal.τ).loc Cert.AdamwLateIdeal.main_arg14) = m ((c.tc : Thread Cert.AdamwLateIdeal.nD Cert.AdamwLateIdeal.τ).loc Cert.AdamwLateIdeal.main_arg14)
          ∧ r.2.mem ((c.tc : Thread Cert.AdamwLateIdeal.nD Cert.AdamwLateIdeal.τ).loc Cert.AdamwLateIdeal.main_arg15) = m ((c.tc : Thread Cert.AdamwLateIdeal.nD Cert.AdamwLateIdeal.τ).loc Cert.AdamwLateIdeal.main_arg15))
      ∧ θ_run (Cert.AdamwRefLateIdeal.defs (F := Ideal)) (onTc (τ := Cert.AdamwRefLateIdeal.τ) (Cert.AdamwRefLateIdeal.main (F := Ideal))) ⟨m', fun _ => 0, g'⟩ (fun r => ∀ c : Dev Cert.AdamwRefLateIdeal.nD,
          r.2.mem ((c.tc : Thread Cert.AdamwRefLateIdeal.nD Cert.AdamwRefLateIdeal.τ).loc Cert.AdamwRefLateIdeal.main_v23) = v0 c
          ∧ r.2.mem ((c.tc : Thread Cert.AdamwRefLateIdeal.nD Cert.AdamwRefLateIdeal.τ).loc Cert.AdamwRefLateIdeal.main_v47) = v1 c
          ∧ r.2.mem ((c.tc : Thread Cert.AdamwRefLateIdeal.nD Cert.AdamwRefLateIdeal.τ).loc Cert.AdamwRefLateIdeal.main_v71) = v2 c
          ∧ r.2.mem ((c.tc : Thread Cert.AdamwRefLateIdeal.nD Cert.AdamwRefLateIdeal.τ).loc Cert.AdamwRefLateIdeal.main_v95) = v3 c
          ∧ r.2.mem ((c.tc : Thread Cert.AdamwRefLateIdeal.nD Cert.AdamwRefLateIdeal.τ).loc Cert.AdamwRefLateIdeal.main_v4) = v4 c
          ∧ r.2.mem ((c.tc : Thread Cert.AdamwRefLateIdeal.nD Cert.AdamwRefLateIdeal.τ).loc Cert.AdamwRefLateIdeal.main_v28) = v5 c
          ∧ r.2.mem ((c.tc : Thread Cert.AdamwRefLateIdeal.nD Cert.AdamwRefLateIdeal.τ).loc Cert.AdamwRefLateIdeal.main_v52) = v6 c
          ∧ r.2.mem ((c.tc : Thread Cert.AdamwRefLateIdeal.nD Cert.AdamwRefLateIdeal.τ).loc Cert.AdamwRefLateIdeal.main_v76) = v7 c
          ∧ r.2.mem ((c.tc : Thread Cert.AdamwRefLateIdeal.nD Cert.AdamwRefLateIdeal.τ).loc Cert.AdamwRefLateIdeal.main_v10) = v8 c
          ∧ r.2.mem ((c.tc : Thread Cert.AdamwRefLateIdeal.nD Cert.AdamwRefLateIdeal.τ).loc Cert.AdamwRefLateIdeal.main_v34) = v9 c
          ∧ r.2.mem ((c.tc : Thread Cert.AdamwRefLateIdeal.nD Cert.AdamwRefLateIdeal.τ).loc Cert.AdamwRefLateIdeal.main_v58) = v10 c
          ∧ r.2.mem ((c.tc : Thread Cert.AdamwRefLateIdeal.nD Cert.AdamwRefLateIdeal.τ).loc Cert.AdamwRefLateIdeal.main_v82) = v11 c
          ∧ r.2.mem ((c.tc : Thread Cert.AdamwRefLateIdeal.nD Cert.AdamwRefLateIdeal.τ).loc Cert.AdamwRefLateIdeal.main_arg0) = m' ((c.tc : Thread Cert.AdamwRefLateIdeal.nD Cert.AdamwRefLateIdeal.τ).loc Cert.AdamwRefLateIdeal.main_arg0)
          ∧ r.2.mem ((c.tc : Thread Cert.AdamwRefLateIdeal.nD Cert.AdamwRefLateIdeal.τ).loc Cert.AdamwRefLateIdeal.main_arg1) = m' ((c.tc : Thread Cert.AdamwRefLateIdeal.nD Cert.AdamwRefLateIdeal.τ).loc Cert.AdamwRefLateIdeal.main_arg1)
          ∧ r.2.mem ((c.tc : Thread Cert.AdamwRefLateIdeal.nD Cert.AdamwRefLateIdeal.τ).loc Cert.AdamwRefLateIdeal.main_arg2) = m' ((c.tc : Thread Cert.AdamwRefLateIdeal.nD Cert.AdamwRefLateIdeal.τ).loc Cert.AdamwRefLateIdeal.main_arg2)
          ∧ r.2.mem ((c.tc : Thread Cert.AdamwRefLateIdeal.nD Cert.AdamwRefLateIdeal.τ).loc Cert.AdamwRefLateIdeal.main_arg3) = m' ((c.tc : Thread Cert.AdamwRefLateIdeal.nD Cert.AdamwRefLateIdeal.τ).loc Cert.AdamwRefLateIdeal.main_arg3)
          ∧ r.2.mem ((c.tc : Thread Cert.AdamwRefLateIdeal.nD Cert.AdamwRefLateIdeal.τ).loc Cert.AdamwRefLateIdeal.main_arg4) = m' ((c.tc : Thread Cert.AdamwRefLateIdeal.nD Cert.AdamwRefLateIdeal.τ).loc Cert.AdamwRefLateIdeal.main_arg4)
          ∧ r.2.mem ((c.tc : Thread Cert.AdamwRefLateIdeal.nD Cert.AdamwRefLateIdeal.τ).loc Cert.AdamwRefLateIdeal.main_arg5) = m' ((c.tc : Thread Cert.AdamwRefLateIdeal.nD Cert.AdamwRefLateIdeal.τ).loc Cert.AdamwRefLateIdeal.main_arg5)
          ∧ r.2.mem ((c.tc : Thread Cert.AdamwRefLateIdeal.nD Cert.AdamwRefLateIdeal.τ).loc Cert.AdamwRefLateIdeal.main_arg6) = m' ((c.tc : Thread Cert.AdamwRefLateIdeal.nD Cert.AdamwRefLateIdeal.τ).loc Cert.AdamwRefLateIdeal.main_arg6)
          ∧ r.2.mem ((c.tc : Thread Cert.AdamwRefLateIdeal.nD Cert.AdamwRefLateIdeal.τ).loc Cert.AdamwRefLateIdeal.main_arg7) = m' ((c.tc : Thread Cert.AdamwRefLateIdeal.nD Cert.AdamwRefLateIdeal.τ).loc Cert.AdamwRefLateIdeal.main_arg7)
          ∧ r.2.mem ((c.tc : Thread Cert.AdamwRefLateIdeal.nD Cert.AdamwRefLateIdeal.τ).loc Cert.AdamwRefLateIdeal.main_arg8) = m' ((c.tc : Thread Cert.AdamwRefLateIdeal.nD Cert.AdamwRefLateIdeal.τ).loc Cert.AdamwRefLateIdeal.main_arg8)
          ∧ r.2.mem ((c.tc : Thread Cert.AdamwRefLateIdeal.nD Cert.AdamwRefLateIdeal.τ).loc Cert.AdamwRefLateIdeal.main_arg9) = m' ((c.tc : Thread Cert.AdamwRefLateIdeal.nD Cert.AdamwRefLateIdeal.τ).loc Cert.AdamwRefLateIdeal.main_arg9)
          ∧ r.2.mem ((c.tc : Thread Cert.AdamwRefLateIdeal.nD Cert.AdamwRefLateIdeal.τ).loc Cert.AdamwRefLateIdeal.main_arg10) = m' ((c.tc : Thread Cert.AdamwRefLateIdeal.nD Cert.AdamwRefLateIdeal.τ).loc Cert.AdamwRefLateIdeal.main_arg10)
          ∧ r.2.mem ((c.tc : Thread Cert.AdamwRefLateIdeal.nD Cert.AdamwRefLateIdeal.τ).loc Cert.AdamwRefLateIdeal.main_arg11) = m' ((c.tc : Thread Cert.AdamwRefLateIdeal.nD Cert.AdamwRefLateIdeal.τ).loc Cert.AdamwRefLateIdeal.main_arg11)
          ∧ r.2.mem ((c.tc : Thread Cert.AdamwRefLateIdeal.nD Cert.AdamwRefLateIdeal.τ).loc Cert.AdamwRefLateIdeal.main_arg12) = m' ((c.tc : Thread Cert.AdamwRefLateIdeal.nD Cert.AdamwRefLateIdeal.τ).loc Cert.AdamwRefLateIdeal.main_arg12)
          ∧ r.2.mem ((c.tc : Thread Cert.AdamwRefLateIdeal.nD Cert.AdamwRefLateIdeal.τ).loc Cert.AdamwRefLateIdeal.main_arg13) = m' ((c.tc : Thread Cert.AdamwRefLateIdeal.nD Cert.AdamwRefLateIdeal.τ).loc Cert.AdamwRefLateIdeal.main_arg13)
          ∧ r.2.mem ((c.tc : Thread Cert.AdamwRefLateIdeal.nD Cert.AdamwRefLateIdeal.τ).loc Cert.AdamwRefLateIdeal.main_arg14) = m' ((c.tc : Thread Cert.AdamwRefLateIdeal.nD Cert.AdamwRefLateIdeal.τ).loc Cert.AdamwRefLateIdeal.main_arg14)
          ∧ r.2.mem ((c.tc : Thread Cert.AdamwRefLateIdeal.nD Cert.AdamwRefLateIdeal.τ).loc Cert.AdamwRefLateIdeal.main_arg15) = m' ((c.tc : Thread Cert.AdamwRefLateIdeal.nD Cert.AdamwRefLateIdeal.τ).loc Cert.AdamwRefLateIdeal.main_arg15))

def preserves_AdamwIn_AdamwInIdeal : Prop :=
  True

def algebraic_AdamwInIdeal_AdamwRefInIdeal [hAdamwInIdeal : Cert.AdamwInIdeal.Facts] [hAdamwRefInIdeal : Cert.AdamwRefInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwRefInIdeal.nD Cert.AdamwRefInIdeal.τ Cert.AdamwRefInIdeal.sig) → Buf (Elt Ideal) ℓ) (g' : Dev Cert.AdamwRefInIdeal.nD → PrngReg), Pre_AdamwInIdeal m →
    (∀ c : Dev Cert.AdamwInIdeal.nD,
      m' ((c.tc : Thread Cert.AdamwRefInIdeal.nD Cert.AdamwRefInIdeal.τ).loc Cert.AdamwRefInIdeal.main_arg0) = m ((c.tc : Thread Cert.AdamwInIdeal.nD Cert.AdamwInIdeal.τ).loc Cert.AdamwInIdeal.main_arg0)
      ∧ m' ((c.tc : Thread Cert.AdamwRefInIdeal.nD Cert.AdamwRefInIdeal.τ).loc Cert.AdamwRefInIdeal.main_arg1) = m ((c.tc : Thread Cert.AdamwInIdeal.nD Cert.AdamwInIdeal.τ).loc Cert.AdamwInIdeal.main_arg1)
      ∧ m' ((c.tc : Thread Cert.AdamwRefInIdeal.nD Cert.AdamwRefInIdeal.τ).loc Cert.AdamwRefInIdeal.main_arg2) = m ((c.tc : Thread Cert.AdamwInIdeal.nD Cert.AdamwInIdeal.τ).loc Cert.AdamwInIdeal.main_arg2)
      ∧ m' ((c.tc : Thread Cert.AdamwRefInIdeal.nD Cert.AdamwRefInIdeal.τ).loc Cert.AdamwRefInIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwRefInIdeal.defs (F := Ideal)) (onTc (τ := Cert.AdamwRefInIdeal.τ) (Cert.AdamwRefInIdeal.main (F := Ideal))) ⟨m', fun _ => 0, g'⟩ (fun r => ∀ c : Dev Cert.AdamwRefInIdeal.nD,
          r.2.mem ((c.tc : Thread Cert.AdamwRefInIdeal.nD Cert.AdamwRefInIdeal.τ).loc Cert.AdamwRefInIdeal.main_v23) = v0 c
          ∧ r.2.mem ((c.tc : Thread Cert.AdamwRefInIdeal.nD Cert.AdamwRefInIdeal.τ).loc Cert.AdamwRefInIdeal.main_v4) = v1 c
          ∧ r.2.mem ((c.tc : Thread Cert.AdamwRefInIdeal.nD Cert.AdamwRefInIdeal.τ).loc Cert.AdamwRefInIdeal.main_v10) = v2 c
          ∧ r.2.mem ((c.tc : Thread Cert.AdamwRefInIdeal.nD Cert.AdamwRefInIdeal.τ).loc Cert.AdamwRefInIdeal.main_arg0) = m' ((c.tc : Thread Cert.AdamwRefInIdeal.nD Cert.AdamwRefInIdeal.τ).loc Cert.AdamwRefInIdeal.main_arg0)
          ∧ r.2.mem ((c.tc : Thread Cert.AdamwRefInIdeal.nD Cert.AdamwRefInIdeal.τ).loc Cert.AdamwRefInIdeal.main_arg1) = m' ((c.tc : Thread Cert.AdamwRefInIdeal.nD Cert.AdamwRefInIdeal.τ).loc Cert.AdamwRefInIdeal.main_arg1)
          ∧ r.2.mem ((c.tc : Thread Cert.AdamwRefInIdeal.nD Cert.AdamwRefInIdeal.τ).loc Cert.AdamwRefInIdeal.main_arg2) = m' ((c.tc : Thread Cert.AdamwRefInIdeal.nD Cert.AdamwRefInIdeal.τ).loc Cert.AdamwRefInIdeal.main_arg2)
          ∧ r.2.mem ((c.tc : Thread Cert.AdamwRefInIdeal.nD Cert.AdamwRefInIdeal.τ).loc Cert.AdamwRefInIdeal.main_arg3) = m' ((c.tc : Thread Cert.AdamwRefInIdeal.nD Cert.AdamwRefInIdeal.τ).loc Cert.AdamwRefInIdeal.main_arg3))

def preserves_AdamwUq_AdamwUqIdeal : Prop :=
  True

def algebraic_AdamwUqIdeal_AdamwRefUqIdeal [hAdamwUqIdeal : Cert.AdamwUqIdeal.Facts] [hAdamwRefUqIdeal : Cert.AdamwRefUqIdeal.Facts] : Prop :=
  ∀ (m : (ℓ : Loc Cert.AdamwUqIdeal.nD Cert.AdamwUqIdeal.τ Cert.AdamwUqIdeal.sig) → Buf (Elt Ideal) ℓ) (g : Dev Cert.AdamwUqIdeal.nD → PrngReg)
    (m' : (ℓ : Loc Cert.AdamwRefUqIdeal.nD Cert.AdamwRefUqIdeal.τ Cert.AdamwRefUqIdeal.sig) → Buf (Elt Ideal) ℓ) (g' : Dev Cert.AdamwRefUqIdeal.nD → PrngReg), Pre_AdamwUqIdeal m →
    (∀ c : Dev Cert.AdamwUqIdeal.nD,
      m' ((c.tc : Thread Cert.AdamwRefUqIdeal.nD Cert.AdamwRefUqIdeal.τ).loc Cert.AdamwRefUqIdeal.main_arg0) = m ((c.tc : Thread Cert.AdamwUqIdeal.nD Cert.AdamwUqIdeal.τ).loc Cert.AdamwUqIdeal.main_arg0)
      ∧ m' ((c.tc : Thread Cert.AdamwRefUqIdeal.nD Cert.AdamwRefUqIdeal.τ).loc Cert.AdamwRefUqIdeal.main_arg1) = m ((c.tc : Thread Cert.AdamwUqIdeal.nD Cert.AdamwUqIdeal.τ).loc Cert.AdamwUqIdeal.main_arg1)
      ∧ m' ((c.tc : Thread Cert.AdamwRefUqIdeal.nD Cert.AdamwRefUqIdeal.τ).loc Cert.AdamwRefUqIdeal.main_arg2) = m ((c.tc : Thread Cert.AdamwUqIdeal.nD Cert.AdamwUqIdeal.τ).loc Cert.AdamwUqIdeal.main_arg2)
      ∧ m' ((c.tc : Thread Cert.AdamwRefUqIdeal.nD Cert.AdamwRefUqIdeal.τ).loc Cert.AdamwRefUqIdeal.main_arg3) = m ((c.tc : Thread Cert.AdamwUqIdeal.nD Cert.AdamwUqIdeal.τ).loc Cert.AdamwUqIdeal.main_arg3)) →
    ∃ (v0 : (c : Dev Cert.AdamwUqIdeal.nD) → Buf (Elt Ideal) ((c.tc : Thread Cert.AdamwUqIdeal.nD Cert.AdamwUqIdeal.τ).loc Cert.AdamwUqIdeal.main_v0_0)) (v1 : (c : Dev Cert.AdamwUqIdeal.nD) → Buf (Elt Ideal) ((c.tc : Thread Cert.AdamwUqIdeal.nD Cert.AdamwUqIdeal.τ).loc Cert.AdamwUqIdeal.main_v0_1)) (v2 : (c : Dev Cert.AdamwUqIdeal.nD) → Buf (Elt Ideal) ((c.tc : Thread Cert.AdamwUqIdeal.nD Cert.AdamwUqIdeal.τ).loc Cert.AdamwUqIdeal.main_v0_2)),
      θ_run (Cert.AdamwUqIdeal.defs (F := Ideal)) (onTc (τ := Cert.AdamwUqIdeal.τ) (Cert.AdamwUqIdeal.main (F := Ideal))) ⟨m, fun _ => 0, g⟩ (fun r => ∀ c : Dev Cert.AdamwUqIdeal.nD,
          r.2.mem ((c.tc : Thread Cert.AdamwUqIdeal.nD Cert.AdamwUqIdeal.τ).loc Cert.AdamwUqIdeal.main_v0_0) = v0 c
          ∧ r.2.mem ((c.tc : Thread Cert.AdamwUqIdeal.nD Cert.AdamwUqIdeal.τ).loc Cert.AdamwUqIdeal.main_v0_1) = v1 c
          ∧ r.2.mem ((c.tc : Thread Cert.AdamwUqIdeal.nD Cert.AdamwUqIdeal.τ).loc Cert.AdamwUqIdeal.main_v0_2) = v2 c
          ∧ r.2.mem ((c.tc : Thread Cert.AdamwUqIdeal.nD Cert.AdamwUqIdeal.τ).loc Cert.AdamwUqIdeal.main_arg0) = m ((c.tc : Thread Cert.AdamwUqIdeal.nD Cert.AdamwUqIdeal.τ).loc Cert.AdamwUqIdeal.main_arg0)
          ∧ r.2.mem ((c.tc : Thread Cert.AdamwUqIdeal.nD Cert.AdamwUqIdeal.τ).loc Cert.AdamwUqIdeal.main_arg1) = m ((c.tc : Thread Cert.AdamwUqIdeal.nD Cert.AdamwUqIdeal.τ).loc Cert.AdamwUqIdeal.main_arg1)
          ∧ r.2.mem ((c.tc : Thread Cert.AdamwUqIdeal.nD Cert.AdamwUqIdeal.τ).loc Cert.AdamwUqIdeal.main_arg2) = m ((c.tc : Thread Cert.AdamwUqIdeal.nD Cert.AdamwUqIdeal.τ).loc Cert.AdamwUqIdeal.main_arg2)
          ∧ r.2.mem ((c.tc : Thread Cert.AdamwUqIdeal.nD Cert.AdamwUqIdeal.τ).loc Cert.AdamwUqIdeal.main_arg3) = m ((c.tc : Thread Cert.AdamwUqIdeal.nD Cert.AdamwUqIdeal.τ).loc Cert.AdamwUqIdeal.main_arg3))
      ∧ θ_run (Cert.AdamwRefUqIdeal.defs (F := Ideal)) (onTc (τ := Cert.AdamwRefUqIdeal.τ) (Cert.AdamwRefUqIdeal.main (F := Ideal))) ⟨m', fun _ => 0, g'⟩ (fun r => ∀ c : Dev Cert.AdamwRefUqIdeal.nD,
          r.2.mem ((c.tc : Thread Cert.AdamwRefUqIdeal.nD Cert.AdamwRefUqIdeal.τ).loc Cert.AdamwRefUqIdeal.main_v23) = v0 c
          ∧ r.2.mem ((c.tc : Thread Cert.AdamwRefUqIdeal.nD Cert.AdamwRefUqIdeal.τ).loc Cert.AdamwRefUqIdeal.main_v4) = v1 c
          ∧ r.2.mem ((c.tc : Thread Cert.AdamwRefUqIdeal.nD Cert.AdamwRefUqIdeal.τ).loc Cert.AdamwRefUqIdeal.main_v10) = v2 c
          ∧ r.2.mem ((c.tc : Thread Cert.AdamwRefUqIdeal.nD Cert.AdamwRefUqIdeal.τ).loc Cert.AdamwRefUqIdeal.main_arg0) = m' ((c.tc : Thread Cert.AdamwRefUqIdeal.nD Cert.AdamwRefUqIdeal.τ).loc Cert.AdamwRefUqIdeal.main_arg0)
          ∧ r.2.mem ((c.tc : Thread Cert.AdamwRefUqIdeal.nD Cert.AdamwRefUqIdeal.τ).loc Cert.AdamwRefUqIdeal.main_arg1) = m' ((c.tc : Thread Cert.AdamwRefUqIdeal.nD Cert.AdamwRefUqIdeal.τ).loc Cert.AdamwRefUqIdeal.main_arg1)
          ∧ r.2.mem ((c.tc : Thread Cert.AdamwRefUqIdeal.nD Cert.AdamwRefUqIdeal.τ).loc Cert.AdamwRefUqIdeal.main_arg2) = m' ((c.tc : Thread Cert.AdamwRefUqIdeal.nD Cert.AdamwRefUqIdeal.τ).loc Cert.AdamwRefUqIdeal.main_arg2)
          ∧ r.2.mem ((c.tc : Thread Cert.AdamwRefUqIdeal.nD Cert.AdamwRefUqIdeal.τ).loc Cert.AdamwRefUqIdeal.main_arg3) = m' ((c.tc : Thread Cert.AdamwRefUqIdeal.nD Cert.AdamwRefUqIdeal.τ).loc Cert.AdamwRefUqIdeal.main_arg3))

def preserves_AdamwUkv_AdamwUkvIdeal : Prop :=
  True

def algebraic_AdamwUkvIdeal_AdamwRefUkvIdeal [hAdamwUkvIdeal : Cert.AdamwUkvIdeal.Facts] [hAdamwRefUkvIdeal : Cert.AdamwRefUkvIdeal.Facts] : Prop :=
  ∀ (m : (ℓ : Loc Cert.AdamwUkvIdeal.nD Cert.AdamwUkvIdeal.τ Cert.AdamwUkvIdeal.sig) → Buf (Elt Ideal) ℓ) (g : Dev Cert.AdamwUkvIdeal.nD → PrngReg)
    (m' : (ℓ : Loc Cert.AdamwRefUkvIdeal.nD Cert.AdamwRefUkvIdeal.τ Cert.AdamwRefUkvIdeal.sig) → Buf (Elt Ideal) ℓ) (g' : Dev Cert.AdamwRefUkvIdeal.nD → PrngReg), Pre_AdamwUkvIdeal m →
    (∀ c : Dev Cert.AdamwUkvIdeal.nD,
      m' ((c.tc : Thread Cert.AdamwRefUkvIdeal.nD Cert.AdamwRefUkvIdeal.τ).loc Cert.AdamwRefUkvIdeal.main_arg0) = m ((c.tc : Thread Cert.AdamwUkvIdeal.nD Cert.AdamwUkvIdeal.τ).loc Cert.AdamwUkvIdeal.main_arg0)
      ∧ m' ((c.tc : Thread Cert.AdamwRefUkvIdeal.nD Cert.AdamwRefUkvIdeal.τ).loc Cert.AdamwRefUkvIdeal.main_arg1) = m ((c.tc : Thread Cert.AdamwUkvIdeal.nD Cert.AdamwUkvIdeal.τ).loc Cert.AdamwUkvIdeal.main_arg1)
      ∧ m' ((c.tc : Thread Cert.AdamwRefUkvIdeal.nD Cert.AdamwRefUkvIdeal.τ).loc Cert.AdamwRefUkvIdeal.main_arg2) = m ((c.tc : Thread Cert.AdamwUkvIdeal.nD Cert.AdamwUkvIdeal.τ).loc Cert.AdamwUkvIdeal.main_arg2)
      ∧ m' ((c.tc : Thread Cert.AdamwRefUkvIdeal.nD Cert.AdamwRefUkvIdeal.τ).loc Cert.AdamwRefUkvIdeal.main_arg3) = m ((c.tc : Thread Cert.AdamwUkvIdeal.nD Cert.AdamwUkvIdeal.τ).loc Cert.AdamwUkvIdeal.main_arg3)) →
    ∃ (v0 : (c : Dev Cert.AdamwUkvIdeal.nD) → Buf (Elt Ideal) ((c.tc : Thread Cert.AdamwUkvIdeal.nD Cert.AdamwUkvIdeal.τ).loc Cert.AdamwUkvIdeal.main_v0_0)) (v1 : (c : Dev Cert.AdamwUkvIdeal.nD) → Buf (Elt Ideal) ((c.tc : Thread Cert.AdamwUkvIdeal.nD Cert.AdamwUkvIdeal.τ).loc Cert.AdamwUkvIdeal.main_v0_1)) (v2 : (c : Dev Cert.AdamwUkvIdeal.nD) → Buf (Elt Ideal) ((c.tc : Thread Cert.AdamwUkvIdeal.nD Cert.AdamwUkvIdeal.τ).loc Cert.AdamwUkvIdeal.main_v0_2)),
      θ_run (Cert.AdamwUkvIdeal.defs (F := Ideal)) (onTc (τ := Cert.AdamwUkvIdeal.τ) (Cert.AdamwUkvIdeal.main (F := Ideal))) ⟨m, fun _ => 0, g⟩ (fun r => ∀ c : Dev Cert.AdamwUkvIdeal.nD,
          r.2.mem ((c.tc : Thread Cert.AdamwUkvIdeal.nD Cert.AdamwUkvIdeal.τ).loc Cert.AdamwUkvIdeal.main_v0_0) = v0 c
          ∧ r.2.mem ((c.tc : Thread Cert.AdamwUkvIdeal.nD Cert.AdamwUkvIdeal.τ).loc Cert.AdamwUkvIdeal.main_v0_1) = v1 c
          ∧ r.2.mem ((c.tc : Thread Cert.AdamwUkvIdeal.nD Cert.AdamwUkvIdeal.τ).loc Cert.AdamwUkvIdeal.main_v0_2) = v2 c
          ∧ r.2.mem ((c.tc : Thread Cert.AdamwUkvIdeal.nD Cert.AdamwUkvIdeal.τ).loc Cert.AdamwUkvIdeal.main_arg0) = m ((c.tc : Thread Cert.AdamwUkvIdeal.nD Cert.AdamwUkvIdeal.τ).loc Cert.AdamwUkvIdeal.main_arg0)
          ∧ r.2.mem ((c.tc : Thread Cert.AdamwUkvIdeal.nD Cert.AdamwUkvIdeal.τ).loc Cert.AdamwUkvIdeal.main_arg1) = m ((c.tc : Thread Cert.AdamwUkvIdeal.nD Cert.AdamwUkvIdeal.τ).loc Cert.AdamwUkvIdeal.main_arg1)
          ∧ r.2.mem ((c.tc : Thread Cert.AdamwUkvIdeal.nD Cert.AdamwUkvIdeal.τ).loc Cert.AdamwUkvIdeal.main_arg2) = m ((c.tc : Thread Cert.AdamwUkvIdeal.nD Cert.AdamwUkvIdeal.τ).loc Cert.AdamwUkvIdeal.main_arg2)
          ∧ r.2.mem ((c.tc : Thread Cert.AdamwUkvIdeal.nD Cert.AdamwUkvIdeal.τ).loc Cert.AdamwUkvIdeal.main_arg3) = m ((c.tc : Thread Cert.AdamwUkvIdeal.nD Cert.AdamwUkvIdeal.τ).loc Cert.AdamwUkvIdeal.main_arg3))
      ∧ θ_run (Cert.AdamwRefUkvIdeal.defs (F := Ideal)) (onTc (τ := Cert.AdamwRefUkvIdeal.τ) (Cert.AdamwRefUkvIdeal.main (F := Ideal))) ⟨m', fun _ => 0, g'⟩ (fun r => ∀ c : Dev Cert.AdamwRefUkvIdeal.nD,
          r.2.mem ((c.tc : Thread Cert.AdamwRefUkvIdeal.nD Cert.AdamwRefUkvIdeal.τ).loc Cert.AdamwRefUkvIdeal.main_v23) = v0 c
          ∧ r.2.mem ((c.tc : Thread Cert.AdamwRefUkvIdeal.nD Cert.AdamwRefUkvIdeal.τ).loc Cert.AdamwRefUkvIdeal.main_v4) = v1 c
          ∧ r.2.mem ((c.tc : Thread Cert.AdamwRefUkvIdeal.nD Cert.AdamwRefUkvIdeal.τ).loc Cert.AdamwRefUkvIdeal.main_v10) = v2 c
          ∧ r.2.mem ((c.tc : Thread Cert.AdamwRefUkvIdeal.nD Cert.AdamwRefUkvIdeal.τ).loc Cert.AdamwRefUkvIdeal.main_arg0) = m' ((c.tc : Thread Cert.AdamwRefUkvIdeal.nD Cert.AdamwRefUkvIdeal.τ).loc Cert.AdamwRefUkvIdeal.main_arg0)
          ∧ r.2.mem ((c.tc : Thread Cert.AdamwRefUkvIdeal.nD Cert.AdamwRefUkvIdeal.τ).loc Cert.AdamwRefUkvIdeal.main_arg1) = m' ((c.tc : Thread Cert.AdamwRefUkvIdeal.nD Cert.AdamwRefUkvIdeal.τ).loc Cert.AdamwRefUkvIdeal.main_arg1)
          ∧ r.2.mem ((c.tc : Thread Cert.AdamwRefUkvIdeal.nD Cert.AdamwRefUkvIdeal.τ).loc Cert.AdamwRefUkvIdeal.main_arg2) = m' ((c.tc : Thread Cert.AdamwRefUkvIdeal.nD Cert.AdamwRefUkvIdeal.τ).loc Cert.AdamwRefUkvIdeal.main_arg2)
          ∧ r.2.mem ((c.tc : Thread Cert.AdamwRefUkvIdeal.nD Cert.AdamwRefUkvIdeal.τ).loc Cert.AdamwRefUkvIdeal.main_arg3) = m' ((c.tc : Thread Cert.AdamwRefUkvIdeal.nD Cert.AdamwRefUkvIdeal.τ).loc Cert.AdamwRefUkvIdeal.main_arg3))

def preserves_Projections_ProjectionsIdeal : Prop :=
  True

def algebraic_ProjectionsIdeal_ProjectionsVjpIdeal [hProjectionsIdeal : Cert.ProjectionsIdeal.Facts] [hProjectionsVjpIdeal : Cert.ProjectionsVjpIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsVjpIdeal.nD Cert.ProjectionsVjpIdeal.τ Cert.ProjectionsVjpIdeal.sig) → Buf (Elt Ideal) ℓ) (g' : Dev Cert.ProjectionsVjpIdeal.nD → PrngReg), Pre_ProjectionsIdeal m →
    (∀ c : Dev Cert.ProjectionsIdeal.nD,
      m' ((c.tc : Thread Cert.ProjectionsVjpIdeal.nD Cert.ProjectionsVjpIdeal.τ).loc Cert.ProjectionsVjpIdeal.main_arg0) = m ((c.tc : Thread Cert.ProjectionsIdeal.nD Cert.ProjectionsIdeal.τ).loc Cert.ProjectionsIdeal.main_arg0)
      ∧ m' ((c.tc : Thread Cert.ProjectionsVjpIdeal.nD Cert.ProjectionsVjpIdeal.τ).loc Cert.ProjectionsVjpIdeal.main_arg1) = m ((c.tc : Thread Cert.ProjectionsIdeal.nD Cert.ProjectionsIdeal.τ).loc Cert.ProjectionsIdeal.main_arg1)
      ∧ m' ((c.tc : Thread Cert.ProjectionsVjpIdeal.nD Cert.ProjectionsVjpIdeal.τ).loc Cert.ProjectionsVjpIdeal.main_arg2) = m ((c.tc : Thread Cert.ProjectionsIdeal.nD Cert.ProjectionsIdeal.τ).loc Cert.ProjectionsIdeal.main_arg2)
      ∧ m' ((c.tc : Thread Cert.ProjectionsVjpIdeal.nD Cert.ProjectionsVjpIdeal.τ).loc Cert.ProjectionsVjpIdeal.main_arg3) = m ((c.tc : Thread Cert.ProjectionsIdeal.nD Cert.ProjectionsIdeal.τ).loc Cert.ProjectionsIdeal.main_arg3)
      ∧ m' ((c.tc : Thread Cert.ProjectionsVjpIdeal.nD Cert.ProjectionsVjpIdeal.τ).loc Cert.ProjectionsVjpIdeal.main_arg4) = m ((c.tc : Thread Cert.ProjectionsIdeal.nD Cert.ProjectionsIdeal.τ).loc Cert.ProjectionsIdeal.main_arg4)
      ∧ m' ((c.tc : Thread Cert.ProjectionsVjpIdeal.nD Cert.ProjectionsVjpIdeal.τ).loc Cert.ProjectionsVjpIdeal.main_arg5) = m ((c.tc : Thread Cert.ProjectionsIdeal.nD Cert.ProjectionsIdeal.τ).loc Cert.ProjectionsIdeal.main_arg5)
      ∧ m' ((c.tc : Thread Cert.ProjectionsVjpIdeal.nD Cert.ProjectionsVjpIdeal.τ).loc Cert.ProjectionsVjpIdeal.main_arg6) = m ((c.tc : Thread Cert.ProjectionsIdeal.nD Cert.ProjectionsIdeal.τ).loc Cert.ProjectionsIdeal.main_arg6)) →
    ∃ (v0 : (c : Dev Cert.ProjectionsIdeal.nD) → Buf (Elt Ideal) ((c.tc : Thread Cert.ProjectionsIdeal.nD Cert.ProjectionsIdeal.τ).loc Cert.ProjectionsIdeal.main_v40)) (v1 : (c : Dev Cert.ProjectionsIdeal.nD) → Buf (Elt Ideal) ((c.tc : Thread Cert.ProjectionsIdeal.nD Cert.ProjectionsIdeal.τ).loc Cert.ProjectionsIdeal.main_v41)) (v2 : (c : Dev Cert.ProjectionsIdeal.nD) → Buf (Elt Ideal) ((c.tc : Thread Cert.ProjectionsIdeal.nD Cert.ProjectionsIdeal.τ).loc Cert.ProjectionsIdeal.main_v42)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v40) = v0 c
          ∧ r.2.mem ((c.tc : Thread Cert.ProjectionsIdeal.nD Cert.ProjectionsIdeal.τ).loc Cert.ProjectionsIdeal.main_v41) = v1 c
          ∧ r.2.mem ((c.tc : Thread Cert.ProjectionsIdeal.nD Cert.ProjectionsIdeal.τ).loc Cert.ProjectionsIdeal.main_v42) = v2 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6))
      ∧ θ_run (Cert.ProjectionsVjpIdeal.defs (F := Ideal)) (onTc (τ := Cert.ProjectionsVjpIdeal.τ) (Cert.ProjectionsVjpIdeal.main (F := Ideal))) ⟨m', fun _ => 0, g'⟩ (fun r => ∀ c : Dev Cert.ProjectionsVjpIdeal.nD,
          r.2.mem ((c.tc : Thread Cert.ProjectionsVjpIdeal.nD Cert.ProjectionsVjpIdeal.τ).loc Cert.ProjectionsVjpIdeal.main_v20) = v0 c
          ∧ r.2.mem ((c.tc : Thread Cert.ProjectionsVjpIdeal.nD Cert.ProjectionsVjpIdeal.τ).loc Cert.ProjectionsVjpIdeal.main_v18) = v1 c
          ∧ r.2.mem ((c.tc : Thread Cert.ProjectionsVjpIdeal.nD Cert.ProjectionsVjpIdeal.τ).loc Cert.ProjectionsVjpIdeal.main_v15) = v2 c
          ∧ r.2.mem ((c.tc : Thread Cert.ProjectionsVjpIdeal.nD Cert.ProjectionsVjpIdeal.τ).loc Cert.ProjectionsVjpIdeal.main_arg0) = m' ((c.tc : Thread Cert.ProjectionsVjpIdeal.nD Cert.ProjectionsVjpIdeal.τ).loc Cert.ProjectionsVjpIdeal.main_arg0)
          ∧ r.2.mem ((c.tc : Thread Cert.ProjectionsVjpIdeal.nD Cert.ProjectionsVjpIdeal.τ).loc Cert.ProjectionsVjpIdeal.main_arg1) = m' ((c.tc : Thread Cert.ProjectionsVjpIdeal.nD Cert.ProjectionsVjpIdeal.τ).loc Cert.ProjectionsVjpIdeal.main_arg1)
          ∧ r.2.mem ((c.tc : Thread Cert.ProjectionsVjpIdeal.nD Cert.ProjectionsVjpIdeal.τ).loc Cert.ProjectionsVjpIdeal.main_arg2) = m' ((c.tc : Thread Cert.ProjectionsVjpIdeal.nD Cert.ProjectionsVjpIdeal.τ).loc Cert.ProjectionsVjpIdeal.main_arg2)
          ∧ r.2.mem ((c.tc : Thread Cert.ProjectionsVjpIdeal.nD Cert.ProjectionsVjpIdeal.τ).loc Cert.ProjectionsVjpIdeal.main_arg3) = m' ((c.tc : Thread Cert.ProjectionsVjpIdeal.nD Cert.ProjectionsVjpIdeal.τ).loc Cert.ProjectionsVjpIdeal.main_arg3)
          ∧ r.2.mem ((c.tc : Thread Cert.ProjectionsVjpIdeal.nD Cert.ProjectionsVjpIdeal.τ).loc Cert.ProjectionsVjpIdeal.main_arg4) = m' ((c.tc : Thread Cert.ProjectionsVjpIdeal.nD Cert.ProjectionsVjpIdeal.τ).loc Cert.ProjectionsVjpIdeal.main_arg4)
          ∧ r.2.mem ((c.tc : Thread Cert.ProjectionsVjpIdeal.nD Cert.ProjectionsVjpIdeal.τ).loc Cert.ProjectionsVjpIdeal.main_arg5) = m' ((c.tc : Thread Cert.ProjectionsVjpIdeal.nD Cert.ProjectionsVjpIdeal.τ).loc Cert.ProjectionsVjpIdeal.main_arg5)
          ∧ r.2.mem ((c.tc : Thread Cert.ProjectionsVjpIdeal.nD Cert.ProjectionsVjpIdeal.τ).loc Cert.ProjectionsVjpIdeal.main_arg6) = m' ((c.tc : Thread Cert.ProjectionsVjpIdeal.nD Cert.ProjectionsVjpIdeal.τ).loc Cert.ProjectionsVjpIdeal.main_arg6))

def preserves_SmallSums_SmallSumsIdeal : Prop :=
  True

def algebraic_SmallSumsIdeal_SmallSumsRefIdeal [hSmallSumsIdeal : Cert.SmallSumsIdeal.Facts] [hSmallSumsRefIdeal : Cert.SmallSumsRefIdeal.Facts] : Prop :=
  ∀ (m : (ℓ : Loc Cert.SmallSumsIdeal.nD Cert.SmallSumsIdeal.τ Cert.SmallSumsIdeal.sig) → Buf (Elt Ideal) ℓ) (g : Dev Cert.SmallSumsIdeal.nD → PrngReg)
    (m' : (ℓ : Loc Cert.SmallSumsRefIdeal.nD Cert.SmallSumsRefIdeal.τ Cert.SmallSumsRefIdeal.sig) → Buf (Elt Ideal) ℓ) (g' : Dev Cert.SmallSumsRefIdeal.nD → PrngReg), Pre_SmallSumsIdeal m →
    (∀ c : Dev Cert.SmallSumsIdeal.nD,
      m' ((c.tc : Thread Cert.SmallSumsRefIdeal.nD Cert.SmallSumsRefIdeal.τ).loc Cert.SmallSumsRefIdeal.main_arg0) = m ((c.tc : Thread Cert.SmallSumsIdeal.nD Cert.SmallSumsIdeal.τ).loc Cert.SmallSumsIdeal.main_arg0)
      ∧ m' ((c.tc : Thread Cert.SmallSumsRefIdeal.nD Cert.SmallSumsRefIdeal.τ).loc Cert.SmallSumsRefIdeal.main_arg1) = m ((c.tc : Thread Cert.SmallSumsIdeal.nD Cert.SmallSumsIdeal.τ).loc Cert.SmallSumsIdeal.main_arg1)
      ∧ m' ((c.tc : Thread Cert.SmallSumsRefIdeal.nD Cert.SmallSumsRefIdeal.τ).loc Cert.SmallSumsRefIdeal.main_arg2) = m ((c.tc : Thread Cert.SmallSumsIdeal.nD Cert.SmallSumsIdeal.τ).loc Cert.SmallSumsIdeal.main_arg2)
      ∧ m' ((c.tc : Thread Cert.SmallSumsRefIdeal.nD Cert.SmallSumsRefIdeal.τ).loc Cert.SmallSumsRefIdeal.main_arg3) = m ((c.tc : Thread Cert.SmallSumsIdeal.nD Cert.SmallSumsIdeal.τ).loc Cert.SmallSumsIdeal.main_arg3)
      ∧ m' ((c.tc : Thread Cert.SmallSumsRefIdeal.nD Cert.SmallSumsRefIdeal.τ).loc Cert.SmallSumsRefIdeal.main_arg4) = m ((c.tc : Thread Cert.SmallSumsIdeal.nD Cert.SmallSumsIdeal.τ).loc Cert.SmallSumsIdeal.main_arg4)
      ∧ m' ((c.tc : Thread Cert.SmallSumsRefIdeal.nD Cert.SmallSumsRefIdeal.τ).loc Cert.SmallSumsRefIdeal.main_arg5) = m ((c.tc : Thread Cert.SmallSumsIdeal.nD Cert.SmallSumsIdeal.τ).loc Cert.SmallSumsIdeal.main_arg5)) →
    ∃ (v0 : (c : Dev Cert.SmallSumsIdeal.nD) → Buf (Elt Ideal) ((c.tc : Thread Cert.SmallSumsIdeal.nD Cert.SmallSumsIdeal.τ).loc Cert.SmallSumsIdeal.main_v42)) (v1 : (c : Dev Cert.SmallSumsIdeal.nD) → Buf (Elt Ideal) ((c.tc : Thread Cert.SmallSumsIdeal.nD Cert.SmallSumsIdeal.τ).loc Cert.SmallSumsIdeal.main_v6)) (v2 : (c : Dev Cert.SmallSumsIdeal.nD) → Buf (Elt Ideal) ((c.tc : Thread Cert.SmallSumsIdeal.nD Cert.SmallSumsIdeal.τ).loc Cert.SmallSumsIdeal.main_v8)) (v3 : (c : Dev Cert.SmallSumsIdeal.nD) → Buf (Elt Ideal) ((c.tc : Thread Cert.SmallSumsIdeal.nD Cert.SmallSumsIdeal.τ).loc Cert.SmallSumsIdeal.main_v10)) (v4 : (c : Dev Cert.SmallSumsIdeal.nD) → Buf (Elt Ideal) ((c.tc : Thread Cert.SmallSumsIdeal.nD Cert.SmallSumsIdeal.τ).loc Cert.SmallSumsIdeal.main_v12)) (v5 : (c : Dev Cert.SmallSumsIdeal.nD) → Buf (Elt Ideal) ((c.tc : Thread Cert.SmallSumsIdeal.nD Cert.SmallSumsIdeal.τ).loc Cert.SmallSumsIdeal.main_v14)) (v6 : (c : Dev Cert.SmallSumsIdeal.nD) → Buf (Elt Ideal) ((c.tc : Thread Cert.SmallSumsIdeal.nD Cert.SmallSumsIdeal.τ).loc Cert.SmallSumsIdeal.main_v48)) (v7 : (c : Dev Cert.SmallSumsIdeal.nD) → Buf (Elt Ideal) ((c.tc : Thread Cert.SmallSumsIdeal.nD Cert.SmallSumsIdeal.τ).loc Cert.SmallSumsIdeal.main_v18)) (v8 : (c : Dev Cert.SmallSumsIdeal.nD) → Buf (Elt Ideal) ((c.tc : Thread Cert.SmallSumsIdeal.nD Cert.SmallSumsIdeal.τ).loc Cert.SmallSumsIdeal.main_v20)) (v9 : (c : Dev Cert.SmallSumsIdeal.nD) → Buf (Elt Ideal) ((c.tc : Thread Cert.SmallSumsIdeal.nD Cert.SmallSumsIdeal.τ).loc Cert.SmallSumsIdeal.main_v54)) (v10 : (c : Dev Cert.SmallSumsIdeal.nD) → Buf (Elt Ideal) ((c.tc : Thread Cert.SmallSumsIdeal.nD Cert.SmallSumsIdeal.τ).loc Cert.SmallSumsIdeal.main_v24)) (v11 : (c : Dev Cert.SmallSumsIdeal.nD) → Buf (Elt Ideal) ((c.tc : Thread Cert.SmallSumsIdeal.nD Cert.SmallSumsIdeal.τ).loc Cert.SmallSumsIdeal.main_v60)) (v12 : (c : Dev Cert.SmallSumsIdeal.nD) → Buf (Elt Ideal) ((c.tc : Thread Cert.SmallSumsIdeal.nD Cert.SmallSumsIdeal.τ).loc Cert.SmallSumsIdeal.main_v66)) (v13 : (c : Dev Cert.SmallSumsIdeal.nD) → Buf (Elt Ideal) ((c.tc : Thread Cert.SmallSumsIdeal.nD Cert.SmallSumsIdeal.τ).loc Cert.SmallSumsIdeal.main_v30)) (v14 : (c : Dev Cert.SmallSumsIdeal.nD) → Buf (Elt Ideal) ((c.tc : Thread Cert.SmallSumsIdeal.nD Cert.SmallSumsIdeal.τ).loc Cert.SmallSumsIdeal.main_v32)) (v15 : (c : Dev Cert.SmallSumsIdeal.nD) → Buf (Elt Ideal) ((c.tc : Thread Cert.SmallSumsIdeal.nD Cert.SmallSumsIdeal.τ).loc Cert.SmallSumsIdeal.main_v34)) (v16 : (c : Dev Cert.SmallSumsIdeal.nD) → Buf (Elt Ideal) ((c.tc : Thread Cert.SmallSumsIdeal.nD Cert.SmallSumsIdeal.τ).loc Cert.SmallSumsIdeal.main_v36)),
      θ_run (Cert.SmallSumsIdeal.defs (F := Ideal)) (onTc (τ := Cert.SmallSumsIdeal.τ) (Cert.SmallSumsIdeal.main (F := Ideal))) ⟨m, fun _ => 0, g⟩ (fun r => ∀ c : Dev Cert.SmallSumsIdeal.nD,
          r.2.mem ((c.tc : Thread Cert.SmallSumsIdeal.nD Cert.SmallSumsIdeal.τ).loc Cert.SmallSumsIdeal.main_v42) = v0 c
          ∧ r.2.mem ((c.tc : Thread Cert.SmallSumsIdeal.nD Cert.SmallSumsIdeal.τ).loc Cert.SmallSumsIdeal.main_v6) = v1 c
          ∧ r.2.mem ((c.tc : Thread Cert.SmallSumsIdeal.nD Cert.SmallSumsIdeal.τ).loc Cert.SmallSumsIdeal.main_v8) = v2 c
          ∧ r.2.mem ((c.tc : Thread Cert.SmallSumsIdeal.nD Cert.SmallSumsIdeal.τ).loc Cert.SmallSumsIdeal.main_v10) = v3 c
          ∧ r.2.mem ((c.tc : Thread Cert.SmallSumsIdeal.nD Cert.SmallSumsIdeal.τ).loc Cert.SmallSumsIdeal.main_v12) = v4 c
          ∧ r.2.mem ((c.tc : Thread Cert.SmallSumsIdeal.nD Cert.SmallSumsIdeal.τ).loc Cert.SmallSumsIdeal.main_v14) = v5 c
          ∧ r.2.mem ((c.tc : Thread Cert.SmallSumsIdeal.nD Cert.SmallSumsIdeal.τ).loc Cert.SmallSumsIdeal.main_v48) = v6 c
          ∧ r.2.mem ((c.tc : Thread Cert.SmallSumsIdeal.nD Cert.SmallSumsIdeal.τ).loc Cert.SmallSumsIdeal.main_v18) = v7 c
          ∧ r.2.mem ((c.tc : Thread Cert.SmallSumsIdeal.nD Cert.SmallSumsIdeal.τ).loc Cert.SmallSumsIdeal.main_v20) = v8 c
          ∧ r.2.mem ((c.tc : Thread Cert.SmallSumsIdeal.nD Cert.SmallSumsIdeal.τ).loc Cert.SmallSumsIdeal.main_v54) = v9 c
          ∧ r.2.mem ((c.tc : Thread Cert.SmallSumsIdeal.nD Cert.SmallSumsIdeal.τ).loc Cert.SmallSumsIdeal.main_v24) = v10 c
          ∧ r.2.mem ((c.tc : Thread Cert.SmallSumsIdeal.nD Cert.SmallSumsIdeal.τ).loc Cert.SmallSumsIdeal.main_v60) = v11 c
          ∧ r.2.mem ((c.tc : Thread Cert.SmallSumsIdeal.nD Cert.SmallSumsIdeal.τ).loc Cert.SmallSumsIdeal.main_v66) = v12 c
          ∧ r.2.mem ((c.tc : Thread Cert.SmallSumsIdeal.nD Cert.SmallSumsIdeal.τ).loc Cert.SmallSumsIdeal.main_v30) = v13 c
          ∧ r.2.mem ((c.tc : Thread Cert.SmallSumsIdeal.nD Cert.SmallSumsIdeal.τ).loc Cert.SmallSumsIdeal.main_v32) = v14 c
          ∧ r.2.mem ((c.tc : Thread Cert.SmallSumsIdeal.nD Cert.SmallSumsIdeal.τ).loc Cert.SmallSumsIdeal.main_v34) = v15 c
          ∧ r.2.mem ((c.tc : Thread Cert.SmallSumsIdeal.nD Cert.SmallSumsIdeal.τ).loc Cert.SmallSumsIdeal.main_v36) = v16 c
          ∧ r.2.mem ((c.tc : Thread Cert.SmallSumsIdeal.nD Cert.SmallSumsIdeal.τ).loc Cert.SmallSumsIdeal.main_arg0) = m ((c.tc : Thread Cert.SmallSumsIdeal.nD Cert.SmallSumsIdeal.τ).loc Cert.SmallSumsIdeal.main_arg0)
          ∧ r.2.mem ((c.tc : Thread Cert.SmallSumsIdeal.nD Cert.SmallSumsIdeal.τ).loc Cert.SmallSumsIdeal.main_arg1) = m ((c.tc : Thread Cert.SmallSumsIdeal.nD Cert.SmallSumsIdeal.τ).loc Cert.SmallSumsIdeal.main_arg1)
          ∧ r.2.mem ((c.tc : Thread Cert.SmallSumsIdeal.nD Cert.SmallSumsIdeal.τ).loc Cert.SmallSumsIdeal.main_arg2) = m ((c.tc : Thread Cert.SmallSumsIdeal.nD Cert.SmallSumsIdeal.τ).loc Cert.SmallSumsIdeal.main_arg2)
          ∧ r.2.mem ((c.tc : Thread Cert.SmallSumsIdeal.nD Cert.SmallSumsIdeal.τ).loc Cert.SmallSumsIdeal.main_arg3) = m ((c.tc : Thread Cert.SmallSumsIdeal.nD Cert.SmallSumsIdeal.τ).loc Cert.SmallSumsIdeal.main_arg3)
          ∧ r.2.mem ((c.tc : Thread Cert.SmallSumsIdeal.nD Cert.SmallSumsIdeal.τ).loc Cert.SmallSumsIdeal.main_arg4) = m ((c.tc : Thread Cert.SmallSumsIdeal.nD Cert.SmallSumsIdeal.τ).loc Cert.SmallSumsIdeal.main_arg4)
          ∧ r.2.mem ((c.tc : Thread Cert.SmallSumsIdeal.nD Cert.SmallSumsIdeal.τ).loc Cert.SmallSumsIdeal.main_arg5) = m ((c.tc : Thread Cert.SmallSumsIdeal.nD Cert.SmallSumsIdeal.τ).loc Cert.SmallSumsIdeal.main_arg5))
      ∧ θ_run (Cert.SmallSumsRefIdeal.defs (F := Ideal)) (onTc (τ := Cert.SmallSumsRefIdeal.τ) (Cert.SmallSumsRefIdeal.main (F := Ideal))) ⟨m', fun _ => 0, g'⟩ (fun r => ∀ c : Dev Cert.SmallSumsRefIdeal.nD,
          r.2.mem ((c.tc : Thread Cert.SmallSumsRefIdeal.nD Cert.SmallSumsRefIdeal.τ).loc Cert.SmallSumsRefIdeal.main_v12) = v0 c
          ∧ r.2.mem ((c.tc : Thread Cert.SmallSumsRefIdeal.nD Cert.SmallSumsRefIdeal.τ).loc Cert.SmallSumsRefIdeal.main_v14) = v1 c
          ∧ r.2.mem ((c.tc : Thread Cert.SmallSumsRefIdeal.nD Cert.SmallSumsRefIdeal.τ).loc Cert.SmallSumsRefIdeal.main_v16) = v2 c
          ∧ r.2.mem ((c.tc : Thread Cert.SmallSumsRefIdeal.nD Cert.SmallSumsRefIdeal.τ).loc Cert.SmallSumsRefIdeal.main_v18) = v3 c
          ∧ r.2.mem ((c.tc : Thread Cert.SmallSumsRefIdeal.nD Cert.SmallSumsRefIdeal.τ).loc Cert.SmallSumsRefIdeal.main_v20) = v4 c
          ∧ r.2.mem ((c.tc : Thread Cert.SmallSumsRefIdeal.nD Cert.SmallSumsRefIdeal.τ).loc Cert.SmallSumsRefIdeal.main_v22) = v5 c
          ∧ r.2.mem ((c.tc : Thread Cert.SmallSumsRefIdeal.nD Cert.SmallSumsRefIdeal.τ).loc Cert.SmallSumsRefIdeal.main_v30) = v6 c
          ∧ r.2.mem ((c.tc : Thread Cert.SmallSumsRefIdeal.nD Cert.SmallSumsRefIdeal.τ).loc Cert.SmallSumsRefIdeal.main_v32) = v7 c
          ∧ r.2.mem ((c.tc : Thread Cert.SmallSumsRefIdeal.nD Cert.SmallSumsRefIdeal.τ).loc Cert.SmallSumsRefIdeal.main_v34) = v8 c
          ∧ r.2.mem ((c.tc : Thread Cert.SmallSumsRefIdeal.nD Cert.SmallSumsRefIdeal.τ).loc Cert.SmallSumsRefIdeal.main_v42) = v9 c
          ∧ r.2.mem ((c.tc : Thread Cert.SmallSumsRefIdeal.nD Cert.SmallSumsRefIdeal.τ).loc Cert.SmallSumsRefIdeal.main_v44) = v10 c
          ∧ r.2.mem ((c.tc : Thread Cert.SmallSumsRefIdeal.nD Cert.SmallSumsRefIdeal.τ).loc Cert.SmallSumsRefIdeal.main_v52) = v11 c
          ∧ r.2.mem ((c.tc : Thread Cert.SmallSumsRefIdeal.nD Cert.SmallSumsRefIdeal.τ).loc Cert.SmallSumsRefIdeal.main_v60) = v12 c
          ∧ r.2.mem ((c.tc : Thread Cert.SmallSumsRefIdeal.nD Cert.SmallSumsRefIdeal.τ).loc Cert.SmallSumsRefIdeal.main_v62) = v13 c
          ∧ r.2.mem ((c.tc : Thread Cert.SmallSumsRefIdeal.nD Cert.SmallSumsRefIdeal.τ).loc Cert.SmallSumsRefIdeal.main_v64) = v14 c
          ∧ r.2.mem ((c.tc : Thread Cert.SmallSumsRefIdeal.nD Cert.SmallSumsRefIdeal.τ).loc Cert.SmallSumsRefIdeal.main_v66) = v15 c
          ∧ r.2.mem ((c.tc : Thread Cert.SmallSumsRefIdeal.nD Cert.SmallSumsRefIdeal.τ).loc Cert.SmallSumsRefIdeal.main_v68) = v16 c
          ∧ r.2.mem ((c.tc : Thread Cert.SmallSumsRefIdeal.nD Cert.SmallSumsRefIdeal.τ).loc Cert.SmallSumsRefIdeal.main_arg0) = m' ((c.tc : Thread Cert.SmallSumsRefIdeal.nD Cert.SmallSumsRefIdeal.τ).loc Cert.SmallSumsRefIdeal.main_arg0)
          ∧ r.2.mem ((c.tc : Thread Cert.SmallSumsRefIdeal.nD Cert.SmallSumsRefIdeal.τ).loc Cert.SmallSumsRefIdeal.main_arg1) = m' ((c.tc : Thread Cert.SmallSumsRefIdeal.nD Cert.SmallSumsRefIdeal.τ).loc Cert.SmallSumsRefIdeal.main_arg1)
          ∧ r.2.mem ((c.tc : Thread Cert.SmallSumsRefIdeal.nD Cert.SmallSumsRefIdeal.τ).loc Cert.SmallSumsRefIdeal.main_arg2) = m' ((c.tc : Thread Cert.SmallSumsRefIdeal.nD Cert.SmallSumsRefIdeal.τ).loc Cert.SmallSumsRefIdeal.main_arg2)
          ∧ r.2.mem ((c.tc : Thread Cert.SmallSumsRefIdeal.nD Cert.SmallSumsRefIdeal.τ).loc Cert.SmallSumsRefIdeal.main_arg3) = m' ((c.tc : Thread Cert.SmallSumsRefIdeal.nD Cert.SmallSumsRefIdeal.τ).loc Cert.SmallSumsRefIdeal.main_arg3)
          ∧ r.2.mem ((c.tc : Thread Cert.SmallSumsRefIdeal.nD Cert.SmallSumsRefIdeal.τ).loc Cert.SmallSumsRefIdeal.main_arg4) = m' ((c.tc : Thread Cert.SmallSumsRefIdeal.nD Cert.SmallSumsRefIdeal.τ).loc Cert.SmallSumsRefIdeal.main_arg4)
          ∧ r.2.mem ((c.tc : Thread Cert.SmallSumsRefIdeal.nD Cert.SmallSumsRefIdeal.τ).loc Cert.SmallSumsRefIdeal.main_arg5) = m' ((c.tc : Thread Cert.SmallSumsRefIdeal.nD Cert.SmallSumsRefIdeal.τ).loc Cert.SmallSumsRefIdeal.main_arg5))

def Claim : Prop :=
  ∃ (hKernel : Cert.Kernel.Facts) (hKernelIdeal : Cert.KernelIdeal.Facts) (hReferenceIdeal : Cert.ReferenceIdeal.Facts) (hLayerEnd : Cert.LayerEnd.Facts) (hLayerEndIdeal : Cert.LayerEndIdeal.Facts) (hLayerEndVjpIdeal : Cert.LayerEndVjpIdeal.Facts) (hAdamwLate : Cert.AdamwLate.Facts) (hAdamwLateIdeal : Cert.AdamwLateIdeal.Facts) (hAdamwRefLateIdeal : Cert.AdamwRefLateIdeal.Facts) (hAdamwIn : Cert.AdamwIn.Facts) (hAdamwInIdeal : Cert.AdamwInIdeal.Facts) (hAdamwRefInIdeal : Cert.AdamwRefInIdeal.Facts) (hAdamwUq : Cert.AdamwUq.Facts) (hAdamwUqIdeal : Cert.AdamwUqIdeal.Facts) (hAdamwRefUqIdeal : Cert.AdamwRefUqIdeal.Facts) (hAdamwUkv : Cert.AdamwUkv.Facts) (hAdamwUkvIdeal : Cert.AdamwUkvIdeal.Facts) (hAdamwRefUkvIdeal : Cert.AdamwRefUkvIdeal.Facts) (hProjections : Cert.Projections.Facts) (hProjectionsIdeal : Cert.ProjectionsIdeal.Facts) (hProjectionsVjpIdeal : Cert.ProjectionsVjpIdeal.Facts) (hSmallSums : Cert.SmallSums.Facts) (hSmallSumsIdeal : Cert.SmallSumsIdeal.Facts) (hSmallSumsRefIdeal : Cert.SmallSumsRefIdeal.Facts) (hPre_finite : Cert.Pre_finite.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_LayerEnd (hLayerEnd := hLayerEnd)
    ∧ quiescent_LayerEndIdeal (hLayerEndIdeal := hLayerEndIdeal)
    ∧ quiescent_LayerEndVjpIdeal (hLayerEndVjpIdeal := hLayerEndVjpIdeal)
    ∧ quiescent_AdamwLate (hAdamwLate := hAdamwLate)
    ∧ quiescent_AdamwLateIdeal (hAdamwLateIdeal := hAdamwLateIdeal)
    ∧ quiescent_AdamwRefLateIdeal (hAdamwRefLateIdeal := hAdamwRefLateIdeal)
    ∧ quiescent_AdamwIn (hAdamwIn := hAdamwIn)
    ∧ quiescent_AdamwInIdeal (hAdamwInIdeal := hAdamwInIdeal)
    ∧ quiescent_AdamwRefInIdeal (hAdamwRefInIdeal := hAdamwRefInIdeal)
    ∧ quiescent_AdamwUq (hAdamwUq := hAdamwUq)
    ∧ quiescent_AdamwUqIdeal (hAdamwUqIdeal := hAdamwUqIdeal)
    ∧ quiescent_AdamwRefUqIdeal (hAdamwRefUqIdeal := hAdamwRefUqIdeal)
    ∧ quiescent_AdamwUkv (hAdamwUkv := hAdamwUkv)
    ∧ quiescent_AdamwUkvIdeal (hAdamwUkvIdeal := hAdamwUkvIdeal)
    ∧ quiescent_AdamwRefUkvIdeal (hAdamwRefUkvIdeal := hAdamwRefUkvIdeal)
    ∧ quiescent_Projections (hProjections := hProjections)
    ∧ quiescent_ProjectionsIdeal (hProjectionsIdeal := hProjectionsIdeal)
    ∧ quiescent_ProjectionsVjpIdeal (hProjectionsVjpIdeal := hProjectionsVjpIdeal)
    ∧ quiescent_SmallSums (hSmallSums := hSmallSums)
    ∧ quiescent_SmallSumsIdeal (hSmallSumsIdeal := hSmallSumsIdeal)
    ∧ quiescent_SmallSumsRefIdeal (hSmallSumsRefIdeal := hSmallSumsRefIdeal)
    ∧ preserves_Kernel_KernelIdeal
    ∧ algebraic_KernelIdeal_ReferenceIdeal (hKernelIdeal := hKernelIdeal) (hReferenceIdeal := hReferenceIdeal) (hPre_finite := hPre_finite)
    ∧ preserves_LayerEnd_LayerEndIdeal
    ∧ algebraic_LayerEndIdeal_LayerEndVjpIdeal (hLayerEndIdeal := hLayerEndIdeal) (hLayerEndVjpIdeal := hLayerEndVjpIdeal)
    ∧ preserves_AdamwLate_AdamwLateIdeal
    ∧ algebraic_AdamwLateIdeal_AdamwRefLateIdeal (hAdamwLateIdeal := hAdamwLateIdeal) (hAdamwRefLateIdeal := hAdamwRefLateIdeal)
    ∧ preserves_AdamwIn_AdamwInIdeal
    ∧ algebraic_AdamwInIdeal_AdamwRefInIdeal (hAdamwInIdeal := hAdamwInIdeal) (hAdamwRefInIdeal := hAdamwRefInIdeal)
    ∧ preserves_AdamwUq_AdamwUqIdeal
    ∧ algebraic_AdamwUqIdeal_AdamwRefUqIdeal (hAdamwUqIdeal := hAdamwUqIdeal) (hAdamwRefUqIdeal := hAdamwRefUqIdeal)
    ∧ preserves_AdamwUkv_AdamwUkvIdeal
    ∧ algebraic_AdamwUkvIdeal_AdamwRefUkvIdeal (hAdamwUkvIdeal := hAdamwUkvIdeal) (hAdamwRefUkvIdeal := hAdamwRefUkvIdeal)
    ∧ preserves_Projections_ProjectionsIdeal
    ∧ algebraic_ProjectionsIdeal_ProjectionsVjpIdeal (hProjectionsIdeal := hProjectionsIdeal) (hProjectionsVjpIdeal := hProjectionsVjpIdeal)
    ∧ preserves_SmallSums_SmallSumsIdeal
    ∧ algebraic_SmallSumsIdeal_SmallSumsRefIdeal (hSmallSumsIdeal := hSmallSumsIdeal) (hSmallSumsRefIdeal := hSmallSumsRefIdeal)
-- ==== Pre_finite.lean ====
abbrev S2x2064x8x96 : Shape := ⟨4, ![2, 2064, 8, 96]⟩
abbrev S2x2064x8x64 : Shape := ⟨4, ![2, 2064, 8, 64]⟩
abbrev S2x2064x512 : Shape := ⟨3, ![2, 2064, 512]⟩
abbrev S_ : Shape := ⟨0, ![]⟩

class Facts : Prop where
  bcast_S_S2x2064x8x96 : S_.BroadcastsInDim S2x2064x8x96 (![] : Fin 0 → Fin S2x2064x8x96.rank)
  reducesTo_S2x2064x8x96_S_d0_1_2_3 : S2x2064x8x96.ReducesTo [0, 1, 2, 3] S_
  h_S_ : 0 < S_.numel
  bcast_S_S2x2064x8x64 : S_.BroadcastsInDim S2x2064x8x64 (![] : Fin 0 → Fin S2x2064x8x64.rank)
  reducesTo_S2x2064x8x64_S_d0_1_2_3 : S2x2064x8x64.ReducesTo [0, 1, 2, 3] S_
  bcast_S_S2x2064x512 : S_.BroadcastsInDim S2x2064x512 (![] : Fin 0 → Fin S2x2064x512.rank)
  reducesTo_S2x2064x512_S_d0_1_2 : S2x2064x512.ReducesTo [0, 1, 2] S_

variable [Facts]

def fn_part1 {F : FTy → Type} [FloatOps F] (main_v13 : IVec S_ 1) (main_v16 : IVec S2x2064x512 1) : IVec S_ 1 :=
  let main_c_5 : IVec S_ 1 := constantI S_ 1 1#1
  let main_v17 : IVec S_ 1 := (fun x v => Host.reduce IntOp.andi x v reducesTo_S2x2064x512_S_d0_1_2 h_S_) main_v16 main_c_5
  let main_v18 : IVec S_ 1 := andi main_v13 main_v17
  main_v18

def fn {F : FTy → Type} [FloatOps F] (main_arg0 : FVec F S2x2064x8x96 .f32) (main_arg1 : FVec F S2x2064x8x96 .f32) (main_arg2 : FVec F S2x2064x8x64 .f32) (main_arg3 : FVec F S2x2064x512 .f32) : IVec S_ 1 :=
  let main_v0 : FVec F S2x2064x8x96 .f32 := Host.absf main_arg0
  let main_cst : FVec F S_ .f32 := constant S_ .f32 0x7F800000#32
  let main_v1 : FVec F S2x2064x8x96 .f32 := broadcastInDim S2x2064x8x96 ![] bcast_S_S2x2064x8x96 main_cst
  let main_v2 : IVec S2x2064x8x96 1 := cmpf .olt main_v0 main_v1
  let main_c : IVec S_ 1 := constantI S_ 1 1#1
  let main_v3 : IVec S_ 1 := (fun x v => Host.reduce IntOp.andi x v reducesTo_S2x2064x8x96_S_d0_1_2_3 h_S_) main_v2 main_c
  let main_v4 : FVec F S2x2064x8x96 .f32 := Host.absf main_arg1
  let main_cst_0 : FVec F S_ .f32 := constant S_ .f32 0x7F800000#32
  let main_v5 : FVec F S2x2064x8x96 .f32 := broadcastInDim S2x2064x8x96 ![] bcast_S_S2x2064x8x96 main_cst_0
  let main_v6 : IVec S2x2064x8x96 1 := cmpf .olt main_v4 main_v5
  let main_c_1 : IVec S_ 1 := constantI S_ 1 1#1
  let main_v7 : IVec S_ 1 := (fun x v => Host.reduce IntOp.andi x v reducesTo_S2x2064x8x96_S_d0_1_2_3 h_S_) main_v6 main_c_1
  let main_v8 : IVec S_ 1 := andi main_v3 main_v7
  let main_v9 : FVec F S2x2064x8x64 .f32 := Host.absf main_arg2
  let main_cst_2 : FVec F S_ .f32 := constant S_ .f32 0x7F800000#32
  let main_v10 : FVec F S2x2064x8x64 .f32 := broadcastInDim S2x2064x8x64 ![] bcast_S_S2x2064x8x64 main_cst_2
  let main_v11 : IVec S2x2064x8x64 1 := cmpf .olt main_v9 main_v10
  let main_c_3 : IVec S_ 1 := constantI S_ 1 1#1
  let main_v12 : IVec S_ 1 := (fun x v => Host.reduce IntOp.andi x v reducesTo_S2x2064x8x64_S_d0_1_2_3 h_S_) main_v11 main_c_3
  let main_v13 : IVec S_ 1 := andi main_v8 main_v12
  let main_v14 : FVec F S2x2064x512 .f32 := Host.absf main_arg3
  let main_cst_4 : FVec F S_ .f32 := constant S_ .f32 0x7F800000#32
  let main_v15 : FVec F S2x2064x512 .f32 := broadcastInDim S2x2064x512 ![] bcast_S_S2x2064x512 main_cst_4
  let main_v16 : IVec S2x2064x512 1 := cmpf .olt main_v14 main_v15
  fn_part1 (F := F) main_v13 main_v16
-- ==== Kernel.lean ====
abbrev S2x2064x8x96 : Shape := ⟨4, ![2, 2064, 8, 96]⟩
abbrev S2x2064x8x64 : Shape := ⟨4, ![2, 2064, 8, 64]⟩
abbrev S2x2064x512 : Shape := ⟨3, ![2, 2064, 512]⟩
abbrev S2x2176x8x128 : Shape := ⟨4, ![2, 2176, 8, 128]⟩
abbrev S_ : Shape := ⟨0, ![]⟩
abbrev S4352x1024 : Shape := ⟨2, ![4352, 1024]⟩
abbrev S2x2176x8x64 : Shape := ⟨4, ![2, 2176, 8, 64]⟩
abbrev S4352x512 : Shape := ⟨2, ![4352, 512]⟩
abbrev S2x2176x512 : Shape := ⟨3, ![2, 2176, 512]⟩
abbrev S4x4352x2 : Shape := ⟨3, ![4, 4352, 2]⟩
abbrev S1088x256 : Shape := ⟨2, ![1088, 256]⟩
abbrev S2176x256 : Shape := ⟨2, ![2176, 256]⟩
abbrev S2176x128 : Shape := ⟨2, ![2176, 128]⟩
abbrev S1088x128 : Shape := ⟨2, ![1088, 128]⟩
abbrev S1x1088x2 : Shape := ⟨3, ![1, 1088, 2]⟩
abbrev S1088x2176 : Shape := ⟨2, ![1088, 2176]⟩
abbrev S1088 : Shape := ⟨1, ![1088]⟩
abbrev S1088x1 : Shape := ⟨2, ![1088, 1]⟩
abbrev S1x128 : Shape := ⟨2, ![1, 128]⟩
abbrev S1088x2 : Shape := ⟨2, ![1088, 2]⟩
abbrev S1x1088x1 : Shape := ⟨3, ![1, 1088, 1]⟩

abbrev nBuf : Space → Nat
  | .hbm => 47
  | .vmem => 28
  | .smem => 0
  | _ => 0

abbrev bufTy : (tb : Table) → Fin (tcTables nBuf tb) → BufTy
  | .hbm, ⟨0, _⟩ => ⟨S2x2064x8x96, .f32⟩
  | .hbm, ⟨1, _⟩ => ⟨S2x2064x8x96, .f32⟩
  | .hbm, ⟨2, _⟩ => ⟨S2x2064x8x64, .f32⟩
  | .hbm, ⟨3, _⟩ => ⟨S2x2064x512, .f32⟩
  | .hbm, ⟨4, _⟩ => ⟨S2x2176x8x128, .i32⟩
  | .hbm, ⟨5, _⟩ => ⟨S_, .i32⟩
  | .hbm, ⟨6, _⟩ => ⟨S2x2176x8x128, .i32⟩
  | .hbm, ⟨7, _⟩ => ⟨S2x2176x8x128, .i1⟩
  | .hbm, ⟨8, _⟩ => ⟨S2x2176x8x128, .i32⟩
  | .hbm, ⟨9, _⟩ => ⟨S_, .i32⟩
  | .hbm, ⟨10, _⟩ => ⟨S2x2176x8x128, .i32⟩
  | .hbm, ⟨11, _⟩ => ⟨S2x2176x8x128, .i1⟩
  | .hbm, ⟨12, _⟩ => ⟨S_, .f32⟩
  | .hbm, ⟨13, _⟩ => ⟨S2x2176x8x128, .f32⟩
  | .hbm, ⟨14, _⟩ => ⟨S_, .f32⟩
  | .hbm, ⟨15, _⟩ => ⟨S2x2176x8x128, .f32⟩
  | .hbm, ⟨16, _⟩ => ⟨S2x2176x8x128, .f32⟩
  | .hbm, ⟨17, _⟩ => ⟨S_, .f32⟩
  | .hbm, ⟨18, _⟩ => ⟨S2x2176x8x128, .f32⟩
  | .hbm, ⟨19, _⟩ => ⟨S_, .f32⟩
  | .hbm, ⟨20, _⟩ => ⟨S2x2176x8x128, .f32⟩
  | .hbm, ⟨21, _⟩ => ⟨S2x2176x8x128, .f32⟩
  | .hbm, ⟨22, _⟩ => ⟨S4352x1024, .f32⟩
  | .hbm, ⟨23, _⟩ => ⟨S4352x1024, .bf16⟩
  | .hbm, ⟨24, _⟩ => ⟨S_, .f32⟩
  | .hbm, ⟨25, _⟩ => ⟨S2x2176x8x128, .f32⟩
  | .hbm, ⟨26, _⟩ => ⟨S2x2176x8x128, .f32⟩
  | .hbm, ⟨27, _⟩ => ⟨S4352x1024, .f32⟩
  | .hbm, ⟨28, _⟩ => ⟨S4352x1024, .bf16⟩
  | .hbm, ⟨29, _⟩ => ⟨S_, .f32⟩
  | .hbm, ⟨30, _⟩ => ⟨S2x2176x8x64, .f32⟩
  | .hbm, ⟨31, _⟩ => ⟨S4352x512, .f32⟩
  | .hbm, ⟨32, _⟩ => ⟨S4352x512, .bf16⟩
  | .hbm, ⟨33, _⟩ => ⟨S_, .f32⟩
  | .hbm, ⟨34, _⟩ => ⟨S2x2176x512, .f32⟩
  | .hbm, ⟨35, _⟩ => ⟨S4352x512, .f32⟩
  | .hbm, ⟨36, _⟩ => ⟨S4352x512, .f32⟩
  | .hbm, ⟨37, _⟩ => ⟨S4x4352x2, .f32⟩
  | .hbm, ⟨38, _⟩ => ⟨S4352x1024, .f32⟩
  | .hbm, ⟨39, _⟩ => ⟨S4352x1024, .f32⟩
  | .hbm, ⟨40, _⟩ => ⟨S4352x512, .f32⟩
  | .hbm, ⟨41, _⟩ => ⟨S2x2176x8x128, .f32⟩
  | .hbm, ⟨42, _⟩ => ⟨S2x2064x8x96, .f32⟩
  | .hbm, ⟨43, _⟩ => ⟨S2x2176x8x128, .f32⟩
  | .hbm, ⟨44, _⟩ => ⟨S2x2064x8x96, .f32⟩
  | .hbm, ⟨45, _⟩ => ⟨S2x2176x8x64, .f32⟩
  | .hbm, ⟨46, _⟩ => ⟨S2x2064x8x64, .f32⟩
  | .local _ .vmem, ⟨0, _⟩ => ⟨S1088x256, .bf16⟩
  | .local _ .vmem, ⟨1, _⟩ => ⟨S1088x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S1088x128, .f32⟩
  | .local _ .vmem, ⟨7, _⟩ => ⟨S1088x128, .f32⟩
  | .local _ .vmem, ⟨8, _⟩ => ⟨S1x1088x2, .f32⟩
  | .local _ .vmem, ⟨9, _⟩ => ⟨S1x1088x2, .f32⟩
  | .local _ .vmem, ⟨10, _⟩ => ⟨S1088x256, .bf16⟩
  | .local _ .vmem, ⟨11, _⟩ => ⟨S1088x256, .bf16⟩
  | .local _ .vmem, ⟨12, _⟩ => ⟨S2176x256, .bf16⟩
  | .local _ .vmem, ⟨13, _⟩ => ⟨S2176x256, .bf16⟩
  | .local _ .vmem, ⟨14, _⟩ => ⟨S2176x128, .bf16⟩
  | .local _ .vmem, ⟨15, _⟩ => ⟨S2176x128, .bf16⟩
  | .local _ .vmem, ⟨16, _⟩ => ⟨S1088x128, .f32⟩
  | .local _ .vmem, ⟨17, _⟩ => ⟨S1088x128, .f32⟩
  | .local _ .vmem, ⟨18, _⟩ => ⟨S1x1088x2, .f32⟩
  | .local _ .vmem, ⟨19, _⟩ => ⟨S1x1088x2, .f32⟩
  | .local _ .vmem, ⟨20, _⟩ => ⟨S1088x128, .f32⟩
  | .local _ .vmem, ⟨21, _⟩ => ⟨S1088x128, .f32⟩
  | .local _ .vmem, ⟨22, _⟩ => ⟨S1088x256, .f32⟩
  | .local _ .vmem, ⟨23, _⟩ => ⟨S1088x256, .f32⟩
  | .local _ .vmem, ⟨24, _⟩ => ⟨S2176x256, .f32⟩
  | .local _ .vmem, ⟨25, _⟩ => ⟨S2176x256, .f32⟩
  | .local _ .vmem, ⟨26, _⟩ => ⟨S2176x128, .f32⟩
  | .local _ .vmem, ⟨27, _⟩ => ⟨S2176x128, .f32⟩
  | _, _ => ⟨S2x2064x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1088x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨3, ![2, 4, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1088x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2176x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2176x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1088x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1088x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1088x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1088x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S2176x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S2176x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]
-- ==== KernelIdeal.lean ====
variable {F : FTy → Type} [FloatOps F] [Named F]
def κ : String → Option EReal := fun
  | "log2_e" => some (((Real.log 2)⁻¹ : ℝ) : EReal)
  | "s_log2" => some (((3424635 / 33554432) * (Real.log 2)⁻¹ : ℝ) : EReal)
  | _ => none
-- ==== ReferenceIdeal.lean ====
abbrev S2x2064x8x96 : Shape := ⟨4, ![2, 2064, 8, 96]⟩
abbrev S2x2064x8x64 : Shape := ⟨4, ![2, 2064, 8, 64]⟩
abbrev S2x2064x512 : Shape := ⟨3, ![2, 2064, 512]⟩
abbrev S2x8x2064x96 : Shape := ⟨4, ![2, 8, 2064, 96]⟩
abbrev S2x8x2064x64 : Shape := ⟨4, ![2, 8, 2064, 64]⟩
abbrev S2x8x2064x2064 : Shape := ⟨4, ![2, 8, 2064, 2064]⟩
abbrev S_ : Shape := ⟨0, ![]⟩
abbrev S2x8x2064 : Shape := ⟨3, ![2, 8, 2064]⟩
abbrev S2x8x2064x1 : Shape := ⟨4, ![2, 8, 2064, 1]⟩
abbrev S2x8x64x2064 : Shape := ⟨4, ![2, 8, 64, 2064]⟩

abbrev nBuf : Space → Nat
  | .hbm => 79
  | .vmem => 0
  | .smem => 0
  | _ => 0

abbrev bufTy : (tb : Table) → Fin (tcTables nBuf tb) → BufTy
  | .hbm, ⟨0, _⟩ => ⟨S2x2064x8x96, .f32⟩
  | .hbm, ⟨1, _⟩ => ⟨S2x2064x8x96, .f32⟩
  | .hbm, ⟨2, _⟩ => ⟨S2x2064x8x64, .f32⟩
  | .hbm, ⟨3, _⟩ => ⟨S2x2064x512, .f32⟩
  | .hbm, ⟨4, _⟩ => ⟨S2x8x2064x96, .f32⟩
  | .hbm, ⟨5, _⟩ => ⟨S2x8x2064x96, .f32⟩
  | .hbm, ⟨6, _⟩ => ⟨S2x8x2064x64, .f32⟩
  | .hbm, ⟨7, _⟩ => ⟨S2x8x2064x2064, .f32⟩
  | .hbm, ⟨8, _⟩ => ⟨S_, .f32⟩
  | .hbm, ⟨9, _⟩ => ⟨S2x8x2064x2064, .f32⟩
  | .hbm, ⟨10, _⟩ => ⟨S2x8x2064x2064, .f32⟩
  | .hbm, ⟨11, _⟩ => ⟨S_, .f32⟩
  | .hbm, ⟨12, _⟩ => ⟨S2x8x2064, .f32⟩
  | .hbm, ⟨13, _⟩ => ⟨S2x8x2064x1, .f32⟩
  | .hbm, ⟨14, _⟩ => ⟨S2x8x2064x2064, .f32⟩
  | .hbm, ⟨15, _⟩ => ⟨S2x8x2064x2064, .i1⟩
  | .hbm, ⟨16, _⟩ => ⟨S2x8x2064x2064, .f32⟩
  | .hbm, ⟨17, _⟩ => ⟨S_, .f32⟩
  | .hbm, ⟨18, _⟩ => ⟨S2x8x2064, .f32⟩
  | .hbm, ⟨19, _⟩ => ⟨S_, .f32⟩
  | .hbm, ⟨20, _⟩ => ⟨S2x8x2064, .f32⟩
  | .hbm, ⟨21, _⟩ => ⟨S2x8x2064, .f32⟩
  | .hbm, ⟨22, _⟩ => ⟨S_, .f32⟩
  | .hbm, ⟨23, _⟩ => ⟨S2x8x2064, .f32⟩
  | .hbm, ⟨24, _⟩ => ⟨S2x8x2064, .i1⟩
  | .hbm, ⟨25, _⟩ => ⟨S_, .f32⟩
  | .hbm, ⟨26, _⟩ => ⟨S2x8x2064, .f32⟩
  | .hbm, ⟨27, _⟩ => ⟨S2x8x2064, .i1⟩
  | .hbm, ⟨28, _⟩ => ⟨S_, .f32⟩
  | .hbm, ⟨29, _⟩ => ⟨S2x8x2064, .f32⟩
  | .hbm, ⟨30, _⟩ => ⟨S_, .f32⟩
  | .hbm, ⟨31, _⟩ => ⟨S2x8x2064, .f32⟩
  | .hbm, ⟨32, _⟩ => ⟨S_, .f32⟩
  | .hbm, ⟨33, _⟩ => ⟨S2x8x2064, .f32⟩
  | .hbm, ⟨34, _⟩ => ⟨S2x8x2064, .f32⟩
  | .hbm, ⟨35, _⟩ => ⟨S2x8x2064, .f32⟩
  | .hbm, ⟨36, _⟩ => ⟨S2x8x2064x1, .f32⟩
  | .hbm, ⟨37, _⟩ => ⟨S2x8x2064x2064, .f32⟩
  | .hbm, ⟨38, _⟩ => ⟨S2x8x2064x2064, .f32⟩
  | .hbm, ⟨39, _⟩ => ⟨S2x8x2064x2064, .f32⟩
  | .hbm, ⟨40, _⟩ => ⟨S_, .f32⟩
  | .hbm, ⟨41, _⟩ => ⟨S2x8x2064, .f32⟩
  | .hbm, ⟨42, _⟩ => ⟨S2x8x2064x1, .f32⟩
  | .hbm, ⟨43, _⟩ => ⟨S2x8x2064x2064, .f32⟩
  | .hbm, ⟨44, _⟩ => ⟨S2x8x2064x2064, .f32⟩
  | .hbm, ⟨45, _⟩ => ⟨S2x8x2064x1, .f32⟩
  | .hbm, ⟨46, _⟩ => ⟨S_, .f32⟩
  | .hbm, ⟨47, _⟩ => ⟨S2x8x2064x1, .f32⟩
  | .hbm, ⟨48, _⟩ => ⟨S2x8x2064x1, .f32⟩
  | .hbm, ⟨49, _⟩ => ⟨S2x8x2064x64, .f32⟩
  | .hbm, ⟨50, _⟩ => ⟨S2x2064x8x64, .f32⟩
  | .hbm, ⟨51, _⟩ => ⟨S2x2064x512, .f32⟩
  | .hbm, ⟨52, _⟩ => ⟨S2x2064x8x64, .f32⟩
  | .hbm, ⟨53, _⟩ => ⟨S2x8x2064x64, .f32⟩
  | .hbm, ⟨54, _⟩ => ⟨S2x8x64x2064, .f32⟩
  | .hbm, ⟨55, _⟩ => ⟨S2x8x2064x64, .f32⟩
  | .hbm, ⟨56, _⟩ => ⟨S2x8x2064x2064, .f32⟩
  | .hbm, ⟨57, _⟩ => ⟨S2x8x2064x2064, .f32⟩
  | .hbm, ⟨58, _⟩ => ⟨S2x8x2064x2064, .f32⟩
  | .hbm, ⟨59, _⟩ => ⟨S2x8x2064x2064, .f32⟩
  | .hbm, ⟨60, _⟩ => ⟨S_, .f32⟩
  | .hbm, ⟨61, _⟩ => ⟨S2x8x2064, .f32⟩
  | .hbm, ⟨62, _⟩ => ⟨S2x8x2064x1, .f32⟩
  | .hbm, ⟨63, _⟩ => ⟨S2x8x2064x1, .f32⟩
  | .hbm, ⟨64, _⟩ => ⟨S2x8x2064x2064, .f32⟩
  | .hbm, ⟨65, _⟩ => ⟨S2x8x2064x2064, .f32⟩
  | .hbm, ⟨66, _⟩ => ⟨S_, .f32⟩
  | .hbm, ⟨67, _⟩ => ⟨S2x8x2064, .f32⟩
  | .hbm, ⟨68, _⟩ => ⟨S2x8x2064x2064, .f32⟩
  | .hbm, ⟨69, _⟩ => ⟨S2x8x2064x2064, .f32⟩
  | .hbm, ⟨70, _⟩ => ⟨S2x8x2064x2064, .f32⟩
  | .hbm, ⟨71, _⟩ => ⟨S_, .f32⟩
  | .hbm, ⟨72, _⟩ => ⟨S2x8x2064x2064, .f32⟩
  | .hbm, ⟨73, _⟩ => ⟨S2x8x2064x2064, .f32⟩
  | .hbm, ⟨74, _⟩ => ⟨S2x8x2064x96, .f32⟩
  | .hbm, ⟨75, _⟩ => ⟨S2x8x2064x96, .f32⟩
  | .hbm, ⟨76, _⟩ => ⟨S2x2064x8x64, .f32⟩
  | .hbm, ⟨77, _⟩ => ⟨S2x2064x8x96, .f32⟩
  | .hbm, ⟨78, _⟩ => ⟨S2x2064x8x96, .f32⟩
  | _, _ => ⟨S2x2064x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== LayerEnd.lean ====
abbrev S2x2064x1024 : Shape := ⟨3, ![2, 2064, 1024]⟩
abbrev S2x2064x512 : Shape := ⟨3, ![2, 2064, 512]⟩
abbrev S2x2048x1024 : Shape := ⟨3, ![2, 2048, 1024]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2176x1024 : Shape := ⟨3, ![2, 2176, 1024]⟩
abbrev S4352x1024 : Shape := ⟨2, ![4352, 1024]⟩
abbrev S1x512 : Shape := ⟨2, ![1, 512]⟩
abbrev S1x1024 : Shape := ⟨2, ![1, 1024]⟩
abbrev S2x2176x512 : Shape := ⟨3, ![2, 2176, 512]⟩
abbrev S4352x512 : Shape := ⟨2, ![4352, 512]⟩
abbrev S4352x2816 : Shape := ⟨2, ![4352, 2816]⟩
abbrev S1x1 : Shape := ⟨2, ![1, 1]⟩
abbrev S256x1024 : Shape := ⟨2, ![256, 1024]⟩
abbrev S256x512 : Shape := ⟨2, ![256, 512]⟩
abbrev S256x2816 : Shape := ⟨2, ![256, 2816]⟩
abbrev S256 : Shape := ⟨1, ![256]⟩
abbrev S256x1 : Shape := ⟨2, ![256, 1]⟩
abbrev S512x1024 : Shape := ⟨2, ![512, 1024]⟩
abbrev S1x256x1024 : Shape := ⟨3, ![1, 256, 1024]⟩
abbrev S1 : Shape := ⟨1, ![1]⟩
abbrev S1x1x1 : Shape := ⟨3, ![1, 1, 1]⟩
abbrev S2176x1024 : Shape := ⟨2, ![2176, 1024]⟩
abbrev S2176x1408 : Shape := ⟨2, ![2176, 1408]⟩
abbrev S1408x1024 : Shape := ⟨2, ![1408, 1024]⟩

abbrev nBuf : Space → Nat
  | .hbm => 62
  | .vmem => 62
  | .smem => 0
  | _ => 0

abbrev bufTy : (tb : Table) → Fin (tcTables nBuf tb) → BufTy
  | .hbm, ⟨0, _⟩ => ⟨S2x2064x1024, .f32⟩
  | .hbm, ⟨1, _⟩ => ⟨S2x2064x512, .f32⟩
  | .hbm, ⟨2, _⟩ => ⟨S2x2064x512, .f32⟩
  | .hbm, ⟨3, _⟩ => ⟨S2x2048x1024, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S_, .f32⟩
  | .hbm, ⟨12, _⟩ => ⟨S2x2176x1024, .f32⟩
  | .hbm, ⟨13, _⟩ => ⟨S4352x1024, .f32⟩
  | .hbm, ⟨14, _⟩ => ⟨S1x512, .f32⟩
  | .hbm, ⟨15, _⟩ => ⟨S1x512, .f32⟩
  | .hbm, ⟨16, _⟩ => ⟨S1x1024, .f32⟩
  | .hbm, ⟨17, _⟩ => ⟨S1024x1024, .bf16⟩
  | .hbm, ⟨18, _⟩ => ⟨S2816x1024, .f32⟩
  | .hbm, ⟨19, _⟩ => ⟨S2816x1024, .bf16⟩
  | .hbm, ⟨20, _⟩ => ⟨S2816x1024, .f32⟩
  | .hbm, ⟨21, _⟩ => ⟨S2816x1024, .bf16⟩
  | .hbm, ⟨22, _⟩ => ⟨S2816x1024, .bf16⟩
  | .hbm, ⟨23, _⟩ => ⟨S_, .f32⟩
  | .hbm, ⟨24, _⟩ => ⟨S2x2176x1024, .f32⟩
  | .hbm, ⟨25, _⟩ => ⟨S4352x1024, .f32⟩
  | .hbm, ⟨26, _⟩ => ⟨S_, .f32⟩
  | .hbm, ⟨27, _⟩ => ⟨S2x2176x512, .f32⟩
  | .hbm, ⟨28, _⟩ => ⟨S4352x512, .f32⟩
  | .hbm, ⟨29, _⟩ => ⟨S_, .f32⟩
  | .hbm, ⟨30, _⟩ => ⟨S2x2176x512, .f32⟩
  | .hbm, ⟨31, _⟩ => ⟨S4352x512, .f32⟩
  | .hbm, ⟨32, _⟩ => ⟨S4352x512, .f32⟩
  | .hbm, ⟨33, _⟩ => ⟨S4352x512, .f32⟩
  | .hbm, ⟨34, _⟩ => ⟨S4352x1024, .f32⟩
  | .hbm, ⟨35, _⟩ => ⟨S4352x1024, .bf16⟩
  | .hbm, ⟨36, _⟩ => ⟨S4352x1024, .bf16⟩
  | .hbm, ⟨37, _⟩ => ⟨S4352x1024, .bf16⟩
  | .hbm, ⟨38, _⟩ => ⟨S4352x2816, .bf16⟩
  | .hbm, ⟨39, _⟩ => ⟨S4352x2816, .bf16⟩
  | .hbm, ⟨40, _⟩ => ⟨S4352x2816, .bf16⟩
  | .hbm, ⟨41, _⟩ => ⟨S4352x1024, .bf16⟩
  | .hbm, ⟨42, _⟩ => ⟨S1x1, .f32⟩
  | .hbm, ⟨43, _⟩ => ⟨S1x512, .f32⟩
  | .hbm, ⟨44, _⟩ => ⟨S1x512, .f32⟩
  | .hbm, ⟨45, _⟩ => ⟨S1x1024, .f32⟩
  | .hbm, ⟨46, _⟩ => ⟨S1024x1024, .f32⟩
  | .hbm, ⟨47, _⟩ => ⟨S2816x1024, .f32⟩
  | .hbm, ⟨48, _⟩ => ⟨S2816x1024, .f32⟩
  | .hbm, ⟨49, _⟩ => ⟨S2816x1024, .f32⟩
  | .hbm, ⟨50, _⟩ => ⟨S_, .f32⟩
  | .hbm, ⟨51, _⟩ => ⟨S2x2176x1024, .f32⟩
  | .hbm, ⟨52, _⟩ => ⟨S2x2064x1024, .f32⟩
  | .hbm, ⟨53, _⟩ => ⟨S2x2176x512, .f32⟩
  | .hbm, ⟨54, _⟩ => ⟨S2x2064x512, .f32⟩
  | .hbm, ⟨55, _⟩ => ⟨S2x2176x512, .f32⟩
  | .hbm, ⟨56, _⟩ => ⟨S2x2064x512, .f32⟩
  | .hbm, ⟨57, _⟩ => ⟨S512, .f32⟩
  | .hbm, ⟨58, _⟩ => ⟨S512, .f32⟩
  | .hbm, ⟨59, _⟩ => ⟨S1024, .f32⟩
  | .hbm, ⟨60, _⟩ => ⟨S1024x2816, .f32⟩
  | .hbm, ⟨61, _⟩ => ⟨S1024x2816, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S2816x1024, .bf16⟩
  | .local _ .vmem, ⟨13, _⟩ => ⟨S2816x1024, .bf16⟩
  | .local _ .vmem, ⟨14, _⟩ => ⟨S2816x1024, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x2816, .bf16⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x1024, .bf16⟩
  | .local _ .vmem, ⟨34, _⟩ => ⟨S256x1024, .bf16⟩
  | .local _ .vmem, ⟨35, _⟩ => ⟨S1x1, .f32⟩
  | .local _ .vmem, ⟨36, _⟩ => ⟨S1x512, .f32⟩
  | .local _ .vmem, ⟨37, _⟩ => ⟨S1x512, .f32⟩
  | .local _ .vmem, ⟨38, _⟩ => ⟨S1x1024, .f32⟩
  | .local _ .vmem, ⟨39, _⟩ => ⟨S2176x1024, .bf16⟩
  | .local _ .vmem, ⟨40, _⟩ => ⟨S2176x1024, .bf16⟩
  | .local _ .vmem, ⟨41, _⟩ => ⟨S2176x1024, .bf16⟩
  | .local _ .vmem, ⟨42, _⟩ => ⟨S2176x1024, .bf16⟩
  | .local _ .vmem, ⟨43, _⟩ => ⟨S1024x1024, .f32⟩
  | .local _ .vmem, ⟨44, _⟩ => ⟨S2176x1408, .bf16⟩
  | .local _ .vmem, ⟨45, _⟩ => ⟨S2176x1408, .bf16⟩
  | .local _ .vmem, ⟨46, _⟩ => ⟨S2176x1024, .bf16⟩
  | .local _ .vmem, ⟨47, _⟩ => ⟨S2176x1024, .bf16⟩
  | .local _ .vmem, ⟨48, _⟩ => ⟨S1408x1024, .f32⟩
  | .local _ .vmem, ⟨49, _⟩ => ⟨S1408x1024, .f32⟩
  | .local _ .vmem, ⟨50, _⟩ => ⟨S2176x1408, .bf16⟩
  | .local _ .vmem, ⟨51, _⟩ => ⟨S2176x1408, .bf16⟩
  | .local _ .vmem, ⟨52, _⟩ => ⟨S2176x1024, .bf16⟩
  | .local _ .vmem, ⟨53, _⟩ => ⟨S2176x1024, .bf16⟩
  | .local _ .vmem, ⟨54, _⟩ => ⟨S1408x1024, .f32⟩
  | .local _ .vmem, ⟨55, _⟩ => ⟨S1408x1024, .f32⟩
  | .local _ .vmem, ⟨56, _⟩ => ⟨S2176x1408, .bf16⟩
  | .local _ .vmem, ⟨57, _⟩ => ⟨S2176x1408, .bf16⟩
  | .local _ .vmem, ⟨58, _⟩ => ⟨S2176x1024, .bf16⟩
  | .local _ .vmem, ⟨59, _⟩ => ⟨S2176x1024, .bf16⟩
  | .local _ .vmem, ⟨60, _⟩ => ⟨S1408x1024, .f32⟩
  | .local _ .vmem, ⟨61, _⟩ => ⟨S1408x1024, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev main_v17_4 : Ref sig .tc := ⟨.hbm, 36, rfl⟩
abbrev main_v17_5 : Ref sig .tc := ⟨.hbm, 37, rfl⟩
abbrev main_v17_6 : Ref sig .tc := ⟨.hbm, 38, rfl⟩
abbrev main_v17_7 : Ref sig .tc := ⟨.hbm, 39, rfl⟩
abbrev main_v17_8 : Ref sig .tc := ⟨.hbm, 40, rfl⟩
abbrev main_v17_9 : Ref sig .tc := ⟨.hbm, 41, rfl⟩
abbrev main_v17_10 : Ref sig .tc := ⟨.hbm, 42, rfl⟩
abbrev main_v17_11 : Ref sig .tc := ⟨.hbm, 43, rfl⟩
abbrev main_v17_12 : Ref sig .tc := ⟨.hbm, 44, rfl⟩
abbrev main_v17_13 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc1_stg0_0 : Ref sig .tc := ⟨.vmem, 39, rfl⟩
abbrev cc1_stg0_1 : Ref sig .tc := ⟨.vmem, 40, rfl⟩
abbrev cc1_stg1_0 : Ref sig .tc := ⟨.vmem, 41, rfl⟩
abbrev cc1_stg1_1 : Ref sig .tc := ⟨.vmem, 42, rfl⟩
abbrev cc1_stg2_0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc3_stg0_0 : Ref sig .tc := ⟨.vmem, 50, rfl⟩
abbrev cc3_stg0_1 : Ref sig .tc := ⟨.vmem, 51, rfl⟩
abbrev cc3_stg1_0 : Ref sig .tc := ⟨.vmem, 52, rfl⟩
abbrev cc3_stg1_1 : Ref sig .tc := ⟨.vmem, 53, rfl⟩
abbrev cc3_stg2_0 : Ref sig .tc := ⟨.vmem, 54, rfl⟩
abbrev cc3_stg2_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem22_0 : DmaSem sig := 36
abbrev cc0_sem23_0 : DmaSem sig := 37
abbrev cc0_sem24_0 : DmaSem sig := 38
abbrev cc1_sem0_0 : DmaSem sig := 39
abbrev cc1_sem0_1 : DmaSem sig := 40
abbrev cc1_sem1_0 : DmaSem sig := 41
abbrev cc1_sem1_1 : DmaSem sig := 42
abbrev cc1_sem2_0 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem2_1 : DmaSem sig := 49
abbrev cc3_sem0_0 : DmaSem sig := 50
abbrev cc3_sem0_1 : DmaSem sig := 51
abbrev cc3_sem1_0 : DmaSem sig := 52
abbrev cc3_sem1_1 : DmaSem sig := 53
abbrev cc3_sem2_0 : DmaSem sig := 54
abbrev cc3_sem2_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2816 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2176x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2176x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2176x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1408x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2176x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2176x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![2, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2176x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2176x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1408x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]
-- ==== LayerEndVjpIdeal.lean ====
abbrev S2x2064x1024 : Shape := ⟨3, ![2, 2064, 1024]⟩
abbrev S2x2064x512 : Shape := ⟨3, ![2, 2064, 512]⟩
abbrev S2x2048x1024 : Shape := ⟨3, ![2, 2048, 1024]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2064 : Shape := ⟨2, ![2, 2064]⟩
abbrev S2x2064x1 : Shape := ⟨3, ![2, 2064, 1]⟩
abbrev S1x1x512 : Shape := ⟨3, ![1, 1, 512]⟩
abbrev S1x1x1024 : Shape := ⟨3, ![1, 1, 1024]⟩
abbrev S2x2064x2816 : Shape := ⟨3, ![2, 2064, 2816]⟩
abbrev S2x2048 : Shape := ⟨2, ![2, 2048]⟩

abbrev nBuf : Space → Nat
  | .hbm => 215
  | .vmem => 0
  | .smem => 0
  | _ => 0

abbrev hbmTy0_0 (i : Nat) : BufTy := match i % 128 with
  | 0 => ⟨S2x2064x1024, .f32⟩
  | 1 => ⟨S2x2064x512, .f32⟩
  | 2 => ⟨S2x2064x512, .f32⟩
  | 3 => ⟨S2x2048x1024, .f32⟩
  | 4 => ⟨S512, .f32⟩
  | 5 => ⟨S512, .f32⟩
  | 6 => ⟨S1024x1024, .f32⟩
  | 7 => ⟨S1024, .f32⟩
  | 8 => ⟨S1024x2816, .f32⟩
  | 9 => ⟨S1024x2816, .f32⟩
  | 10 => ⟨S2816x1024, .f32⟩
  | 11 => ⟨S2x2064x512, .f32⟩
  | 12 => ⟨S_, .f32⟩
  | 13 => ⟨S2x2064, .f32⟩
  | 14 => ⟨S2x2064x1, .f32⟩
  | 15 => ⟨S_, .f32⟩
  | 16 => ⟨S2x2064x1, .f32⟩
  | 17 => ⟨S2x2064x1, .f32⟩
  | 18 => ⟨S_, .f32⟩
  | 19 => ⟨S2x2064x1, .f32⟩
  | 20 => ⟨S2x2064x1, .f32⟩
  | 21 => ⟨S2x2064x1, .f32⟩
  | 22 => ⟨S2x2064x1, .f32⟩
  | 23 => ⟨S_, .f32⟩
  | 24 => ⟨S2x2064x1, .f32⟩
  | 25 => ⟨S2x2064x1, .f32⟩
  | 26 => ⟨S2x2064x512, .f32⟩
  | 27 => ⟨S2x2064x512, .f32⟩
  | 28 => ⟨S1x1x512, .f32⟩
  | 29 => ⟨S2x2064x512, .f32⟩
  | 30 => ⟨S2x2064x512, .f32⟩
  | 31 => ⟨S2x2064x512, .f32⟩
  | 32 => ⟨S_, .f32⟩
  | 33 => ⟨S2x2064, .f32⟩
  | 34 => ⟨S2x2064x1, .f32⟩
  | 35 => ⟨S_, .f32⟩
  | 36 => ⟨S2x2064x1, .f32⟩
  | 37 => ⟨S2x2064x1, .f32⟩
  | 38 => ⟨S_, .f32⟩
  | 39 => ⟨S2x2064x1, .f32⟩
  | 40 => ⟨S2x2064x1, .f32⟩
  | 41 => ⟨S2x2064x1, .f32⟩
  | 42 => ⟨S2x2064x1, .f32⟩
  | 43 => ⟨S_, .f32⟩
  | 44 => ⟨S2x2064x1, .f32⟩
  | 45 => ⟨S2x2064x1, .f32⟩
  | 46 => ⟨S2x2064x512, .f32⟩
  | 47 => ⟨S2x2064x512, .f32⟩
  | 48 => ⟨S1x1x512, .f32⟩
  | 49 => ⟨S2x2064x512, .f32⟩
  | 50 => ⟨S2x2064x512, .f32⟩
  | 51 => ⟨S2x2064x1024, .f32⟩
  | 52 => ⟨S2x2064x1024, .f32⟩
  | 53 => ⟨S2x2064x1024, .f32⟩
  | 54 => ⟨S2x2064x1024, .f32⟩
  | 55 => ⟨S_, .f32⟩
  | 56 => ⟨S2x2064, .f32⟩
  | 57 => ⟨S2x2064x1, .f32⟩
  | 58 => ⟨S_, .f32⟩
  | 59 => ⟨S2x2064x1, .f32⟩
  | 60 => ⟨S2x2064x1, .f32⟩
  | 61 => ⟨S_, .f32⟩
  | 62 => ⟨S2x2064x1, .f32⟩
  | 63 => ⟨S2x2064x1, .f32⟩
  | 64 => ⟨S2x2064x1, .f32⟩
  | 65 => ⟨S2x2064x1, .f32⟩
  | 66 => ⟨S_, .f32⟩
  | 67 => ⟨S2x2064x1, .f32⟩
  | 68 => ⟨S2x2064x1, .f32⟩
  | 69 => ⟨S2x2064x1024, .f32⟩
  | 70 => ⟨S2x2064x1024, .f32⟩
  | 71 => ⟨S1x1x1024, .f32⟩
  | 72 => ⟨S2x2064x1024, .f32⟩
  | 73 => ⟨S2x2064x1024, .f32⟩
  | 74 => ⟨S2x2064x2816, .f32⟩
  | 75 => ⟨S2x2064x2816, .f32⟩
  | 76 => ⟨S2x2064x2816, .f32⟩
  | 77 => ⟨S_, .f32⟩
  | 78 => ⟨S2x2064x2816, .f32⟩
  | 79 => ⟨S2x2064x2816, .f32⟩
  | 80 => ⟨S_, .f32⟩
  | 81 => ⟨S2x2064x2816, .f32⟩
  | 82 => ⟨S2x2064x2816, .f32⟩
  | 83 => ⟨S_, .f32⟩
  | 84 => ⟨S2x2064x2816, .f32⟩
  | 85 => ⟨S2x2064x2816, .f32⟩
  | 86 => ⟨S2x2064x2816, .f32⟩
  | 87 => ⟨S2x2064x2816, .f32⟩
  | 88 => ⟨S2x2064x2816, .f32⟩
  | 89 => ⟨S2x2064x2816, .f32⟩
  | 90 => ⟨S2x2064x1024, .f32⟩
  | 91 => ⟨S2x2064x1024, .f32⟩
  | 92 => ⟨S2x2048x1024, .f32⟩
  | 93 => ⟨S2x2048x1024, .f32⟩
  | 94 => ⟨S2x2048x1024, .f32⟩
  | 95 => ⟨S_, .f32⟩
  | 96 => ⟨S2x2048x1024, .f32⟩
  | 97 => ⟨S2x2048x1024, .f32⟩
  | 98 => ⟨S_, .f32⟩
  | 99 => ⟨S2x2048, .f32⟩
  | 100 => ⟨S_, .f32⟩
  | 101 => ⟨S2x2048, .f32⟩
  | 102 => ⟨S2x2048, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S2x2048, .f32⟩
  | 111 => ⟨S_, .f32⟩
  | 112 => ⟨S2x2048, .f32⟩
  | 113 => ⟨S2x2048, .f32⟩
  | 114 => ⟨S2x2048x1024, .f32⟩
  | 115 => ⟨S2x2048x1024, .f32⟩
  | 116 => ⟨S_, .f32⟩
  | 117 => ⟨S2x2064x1024, .f32⟩
  | 118 => ⟨S1024x2816, .f32⟩
  | 119 => ⟨S2816x1024, .f32⟩
  | 120 => ⟨S2x2064x2816, .f32⟩
  | 121 => ⟨S2x2064x2816, .f32⟩
  | 122 => ⟨S2x2064x2816, .f32⟩
  | 123 => ⟨S2816x1024, .f32⟩
  | 124 => ⟨S1024x2816, .f32⟩
  | 125 => ⟨S2x2064x1024, .f32⟩
  | 126 => ⟨S2x2064x2816, .f32⟩
  | 127 => ⟨S2x2064x2816, .f32⟩
  | _ => ⟨S2x2064x1024, .f32⟩

abbrev hbmTy0_1 (i : Nat) : BufTy := match i % 128 with
  | 0 => ⟨S2x2064x2816, .f32⟩
  | 1 => ⟨S2x2064x2816, .f32⟩
  | 2 => ⟨S2816x1024, .f32⟩
  | 3 => ⟨S1024x2816, .f32⟩
  | 4 => ⟨S2x2064x1024, .f32⟩
  | 5 => ⟨S2x2064x1024, .f32⟩
  | 6 => ⟨S2x2064x1024, .f32⟩
  | 7 => ⟨S_, .f32⟩
  | 8 => ⟨S1024, .f32⟩
  | 9 => ⟨S1x1x1024, .f32⟩
  | 10 => ⟨S2x2064x1024, .f32⟩
  | 11 => ⟨S2x2064x1024, .f32⟩
  | 12 => ⟨S_, .f32⟩
  | 13 => ⟨S1024, .f32⟩
  | 14 => ⟨S2x2064x1024, .f32⟩
  | 15 => ⟨S_, .f32⟩
  | 16 => ⟨S2x2064, .f32⟩
  | 17 => ⟨S2x2064x1, .f32⟩
  | 18 => ⟨S2x2064x1024, .f32⟩
  | 19 => ⟨S2x2064x1024, .f32⟩
  | 20 => ⟨S2x2064x1024, .f32⟩
  | 21 => ⟨S2x2064x1, .f32⟩
  | 22 => ⟨S_, .f32⟩
  | 23 => ⟨S2x2064x1, .f32⟩
  | 24 => ⟨S2x2064x1, .f32⟩
  | 25 => ⟨S_, .f32⟩
  | 26 => ⟨S2x2064, .f32⟩
  | 27 => ⟨S2x2064x1024, .f32⟩
  | 28 => ⟨S2x2064x1024, .f32⟩
  | 29 => ⟨S2x2064x1024, .f32⟩
  | 30 => ⟨S2x2064x1024, .f32⟩
  | 31 => ⟨S2x2064x1024, .f32⟩
  | 32 => ⟨S1024x1024, .f32⟩
  | 33 => ⟨S1024x1024, .f32⟩
  | 34 => ⟨S2x2064x1024, .f32⟩
  | 35 => ⟨S2x2064x512, .f32⟩
  | 36 => ⟨S2x2064x512, .f32⟩
  | 37 => ⟨S2x2064x512, .f32⟩
  | 38 => ⟨S_, .f32⟩
  | 39 => ⟨S512, .f32⟩
  | 40 => ⟨S1x1x512, .f32⟩
  | 41 => ⟨S2x2064x512, .f32⟩
  | 42 => ⟨S2x2064x512, .f32⟩
  | 43 => ⟨S_, .f32⟩
  | 44 => ⟨S512, .f32⟩
  | 45 => ⟨S2x2064x512, .f32⟩
  | 46 => ⟨S_, .f32⟩
  | 47 => ⟨S2x2064, .f32⟩
  | 48 => ⟨S2x2064x1, .f32⟩
  | 49 => ⟨S2x2064x512, .f32⟩
  | 50 => ⟨S2x2064x512, .f32⟩
  | 51 => ⟨S2x2064x1, .f32⟩
  | 52 => ⟨S_, .f32⟩
  | 53 => ⟨S2x2064x1, .f32⟩
  | 54 => ⟨S2x2064x1, .f32⟩
  | 55 => ⟨S_, .f32⟩
  | 56 => ⟨S2x2064, .f32⟩
  | 57 => ⟨S2x2064x512, .f32⟩
  | 58 => ⟨S2x2064x512, .f32⟩
  | 59 => ⟨S2x2064x512, .f32⟩
  | 60 => ⟨S2x2064x512, .f32⟩
  | 61 => ⟨S2x2064x512, .f32⟩
  | 62 => ⟨S2x2064x512, .f32⟩
  | 63 => ⟨S_, .f32⟩
  | 64 => ⟨S512, .f32⟩
  | 65 => ⟨S1x1x512, .f32⟩
  | 66 => ⟨S2x2064x512, .f32⟩
  | 67 => ⟨S2x2064x512, .f32⟩
  | 68 => ⟨S_, .f32⟩
  | 69 => ⟨S512, .f32⟩
  | 70 => ⟨S2x2064x512, .f32⟩
  | 71 => ⟨S_, .f32⟩
  | 72 => ⟨S2x2064, .f32⟩
  | 73 => ⟨S2x2064x1, .f32⟩
  | 74 => ⟨S2x2064x512, .f32⟩
  | 75 => ⟨S2x2064x512, .f32⟩
  | 76 => ⟨S2x2064x1, .f32⟩
  | 77 => ⟨S_, .f32⟩
  | 78 => ⟨S2x2064x1, .f32⟩
  | 79 => ⟨S2x2064x1, .f32⟩
  | 80 => ⟨S_, .f32⟩
  | 81 => ⟨S2x2064, .f32⟩
  | 82 => ⟨S2x2064x512, .f32⟩
  | 83 => ⟨S2x2064x512, .f32⟩
  | 84 => ⟨S2x2064x512, .f32⟩
  | 85 => ⟨S2x2064x512, .f32⟩
  | 86 => ⟨S2x2064x512, .f32⟩
  | _ => ⟨S2x2064x1024, .f32⟩

abbrev hbmTy (i : Nat) : BufTy := match i / 128 with
  | 0 => hbmTy0_0 i
  | 1 => hbmTy0_1 i
  | _ => ⟨S2x2064x1024, .f32⟩

abbrev bufTy : (tb : Table) → Fin (tcTables nBuf tb) → BufTy
  | .hbm, ⟨i, _⟩ => hbmTy i
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_v52_2 : Ref sig .tc := ⟨.hbm, 82, rfl⟩
abbrev main_call0_cst_1 : Ref sig .tc := ⟨.hbm, 83, rfl⟩
abbrev main_call0_v6 : Ref sig .tc := ⟨.hbm, 84, rfl⟩
abbrev main_call0_v7 : Ref sig .tc := ⟨.hbm, 85, rfl⟩
abbrev main_v52_1 : Ref sig .tc := ⟨.hbm, 86, rfl⟩
abbrev main_v52_0 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_11 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_cst_13 : Ref sig .tc := ⟨.hbm, 100, rfl⟩
abbrev main_v63 : Ref sig .tc := ⟨.hbm, 101, rfl⟩
abbrev main_v64 : Ref sig .tc := ⟨.hbm, 102, rfl⟩
abbrev main_cst_14 : Ref sig .tc := ⟨.hbm, 103, rfl⟩
abbrev main_v65 : Ref sig .tc := ⟨.hbm, 104, rfl⟩
abbrev main_cst_15 : Ref sig .tc := ⟨.hbm, 105, rfl⟩
abbrev main_v66 : Ref sig .tc := ⟨.hbm, 106, rfl⟩
abbrev main_cst_16 : Ref sig .tc := ⟨.hbm, 107, rfl⟩
abbrev main_cst_17 : Ref sig .tc := ⟨.hbm, 108, rfl⟩
abbrev main_v67 : Ref sig .tc := ⟨.hbm, 109, rfl⟩
abbrev main_v68 : Ref sig .tc := ⟨.hbm, 110, rfl⟩
abbrev main_cst_18 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_19 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_20 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_21 : Ref sig .tc := ⟨.hbm, 140, rfl⟩
abbrev main_v92 : Ref sig .tc := ⟨.hbm, 141, rfl⟩
abbrev main_v93 : Ref sig .tc := ⟨.hbm, 142, rfl⟩
abbrev main_cst_22 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_23 : Ref sig .tc := ⟨.hbm, 150, rfl⟩
abbrev main_v100 : Ref sig .tc := ⟨.hbm, 151, rfl⟩
abbrev main_v101 : Ref sig .tc := ⟨.hbm, 152, rfl⟩
abbrev main_cst_24 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_25 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_26 : Ref sig .tc := ⟨.hbm, 171, rfl⟩
abbrev main_v118 : Ref sig .tc := ⟨.hbm, 172, rfl⟩
abbrev main_v119 : Ref sig .tc := ⟨.hbm, 173, rfl⟩
abbrev main_cst_27 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_28 : Ref sig .tc := ⟨.hbm, 180, rfl⟩
abbrev main_v125 : Ref sig .tc := ⟨.hbm, 181, rfl⟩
abbrev main_v126 : Ref sig .tc := ⟨.hbm, 182, rfl⟩
abbrev main_cst_29 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_30 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_31 : Ref sig .tc := ⟨.hbm, 196, rfl⟩
abbrev main_v138 : Ref sig .tc := ⟨.hbm, 197, rfl⟩
abbrev main_v139 : Ref sig .tc := ⟨.hbm, 198, rfl⟩
abbrev main_cst_32 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_33 : Ref sig .tc := ⟨.hbm, 205, rfl⟩
abbrev main_v145 : Ref sig .tc := ⟨.hbm, 206, rfl⟩
abbrev main_v146 : Ref sig .tc := ⟨.hbm, 207, rfl⟩
abbrev main_cst_34 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩

abbrev nD : Nat := 1
abbrev τ : Topo := Topo.v7x

variable {F : FTy → Type} [FloatOps F]
-- ==== AdamwLate.lean ====
abbrev S256x1024 : Shape := ⟨2, ![256, 1024]⟩
abbrev S704x1024 : Shape := ⟨2, ![704, 1024]⟩
abbrev S64x1024 : Shape := ⟨2, ![64, 1024]⟩
abbrev S176x1024 : Shape := ⟨2, ![176, 1024]⟩

abbrev nBuf : Space → Nat
  | .hbm => 28
  | .vmem => 56
  | .smem => 0
  | _ => 0

abbrev bufTy : (tb : Table) → Fin (tcTables nBuf tb) → BufTy
  | .hbm, ⟨0, _⟩ => ⟨S256x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S256x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S256x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S256x1024, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S256x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S256x1024, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S256x1024, .f32⟩
  | .hbm, ⟨25, _⟩ => ⟨S704x1024, .f32⟩
  | .hbm, ⟨26, _⟩ => ⟨S704x1024, .f32⟩
  | .hbm, ⟨27, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S64x1024, .f32⟩
  | .local _ .vmem, ⟨9, _⟩ => ⟨S64x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S64x1024, .f32⟩
  | .local _ .vmem, ⟨17, _⟩ => ⟨S64x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S64x1024, .f32⟩
  | .local _ .vmem, ⟨25, _⟩ => ⟨S64x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | .local _ .vmem, ⟨32, _⟩ => ⟨S64x1024, .f32⟩
  | .local _ .vmem, ⟨33, _⟩ => ⟨S64x1024, .f32⟩
  | .local _ .vmem, ⟨34, _⟩ => ⟨S176x1024, .f32⟩
  | .local _ .vmem, ⟨35, _⟩ => ⟨S176x1024, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S64x1024, .f32⟩
  | .local _ .vmem, ⟨41, _⟩ => ⟨S64x1024, .f32⟩
  | .local _ .vmem, ⟨42, _⟩ => ⟨S176x1024, .f32⟩
  | .local _ .vmem, ⟨43, _⟩ => ⟨S176x1024, .f32⟩
  | .local _ .vmem, ⟨44, _⟩ => ⟨S176x1024, .f32⟩
  | .local _ .vmem, ⟨45, _⟩ => ⟨S176x1024, .f32⟩
  | .local _ .vmem, ⟨46, _⟩ => ⟨S176x1024, .f32⟩
  | .local _ .vmem, ⟨47, _⟩ => ⟨S176x1024, .f32⟩
  | .local _ .vmem, ⟨48, _⟩ => ⟨S64x1024, .f32⟩
  | .local _ .vmem, ⟨49, _⟩ => ⟨S64x1024, .f32⟩
  | .local _ .vmem, ⟨50, _⟩ => ⟨S176x1024, .f32⟩
  | .local _ .vmem, ⟨51, _⟩ => ⟨S176x1024, .f32⟩
  | .local _ .vmem, ⟨52, _⟩ => ⟨S176x1024, .f32⟩
  | .local _ .vmem, ⟨53, _⟩ => ⟨S176x1024, .f32⟩
  | .local _ .vmem, ⟨54, _⟩ => ⟨S176x1024, .f32⟩
  | .local _ .vmem, ⟨55, _⟩ => ⟨S176x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S176x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S176x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S176x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S176x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S176x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S176x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== AdamwRefLateIdeal.lean ====
abbrev S256x1024 : Shape := ⟨2, ![256, 1024]⟩
abbrev S704x1024 : Shape := ⟨2, ![704, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S256x1024, .f32⟩
  | 1 => ⟨S704x1024, .f32⟩
  | 2 => ⟨S704x1024, .f32⟩
  | 3 => ⟨S704x1024, .f32⟩
  | 4 => ⟨S256x1024, .f32⟩
  | 5 => ⟨S704x1024, .f32⟩
  | 6 => ⟨S704x1024, .f32⟩
  | 7 => ⟨S704x1024, .f32⟩
  | 8 => ⟨S256x1024, .f32⟩
  | 9 => ⟨S704x1024, .f32⟩
  | 10 => ⟨S704x1024, .f32⟩
  | 11 => ⟨S704x1024, .f32⟩
  | 12 => ⟨S256x1024, .f32⟩
  | 13 => ⟨S704x1024, .f32⟩
  | 14 => ⟨S704x1024, .f32⟩
  | 15 => ⟨S704x1024, .f32⟩
  | 16 => ⟨S_, .f32⟩
  | 17 => ⟨S256x1024, .f32⟩
  | 18 => ⟨S256x1024, .f32⟩
  | 19 => ⟨S_, .f32⟩
  | 20 => ⟨S256x1024, .f32⟩
  | 21 => ⟨S256x1024, .f32⟩
  | 22 => ⟨S256x1024, .f32⟩
  | 23 => ⟨S_, .f32⟩
  | 24 => ⟨S256x1024, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S256x1024, .f32⟩
  | 31 => ⟨S_, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S_, .f32⟩
  | 50 => ⟨S704x1024, .f32⟩
  | 51 => ⟨S704x1024, .f32⟩
  | 52 => ⟨S_, .f32⟩
  | 53 => ⟨S704x1024, .f32⟩
  | 54 => ⟨S704x1024, .f32⟩
  | 55 => ⟨S704x1024, .f32⟩
  | 56 => ⟨S_, .f32⟩
  | 57 => ⟨S704x1024, .f32⟩
  | 58 => ⟨S704x1024, .f32⟩
  | 59 => ⟨S704x1024, .f32⟩
  | 60 => ⟨S_, .f32⟩
  | 61 => ⟨S704x1024, .f32⟩
  | 62 => ⟨S704x1024, .f32⟩
  | 63 => ⟨S704x1024, .f32⟩
  | 64 => ⟨S_, .f32⟩
  | 65 => ⟨S704x1024, .f32⟩
  | 66 => ⟨S704x1024, .f32⟩
  | 67 => ⟨S_, .f32⟩
  | 68 => ⟨S704x1024, .f32⟩
  | 69 => ⟨S704x1024, .f32⟩
  | 70 => ⟨S704x1024, .f32⟩
  | 71 => ⟨S_, .f32⟩
  | 72 => ⟨S704x1024, .f32⟩
  | 73 => ⟨S704x1024, .f32⟩
  | 74 => ⟨S704x1024, .f32⟩
  | 75 => ⟨S_, .f32⟩
  | 76 => ⟨S704x1024, .f32⟩
  | 77 => ⟨S704x1024, .f32⟩
  | 78 => ⟨S704x1024, .f32⟩
  | 79 => ⟨S_, .f32⟩
  | 80 => ⟨S704x1024, .f32⟩
  | 81 => ⟨S704x1024, .f32⟩
  | 82 => ⟨S_, .f32⟩
  | 83 => ⟨S704x1024, .f32⟩
  | 84 => ⟨S704x1024, .f32⟩
  | 85 => ⟨S_, .f32⟩
  | 86 => ⟨S704x1024, .f32⟩
  | 87 => ⟨S704x1024, .f32⟩
  | 88 => ⟨S704x1024, .f32⟩
  | 89 => ⟨S_, .f32⟩
  | 90 => ⟨S704x1024, .f32⟩
  | 91 => ⟨S704x1024, .f32⟩
  | 92 => ⟨S704x1024, .f32⟩
  | 93 => ⟨S_, .f32⟩
  | 94 => ⟨S704x1024, .f32⟩
  | 95 => ⟨S704x1024, .f32⟩
  | 96 => ⟨S704x1024, .f32⟩
  | 97 => ⟨S_, .f32⟩
  | 98 => ⟨S704x1024, .f32⟩
  | 99 => ⟨S704x1024, .f32⟩
  | 100 => ⟨S_, .f32⟩
  | 101 => ⟨S704x1024, .f32⟩
  | 102 => ⟨S704x1024, .f32⟩
  | 103 => ⟨S704x1024, .f32⟩
  | 104 => ⟨S_, .f32⟩
  | 105 => ⟨S704x1024, .f32⟩
  | 106 => ⟨S704x1024, .f32⟩
  | 107 => ⟨S704x1024, .f32⟩
  | 108 => ⟨S_, .f32⟩
  | 109 => ⟨S704x1024, .f32⟩
  | 110 => ⟨S704x1024, .f32⟩
  | 111 => ⟨S704x1024, .f32⟩
  | 112 => ⟨S_, .f32⟩
  | 113 => ⟨S704x1024, .f32⟩
  | 114 => ⟨S704x1024, .f32⟩
  | 115 => ⟨S_, .f32⟩
  | 116 => ⟨S704x1024, .f32⟩
  | 117 => ⟨S704x1024, .f32⟩
  | 118 => ⟨S_, .f32⟩
  | 119 => ⟨S704x1024, .f32⟩
  | 120 => ⟨S704x1024, .f32⟩
  | 121 => ⟨S704x1024, .f32⟩
  | 122 => ⟨S_, .f32⟩
  | 123 => ⟨S704x1024, .f32⟩
  | 124 => ⟨S704x1024, .f32⟩
  | 125 => ⟨S704x1024, .f32⟩
  | 126 => ⟨S_, .f32⟩
  | 127 => ⟨S704x1024, .f32⟩
  | _ => ⟨S256x1024, .f32⟩

abbrev hbmTy0_1 (i : Nat) : BufTy := match i % 128 with
  | 0 => ⟨S704x1024, .f32⟩
  | 1 => ⟨S704x1024, .f32⟩
  | 2 => ⟨S_, .f32⟩
  | 3 => ⟨S704x1024, .f32⟩
  | 4 => ⟨S704x1024, .f32⟩
  | 5 => ⟨S_, .f32⟩
  | 6 => ⟨S704x1024, .f32⟩
  | 7 => ⟨S704x1024, .f32⟩
  | 8 => ⟨S704x1024, .f32⟩
  | 9 => ⟨S_, .f32⟩
  | 10 => ⟨S704x1024, .f32⟩
  | 11 => ⟨S704x1024, .f32⟩
  | 12 => ⟨S704x1024, .f32⟩
  | 13 => ⟨S_, .f32⟩
  | 14 => ⟨S704x1024, .f32⟩
  | 15 => ⟨S704x1024, .f32⟩
  | 16 => ⟨S704x1024, .f32⟩
  | 17 => ⟨S_, .f32⟩
  | 18 => ⟨S704x1024, .f32⟩
  | 19 => ⟨S704x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== AdamwIn.lean ====
abbrev S424x1024 : Shape := ⟨2, ![424, 1024]⟩

abbrev nBuf : Space → Nat
  | .hbm => 7
  | .vmem => 7
  | .smem => 0
  | _ => 0

abbrev bufTy : (tb : Table) → Fin (tcTables nBuf tb) → BufTy
  | .hbm, ⟨0, _⟩ => ⟨S424x1024, .f32⟩
  | .hbm, ⟨1, _⟩ => ⟨S424x1024, .f32⟩
  | .hbm, ⟨2, _⟩ => ⟨S424x1024, .f32⟩
  | .hbm, ⟨3, _⟩ => ⟨S424x1024, .f32⟩
  | .hbm, ⟨4, _⟩ => ⟨S424x1024, .f32⟩
  | .hbm, ⟨5, _⟩ => ⟨S424x1024, .f32⟩
  | .hbm, ⟨6, _⟩ => ⟨S424x1024, .f32⟩
  | .local _ .vmem, ⟨0, _⟩ => ⟨S424x1024, .f32⟩
  | .local _ .vmem, ⟨1, _⟩ => ⟨S424x1024, .f32⟩
  | .local _ .vmem, ⟨2, _⟩ => ⟨S424x1024, .f32⟩
  | .local _ .vmem, ⟨3, _⟩ => ⟨S424x1024, .f32⟩
  | .local _ .vmem, ⟨4, _⟩ => ⟨S424x1024, .f32⟩
  | .local _ .vmem, ⟨5, _⟩ => ⟨S424x1024, .f32⟩
  | .local _ .vmem, ⟨6, _⟩ => ⟨S424x1024, .f32⟩
  | _, _ => ⟨S424x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S424x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S424x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S424x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S424x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S424x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S424x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S424x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRefInIdeal.lean ====
abbrev S424x1024 : Shape := ⟨2, ![424, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S424x1024, .f32⟩
  | .hbm, ⟨1, _⟩ => ⟨S424x1024, .f32⟩
  | .hbm, ⟨2, _⟩ => ⟨S424x1024, .f32⟩
  | .hbm, ⟨3, _⟩ => ⟨S424x1024, .f32⟩
  | .hbm, ⟨4, _⟩ => ⟨S_, .f32⟩
  | .hbm, ⟨5, _⟩ => ⟨S424x1024, .f32⟩
  | .hbm, ⟨6, _⟩ => ⟨S424x1024, .f32⟩
  | .hbm, ⟨7, _⟩ => ⟨S_, .f32⟩
  | .hbm, ⟨8, _⟩ => ⟨S424x1024, .f32⟩
  | .hbm, ⟨9, _⟩ => ⟨S424x1024, .f32⟩
  | .hbm, ⟨10, _⟩ => ⟨S424x1024, .f32⟩
  | .hbm, ⟨11, _⟩ => ⟨S_, .f32⟩
  | .hbm, ⟨12, _⟩ => ⟨S424x1024, .f32⟩
  | .hbm, ⟨13, _⟩ => ⟨S424x1024, .f32⟩
  | .hbm, ⟨14, _⟩ => ⟨S424x1024, .f32⟩
  | .hbm, ⟨15, _⟩ => ⟨S_, .f32⟩
  | .hbm, ⟨16, _⟩ => ⟨S424x1024, .f32⟩
  | .hbm, ⟨17, _⟩ => ⟨S424x1024, .f32⟩
  | .hbm, ⟨18, _⟩ => ⟨S424x1024, .f32⟩
  | .hbm, ⟨19, _⟩ => ⟨S_, .f32⟩
  | .hbm, ⟨20, _⟩ => ⟨S424x1024, .f32⟩
  | .hbm, ⟨21, _⟩ => ⟨S424x1024, .f32⟩
  | .hbm, ⟨22, _⟩ => ⟨S_, .f32⟩
  | .hbm, ⟨23, _⟩ => ⟨S424x1024, .f32⟩
  | .hbm, ⟨24, _⟩ => ⟨S424x1024, .f32⟩
  | .hbm, ⟨25, _⟩ => ⟨S424x1024, .f32⟩
  | .hbm, ⟨26, _⟩ => ⟨S_, .f32⟩
  | .hbm, ⟨27, _⟩ => ⟨S424x1024, .f32⟩
  | .hbm, ⟨28, _⟩ => ⟨S424x1024, .f32⟩
  | .hbm, ⟨29, _⟩ => ⟨S424x1024, .f32⟩
  | .hbm, ⟨30, _⟩ => ⟨S_, .f32⟩
  | .hbm, ⟨31, _⟩ => ⟨S424x1024, .f32⟩
  | .hbm, ⟨32, _⟩ => ⟨S424x1024, .f32⟩
  | .hbm, ⟨33, _⟩ => ⟨S424x1024, .f32⟩
  | .hbm, ⟨34, _⟩ => ⟨S_, .f32⟩
  | .hbm, ⟨35, _⟩ => ⟨S424x1024, .f32⟩
  | .hbm, ⟨36, _⟩ => ⟨S424x1024, .f32⟩
  | _, _ => ⟨S424x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwUq.lean ====
abbrev S192x384 : Shape := ⟨2, ![192, 384]⟩
abbrev S48x384 : Shape := ⟨2, ![48, 384]⟩

abbrev nBuf : Space → Nat
  | .hbm => 7
  | .vmem => 14
  | .smem => 0
  | _ => 0

abbrev bufTy : (tb : Table) → Fin (tcTables nBuf tb) → BufTy
  | .hbm, ⟨0, _⟩ => ⟨S192x384, .f32⟩
  | .hbm, ⟨1, _⟩ => ⟨S192x384, .f32⟩
  | .hbm, ⟨2, _⟩ => ⟨S192x384, .f32⟩
  | .hbm, ⟨3, _⟩ => ⟨S192x384, .f32⟩
  | .hbm, ⟨4, _⟩ => ⟨S192x384, .f32⟩
  | .hbm, ⟨5, _⟩ => ⟨S192x384, .f32⟩
  | .hbm, ⟨6, _⟩ => ⟨S192x384, .f32⟩
  | .local _ .vmem, ⟨0, _⟩ => ⟨S48x384, .f32⟩
  | .local _ .vmem, ⟨1, _⟩ => ⟨S48x384, .f32⟩
  | .local _ .vmem, ⟨2, _⟩ => ⟨S48x384, .f32⟩
  | .local _ .vmem, ⟨3, _⟩ => ⟨S48x384, .f32⟩
  | .local _ .vmem, ⟨4, _⟩ => ⟨S48x384, .f32⟩
  | .local _ .vmem, ⟨5, _⟩ => ⟨S48x384, .f32⟩
  | .local _ .vmem, ⟨6, _⟩ => ⟨S48x384, .f32⟩
  | .local _ .vmem, ⟨7, _⟩ => ⟨S48x384, .f32⟩
  | .local _ .vmem, ⟨8, _⟩ => ⟨S48x384, .f32⟩
  | .local _ .vmem, ⟨9, _⟩ => ⟨S48x384, .f32⟩
  | .local _ .vmem, ⟨10, _⟩ => ⟨S48x384, .f32⟩
  | .local _ .vmem, ⟨11, _⟩ => ⟨S48x384, .f32⟩
  | .local _ .vmem, ⟨12, _⟩ => ⟨S48x384, .f32⟩
  | .local _ .vmem, ⟨13, _⟩ => ⟨S48x384, .f32⟩
  | _, _ => ⟨S192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S48x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S48x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefUqIdeal.lean ====
abbrev S192x384 : Shape := ⟨2, ![192, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x384, .f32⟩
  | .hbm, ⟨1, _⟩ => ⟨S192x384, .f32⟩
  | .hbm, ⟨2, _⟩ => ⟨S192x384, .f32⟩
  | .hbm, ⟨3, _⟩ => ⟨S192x384, .f32⟩
  | .hbm, ⟨4, _⟩ => ⟨S_, .f32⟩
  | .hbm, ⟨5, _⟩ => ⟨S192x384, .f32⟩
  | .hbm, ⟨6, _⟩ => ⟨S192x384, .f32⟩
  | .hbm, ⟨7, _⟩ => ⟨S_, .f32⟩
  | .hbm, ⟨8, _⟩ => ⟨S192x384, .f32⟩
  | .hbm, ⟨9, _⟩ => ⟨S192x384, .f32⟩
  | .hbm, ⟨10, _⟩ => ⟨S192x384, .f32⟩
  | .hbm, ⟨11, _⟩ => ⟨S_, .f32⟩
  | .hbm, ⟨12, _⟩ => ⟨S192x384, .f32⟩
  | .hbm, ⟨13, _⟩ => ⟨S192x384, .f32⟩
  | .hbm, ⟨14, _⟩ => ⟨S192x384, .f32⟩
  | .hbm, ⟨15, _⟩ => ⟨S_, .f32⟩
  | .hbm, ⟨16, _⟩ => ⟨S192x384, .f32⟩
  | .hbm, ⟨17, _⟩ => ⟨S192x384, .f32⟩
  | .hbm, ⟨18, _⟩ => ⟨S192x384, .f32⟩
  | .hbm, ⟨19, _⟩ => ⟨S_, .f32⟩
  | .hbm, ⟨20, _⟩ => ⟨S192x384, .f32⟩
  | .hbm, ⟨21, _⟩ => ⟨S192x384, .f32⟩
  | .hbm, ⟨22, _⟩ => ⟨S_, .f32⟩
  | .hbm, ⟨23, _⟩ => ⟨S192x384, .f32⟩
  | .hbm, ⟨24, _⟩ => ⟨S192x384, .f32⟩
  | .hbm, ⟨25, _⟩ => ⟨S192x384, .f32⟩
  | .hbm, ⟨26, _⟩ => ⟨S_, .f32⟩
  | .hbm, ⟨27, _⟩ => ⟨S192x384, .f32⟩
  | .hbm, ⟨28, _⟩ => ⟨S192x384, .f32⟩
  | .hbm, ⟨29, _⟩ => ⟨S192x384, .f32⟩
  | .hbm, ⟨30, _⟩ => ⟨S_, .f32⟩
  | .hbm, ⟨31, _⟩ => ⟨S192x384, .f32⟩
  | .hbm, ⟨32, _⟩ => ⟨S192x384, .f32⟩
  | .hbm, ⟨33, _⟩ => ⟨S192x384, .f32⟩
  | .hbm, ⟨34, _⟩ => ⟨S_, .f32⟩
  | .hbm, ⟨35, _⟩ => ⟨S192x384, .f32⟩
  | .hbm, ⟨36, _⟩ => ⟨S192x384, .f32⟩
  | _, _ => ⟨S192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwUkv.lean ====
abbrev S256x256 : Shape := ⟨2, ![256, 256]⟩
abbrev S64x256 : Shape := ⟨2, ![64, 256]⟩

abbrev nBuf : Space → Nat
  | .hbm => 7
  | .vmem => 14
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefUkvIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Projections.lean ====
abbrev S2x2064x1024 : Shape := ⟨3, ![2, 2064, 1024]⟩
abbrev S2x2064x384 : Shape := ⟨3, ![2, 2064, 384]⟩
abbrev S2x2064x256 : Shape := ⟨3, ![2, 2064, 256]⟩
abbrev S2x2064x1696 : Shape := ⟨3, ![2, 2064, 1696]⟩
abbrev S2x2064x8x96 : Shape := ⟨4, ![2, 2064, 8, 96]⟩
abbrev S2x2064x8x64 : Shape := ⟨4, ![2, 2064, 8, 64]⟩
abbrev S2x2064x640 : Shape := ⟨3, ![2, 2064, 640]⟩
abbrev S_ : Shape := ⟨0, ![]⟩
abbrev S2x2064x64 : Shape := ⟨3, ![2, 2064, 64]⟩
abbrev S2x2064x32 : Shape := ⟨3, ![2, 2064, 32]⟩
abbrev S2x2064x1792 : Shape := ⟨3, ![2, 2064, 1792]⟩
abbrev S2x2176x1792 : Shape := ⟨3, ![2, 2176, 1792]⟩
abbrev S4352x1792 : Shape := ⟨2, ![4352, 1792]⟩
abbrev S2x2176x1024 : Shape := ⟨3, ![2, 2176, 1024]⟩
abbrev S4352x1024 : Shape := ⟨2, ![4352, 1024]⟩
abbrev S1792x1024 : Shape := ⟨2, ![1792, 1024]⟩
abbrev S2176x896 : Shape := ⟨2, ![2176, 896]⟩
abbrev S2176x1024 : Shape := ⟨2, ![2176, 1024]⟩
abbrev S896x1024 : Shape := ⟨2, ![896, 1024]⟩
abbrev S2x2176x8x128 : Shape := ⟨4, ![2, 2176, 8, 128]⟩
abbrev S2x2176x8x64 : Shape := ⟨4, ![2, 2176, 8, 64]⟩
abbrev S4352x512 : Shape := ⟨2, ![4352, 512]⟩
abbrev S2x2176x384 : Shape := ⟨3, ![2, 2176, 384]⟩
abbrev S4352x384 : Shape := ⟨2, ![4352, 384]⟩
abbrev S2x2176x256 : Shape := ⟨3, ![2, 2176, 256]⟩
abbrev S4352x256 : Shape := ⟨2, ![4352, 256]⟩
abbrev S1024x384 : Shape := ⟨2, ![1024, 384]⟩
abbrev S1024x256 : Shape := ⟨2, ![1024, 256]⟩
abbrev S512x256 : Shape := ⟨2, ![512, 256]⟩
abbrev S2176x512 : Shape := ⟨2, ![2176, 512]⟩
abbrev S2176x384 : Shape := ⟨2, ![2176, 384]⟩
abbrev S2176x256 : Shape := ⟨2, ![2176, 256]⟩
abbrev S640x1024 : Shape := ⟨2, ![640, 1024]⟩
abbrev S32x1024 : Shape := ⟨2, ![32, 1024]⟩
abbrev S1024x1024 : Shape := ⟨2, ![1024, 1024]⟩
abbrev S1696x1024 : Shape := ⟨2, ![1696, 1024]⟩
abbrev S8x128x384 : Shape := ⟨3, ![8, 128, 384]⟩
abbrev S8x96x384 : Shape := ⟨3, ![8, 96, 384]⟩
abbrev S768x384 : Shape := ⟨2, ![768, 384]⟩
abbrev S8x128x256 : Shape := ⟨3, ![8, 128, 256]⟩
abbrev S8x64x256 : Shape := ⟨3, ![8, 64, 256]⟩
abbrev S1024x1696 : Shape := ⟨2, ![1024, 1696]⟩
abbrev S384x768 : Shape := ⟨2, ![384, 768]⟩
abbrev S256x1024 : Shape := ⟨2, ![256, 1024]⟩

abbrev nBuf : Space → Nat
  | .hbm => 61
  | .vmem => 19
  | .smem => 0
  | _ => 0

abbrev bufTy : (tb : Table) → Fin (tcTables nBuf tb) → BufTy
  | .hbm, ⟨0, _⟩ => ⟨S2x2064x1024, .f32⟩
  | .hbm, ⟨1, _⟩ => ⟨S2x2064x384, .f32⟩
  | .hbm, ⟨2, _⟩ => ⟨S2x2064x256, .f32⟩
  | .hbm, ⟨3, _⟩ => ⟨S2x2064x1696, .f32⟩
  | .hbm, ⟨4, _⟩ => ⟨S2x2064x8x96, .f32⟩
  | .hbm, ⟨5, _⟩ => ⟨S2x2064x8x64, .f32⟩
  | .hbm, ⟨6, _⟩ => ⟨S2x2064x8x64, .f32⟩
  | .hbm, ⟨7, _⟩ => ⟨S2x2064x640, .f32⟩
  | .hbm, ⟨8, _⟩ => ⟨S_, .f32⟩
  | .hbm, ⟨9, _⟩ => ⟨S2x2064x64, .f32⟩
  | .hbm, ⟨10, _⟩ => ⟨S2x2064x32, .f32⟩
  | .hbm, ⟨11, _⟩ => ⟨S_, .f32⟩
  | .hbm, ⟨12, _⟩ => ⟨S2x2064x32, .f32⟩
  | .hbm, ⟨13, _⟩ => ⟨S2x2064x1024, .f32⟩
  | .hbm, ⟨14, _⟩ => ⟨S2x2064x1792, .f32⟩
  | .hbm, ⟨15, _⟩ => ⟨S_, .f32⟩
  | .hbm, ⟨16, _⟩ => ⟨S2x2176x1792, .f32⟩
  | .hbm, ⟨17, _⟩ => ⟨S4352x1792, .f32⟩
  | .hbm, ⟨18, _⟩ => ⟨S4352x1792, .bf16⟩
  | .hbm, ⟨19, _⟩ => ⟨S_, .f32⟩
  | .hbm, ⟨20, _⟩ => ⟨S2x2176x1024, .f32⟩
  | .hbm, ⟨21, _⟩ => ⟨S4352x1024, .f32⟩
  | .hbm, ⟨22, _⟩ => ⟨S4352x1024, .bf16⟩
  | .hbm, ⟨23, _⟩ => ⟨S1792x1024, .f32⟩
  | .hbm, ⟨24, _⟩ => ⟨S_, .f32⟩
  | .hbm, ⟨25, _⟩ => ⟨S2x2176x8x128, .f32⟩
  | .hbm, ⟨26, _⟩ => ⟨S4352x1024, .f32⟩
  | .hbm, ⟨27, _⟩ => ⟨S4352x1024, .bf16⟩
  | .hbm, ⟨28, _⟩ => ⟨S_, .f32⟩
  | .hbm, ⟨29, _⟩ => ⟨S2x2176x8x128, .f32⟩
  | .hbm, ⟨30, _⟩ => ⟨S4352x1024, .f32⟩
  | .hbm, ⟨31, _⟩ => ⟨S4352x1024, .bf16⟩
  | .hbm, ⟨32, _⟩ => ⟨S_, .f32⟩
  | .hbm, ⟨33, _⟩ => ⟨S2x2176x8x64, .f32⟩
  | .hbm, ⟨34, _⟩ => ⟨S4352x512, .f32⟩
  | .hbm, ⟨35, _⟩ => ⟨S_, .f32⟩
  | .hbm, ⟨36, _⟩ => ⟨S2x2176x384, .f32⟩
  | .hbm, ⟨37, _⟩ => ⟨S4352x384, .f32⟩
  | .hbm, ⟨38, _⟩ => ⟨S4352x384, .bf16⟩
  | .hbm, ⟨39, _⟩ => ⟨S_, .f32⟩
  | .hbm, ⟨40, _⟩ => ⟨S2x2176x256, .f32⟩
  | .hbm, ⟨41, _⟩ => ⟨S4352x256, .f32⟩
  | .hbm, ⟨42, _⟩ => ⟨S4352x256, .bf16⟩
  | .hbm, ⟨43, _⟩ => ⟨S1024x384, .f32⟩
  | .hbm, ⟨44, _⟩ => ⟨S1024x256, .f32⟩
  | .hbm, ⟨45, _⟩ => ⟨S512x256, .f32⟩
  | .hbm, ⟨46, _⟩ => ⟨S640x1024, .f32⟩
  | .hbm, ⟨47, _⟩ => ⟨S32x1024, .f32⟩
  | .hbm, ⟨48, _⟩ => ⟨S1024x1024, .f32⟩
  | .hbm, ⟨49, _⟩ => ⟨S1696x1024, .f32⟩
  | .hbm, ⟨50, _⟩ => ⟨S8x128x384, .f32⟩
  | .hbm, ⟨51, _⟩ => ⟨S8x96x384, .f32⟩
  | .hbm, ⟨52, _⟩ => ⟨S768x384, .f32⟩
  | .hbm, ⟨53, _⟩ => ⟨S8x128x256, .f32⟩
  | .hbm, ⟨54, _⟩ => ⟨S8x64x256, .f32⟩
  | .hbm, ⟨55, _⟩ => ⟨S8x64x256, .f32⟩
  | .hbm, ⟨56, _⟩ => ⟨S8x128x256, .f32⟩
  | .hbm, ⟨57, _⟩ => ⟨S1024x256, .f32⟩
  | .hbm, ⟨58, _⟩ => ⟨S1024x1696, .f32⟩
  | .hbm, ⟨59, _⟩ => ⟨S384x768, .f32⟩
  | .hbm, ⟨60, _⟩ => ⟨S256x1024, .f32⟩
  | .local _ .vmem, ⟨0, _⟩ => ⟨S2176x896, .bf16⟩
  | .local _ .vmem, ⟨1, _⟩ => ⟨S2176x896, .bf16⟩
  | .local _ .vmem, ⟨2, _⟩ => ⟨S2176x1024, .bf16⟩
  | .local _ .vmem, ⟨3, _⟩ => ⟨S2176x1024, .bf16⟩
  | .local _ .vmem, ⟨4, _⟩ => ⟨S896x1024, .f32⟩
  | .local _ .vmem, ⟨5, _⟩ => ⟨S896x1024, .f32⟩
  | .local _ .vmem, ⟨6, _⟩ => ⟨S2176x1024, .bf16⟩
  | .local _ .vmem, ⟨7, _⟩ => ⟨S2176x1024, .bf16⟩
  | .local _ .vmem, ⟨8, _⟩ => ⟨S2176x1024, .bf16⟩
  | .local _ .vmem, ⟨9, _⟩ => ⟨S2176x1024, .bf16⟩
  | .local _ .vmem, ⟨10, _⟩ => ⟨S2176x512, .f32⟩
  | .local _ .vmem, ⟨11, _⟩ => ⟨S2176x512, .f32⟩
  | .local _ .vmem, ⟨12, _⟩ => ⟨S2176x384, .bf16⟩
  | .local _ .vmem, ⟨13, _⟩ => ⟨S2176x384, .bf16⟩
  | .local _ .vmem, ⟨14, _⟩ => ⟨S2176x256, .bf16⟩
  | .local _ .vmem, ⟨15, _⟩ => ⟨S2176x256, .bf16⟩
  | .local _ .vmem, ⟨16, _⟩ => ⟨S1024x384, .f32⟩
  | .local _ .vmem, ⟨17, _⟩ => ⟨S1024x256, .f32⟩
  | .local _ .vmem, ⟨18, _⟩ => ⟨S512x256, .f32⟩
  | _, _ => ⟨S2x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2176x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2176x384 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2176x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ProjectionsVjpIdeal.lean ====
abbrev S2x2064x1024 : Shape := ⟨3, ![2, 2064, 1024]⟩
abbrev S2x2064x384 : Shape := ⟨3, ![2, 2064, 384]⟩
abbrev S2x2064x256 : Shape := ⟨3, ![2, 2064, 256]⟩
abbrev S2x2064x1696 : Shape := ⟨3, ![2, 2064, 1696]⟩
abbrev S2x2064x8x96 : Shape := ⟨4, ![2, 2064, 8, 96]⟩
abbrev S2x2064x8x64 : Shape := ⟨4, ![2, 2064, 8, 64]⟩
abbrev S_ : Shape := ⟨0, ![]⟩
abbrev S1024x1696 : Shape := ⟨2, ![1024, 1696]⟩
abbrev S384x768 : Shape := ⟨2, ![384, 768]⟩
abbrev S256x1024 : Shape := ⟨2, ![256, 1024]⟩
abbrev S2x2064x768 : Shape := ⟨3, ![2, 2064, 768]⟩
abbrev S2x2064x8x128 : Shape := ⟨4, ![2, 2064, 8, 128]⟩
abbrev S1024x256 : Shape := ⟨2, ![1024, 256]⟩
abbrev S768x384 : Shape := ⟨2, ![768, 384]⟩
abbrev S1696x1024 : Shape := ⟨2, ![1696, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x2064x1024, .f32⟩
  | .hbm, ⟨1, _⟩ => ⟨S2x2064x384, .f32⟩
  | .hbm, ⟨2, _⟩ => ⟨S2x2064x256, .f32⟩
  | .hbm, ⟨3, _⟩ => ⟨S2x2064x1696, .f32⟩
  | .hbm, ⟨4, _⟩ => ⟨S2x2064x8x96, .f32⟩
  | .hbm, ⟨5, _⟩ => ⟨S2x2064x8x64, .f32⟩
  | .hbm, ⟨6, _⟩ => ⟨S2x2064x8x64, .f32⟩
  | .hbm, ⟨7, _⟩ => ⟨S_, .f32⟩
  | .hbm, ⟨8, _⟩ => ⟨S1024x1696, .f32⟩
  | .hbm, ⟨9, _⟩ => ⟨S_, .f32⟩
  | .hbm, ⟨10, _⟩ => ⟨S384x768, .f32⟩
  | .hbm, ⟨11, _⟩ => ⟨S_, .f32⟩
  | .hbm, ⟨12, _⟩ => ⟨S256x1024, .f32⟩
  | .hbm, ⟨13, _⟩ => ⟨S2x2064x1696, .f32⟩
  | .hbm, ⟨14, _⟩ => ⟨S2x2064x768, .f32⟩
  | .hbm, ⟨15, _⟩ => ⟨S2x2064x8x96, .f32⟩
  | .hbm, ⟨16, _⟩ => ⟨S2x2064x1024, .f32⟩
  | .hbm, ⟨17, _⟩ => ⟨S2x2064x8x128, .f32⟩
  | .hbm, ⟨18, _⟩ => ⟨S2x2064x8x64, .f32⟩
  | .hbm, ⟨19, _⟩ => ⟨S2x2064x8x64, .f32⟩
  | .hbm, ⟨20, _⟩ => ⟨S_, .f32⟩
  | .hbm, ⟨21, _⟩ => ⟨S2x2064x8x128, .f32⟩
  | .hbm, ⟨22, _⟩ => ⟨S_, .f32⟩
  | .hbm, ⟨23, _⟩ => ⟨S2x2064x8x128, .f32⟩
  | .hbm, ⟨24, _⟩ => ⟨S2x2064x8x128, .f32⟩
  | .hbm, ⟨25, _⟩ => ⟨S2x2064x1024, .f32⟩
  | .hbm, ⟨26, _⟩ => ⟨S1024x256, .f32⟩
  | .hbm, ⟨27, _⟩ => ⟨S256x1024, .f32⟩
  | .hbm, ⟨28, _⟩ => ⟨S2x2064x768, .f32⟩
  | .hbm, ⟨29, _⟩ => ⟨S768x384, .f32⟩
  | .hbm, ⟨30, _⟩ => ⟨S384x768, .f32⟩
  | .hbm, ⟨31, _⟩ => ⟨S1696x1024, .f32⟩
  | .hbm, ⟨32, _⟩ => ⟨S1024x1696, .f32⟩
  | _, _ => ⟨S2x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== SmallSums.lean ====
abbrev S160x1024 : Shape := ⟨2, ![160, 1024]⟩
abbrev S1 : Shape := ⟨1, ![1]⟩
abbrev S163840 : Shape := ⟨1, ![163840]⟩
abbrev S16384 : Shape := ⟨1, ![16384]⟩
abbrev S16x1024 : Shape := ⟨2, ![16, 1024]⟩
abbrev S1024 : Shape := ⟨1, ![1024]⟩
abbrev S1x1024 : Shape := ⟨2, ![1, 1024]⟩
abbrev S384 : Shape := ⟨1, ![384]⟩
abbrev S1x384 : Shape := ⟨2, ![1, 384]⟩
abbrev S256 : Shape := ⟨1, ![256]⟩
abbrev S1x256 : Shape := ⟨2, ![1, 256]⟩
abbrev S96 : Shape := ⟨1, ![96]⟩
abbrev S1x96 : Shape := ⟨2, ![1, 96]⟩
abbrev S2048 : Shape := ⟨1, ![2048]⟩
abbrev S1x4x512 : Shape := ⟨3, ![1, 4, 512]⟩
abbrev S512 : Shape := ⟨1, ![512]⟩
abbrev S1x512 : Shape := ⟨2, ![1, 512]⟩
abbrev S65536 : Shape := ⟨1, ![65536]⟩
abbrev S1x2x8x64x64 : Shape := ⟨5, ![1, 2, 8, 64, 64]⟩
abbrev S1x2x512 : Shape := ⟨3, ![1, 2, 512]⟩
abbrev S_ : Shape := ⟨0, ![]⟩
abbrev S16x256 : Shape := ⟨2, ![16, 256]⟩
abbrev S1x4x128 : Shape := ⟨3, ![1, 4, 128]⟩
abbrev S1x2x128 : Shape := ⟨3, ![1, 2, 128]⟩

abbrev nBuf : Space → Nat
  | .hbm => 97
  | .vmem => 8
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S1, .i32⟩
  | .hbm, ⟨6, _⟩ => ⟨S160x1024, .f32⟩
  | .hbm, ⟨7, _⟩ => ⟨S160x1024, .f32⟩
  | .hbm, ⟨8, _⟩ => ⟨S163840, .f32⟩
  | .hbm, ⟨9, _⟩ => ⟨S16384, .f32⟩
  | .hbm, ⟨10, _⟩ => ⟨S16x1024, .f32⟩
  | .hbm, ⟨11, _⟩ => ⟨S1024, .f32⟩
  | .hbm, ⟨12, _⟩ => ⟨S1x1024, .f32⟩
  | .hbm, ⟨13, _⟩ => ⟨S384, .f32⟩
  | .hbm, ⟨14, _⟩ => ⟨S1x384, .f32⟩
  | .hbm, ⟨15, _⟩ => ⟨S256, .f32⟩
  | .hbm, ⟨16, _⟩ => ⟨S1x256, .f32⟩
  | .hbm, ⟨17, _⟩ => ⟨S96, .f32⟩
  | .hbm, ⟨18, _⟩ => ⟨S1x96, .f32⟩
  | .hbm, ⟨19, _⟩ => ⟨S96, .f32⟩
  | .hbm, ⟨20, _⟩ => ⟨S1x96, .f32⟩
  | .hbm, ⟨21, _⟩ => ⟨S2048, .f32⟩
  | .hbm, ⟨22, _⟩ => ⟨S1x4x512, .f32⟩
  | .hbm, ⟨23, _⟩ => ⟨S512, .f32⟩
  | .hbm, ⟨24, _⟩ => ⟨S1x512, .f32⟩
  | .hbm, ⟨25, _⟩ => ⟨S65536, .f32⟩
  | .hbm, ⟨26, _⟩ => ⟨S1x2x8x64x64, .f32⟩
  | .hbm, ⟨27, _⟩ => ⟨S1024, .f32⟩
  | .hbm, ⟨28, _⟩ => ⟨S1x2x512, .f32⟩
  | .hbm, ⟨29, _⟩ => ⟨S65536, .f32⟩
  | .hbm, ⟨30, _⟩ => ⟨S1x2x8x64x64, .f32⟩
  | .hbm, ⟨31, _⟩ => ⟨S1024, .f32⟩
  | .hbm, ⟨32, _⟩ => ⟨S1x2x512, .f32⟩
  | .hbm, ⟨33, _⟩ => ⟨S1024, .f32⟩
  | .hbm, ⟨34, _⟩ => ⟨S1x2x512, .f32⟩
  | .hbm, ⟨35, _⟩ => ⟨S512, .f32⟩
  | .hbm, ⟨36, _⟩ => ⟨S1x512, .f32⟩
  | .hbm, ⟨37, _⟩ => ⟨S512, .f32⟩
  | .hbm, ⟨38, _⟩ => ⟨S1x512, .f32⟩
  | .hbm, ⟨39, _⟩ => ⟨S1024, .f32⟩
  | .hbm, ⟨40, _⟩ => ⟨S1x1024, .f32⟩
  | .hbm, ⟨41, _⟩ => ⟨S1, .f32⟩
  | .hbm, ⟨42, _⟩ => ⟨S_, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S16x256, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x4x128, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x2x128, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S1x2x128, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S1x2x128, .f32⟩
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | _, _ => ⟨S160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c : Ref sig .tc := ⟨.hbm, 44, rfl⟩
abbrev main_v38 : Ref sig .tc := ⟨.hbm, 45, rfl⟩
abbrev main_c_0 : Ref sig .tc := ⟨.hbm, 46, rfl⟩
abbrev main_v39 : Ref sig .tc := ⟨.hbm, 47, rfl⟩
abbrev main_c_1 : Ref sig .tc := ⟨.hbm, 48, rfl⟩
abbrev main_v40 : Ref sig .tc := ⟨.hbm, 49, rfl⟩
abbrev main_v41 : Ref sig .tc := ⟨.hbm, 50, rfl⟩
abbrev main_c_2 : Ref sig .tc := ⟨.hbm, 51, rfl⟩
abbrev main_v42 : Ref sig .tc := ⟨.hbm, 52, rfl⟩
abbrev main_v43 : Ref sig .tc := ⟨.hbm, 53, rfl⟩
abbrev main_c_3 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_c_6 : Ref sig .tc := ⟨.hbm, 61, rfl⟩
abbrev main_c_7 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_c_9 : Ref sig .tc := ⟨.hbm, 67, rfl⟩
abbrev main_v51 : Ref sig .tc := ⟨.hbm, 68, rfl⟩
abbrev main_c_10 : Ref sig .tc := ⟨.hbm, 69, rfl⟩
abbrev main_v52 : Ref sig .tc := ⟨.hbm, 70, rfl⟩
abbrev main_v53 : Ref sig .tc := ⟨.hbm, 71, rfl⟩
abbrev main_c_11 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_c_13 : Ref sig .tc := ⟨.hbm, 76, rfl⟩
abbrev main_v56 : Ref sig .tc := ⟨.hbm, 77, rfl⟩
abbrev main_c_14 : Ref sig .tc := ⟨.hbm, 78, rfl⟩
abbrev main_v57 : Ref sig .tc := ⟨.hbm, 79, rfl⟩
abbrev main_c_15 : Ref sig .tc := ⟨.hbm, 80, rfl⟩
abbrev main_v58 : Ref sig .tc := ⟨.hbm, 81, rfl⟩
abbrev main_v59 : Ref sig .tc := ⟨.hbm, 82, rfl⟩
abbrev main_c_16 : Ref sig .tc := ⟨.hbm, 83, rfl⟩
abbrev main_c_17 : Ref sig .tc := ⟨.hbm, 84, rfl⟩
abbrev main_v60 : Ref sig .tc := ⟨.hbm, 85, rfl⟩
abbrev main_v61 : Ref sig .tc := ⟨.hbm, 86, rfl⟩
abbrev main_c_18 : Ref sig .tc := ⟨.hbm, 87, rfl⟩
abbrev main_v62 : Ref sig .tc := ⟨.hbm, 88, rfl⟩
abbrev main_c_19 : Ref sig .tc := ⟨.hbm, 89, rfl⟩
abbrev main_v63 : Ref sig .tc := ⟨.hbm, 90, rfl⟩
abbrev main_c_20 : Ref sig .tc := ⟨.hbm, 91, rfl⟩
abbrev main_v64 : Ref sig .tc := ⟨.hbm, 92, rfl⟩
abbrev main_v65 : Ref sig .tc := ⟨.hbm, 93, rfl⟩
abbrev main_c_21 : Ref sig .tc := ⟨.hbm, 94, rfl⟩
abbrev main_c_22 : Ref sig .tc := ⟨.hbm, 95, rfl⟩
abbrev main_v66 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S160x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S160x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S160x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S160x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S160x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]
-- ==== SmallSumsRefIdeal.lean ====
abbrev S160x1024 : Shape := ⟨2, ![160, 1024]⟩
abbrev S1 : Shape := ⟨1, ![1]⟩
abbrev S163840 : Shape := ⟨1, ![163840]⟩
abbrev S16384 : Shape := ⟨1, ![16384]⟩
abbrev S16x1024 : Shape := ⟨2, ![16, 1024]⟩
abbrev S_ : Shape := ⟨0, ![]⟩
abbrev S16x256 : Shape := ⟨2, ![16, 256]⟩
abbrev S1024 : Shape := ⟨1, ![1024]⟩
abbrev S1x1024 : Shape := ⟨2, ![1, 1024]⟩
abbrev S384 : Shape := ⟨1, ![384]⟩
abbrev S1x384 : Shape := ⟨2, ![1, 384]⟩
abbrev S256 : Shape := ⟨1, ![256]⟩
abbrev S1x256 : Shape := ⟨2, ![1, 256]⟩
abbrev S96 : Shape := ⟨1, ![96]⟩
abbrev S1x96 : Shape := ⟨2, ![1, 96]⟩
abbrev S2048 : Shape := ⟨1, ![2048]⟩
abbrev S1x4x512 : Shape := ⟨3, ![1, 4, 512]⟩
abbrev S1x4x128 : Shape := ⟨3, ![1, 4, 128]⟩
abbrev S512 : Shape := ⟨1, ![512]⟩
abbrev S1x512 : Shape := ⟨2, ![1, 512]⟩
abbrev S65536 : Shape := ⟨1, ![65536]⟩
abbrev S1x2x8x64x64 : Shape := ⟨5, ![1, 2, 8, 64, 64]⟩
abbrev S1x2x512 : Shape := ⟨3, ![1, 2, 512]⟩
abbrev S1x2x128 : Shape := ⟨3, ![1, 2, 128]⟩

abbrev nBuf : Space → Nat
  | .hbm => 99
  | .vmem => 0
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S1, .i32⟩
  | .hbm, ⟨6, _⟩ => ⟨S160x1024, .f32⟩
  | .hbm, ⟨7, _⟩ => ⟨S160x1024, .f32⟩
  | .hbm, ⟨8, _⟩ => ⟨S160x1024, .f32⟩
  | .hbm, ⟨9, _⟩ => ⟨S160x1024, .f32⟩
  | .hbm, ⟨10, _⟩ => ⟨S163840, .f32⟩
  | .hbm, ⟨11, _⟩ => ⟨S16384, .f32⟩
  | .hbm, ⟨12, _⟩ => ⟨S16x1024, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S16x256, .f32⟩
  | .hbm, ⟨23, _⟩ => ⟨S1024, .f32⟩
  | .hbm, ⟨24, _⟩ => ⟨S1x1024, .f32⟩
  | .hbm, ⟨25, _⟩ => ⟨S384, .f32⟩
  | .hbm, ⟨26, _⟩ => ⟨S1x384, .f32⟩
  | .hbm, ⟨27, _⟩ => ⟨S256, .f32⟩
  | .hbm, ⟨28, _⟩ => ⟨S1x256, .f32⟩
  | .hbm, ⟨29, _⟩ => ⟨S96, .f32⟩
  | .hbm, ⟨30, _⟩ => ⟨S1x96, .f32⟩
  | .hbm, ⟨31, _⟩ => ⟨S96, .f32⟩
  | .hbm, ⟨32, _⟩ => ⟨S1x96, .f32⟩
  | .hbm, ⟨33, _⟩ => ⟨S2048, .f32⟩
  | .hbm, ⟨34, _⟩ => ⟨S1x4x512, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x4x128, .f32⟩
  | .hbm, ⟨46, _⟩ => ⟨S512, .f32⟩
  | .hbm, ⟨47, _⟩ => ⟨S1x512, .f32⟩
  | .hbm, ⟨48, _⟩ => ⟨S65536, .f32⟩
  | .hbm, ⟨49, _⟩ => ⟨S1x2x8x64x64, .f32⟩
  | .hbm, ⟨50, _⟩ => ⟨S1024, .f32⟩
  | .hbm, ⟨51, _⟩ => ⟨S1x2x512, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x2x128, .f32⟩
  | .hbm, ⟨63, _⟩ => ⟨S65536, .f32⟩
  | .hbm, ⟨64, _⟩ => ⟨S1x2x8x64x64, .f32⟩
  | .hbm, ⟨65, _⟩ => ⟨S1024, .f32⟩
  | .hbm, ⟨66, _⟩ => ⟨S1x2x512, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S1x2x128, .f32⟩
  | .hbm, ⟨78, _⟩ => ⟨S1024, .f32⟩
  | .hbm, ⟨79, _⟩ => ⟨S1x2x512, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i1⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1x2x128, .f32⟩
  | .hbm, ⟨91, _⟩ => ⟨S512, .f32⟩
  | .hbm, ⟨92, _⟩ => ⟨S1x512, .f32⟩
  | .hbm, ⟨93, _⟩ => ⟨S512, .f32⟩
  | .hbm, ⟨94, _⟩ => ⟨S1x512, .f32⟩
  | .hbm, ⟨95, _⟩ => ⟨S1024, .f32⟩
  | .hbm, ⟨96, _⟩ => ⟨S1x1024, .f32⟩
  | .hbm, ⟨97, _⟩ => ⟨S1, .f32⟩
  | .hbm, ⟨98, _⟩ => ⟨S_, .f32⟩
  | _, _ => ⟨S160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_c_11 : Ref sig .tc := ⟨.hbm, 60, rfl⟩
abbrev main_c_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_13 : Ref sig .tc := ⟨.hbm, 68, rfl⟩
abbrev main_v48 : Ref sig .tc := ⟨.hbm, 69, rfl⟩
abbrev main_c_14 : Ref sig .tc := ⟨.hbm, 70, rfl⟩
abbrev main_v49 : Ref sig .tc := ⟨.hbm, 71, rfl⟩
abbrev main_c_15 : Ref sig .tc := ⟨.hbm, 72, rfl⟩
abbrev main_v50 : Ref sig .tc := ⟨.hbm, 73, rfl⟩
abbrev main_v51 : Ref sig .tc := ⟨.hbm, 74, rfl⟩
abbrev main_c_16 : Ref sig .tc := ⟨.hbm, 75, rfl⟩
abbrev main_c_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_18 : Ref sig .tc := ⟨.hbm, 81, rfl⟩
abbrev main_v56 : Ref sig .tc := ⟨.hbm, 82, rfl⟩
abbrev main_c_19 : Ref sig .tc := ⟨.hbm, 83, rfl⟩
abbrev main_v57 : Ref sig .tc := ⟨.hbm, 84, rfl⟩
abbrev main_c_20 : Ref sig .tc := ⟨.hbm, 85, rfl⟩
abbrev main_v58 : Ref sig .tc := ⟨.hbm, 86, rfl⟩
abbrev main_v59 : Ref sig .tc := ⟨.hbm, 87, rfl⟩
abbrev main_c_21 : Ref sig .tc := ⟨.hbm, 88, rfl⟩
abbrev main_c_22 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Proof.Model.lean ====
/- The gradient of one attention head over the real numbers, and the passage from the extended reals a program
   computes with to it. Rows and lanes are numbered by natural numbers; a row or lane outside the array reads zero. -/
module

public import Idealize.ShloMosaic.PureOps.Ideal
public import Idealize.ShloMosaic.Lib.Pointwise

@[expose] public section

noncomputable section

namespace Cert.Attn

open Idealize.ShloMosaic
open scoped BigOperators

/-- The softmax scale: the single-precision number nearest to the inverse square root of 96. -/
def sc : ℝ := 3424635 / 33554432

/-- The logarithm of e to base two. -/
def l2e : ℝ := (Real.log 2)⁻¹

section Model
variable (q k v w : ℕ → ℕ → ℝ)

/-- The score of query row `i` against key row `t`, unscaled. -/
def S (i t : ℕ) : ℝ := ∑ d ∈ Finset.range 96, q i d * k t d

/-- The softmax denominator of query row `i`. -/
def Z (i : ℕ) : ℝ := ∑ t ∈ Finset.range 2064, Real.exp (sc * S q k i t)

/-- The softmax weight of query row `i` on key row `t`. -/
def Pr (i t : ℕ) : ℝ := Real.exp (sc * S q k i t) / Z q k i

/-- The attention output at row `i`, lane `d`. -/
def O (i d : ℕ) : ℝ := ∑ t ∈ Finset.range 2064, Pr q k i t * v t d

/-- The gradient of the softmax weight: the output gradient `w` of row `i` against value row `t`. -/
def dP (i t : ℕ) : ℝ := ∑ d ∈ Finset.range 64, w i d * v t d

/-- The row term of the softmax gradient: the output gradient against the output. -/
def Del (i : ℕ) : ℝ := ∑ d ∈ Finset.range 64, w i d * O q k v i d

/-- The gradient of the scaled score. -/
def dS (i t : ℕ) : ℝ := Pr q k i t * (dP v w i t - Del q k v w i)

/-- The query gradient. -/
def dQ (i d : ℕ) : ℝ := (∑ t ∈ Finset.range 2064, dS q k v w i t * k t d) * sc

/-- The key gradient. -/
def dK (t d : ℕ) : ℝ := (∑ i ∈ Finset.range 2064, dS q k v w i t * q i d) * sc

/-- The value gradient. -/
def dV (t d : ℕ) : ℝ := ∑ i ∈ Finset.range 2064, Pr q k i t * w i d

theorem Z_pos (i : ℕ) : 0 < Z q k i :=
  Finset.sum_pos (fun _ _ => Real.exp_pos _) ⟨0, by simp⟩

/-- The row term is the weighted mean of the weights' gradients. -/
theorem Del_eq (i : ℕ) : Del q k v w i = ∑ t ∈ Finset.range 2064, Pr q k i t * dP v w i t := by
  unfold Del O dP
  simp only [Finset.mul_sum]
  rw [Finset.sum_comm]
  exact Finset.sum_congr rfl fun t _ => Finset.sum_congr rfl fun d _ => by ring

/-- A weight computed after subtracting any number `M` from the scores. -/
theorem Pr_shift (M : ℝ) (i t : ℕ) :
    Pr q k i t = Real.exp (sc * (S q k i t - M)) / ∑ t' ∈ Finset.range 2064, Real.exp (sc * (S q k i t' - M)) := by
  have h : ∀ t', Real.exp (sc * (S q k i t' - M)) = Real.exp (sc * S q k i t') * Real.exp (-(sc * M)) := fun t' => by
    rw [← Real.exp_add]; ring_nf
  simp only [h, ← Finset.sum_mul]
  rw [mul_div_mul_right _ _ (Real.exp_pos _).ne']
  rfl

theorem Z_shift (M : ℝ) (i : ℕ) :
    ∑ t' ∈ Finset.range 2064, Real.exp (sc * (S q k i t' - M)) = Z q k i * Real.exp (-(sc * M)) := by
  have h : ∀ t', Real.exp (sc * (S q k i t' - M)) = Real.exp (sc * S q k i t') * Real.exp (-(sc * M)) := fun t' => by
    rw [← Real.exp_add]; ring_nf
  simp only [h, ← Finset.sum_mul]
  rfl

end Model

/-! ## Extended reals that are real -/

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A sum over the rows of an array of `N` rows of which only the first `n` count. -/
theorem sum_fin_lt {N : ℕ} (n : ℕ) (hn : n ≤ N) (f : ℕ → ℝ) :
    (∑ x : Fin N, if x.val < n then f x.val else 0) = ∑ t ∈ Finset.range n, f t := by
  rw [Fin.sum_univ_eq_sum_range (fun t => if t < n then f t else 0) N]
  rw [← Finset.sum_subset (Finset.range_mono hn) (f := fun t => if t < n then f t else 0)]
  · exact Finset.sum_congr rfl fun t ht => if_pos (Finset.mem_range.mp ht)
  · intro t _ ht
    exact if_neg fun h => ht (Finset.mem_range.mpr h)

theorem sum_coe_fin_lt {N : ℕ} (n : ℕ) (hn : n ≤ N) (f : ℕ → ℝ) (g : Fin N → EReal)
    (hg : ∀ x : Fin N, g x = ((if x.val < n then f x.val else 0 : ℝ) : EReal)) :
    ∑ x, g x = ((∑ t ∈ Finset.range n, f t : ℝ) : EReal) := by
  rw [← sum_fin_lt n hn f, coe_sum]
  exact Finset.sum_congr rfl fun x _ => hg x

/-- What a padded query row holds in a lane of its head: 96 lanes of the query, then a one, then zeros. -/
def qPad (q : ℕ → ℝ) (x : ℕ) : EReal := if x < 96 then (q x : EReal) else if x = 96 then 1 else 0

/-- What padded key row `t` holds in a lane of its head: 96 lanes of the key, then zero for a row that exists and
    minus infinity for one that does not, then zeros. -/
def kPad (k : ℕ → ℕ → ℝ) (t x : ℕ) : EReal :=
  if x < 96 then (k t x : EReal) else if x = 96 then (if t < 2064 then 0 else ⊥) else 0

/-- The padded rows' product: the score of a key row that exists, minus infinity for one that does not. -/
def raw (q k : ℕ → ℕ → ℝ) (i t : ℕ) : EReal := if t < 2064 then (S q k i t : EReal) else ⊥

theorem raw_eq (q k : ℕ → ℕ → ℝ) (i t : ℕ) :
    ∑ x : Fin 128, qPad (q i) x.val * kPad k t x.val = raw q k i t := by
  rw [Fin.sum_univ_eq_sum_range (fun x => qPad (q i) x * kPad k t x) 128,
    ← Finset.sum_subset (Finset.range_mono (show 97 ≤ 128 by omega))
      (f := fun x => qPad (q i) x * kPad k t x)]
  · rw [Finset.sum_range_succ]
    have h : ∑ x ∈ Finset.range 96, qPad (q i) x * kPad k t x = (S q k i t : EReal) := by
      unfold S
      rw [coe_sum]
      refine Finset.sum_congr rfl fun x hx => ?_
      have hx := Finset.mem_range.mp hx
      simp only [qPad, kPad, if_pos hx, EReal.coe_mul]
    rw [h]
    by_cases ht : t < 2064 <;> simp [qPad, kPad, raw, ht]
  · intro x _ hx
    have hx : ¬ x < 97 := fun h => hx (Finset.mem_range.mpr h)
    have h1 : ¬ x < 96 := by omega
    have h2 : ¬ x = 96 := by omega
    simp [qPad, kPad, h1, h2]

/-- The greatest score of a row is a real number. -/
theorem max_real (q k : ℕ → ℕ → ℝ) (i : ℕ) :
    ∃ M : ℝ, Finset.fold max (⊥ : EReal) (fun x : Fin 2176 => raw q k i x.val) Finset.univ = (M : EReal) := by
  set y := Finset.fold max (⊥ : EReal) (fun x : Fin 2176 => raw q k i x.val) Finset.univ with hy
  have h1 : y < ⊤ := by
    rw [hy, Finset.fold_max_lt]
    refine ⟨bot_lt_top, fun x _ => ?_⟩
    unfold raw
    split
    · exact EReal.coe_lt_top _
    · exact bot_lt_top
  have h2 : (S q k i 0 : EReal) ≤ y := by
    rw [hy, Finset.le_fold_max]
    exact .inr ⟨⟨0, by omega⟩, Finset.mem_univ _, by simp [raw]⟩
  have h3 : y ≠ ⊥ := fun h => by rw [h] at h2; exact absurd h2 (not_le.mpr (EReal.bot_lt_coe _))
  exact ⟨y.toReal, (EReal.coe_toReal h1.ne h3).symm⟩

theorem two_rpow (x : ℝ) : Real.rpow 2 (x * l2e) = Real.exp x := by
  show (2 : ℝ) ^ (x * l2e) = _
  rw [Real.rpow_def_of_pos (by norm_num)]
  congr 1
  unfold l2e
  have : Real.log 2 ≠ 0 := (Real.log_pos (by norm_num)).ne'
  field_simp

/-- The kernel's constant: the scale times the logarithm of e to base two. -/
def c2 : ℝ := sc * l2e

theorem c2_pos : 0 < c2 := by
  unfold c2 sc l2e
  exact mul_pos (by norm_num) (inv_pos.mpr (Real.log_pos (by norm_num)))

/-- The forward kernel's exponential of a score less the row's greatest. -/
theorem exp_fwd (q k : ℕ → ℕ → ℝ) (M : ℝ) (i t : ℕ) :
    Ideal.exp2 ((raw q k i t - (M : EReal)) * (c2 : EReal))
      = ((if t < 2064 then Real.exp (sc * (S q k i t - M)) else 0 : ℝ) : EReal) := by
  unfold raw
  split
  · rw [← EReal.coe_sub, ← EReal.coe_mul, Ideal.exp2_coe, ← two_rpow]
    congr 2; unfold c2; ring
  · rw [EReal.bot_sub, EReal.bot_mul_coe_of_pos c2_pos, Ideal.exp2_bot, EReal.coe_zero]

/-- The backward kernel's exponential: the softmax weight. -/
theorem exp_bwd (q k : ℕ → ℕ → ℝ) (i t : ℕ) :
    Ideal.exp2 (raw q k i t * (c2 : EReal) - ((Real.log (Z q k i) * l2e : ℝ) : EReal))
      = ((if t < 2064 then Pr q k i t else 0 : ℝ) : EReal) := by
  unfold raw
  split
  · rw [← EReal.coe_mul, ← EReal.coe_sub, Ideal.exp2_coe]
    congr 1
    rw [show S q k i t * c2 - Real.log (Z q k i) * l2e = (sc * S q k i t - Real.log (Z q k i)) * l2e by unfold c2; ring,
      two_rpow, Real.exp_sub, Real.exp_log (Z_pos q k i)]
    rfl
  · rw [EReal.bot_mul_coe_of_pos c2_pos, EReal.bot_sub, Ideal.exp2_bot, EReal.coe_zero]

/-! ## Arrays as tables -/

/-- An array of batch member, row, head and lane as a table, zero outside the array. -/
def tab4 {n : ℕ} (X : (⟨4, ![2, 2064, 8, n]⟩ : Shape).Idx → EReal) (b h i d : ℕ) : ℝ :=
  if H : b < 2 ∧ i < 2064 ∧ h < 8 ∧ d < n then (X (ix4 ⟨b, H.1⟩ ⟨i, H.2.1⟩ ⟨h, H.2.2.1⟩ ⟨d, H.2.2.2⟩)).toReal else 0

/-- An array of batch member, row and 64 lanes a head as a table, zero outside the array. -/
def tab3 (X : (⟨3, ![2, 2064, 512]⟩ : Shape).Idx → EReal) (b h i d : ℕ) : ℝ :=
  if H : b < 2 ∧ i < 2064 ∧ h < 8 ∧ d < 64 then (X (ix3 ⟨b, H.1⟩ ⟨i, H.2.1⟩ ⟨h * 64 + d, by omega⟩)).toReal else 0

/-- Every element of the array is a real number. -/
def IsReal {s : Shape} (X : s.Idx → EReal) : Prop := ∀ j, X j = ((X j).toReal : EReal)

theorem tab4_row {n : ℕ} (X : (⟨4, ![2, 2064, 8, n]⟩ : Shape).Idx → EReal) (b h i d : ℕ) (hi : 2064 ≤ i) : tab4 X b h i d = 0 :=
  dif_neg fun H => absurd H.2.1 (by omega)

theorem tab3_row (X : (⟨3, ![2, 2064, 512]⟩ : Shape).Idx → EReal) (b h i d : ℕ) (hi : 2064 ≤ i) : tab3 X b h i d = 0 :=
  dif_neg fun H => absurd H.2.1 (by omega)

theorem tab4_at {n : ℕ} (X : (⟨4, ![2, 2064, 8, n]⟩ : Shape).Idx → EReal) (hX : IsReal X) (b : Fin 2) (i : Fin 2064) (h : Fin 8) (d : Fin n) :
    X (ix4 b i h d) = (tab4 X b.val h.val i.val d.val : EReal) := by
  unfold tab4
  rw [dif_pos ⟨b.isLt, i.isLt, h.isLt, d.isLt⟩]
  exact hX _

theorem tab3_at (X : (⟨3, ![2, 2064, 512]⟩ : Shape).Idx → EReal) (hX : IsReal X) (b : Fin 2) (i : Fin 2064) (x : Fin 512) :
    X (ix3 b i x) = (tab3 X b.val (x.val / 64) i.val (x.val % 64) : EReal) := by
  unfold tab3
  rw [dif_pos ⟨b.isLt, i.isLt, by omega, by omega⟩]
  refine (hX _).trans ?_
  congr 3
  simp only [show x.val / 64 * 64 + x.val % 64 = x.val by omega]

end Cert.Attn

end
-- ==== Proof.FwdBody.lean ====
/- The forward body at one grid point: for two heads of one batch member, the softmax-weighted mean of the value rows
   and the logarithm (base two) of the softmax denominator, over the real numbers. -/
module

public import proofs.«01_k».proof.Proof.Gen.KernelIdeal.Frame
public import proofs.«01_k».proof.Proof.Model
public import Idealize.ShloMosaic.Lib.WritesUnit
public import Idealize.ShloMosaic.PureOps.IdealRules

@[expose] public section

set_option maxRecDepth 16384

noncomputable section

namespace Cert.KernelIdeal.Attn

open Idealize.ShloMosaic Cert.KernelIdeal Cert.KernelIdeal.Gen Cert.Attn

theorem named_c2 : Named.named (F := Ideal) κ "s_log2" (φ := .f32) 0x3E16C740#32 = ((c2 : ℝ) : EReal) := by
  have h : ((c2 : ℝ) : EReal) = (((3424635 / 33554432) * (Real.log 2)⁻¹ : ℝ) : EReal) := by unfold c2 sc l2e; rfl
  rw [h]
  exact IdealRules.named_const.ideal_named_scalar _ _ _ _ rfl

theorem named_l2e : Named.named (F := Ideal) κ "log2_e" (φ := .f32) 0x3FB8AA3B#32 = ((l2e : ℝ) : EReal) := by
  have h : ((l2e : ℝ) : EReal) = (((Real.log 2)⁻¹ : ℝ) : EReal) := by unfold l2e; rfl
  rw [h]
  exact IdealRules.named_const.ideal_named_scalar _ _ _ _ rfl

theorem sitofp_bv (b : BitVec 32) : (FloatOps.sitofp (F := Ideal) FTy.f32 b : EReal) = ((b.toInt : ℝ) : EReal) := rfl

/-- The lane masks of a head pair, as the program computes them: one on the first head's 64 lanes … -/
theorem mask0 (x : Fin 128) : (FloatOps.sitofp (F := Ideal) FTy.f32 (BitVec.setWidth 32 (IntOp.xori (IntOp.xori
      (IntOp.cmpi CmpIPredicate.sge (BitVec.ofNat 32 x.val) 64#32) 0#1) 1#1)) : EReal) = ((if x.val / 64 = 0 then 1 else 0 : ℝ) : EReal) := by
  rw [(by decide +kernel : ∀ x : Fin 128, BitVec.setWidth 32 (IntOp.xori (IntOp.xori
      (IntOp.cmpi CmpIPredicate.sge (BitVec.ofNat 32 x.val) 64#32) 0#1) 1#1) = if x.val / 64 = 0 then 1#32 else 0#32) x, sitofp_bv]
  split <;> simp

/-- … and one on the second head's. -/
theorem mask1 (x : Fin 128) : (FloatOps.sitofp (F := Ideal) FTy.f32 (BitVec.setWidth 32 (IntOp.xori (IntOp.xori
      (IntOp.cmpi CmpIPredicate.sge (BitVec.ofNat 32 x.val) 64#32) 1#1) 1#1)) : EReal) = ((if x.val / 64 = 1 then 1 else 0 : ℝ) : EReal) := by
  rw [(by decide +kernel : ∀ x : Fin 128, BitVec.setWidth 32 (IntOp.xori (IntOp.xori
      (IntOp.cmpi CmpIPredicate.sge (BitVec.ofNat 32 x.val) 64#32) 1#1) 1#1) = if x.val / 64 = 1 then 1#32 else 0#32) x, sitofp_bv]
  split <;> simp

/-- A choice between the two heads' values by the head's number. -/
theorem select_head (j : Fin 2) (a b : EReal) :
    Scalar.select (IntOp.cmpi CmpIPredicate.eq (BitVec.ofNat 32 j.val) 0#32) a b = if j.val = 0 then a else b := by
  rcases (by omega : j = 0 ∨ j = 1) with rfl | rfl <;> rfl

theorem pay11_eq : k0_pay11 (F := Ideal) = k0_pay3 := rfl
theorem pay12_eq : k0_pay12 (F := Ideal) = k0_pay4 := by funext a b; unfold k0_pay12 k0_pay4; rw [pay11_eq]
theorem pay13_eq : k0_pay13 (F := Ideal) = k0_pay5 := by funext a b; unfold k0_pay13 k0_pay5; rw [pay11_eq, pay12_eq]
theorem pay14_eq : k0_pay14 (F := Ideal) = k0_pay6 := by funext a b; unfold k0_pay14 k0_pay6; rw [pay13_eq]

theorem lse_form (a b : FVec Ideal S1088x1 .f32) (i : Fin 1088) (u : Fin 1) :
    addf (mulf a (broadcast S1088x1 (Named.named (F := Ideal) κ "s_log2" (φ := .f32) 0x3E16C740#32)))
      (mulf (log b) (broadcast S1088x1 (Named.named (F := Ideal) κ "log2_e" (φ := .f32) 0x3FB8AA3B#32))) (ix2 i u)
      = a (ix2 i u) * (c2 : EReal) + Ideal.log (b (ix2 i u)) * (l2e : EReal) := by
  pointwise []
  rw [named_c2, named_l2e]

theorem pay10_eq (x0 : Vec Ideal S1088x128 .bf16) (x1 : Vec Ideal S2176x128 .bf16) :
    k0_pay10 (F := Ideal) (k0_pay8 x0 x1) (k0_pay9 x0 x1) (Named.named κ "log2_e" (φ := .f32) 0x3FB8AA3B#32) = k0_pay16 x0 x1 := by
  unfold k0_pay10 k0_pay8 k0_pay9 k0_pay16
  rw [pay12_eq, pay14_eq]

theorem pay1_at (a b : FVec Ideal S1088x1 .f32) (u : Fin 1) (i : Fin 1088) (j : Fin 2) :
    k0_pay1 a b (ix3 u i j) = if j.val = 0 then a (ix2 i 0) else b (ix2 i 0) := by
  pointwise [k0_pay1]
  exact select_head j _ _

theorem hz2 : (![0, 0] : Fin 2 → ℕ) = fun _ => 0 := funext fun a => by fin_cases a <;> rfl
theorem hz3 : (![0, 0, 0] : Fin 3 → ℕ) = fun _ => 0 := funext fun a => by fin_cases a <;> rfl

theorem ninf : Ideal.ofBits FTy.f32 0xFF800000#32 = ⊥ := by
  simp [Ideal.ofBits, Ideal.ieee]

section Head
variable {q k : ℕ → ℕ → ℝ} (x0 : Vec Ideal S1088x128 .bf16) (x1 : Vec Ideal S2176x128 .bf16)
  (h0 : ∀ (i : Fin 1088) (x : Fin 128), x0 (ix2 i x) = qPad (q i.val) x.val)
  (h1 : ∀ (t : Fin 2176) (x : Fin 128), x1 (ix2 t x) = kPad k t.val x.val)
include h0 h1

theorem pay3_at (i : Fin 1088) (t : Fin 2176) : k0_pay3 (F := Ideal) x0 x1 (ix2 i t) = raw q k i.val t.val := by
  pointwise [k0_pay3]
  rw [← raw_eq]
  exact Finset.sum_congr rfl fun x _ => by rw [h0, h1]

theorem pay4_at (i : Fin 1088) : ∃ M : ℝ, ∀ u : Fin 1, k0_pay4 (F := Ideal) x0 x1 (ix2 i u) = (M : EReal) := by
  obtain ⟨M, hM⟩ := max_real q k i.val
  refine ⟨M, fun u => ?_⟩
  pointwise [k0_pay4]
  rw [ninf, ← hM]
  exact congrArg (fun f => Finset.fold max (⊥ : EReal) f Finset.univ) (funext fun x => pay3_at x0 x1 h0 h1 i x)

theorem pay5_at (i : Fin 1088) (t : Fin 2176) (M : ℝ) (hM : ∀ u : Fin 1, k0_pay4 (F := Ideal) x0 x1 (ix2 i u) = (M : EReal)) :
    k0_pay5 (F := Ideal) x0 x1 (ix2 i t)
      = ((if t.val < 2064 then Real.exp (sc * (S q k i.val t.val - M)) else 0 : ℝ) : EReal) := by
  have h3 := pay3_at x0 x1 h0 h1 i t
  have h4 := hM 0
  pointwise [k0_pay5]
  rw [h3, h4, named_c2]
  exact exp_fwd q k M i.val t.val

theorem pay6_at (i : Fin 1088) (M : ℝ) (hM : ∀ u : Fin 1, k0_pay4 (F := Ideal) x0 x1 (ix2 i u) = (M : EReal)) (u : Fin 1) :
    k0_pay6 (F := Ideal) x0 x1 (ix2 i u) = ((Z q k i.val * Real.exp (-(sc * M)) : ℝ) : EReal) := by
  rw [← Z_shift]
  pointwise [k0_pay6]
  exact sum_coe_fin_lt 2064 (by omega) (fun t => Real.exp (sc * (S q k i.val t - M))) (fun x => k0_pay5 (F := Ideal) x0 x1 (ix2 i x))
    fun x => pay5_at x0 x1 h0 h1 i x M hM

/-- The logarithm of the denominator. -/
theorem lse_at (i : Fin 1088) (u : Fin 1) :
    k0_pay16 (F := Ideal) x0 x1 (ix2 i u) = ((Real.log (Z q k i.val) * l2e : ℝ) : EReal) := by
  obtain ⟨M, hM⟩ := pay4_at x0 x1 h0 h1 i
  have h4 := hM u
  have h6 := pay6_at x0 x1 h0 h1 i M hM u
  refine (lse_form (k0_pay12 x0 x1) (k0_pay14 x0 x1) i u).trans ?_
  rw [pay12_eq, pay14_eq, h4]
  rw [h6, Ideal.log_coe, if_neg (not_le.mpr (mul_pos (Z_pos q k _) (Real.exp_pos _))),
    Real.log_mul (Z_pos q k _).ne' (Real.exp_pos _).ne', Real.log_exp]
  rw [← EReal.coe_mul, ← EReal.coe_mul, ← EReal.coe_add]
  have h : M * c2 + (Real.log (Z q k i.val) + -(sc * M)) * l2e = Real.log (Z q k i.val) * l2e := by
    unfold c2; ring
  rw [h]

/-- One head's weighted mean of a real array `b` over the key rows, computed as a sum and a division. -/
theorem mean_at (i : Fin 1088) (b : ℕ → ℝ) (g : Fin 2176 → EReal) (hg : ∀ t, g t = (b t.val : EReal)) (u : Fin 1) :
    (∑ t, k0_pay5 (F := Ideal) x0 x1 (ix2 i t) * g t) * Ideal.div 1 (k0_pay6 (F := Ideal) x0 x1 (ix2 i u))
      = ((∑ t ∈ Finset.range 2064, Pr q k i.val t * b t : ℝ) : EReal) := by
  obtain ⟨M, hM⟩ := pay4_at x0 x1 h0 h1 i
  rw [pay6_at x0 x1 h0 h1 i M hM u, Ideal.div_coe (mul_pos (Z_pos q k _) (Real.exp_pos _)).ne', one_mul,
    sum_coe_fin_lt 2064 (by omega) (fun t => Real.exp (sc * (S q k i.val t - M)) * b t) _ (fun t => by
      rw [pay5_at x0 x1 h0 h1 i t M hM, hg, ← EReal.coe_mul]; split <;> simp), ← EReal.coe_mul, Finset.sum_mul]
  congr 1
  refine Finset.sum_congr rfl fun t _ => ?_
  rw [Pr_shift q k M, Z_shift]
  ring

end Head

section Point
variable {q k v : ℕ → ℕ → ℕ → ℝ} (x0 : Vec Ideal S1088x256 .bf16) (x1 : Vec Ideal S2176x256 .bf16) (x2 : Vec Ideal S2176x128 .bf16)
  (h0 : ∀ (i : Fin 1088) (x : Fin 256), x0 (ix2 i x) = qPad (q (x.val / 128) i.val) (x.val % 128))
  (h1 : ∀ (t : Fin 2176) (x : Fin 256), x1 (ix2 t x) = kPad (k (x.val / 128)) t.val (x.val % 128))
  (h2 : ∀ (t : Fin 2176) (x : Fin 128), x2 (ix2 t x) = (v (x.val / 64) t.val (x.val % 64) : EReal))

theorem ld_q0 (h0 : ∀ (i : Fin 1088) (x : Fin 256), x0 (ix2 i x) = qPad (q (x.val / 128) i.val) (x.val % 128))
    (i : Fin 1088) (x : Fin 128) : View.ld x0 r0_1 (ix2 i x) = qPad (q 0 i.val) x.val := by
  pointwise []
  rw [h0]
  show qPad (q (x.val / 128) i.val) (x.val % 128) = _
  rw [show x.val / 128 = 0 by omega, show x.val % 128 = x.val by omega]

theorem ld_q1 (h0 : ∀ (i : Fin 1088) (x : Fin 256), x0 (ix2 i x) = qPad (q (x.val / 128) i.val) (x.val % 128))
    (i : Fin 1088) (x : Fin 128) : View.ld x0 r0_3 (ix2 i x) = qPad (q 1 i.val) x.val := by
  pointwise []
  rw [h0]
  show qPad (q ((128 + x.val) / 128) i.val) ((128 + x.val) % 128) = _
  rw [show (128 + x.val) / 128 = 1 by omega, show (128 + x.val) % 128 = x.val by omega]

theorem ld_k0 (h1 : ∀ (t : Fin 2176) (x : Fin 256), x1 (ix2 t x) = kPad (k (x.val / 128)) t.val (x.val % 128))
    (t : Fin 2176) (x : Fin 128) : View.ld x1 r0_2 (ix2 t x) = kPad (k 0) t.val x.val := by
  pointwise []
  rw [h1]
  show kPad (k (x.val / 128)) t.val (x.val % 128) = _
  rw [show x.val / 128 = 0 by omega, show x.val % 128 = x.val by omega]

theorem ld_k1 (h1 : ∀ (t : Fin 2176) (x : Fin 256), x1 (ix2 t x) = kPad (k (x.val / 128)) t.val (x.val % 128))
    (t : Fin 2176) (x : Fin 128) : View.ld x1 r0_4 (ix2 t x) = kPad (k 1) t.val x.val := by
  pointwise []
  rw [h1]
  show kPad (k ((128 + x.val) / 128)) t.val ((128 + x.val) % 128) = _
  rw [show (128 + x.val) / 128 = 1 by omega, show (128 + x.val) % 128 = x.val by omega]

include h0 h1 h2

theorem out0_3_at (i : Fin 1088) (x : Fin 128) : out0_3 (F := Ideal) x0 x1 x2 (ix2 i x)
      = ((O (q (x.val / 64)) (k (x.val / 64)) (v (x.val / 64)) i.val (x.val % 64) : ℝ) : EReal) := by
  unfold out0_3
  rw [View.canon_unit_zero hz2]
  pointwise [k0_pay15, k0_pay7, k0_pay2]
  rw [pay13_eq, pay14_eq]
  have e0 := mean_at (View.ld x0 r0_1) (View.ld x1 r0_2) (ld_q0 x0 h0) (ld_k0 x1 h1) i
    (fun t => v (x.val / 64) t (x.val % 64) * if x.val / 64 = 0 then 1 else 0)
    (fun t => x2 (ix2 t x) * FloatOps.sitofp (F := Ideal) FTy.f32 (BitVec.setWidth 32 (IntOp.xori (IntOp.xori
      (IntOp.cmpi CmpIPredicate.sge (BitVec.ofNat 32 x.val) 64#32) 0#1) 1#1)))
    (fun t => by rw [mask0, h2]; exact (EReal.coe_mul _ _).symm) 0
  have e1 := mean_at (View.ld x0 r0_3) (View.ld x1 r0_4) (ld_q1 x0 h0) (ld_k1 x1 h1) i
    (fun t => v (x.val / 64) t (x.val % 64) * if x.val / 64 = 1 then 1 else 0)
    (fun t => x2 (ix2 t x) * FloatOps.sitofp (F := Ideal) FTy.f32 (BitVec.setWidth 32 (IntOp.xori (IntOp.xori
      (IntOp.cmpi CmpIPredicate.sge (BitVec.ofNat 32 x.val) 64#32) 1#1) 1#1)))
    (fun t => by rw [mask1, h2]; exact (EReal.coe_mul _ _).symm) 0
  refine (congrArg₂ (· + ·) e0 e1).trans ?_
  rw [← EReal.coe_add]
  unfold O
  congr 1
  rcases (by omega : x.val / 64 = 0 ∨ x.val / 64 = 1) with h | h <;> simp [h]

theorem out0_4_at (u : Fin 1) (i : Fin 1088) (j : Fin 2) : out0_4 (F := Ideal) x0 x1 x2 (ix3 u i j)
      = ((Real.log (Z (q j.val) (k j.val) i.val) * l2e : ℝ) : EReal) := by
  unfold out0_4
  rw [View.canon_unit_zero hz3]
  have e0 := lse_at (View.ld x0 r0_1) (View.ld x1 r0_2) (ld_q0 x0 h0) (ld_k0 x1 h1) i
  have e1 := lse_at (View.ld x0 r0_3) (View.ld x1 r0_4) (ld_q1 x0 h0) (ld_k1 x1 h1) i
  refine (pay1_at _ _ u i j).trans ?_
  rw [pay10_eq, e0, e1]
  rcases (by omega : j = 0 ∨ j = 1) with rfl | rfl
  · exact if_pos rfl
  · exact if_neg (by decide)

end Point

end Cert.KernelIdeal.Attn

end
-- ==== Proof.BwdBody.lean ====
/- The backward body at one grid point: for two heads of one batch member and half of the query rows, the query
   gradient of those rows, and what they add to the key and the value gradient, over the real numbers. -/
module

public import proofs.«01_k».proof.Proof.FwdBody
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Cert.KernelIdeal Cert.KernelIdeal.Gen Cert.Attn

theorem scale_bits : Ideal.ofBits FTy.f32 0x3DD105EC#32 = ((sc : ℝ) : EReal) := by
  simp [Ideal.ofBits, Ideal.ieee, sc]
  rw [← EReal.coe_mul]
  norm_num

theorem zero_bits : Ideal.ofBits FTy.f32 0x00000000#32 = 0 := by
  simp [Ideal.ofBits, Ideal.ieee]

/-- The exponential's operand and result, at an element. -/
theorem p_form (a : Vec Ideal S1088x128 .bf16) (b : Vec Ideal S2176x128 .bf16) (l : Vec Ideal S1x1088x1 .f32) (i : Fin 1088) (t : Fin 2176) :
    k1_pay14 (F := Ideal) a b l (ix2 i t)
      = Ideal.exp2 ((∑ x : Fin 128, a (ix2 i x) * b (ix2 t x)) * (c2 : EReal) - l (ix3 0 i 0)) := by
  pointwise [k1_pay14, k1_pay12, k1_pay13]
  rw [named_c2]
  rfl

theorem pay24_eq : k1_pay24 (F := Ideal) = k1_pay14 := rfl

/-- The gradient of a head's scores, at an element, from the weights and the two products. -/
theorem ds0_form (v5 : FVec Ideal S1088x128 .bf16) (v8 : FVec Ideal S1088x128 .f32) (v10 : FVec Ideal S2176x128 .bf16)
    (p : FVec Ideal S1088x2176 .f32) (i : Fin 1088) (t : Fin 2176) :
    k1_pay16 (F := Ideal) v5 v8 v10 p k1_pay15 (ix2 i t)
      = p (ix2 i t) * ((∑ x : Fin 128, v5 (ix2 i x) * (v10 (ix2 t x) * ((if x.val / 64 = 0 then 1 else 0 : ℝ) : EReal)))
          - ∑ x : Fin 128, v8 (ix2 i x) * ((if x.val / 64 = 0 then 1 else 0 : ℝ) : EReal)) := by
  simp only [← mask0]
  pointwise [k1_pay16, k1_pay15]

theorem ds1_form (v5 : FVec Ideal S1088x128 .bf16) (v8 : FVec Ideal S1088x128 .f32) (v10 : FVec Ideal S2176x128 .bf16)
    (p : FVec Ideal S1088x2176 .f32) (i : Fin 1088) (t : Fin 2176) :
    k1_pay1 (F := Ideal) p (k1_pay25 v5 v10) (k1_pay26 v8) (ix2 i t)
      = p (ix2 i t) * ((∑ x : Fin 128, v5 (ix2 i x) * (v10 (ix2 t x) * ((if x.val / 64 = 1 then 1 else 0 : ℝ) : EReal)))
          - ∑ x : Fin 128, v8 (ix2 i x) * ((if x.val / 64 = 1 then 1 else 0 : ℝ) : EReal)) := by
  simp only [← mask1]
  pointwise [k1_pay1, k1_pay25, k1_pay26]

/-- A sum over the lanes of a head pair in which only head `j`'s lanes count. -/
theorem sum_mask (j : ℕ) (hj : j < 2) (f : ℕ → ℕ → ℝ) :
    (∑ x : Fin 128, f (x.val / 64) (x.val % 64) * if x.val / 64 = j then 1 else 0) = ∑ d ∈ Finset.range 64, f j d := by
  rw [Fin.sum_univ_eq_sum_range (fun x => f (x / 64) (x % 64) * if x / 64 = j then 1 else 0) 128,
    show (128 : ℕ) = 64 + 64 from rfl, Finset.sum_range_add]
  have h0 : ∀ x ∈ Finset.range 64, (f (x / 64) (x % 64) * if x / 64 = j then (1 : ℝ) else 0) = f 0 x * if 0 = j then 1 else 0 := by
    intro x hx
    have hx := Finset.mem_range.mp hx
    rw [show x / 64 = 0 by omega, show x % 64 = x by omega]
  have h1 : ∀ x ∈ Finset.range 64, (f ((64 + x) / 64) ((64 + x) % 64) * if (64 + x) / 64 = j then (1 : ℝ) else 0)
      = f 1 x * if 1 = j then 1 else 0 := by
    intro x hx
    have hx := Finset.mem_range.mp hx
    rw [show (64 + x) / 64 = 1 by omega, show (64 + x) % 64 = x by omega]
  rw [Finset.sum_congr rfl h0, Finset.sum_congr rfl h1]
  rcases (by omega : j = 0 ∨ j = 1) with rfl | rfl <;> simp

section Real
variable {q k v w : ℕ → ℕ → ℕ → ℝ} (j : ℕ) (hj : j < 2) (i : ℕ) (t : ℕ)

/-- The two products of a head's score gradient, over the real numbers. -/
theorem ds_real (hj : j < 2) (a b : Fin 128 → EReal) (r : Fin 128 → EReal)
    (ha : ∀ x : Fin 128, a x = ((w (x.val / 64) i (x.val % 64) : ℝ) : EReal))
    (hb : ∀ x : Fin 128, b x = ((v (x.val / 64) t (x.val % 64) : ℝ) : EReal))
    (hr : ∀ x : Fin 128, r x = ((w (x.val / 64) i (x.val % 64) * O (q (x.val / 64)) (k (x.val / 64)) (v (x.val / 64)) i (x.val % 64) : ℝ) : EReal)) :
    ((if t < 2064 then Pr (q j) (k j) i t else 0 : ℝ) : EReal)
      * ((∑ x : Fin 128, a x * (b x * ((if x.val / 64 = j then 1 else 0 : ℝ) : EReal)))
          - ∑ x : Fin 128, r x * ((if x.val / 64 = j then 1 else 0 : ℝ) : EReal))
      = ((if t < 2064 then dS (q j) (k j) (v j) (w j) i t else 0 : ℝ) : EReal) := by
  have e1 : (∑ x : Fin 128, a x * (b x * ((if x.val / 64 = j then 1 else 0 : ℝ) : EReal))) = ((dP (v j) (w j) i t : ℝ) : EReal) := by
    rw [dP, ← sum_mask j hj (fun h d => w h i d * v h t d), coe_sum]
    refine Finset.sum_congr rfl fun x _ => ?_
    rw [ha, hb, ← EReal.coe_mul, ← EReal.coe_mul, mul_assoc]
  have e2 : (∑ x : Fin 128, r x * ((if x.val / 64 = j then 1 else 0 : ℝ) : EReal)) = ((Del (q j) (k j) (v j) (w j) i : ℝ) : EReal) := by
    rw [Del, ← sum_mask j hj (fun h d => w h i d * O (q h) (k h) (v h) i d), coe_sum]
    refine Finset.sum_congr rfl fun x _ => ?_
    rw [hr, ← EReal.coe_mul]
  rw [e1, e2, ← EReal.coe_sub, ← EReal.coe_mul]
  split
  · rfl
  · rw [zero_mul]

end Real

section Forms
variable (v5 : FVec Ideal S1088x128 .bf16) (v8 : FVec Ideal S1088x128 .f32) (v10 : FVec Ideal S2176x128 .bf16)
  (a : Vec Ideal S1088x128 .bf16) (b : Vec Ideal S2176x128 .bf16) (p : FVec Ideal S1088x2176 .f32)

theorem dq0_form (m : FVec Ideal S2176x128 .bf16) (i : Fin 1088) (x : Fin 128) :
    k1_pay17 (F := Ideal) v5 v8 v10 (k1_pay13 b) p m (ix2 i x)
      = (∑ t : Fin 2176, k1_pay16 (F := Ideal) v5 v8 v10 p m (ix2 i t) * b (ix2 t x)) * (sc : EReal) := by
  pointwise [k1_pay17, k1_pay13]
  rw [scale_bits]

theorem dq1_form (dp : FVec Ideal S1088x2176 .f32) (d : FVec Ideal S1088x1 .f32) (i : Fin 1088) (x : Fin 128) :
    k1_pay2 (F := Ideal) (k1_pay23 b) p dp d (ix2 i x)
      = (∑ t : Fin 2176, k1_pay1 (F := Ideal) p dp d (ix2 i t) * b (ix2 t x)) * (sc : EReal) := by
  pointwise [k1_pay2, k1_pay23]
  rw [scale_bits]

theorem dk0_form (m : FVec Ideal S2176x128 .bf16) (prev : Vec Ideal S2176x128 .f32) (t : Fin 2176) (x : Fin 128) :
    k1_pay18 (F := Ideal) v5 v8 v10 (k1_pay12 a) p m prev (ix2 t x)
      = prev (ix2 t x) + (∑ i : Fin 1088, k1_pay16 (F := Ideal) v5 v8 v10 p m (ix2 i t) * a (ix2 i x)) * (sc : EReal) := by
  pointwise [k1_pay18, k1_pay12]
  rw [scale_bits]

theorem dk1_form (dp : FVec Ideal S1088x2176 .f32) (d : FVec Ideal S1088x1 .f32) (prev : Vec Ideal S2176x128 .f32) (t : Fin 2176) (x : Fin 128) :
    k1_pay3 (F := Ideal) (k1_pay22 a) p dp d prev (ix2 t x)
      = prev (ix2 t x) + (∑ i : Fin 1088, k1_pay1 (F := Ideal) p dp d (ix2 i t) * a (ix2 i x)) * (sc : EReal) := by
  pointwise [k1_pay3, k1_pay22]
  rw [scale_bits]

theorem dv_form (p' : FVec Ideal S1088x2176 .f32) (prev : Vec Ideal S2176x128 .f32) (t : Fin 2176) (x : Fin 128) :
    k1_pay4 (F := Ideal) v5 (k1_pay21 k1_pay11 (k1_pay19 v5 p) k1_pay20) p' prev (ix2 t x)
      = prev (ix2 t x) + (((∑ i : Fin 1088, p (ix2 i t) * v5 (ix2 i x)) * ((if x.val / 64 = 0 then 1 else 0 : ℝ) : EReal))
          + (∑ i : Fin 1088, p' (ix2 i t) * v5 (ix2 i x)) * ((if x.val / 64 = 1 then 1 else 0 : ℝ) : EReal)) := by
  rw [← mask0, ← mask1]
  pointwise [k1_pay4, k1_pay21, k1_pay11, k1_pay19, k1_pay20]

end Forms

/-- The last block stored, read at one of its elements. -/
theorem tile_at {T : Shape} {e : EltTy} (off size : Fin T.rank → ℕ) (inb : ∀ a, off a + size a ≤ T.size a)
    (w : (⟨T.rank, size⟩ : Shape).Idx → Elt Ideal e) (L : List (View.Piece (Elt Ideal) T e)) (y : T.Idx) (x : (⟨T.rank, size⟩ : Shape).Idx)
    (h : ∀ a, (y a : ℕ) = off a + x a) : View.canon (⟨Rect.unit off size inb, w⟩ :: L) y = w x := by
  have hy : (Rect.unit off size inb).emb x = y := funext fun a => Fin.ext (by
    rw [Rect.emb_apply]; show off a + 1 * (x a : ℕ) = _; rw [h]; omega)
  rw [← hy, View.canon_cons_emb]

/-- Two blocks of 128 lanes side by side, read at a lane. -/
theorem two_tiles {n : ℕ} {e : EltTy} (inb1 : ∀ a, (![0, 128] : Fin 2 → ℕ) a + (![n, 128] : Fin 2 → ℕ) a ≤ (⟨2, ![n, 256]⟩ : Shape).size a)
    (inb0 : ∀ a, (![0, 0] : Fin 2 → ℕ) a + (![n, 128] : Fin 2 → ℕ) a ≤ (⟨2, ![n, 256]⟩ : Shape).size a)
    (w1 w0 : (⟨2, ![n, 128]⟩ : Shape).Idx → Elt Ideal e) (L : List (View.Piece (Elt Ideal) ⟨2, ![n, 256]⟩ e)) (i : Fin n) (x : Fin 256) (G : Elt Ideal e)
    (h0 : ∀ y : Fin 128, x.val = y.val → w0 (ix2 i y) = G) (h1 : ∀ y : Fin 128, x.val = 128 + y.val → w1 (ix2 i y) = G) :
    View.canon (⟨Rect.unit ![0, 128] ![n, 128] inb1, w1⟩ :: ⟨Rect.unit ![0, 0] ![n, 128] inb0, w0⟩ :: L) (ix2 i x) = G := by
  by_cases hx : x.val < 128
  · rw [View.canon_cons_of_not_mem]
    · exact (tile_at _ _ _ _ _ _ (ix2 i ⟨x.val, hx⟩)
        (Fin.forall_fin_two.mpr ⟨(Nat.zero_add _).symm, (Nat.zero_add _).symm⟩)).trans (h0 _ rfl)
    · intro h
      have h' : 128 ≤ x.val := ((Rect.mem_set_unit (inb := inb1)).mp h 1).1
      omega
  · exact (tile_at _ _ _ _ _ _ (ix2 i ⟨x.val - 128, by omega⟩)
      (Fin.forall_fin_two.mpr ⟨(Nat.zero_add _).symm, show x.val = 128 + (x.val - 128) by omega⟩)).trans
        (h1 _ (show x.val = 128 + (x.val - 128) by omega))

abbrev rq0 : Rect S1088x256 := Rect.unit (s := S1088x256) ![0, 0] S1088x128.size inb_S1088x256_S1088x128_0_0
abbrev rq1 : Rect S1088x256 := Rect.unit (s := S1088x256) ![0, 128] S1088x128.size inb_S1088x256_S1088x128_0_128
abbrev rk0 : Rect S2176x256 := Rect.unit (s := S2176x256) ![0, 0] S2176x128.size inb_S2176x256_S2176x128_0_0
abbrev rk1 : Rect S2176x256 := Rect.unit (s := S2176x256) ![0, 128] S2176x128.size inb_S2176x256_S2176x128_0_128
abbrev rl0 : Rect S1x1088x2 := Rect.unit (s := S1x1088x2) ![0, 0, 0] S1x1088x1.size inb_S1x1088x2_S1x1088x1_0_0_0
abbrev rl1 : Rect S1x1088x2 := Rect.unit (s := S1x1088x2) ![0, 0, 1] S1x1088x1.size inb_S1x1088x2_S1x1088x1_0_0_1

section Point
variable {q k v w : ℕ → ℕ → ℕ → ℝ} (x0 : Vec Ideal S1088x256 .bf16) (x1 : Vec Ideal S2176x256 .bf16) (x2 : Vec Ideal S2176x128 .bf16)
  (x3 : Vec Ideal S1088x128 .f32) (x4 : Vec Ideal S1x1088x2 .f32) (x5 : Vec Ideal S1088x128 .f32)

/-- The two heads' weights at one point. -/
abbrev wt0 : FVec Ideal S1088x2176 .f32 := k1_pay14 (View.ld x0 rq0) (View.ld x1 rk0) (View.ld x4 rl0)
abbrev wt1 : FVec Ideal S1088x2176 .f32 := k1_pay24 (View.ld x0 rq1) (View.ld x1 rk1) (View.ld x4 rl1)

variable
  (h0 : ∀ (i : Fin 1088) (x : Fin 256), x0 (ix2 i x) = qPad (q (x.val / 128) i.val) (x.val % 128))
  (h1 : ∀ (t : Fin 2176) (x : Fin 256), x1 (ix2 t x) = kPad (k (x.val / 128)) t.val (x.val % 128))
  (h2 : ∀ (t : Fin 2176) (x : Fin 128), x2 (ix2 t x) = ((v (x.val / 64) t.val (x.val % 64) : ℝ) : EReal))
  (h3 : ∀ (i : Fin 1088) (x : Fin 128), x3 (ix2 i x) = ((O (q (x.val / 64)) (k (x.val / 64)) (v (x.val / 64)) i.val (x.val % 64) : ℝ) : EReal))
  (h4 : ∀ (u : Fin 1) (i : Fin 1088) (j : Fin 2), x4 (ix3 u i j) = ((Real.log (Z (q j.val) (k j.val) i.val) * l2e : ℝ) : EReal))
  (h5 : ∀ (i : Fin 1088) (x : Fin 128), x5 (ix2 i x) = ((w (x.val / 64) i.val (x.val % 64) : ℝ) : EReal))

section Weights
include h0 h1 h4

theorem wt0_at (i : Fin 1088) (t : Fin 2176) :
    wt0 x0 x1 x4 (ix2 i t) = ((if t.val < 2064 then Pr (q 0) (k 0) i.val t.val else 0 : ℝ) : EReal) := by
  rw [← exp_bwd, ← raw_eq]
  refine (p_form _ _ _ i t).trans ?_
  have e4 : View.ld x4 rl0 (ix3 0 i 0) = ((Real.log (Z (q 0) (k 0) i.val) * l2e : ℝ) : EReal) := by
    pointwise []
    exact h4 0 i 0
  rw [e4]
  exact congrArg (fun s => Ideal.exp2 (s * (c2 : EReal) - _))
    (Finset.sum_congr rfl fun x _ => congrArg₂ (· * ·) (ld_q0 x0 h0 i x) (ld_k0 x1 h1 t x))

theorem wt1_at (i : Fin 1088) (t : Fin 2176) :
    wt1 x0 x1 x4 (ix2 i t) = ((if t.val < 2064 then Pr (q 1) (k 1) i.val t.val else 0 : ℝ) : EReal) := by
  rw [← exp_bwd, ← raw_eq]
  refine (congrFun (congrFun (congrFun (congrFun pay24_eq _) _) _) _).trans ((p_form _ _ _ i t).trans ?_)
  have e4 : View.ld x4 rl1 (ix3 0 i 0) = ((Real.log (Z (q 1) (k 1) i.val) * l2e : ℝ) : EReal) := by
    pointwise []
    exact h4 0 i 1
  rw [e4]
  exact congrArg (fun s => Ideal.exp2 (s * (c2 : EReal) - _))
    (Finset.sum_congr rfl fun x _ => congrArg₂ (· * ·) (ld_q1 x0 h0 i x) (ld_k1 x1 h1 t x))

end Weights

include h0 h1 h2 h3 h4 h5

theorem ds0_at (i : Fin 1088) (t : Fin 2176) :
    k1_pay16 (F := Ideal) (k1_pay8 x5) (k1_pay9 x5 x3) (k1_pay10 x2) (wt0 x0 x1 x4) k1_pay15 (ix2 i t)
      = ((if t.val < 2064 then dS (q 0) (k 0) (v 0) (w 0) i.val t.val else 0 : ℝ) : EReal) := by
  refine (ds0_form _ _ _ _ i t).trans ?_
  rw [wt0_at x0 x1 x4 h0 h1 h4]
  refine ds_real (q := q) (k := k) 0 i.val t.val (by omega) _ _ _ (fun x => ?_) (fun x => ?_) (fun x => ?_)
  · pointwise [k1_pay8, k1_pay7]; exact h5 i x
  · pointwise [k1_pay10]; exact h2 t x
  · pointwise [k1_pay9, k1_pay7]; rw [h5, h3, EReal.coe_mul]

theorem ds1_at (i : Fin 1088) (t : Fin 2176) :
    k1_pay1 (F := Ideal) (wt1 x0 x1 x4) (k1_pay25 (k1_pay8 x5) (k1_pay10 x2)) (k1_pay26 (k1_pay9 x5 x3)) (ix2 i t)
      = ((if t.val < 2064 then dS (q 1) (k 1) (v 1) (w 1) i.val t.val else 0 : ℝ) : EReal) := by
  refine (ds1_form _ _ _ _ i t).trans ?_
  rw [wt1_at x0 x1 x4 h0 h1 h4]
  refine ds_real (q := q) (k := k) 1 i.val t.val (by omega) _ _ _ (fun x => ?_) (fun x => ?_) (fun x => ?_)
  · pointwise [k1_pay8, k1_pay7]; exact h5 i x
  · pointwise [k1_pay10]; exact h2 t x
  · pointwise [k1_pay9, k1_pay7]; rw [h5, h3, EReal.coe_mul]

/-- The query gradient at one point: both heads' lanes side by side. -/
theorem dq_at (i : Fin 1088) (x : Fin 256) (hx : x.val % 128 < 96) :
    View.canon (Val := Elt Ideal) (e := .f32) [⟨rq1, k1_pay2 (F := Ideal) (k1_pay23 (View.ld x1 rk1)) (wt1 x0 x1 x4) (k1_pay25 (k1_pay8 x5) (k1_pay10 x2)) (k1_pay26 (k1_pay9 x5 x3))⟩,
        ⟨rq0, k1_pay17 (F := Ideal) (k1_pay8 x5) (k1_pay9 x5 x3) (k1_pay10 x2) (k1_pay13 (View.ld x1 rk0)) (wt0 x0 x1 x4) k1_pay15⟩] (ix2 i x)
      = ((dQ (q (x.val / 128)) (k (x.val / 128)) (v (x.val / 128)) (w (x.val / 128)) i.val (x.val % 128) : ℝ) : EReal) := by
  refine two_tiles _ _ _ _ _ i x _ (fun y hy => ?_) (fun y hy => ?_)
  · refine (dq0_form _ _ _ _ _ _ i y).trans ?_
    have hy96 : y.val < 96 := by omega
    rw [show x.val / 128 = 0 by omega, show x.val % 128 = y.val by omega, dQ, EReal.coe_mul]
    congr 1
    refine sum_coe_fin_lt 2064 (by omega) (fun t => dS (q 0) (k 0) (v 0) (w 0) i.val t * k 0 t y.val) _ fun t => ?_
    rw [ds0_at x0 x1 x2 x3 x4 x5 h0 h1 h2 h3 h4 h5, ld_k0 x1 h1, kPad, if_pos hy96, ← EReal.coe_mul]
    split <;> simp
  · refine (dq1_form _ _ _ _ i y).trans ?_
    have hy96 : y.val < 96 := by omega
    rw [show x.val / 128 = 1 by omega, show x.val % 128 = y.val by omega, dQ, EReal.coe_mul]
    congr 1
    refine sum_coe_fin_lt 2064 (by omega) (fun t => dS (q 1) (k 1) (v 1) (w 1) i.val t * k 1 t y.val) _ fun t => ?_
    rw [ds1_at x0 x1 x2 x3 x4 x5 h0 h1 h2 h3 h4 h5, ld_k1 x1 h1, kPad, if_pos hy96, ← EReal.coe_mul]
    split <;> simp

/-- What one point adds to the key gradient. -/
theorem dk_at (p0 p1 : Vec Ideal S2176x128 .f32) (L : List (View.Piece (Elt Ideal) S2176x256 .f32)) (t : Fin 2176) (ht : t.val < 2064)
    (x : Fin 256) (hx : x.val % 128 < 96) (c : EReal)
    (hp0 : ∀ y : Fin 128, x.val = y.val → p0 (ix2 t y) = c) (hp1 : ∀ y : Fin 128, x.val = 128 + y.val → p1 (ix2 t y) = c) :
    View.canon (Val := Elt Ideal) (e := .f32) (⟨rk1, k1_pay3 (F := Ideal) (k1_pay22 (View.ld x0 rq1)) (wt1 x0 x1 x4) (k1_pay25 (k1_pay8 x5) (k1_pay10 x2)) (k1_pay26 (k1_pay9 x5 x3)) p1⟩
        :: ⟨rk0, k1_pay18 (F := Ideal) (k1_pay8 x5) (k1_pay9 x5 x3) (k1_pay10 x2) (k1_pay12 (View.ld x0 rq0)) (wt0 x0 x1 x4) k1_pay15 p0⟩ :: L) (ix2 t x)
      = c + (((∑ i ∈ Finset.range 1088, dS (q (x.val / 128)) (k (x.val / 128)) (v (x.val / 128)) (w (x.val / 128)) i t.val
          * q (x.val / 128) i (x.val % 128)) * sc : ℝ) : EReal) := by
  refine two_tiles _ _ _ _ _ t x _ (fun y hy => ?_) (fun y hy => ?_)
  · refine (dk0_form _ _ _ _ _ _ _ t y).trans ?_
    have hy96 : y.val < 96 := by omega
    rw [hp0 y hy, show x.val / 128 = 0 by omega, show x.val % 128 = y.val by omega, EReal.coe_mul]
    congr 2
    refine sum_coe_fin_lt 1088 le_rfl (fun i => dS (q 0) (k 0) (v 0) (w 0) i t.val * q 0 i y.val) _ fun i => ?_
    rw [ds0_at x0 x1 x2 x3 x4 x5 h0 h1 h2 h3 h4 h5, ld_q0 x0 h0, qPad, if_pos hy96, ← EReal.coe_mul, if_pos ht, if_pos i.isLt]
  · refine (dk1_form _ _ _ _ _ t y).trans ?_
    have hy96 : y.val < 96 := by omega
    rw [hp1 y hy, show x.val / 128 = 1 by omega, show x.val % 128 = y.val by omega, EReal.coe_mul]
    congr 2
    refine sum_coe_fin_lt 1088 le_rfl (fun i => dS (q 1) (k 1) (v 1) (w 1) i t.val * q 1 i y.val) _ fun i => ?_
    rw [ds1_at x0 x1 x2 x3 x4 x5 h0 h1 h2 h3 h4 h5, ld_q1 x0 h0, qPad, if_pos hy96, ← EReal.coe_mul, if_pos ht, if_pos i.isLt]

omit h2 h3 in
/-- What one point adds to the value gradient. -/
theorem dv_at (prev : Vec Ideal S2176x128 .f32) (t : Fin 2176) (ht : t.val < 2064) (x : Fin 128) :
    k1_pay4 (F := Ideal) (k1_pay8 x5) (k1_pay21 k1_pay11 (k1_pay19 (k1_pay8 x5) (wt0 x0 x1 x4)) k1_pay20) (wt1 x0 x1 x4) prev (ix2 t x)
      = prev (ix2 t x) + ((∑ i ∈ Finset.range 1088, Pr (q (x.val / 64)) (k (x.val / 64)) i t.val * w (x.val / 64) i (x.val % 64) : ℝ) : EReal) := by
  refine (dv_form _ _ _ _ t x).trans ?_
  have e8 : ∀ i : Fin 1088, k1_pay8 (F := Ideal) x5 (ix2 i x) = ((w (x.val / 64) i.val (x.val % 64) : ℝ) : EReal) := fun i => by
    pointwise [k1_pay8, k1_pay7]; exact h5 i x
  have e0 : (∑ i : Fin 1088, wt0 x0 x1 x4 (ix2 i t) * k1_pay8 (F := Ideal) x5 (ix2 i x))
      = ((∑ i ∈ Finset.range 1088, Pr (q 0) (k 0) i t.val * w (x.val / 64) i (x.val % 64) : ℝ) : EReal) := by
    refine sum_coe_fin_lt 1088 le_rfl (fun i => Pr (q 0) (k 0) i t.val * w (x.val / 64) i (x.val % 64)) _ fun i => ?_
    rw [wt0_at x0 x1 x4 h0 h1 h4, e8, ← EReal.coe_mul, if_pos ht, if_pos i.isLt]
  have e1 : (∑ i : Fin 1088, wt1 x0 x1 x4 (ix2 i t) * k1_pay8 (F := Ideal) x5 (ix2 i x))
      = ((∑ i ∈ Finset.range 1088, Pr (q 1) (k 1) i t.val * w (x.val / 64) i (x.val % 64) : ℝ) : EReal) := by
    refine sum_coe_fin_lt 1088 le_rfl (fun i => Pr (q 1) (k 1) i t.val * w (x.val / 64) i (x.val % 64)) _ fun i => ?_
    rw [wt1_at x0 x1 x4 h0 h1 h4, e8, ← EReal.coe_mul, if_pos ht, if_pos i.isLt]
  rw [e0, e1]
  rcases (by omega : x.val / 64 = 0 ∨ x.val / 64 = 1) with h | h <;> simp [h]

end Point

end Cert.KernelIdeal.Attn

end
-- ==== Proof.Arrays.lean ====
/- The two launches' results as whole arrays: the block computed at each grid point put in its place. -/
module

public import proofs.«01_k».proof.Proof.BwdBody

@[expose] public section

set_option maxRecDepth 16384

noncomputable section

namespace Cert.KernelIdeal.Attn

open Idealize.ShloMosaic Cert.KernelIdeal Cert.KernelIdeal.Gen Cert.Attn

/-- Point `t` is half `t % 2` of the query rows, head pair `t % 8 / 2`, batch member `t / 8`. -/
theorem idx0 (t : Fin grid0.N) : win0_0.index t = ![2 * (t.val / 8) + t.val % 2, t.val % 8 / 2] ∧ win0_1.index t = ![t.val / 8, t.val % 8 / 2]
    ∧ win0_2.index t = ![t.val / 8, t.val % 8 / 2] ∧ win0_3.index t = ![2 * (t.val / 8) + t.val % 2, t.val % 8 / 2]
    ∧ win0_4.index t = ![t.val % 8 / 2, 2 * (t.val / 8) + t.val % 2, 0] :=
  (by decide +kernel : ∀ t : Fin grid0.N, win0_0.index t = ![2 * (t.val / 8) + t.val % 2, t.val % 8 / 2] ∧ win0_1.index t = ![t.val / 8, t.val % 8 / 2]
    ∧ win0_2.index t = ![t.val / 8, t.val % 8 / 2] ∧ win0_3.index t = ![2 * (t.val / 8) + t.val % 2, t.val % 8 / 2]
    ∧ win0_4.index t = ![t.val % 8 / 2, 2 * (t.val / 8) + t.val % 2, 0]) t

theorem idx1 (t : Fin grid1.N) : win1_0.index t = ![2 * (t.val / 8) + t.val % 2, t.val % 8 / 2] ∧ win1_1.index t = ![t.val / 8, t.val % 8 / 2]
    ∧ win1_2.index t = ![t.val / 8, t.val % 8 / 2] ∧ win1_3.index t = ![2 * (t.val / 8) + t.val % 2, t.val % 8 / 2]
    ∧ win1_4.index t = ![t.val % 8 / 2, 2 * (t.val / 8) + t.val % 2, 0] ∧ win1_5.index t = ![2 * (t.val / 8) + t.val % 2, t.val % 8 / 2]
    ∧ win1_6.index t = ![2 * (t.val / 8) + t.val % 2, t.val % 8 / 2] ∧ win1_7.index t = ![t.val / 8, t.val % 8 / 2]
    ∧ win1_8.index t = ![t.val / 8, t.val % 8 / 2] :=
  (by decide +kernel : ∀ t : Fin grid1.N, win1_0.index t = ![2 * (t.val / 8) + t.val % 2, t.val % 8 / 2] ∧ win1_1.index t = ![t.val / 8, t.val % 8 / 2]
    ∧ win1_2.index t = ![t.val / 8, t.val % 8 / 2] ∧ win1_3.index t = ![2 * (t.val / 8) + t.val % 2, t.val % 8 / 2]
    ∧ win1_4.index t = ![t.val % 8 / 2, 2 * (t.val / 8) + t.val % 2, 0] ∧ win1_5.index t = ![2 * (t.val / 8) + t.val % 2, t.val % 8 / 2]
    ∧ win1_6.index t = ![2 * (t.val / 8) + t.val % 2, t.val % 8 / 2] ∧ win1_7.index t = ![t.val / 8, t.val % 8 / 2]
    ∧ win1_8.index t = ![t.val / 8, t.val % 8 / 2]) t

variable (V : (c : Dev nD) → (b : Ref sig .tc) → Buf (Elt Ideal) ((c.tc : Thread nD τ).loc b)) (c : Dev nD)
  {q k v w : ℕ → ℕ → ℕ → ℕ → ℝ}

/-- What the query array holds: member, head, row, lane. -/
def QArr (q : ℕ → ℕ → ℕ → ℕ → ℝ) (X : Vec Ideal S4352x1024 .bf16) : Prop :=
  ∀ (r : Fin 4352) (x : Fin 1024), X (ix2 r x) = qPad (q (r.val / 2176) (x.val / 128) (r.val % 2176)) (x.val % 128)

/-- What the key array holds. -/
def KArr (k : ℕ → ℕ → ℕ → ℕ → ℝ) (X : Vec Ideal S4352x1024 .bf16) : Prop :=
  ∀ (r : Fin 4352) (x : Fin 1024), X (ix2 r x) = kPad (k (r.val / 2176) (x.val / 128)) (r.val % 2176) (x.val % 128)

/-- What the value array holds. -/
def VArr (v : ℕ → ℕ → ℕ → ℕ → ℝ) (X : Vec Ideal S4352x512 .bf16) : Prop :=
  ∀ (r : Fin 4352) (x : Fin 512), X (ix2 r x) = ((v (r.val / 2176) (x.val / 64) (r.val % 2176) (x.val % 64) : ℝ) : EReal)

/-- What an array of the output's shape holds. -/
def WArr (w : ℕ → ℕ → ℕ → ℕ → ℝ) (X : Vec Ideal S4352x512 .f32) : Prop :=
  ∀ (r : Fin 4352) (x : Fin 512), X (ix2 r x) = ((w (r.val / 2176) (x.val / 64) (r.val % 2176) (x.val % 64) : ℝ) : EReal)

/-- What the array of the denominators' logarithms holds: head pair, row, head of the pair. -/
def LArr (q k : ℕ → ℕ → ℕ → ℕ → ℝ) (X : Vec Ideal S4x4352x2 .f32) : Prop :=
  ∀ (u : Fin 4) (r : Fin 4352) (j : Fin 2), X (ix3 u r j)
    = ((Real.log (Z (q (r.val / 2176) (2 * u.val + j.val)) (k (r.val / 2176) (2 * u.val + j.val)) (r.val % 2176)) * l2e : ℝ) : EReal)

/-- Every head's output. -/
def OF (q k v : ℕ → ℕ → ℕ → ℕ → ℝ) (b h i d : ℕ) : ℝ := O (q b h) (k b h) (v b h) i d

theorem row_div (a h i : ℕ) (hh : h < 2) (hi : i < 1088) : ((2 * a + h) * 1088 + i) / 2176 = a := by omega
theorem row_mod (a h i : ℕ) (hh : h < 2) (hi : i < 1088) : ((2 * a + h) * 1088 + i) % 2176 = h * 1088 + i := by omega
theorem krow_div (a i : ℕ) (hi : i < 2176) : (a * 2176 + i) / 2176 = a := by omega
theorem krow_mod (a i : ℕ) (hi : i < 2176) : (a * 2176 + i) % 2176 = i := by omega
theorem lane_div (a x : ℕ) : (a * 256 + x) / 128 = 2 * a + x / 128 := by omega
theorem lane_mod (a x : ℕ) : (a * 256 + x) % 128 = x % 128 := by omega
theorem vlane_div (a x : ℕ) : (a * 128 + x) / 64 = 2 * a + x / 64 := by omega
theorem vlane_mod (a x : ℕ) : (a * 128 + x) % 64 = x % 64 := by omega

section Fwd
variable (hq : QArr q (V c main_v13)) (hk : KArr k (V c main_v17)) (hv : VArr v (V c main_v20))

theorem blk0_q (hq : QArr q (V c main_v13)) (t : Fin cfg0.N) (i : Fin 1088) (x : Fin 256) :
    iblk0 V c 0 t (ix2 i x) = qPad (q (t.val / 8) (2 * (t.val % 8 / 2) + x.val / 128) (t.val % 2 * 1088 + i.val)) (x.val % 128) := by
  have ht : t.val < 16 := t.isLt
  refine Eq.trans (b := V c main_v13 (ix2 ⟨(2 * (t.val / 8) + t.val % 2) * 1088 + i.val, by omega⟩ ⟨t.val % 8 / 2 * 256 + x.val, by omega⟩)) ?_ ((hq _ _).trans ?_)
  · blk_ext [iblk0, idx0]
  · dsimp only
    rw [row_div _ _ _ (by omega) (by omega), row_mod _ _ _ (by omega) (by omega), lane_div, lane_mod]

theorem blk0_k (hk : KArr k (V c main_v17)) (t : Fin cfg0.N) (i : Fin 2176) (x : Fin 256) :
    iblk0 V c 1 t (ix2 i x) = kPad (k (t.val / 8) (2 * (t.val % 8 / 2) + x.val / 128)) i.val (x.val % 128) := by
  have ht : t.val < 16 := t.isLt
  refine Eq.trans (b := V c main_v17 (ix2 ⟨t.val / 8 * 2176 + i.val, by omega⟩ ⟨t.val % 8 / 2 * 256 + x.val, by omega⟩)) ?_ ((hk _ _).trans ?_)
  · blk_ext [iblk0, idx0]
  · dsimp only
    rw [krow_div _ _ (by omega), krow_mod _ _ (by omega), lane_div, lane_mod]

theorem blk0_v (hv : VArr v (V c main_v20)) (t : Fin cfg0.N) (i : Fin 2176) (x : Fin 128) :
    iblk0 V c 2 t (ix2 i x) = ((v (t.val / 8) (2 * (t.val % 8 / 2) + x.val / 64) i.val (x.val % 64) : ℝ) : EReal) := by
  have ht : t.val < 16 := t.isLt
  refine Eq.trans (b := V c main_v20 (ix2 ⟨t.val / 8 * 2176 + i.val, by omega⟩ ⟨t.val % 8 / 2 * 128 + x.val, by omega⟩)) ?_ ((hv _ _).trans ?_)
  · blk_ext [iblk0, idx0]
  · dsimp only
    rw [krow_div _ _ (by omega), krow_mod _ _ (by omega), vlane_div, vlane_mod]

include hq hk hv

theorem o_arr : WArr (OF q k v) ((dat0 V c).arrAt 3 cfg0.N) := by
  intro r x
  have h : (dat0 V c).arrAt 3 cfg0.N = fun j : S4352x512.Idx =>
      ((OF q k v ((j 0).val / 2176) ((j 1).val / 64) ((j 0).val % 2176) ((j 1).val % 64) : ℝ) : EReal) := by
    refine (dat0 V c).arrAt_eq_of_covers 3 _ (by decide +kernel) fun t hf y => ?_
    have ht : t.val < 16 := t.isLt
    obtain ⟨i, x, rfl⟩ : ∃ (i : Fin 1088) (x : Fin 128), y = ix2 i x := ⟨y 0, y 1, by funext a; fin_cases a <;> rfl⟩
    blk_simp [idx0]
    rw [after0_3]
    refine (out0_3_at (q := fun h i => q (t.val / 8) (2 * (t.val % 8 / 2) + h) (t.val % 2 * 1088 + i))
      (k := fun h => k (t.val / 8) (2 * (t.val % 8 / 2) + h)) (v := fun h => v (t.val / 8) (2 * (t.val % 8 / 2) + h)) _ _ _
      (blk0_q V c hq t) (blk0_k V c hk t) (blk0_v V c hv t) i x).trans ?_
    rw [row_div _ _ _ (by omega) (by omega), row_mod _ _ _ (by omega) (by omega), vlane_div, vlane_mod]
    rfl
  rw [h]
  rfl

theorem lse_arr : LArr q k ((dat0 V c).arrAt 4 cfg0.N) := by
  intro u r j
  have h : (dat0 V c).arrAt 4 cfg0.N = fun j : S4x4352x2.Idx =>
      ((Real.log (Z (q ((j 1).val / 2176) (2 * (j 0).val + (j 2).val)) (k ((j 1).val / 2176) (2 * (j 0).val + (j 2).val)) ((j 1).val % 2176)) * l2e : ℝ) : EReal) := by
    refine (dat0 V c).arrAt_eq_of_covers 4 _ (by decide +kernel) fun t hf y => ?_
    have ht : t.val < 16 := t.isLt
    obtain ⟨u, i, j, rfl⟩ : ∃ (u : Fin 1) (i : Fin 1088) (j : Fin 2), y = ix3 u i j := ⟨y 0, y 1, y 2, by funext a; fin_cases a <;> rfl⟩
    blk_simp [idx0]
    rw [after0_4]
    refine (out0_4_at (q := fun h i => q (t.val / 8) (2 * (t.val % 8 / 2) + h) (t.val % 2 * 1088 + i))
      (k := fun h => k (t.val / 8) (2 * (t.val % 8 / 2) + h)) (v := fun h => v (t.val / 8) (2 * (t.val % 8 / 2) + h)) _ _ _
      (blk0_q V c hq t) (blk0_k V c hk t) (blk0_v V c hv t) u i j).trans ?_
    rw [row_div _ _ _ (by omega) (by omega), row_mod _ _ _ (by omega) (by omega)]
    have hu : u.val = 0 := by omega
    simp only [hu, Nat.mul_one, Nat.add_zero, Nat.zero_mul, Nat.zero_add]
    rfl
  rw [h]
  rfl

end Fwd

section Bwd
variable (hq : QArr q (V c main_v13)) (hk : KArr k (V c main_v17)) (hv : VArr v (V c main_v20)) (ho : WArr (OF q k v) (V c main_v23_0))
  (hl : LArr q k (V c main_v23_1)) (hw : WArr w (V c main_v22))

theorem blk1_q (hq : QArr q (V c main_v13)) (t : Fin cfg1.N) (i : Fin 1088) (x : Fin 256) :
    iblk1 V c 0 t (ix2 i x) = qPad (q (t.val / 8) (2 * (t.val % 8 / 2) + x.val / 128) (t.val % 2 * 1088 + i.val)) (x.val % 128) := by
  have ht : t.val < 16 := t.isLt
  refine Eq.trans (b := V c main_v13 (ix2 ⟨(2 * (t.val / 8) + t.val % 2) * 1088 + i.val, by omega⟩ ⟨t.val % 8 / 2 * 256 + x.val, by omega⟩)) ?_ ((hq _ _).trans ?_)
  · blk_ext [iblk1, idx1]
  · dsimp only
    rw [row_div _ _ _ (by omega) (by omega), row_mod _ _ _ (by omega) (by omega), lane_div, lane_mod]

theorem blk1_k (hk : KArr k (V c main_v17)) (t : Fin cfg1.N) (i : Fin 2176) (x : Fin 256) :
    iblk1 V c 1 t (ix2 i x) = kPad (k (t.val / 8) (2 * (t.val % 8 / 2) + x.val / 128)) i.val (x.val % 128) := by
  have ht : t.val < 16 := t.isLt
  refine Eq.trans (b := V c main_v17 (ix2 ⟨t.val / 8 * 2176 + i.val, by omega⟩ ⟨t.val % 8 / 2 * 256 + x.val, by omega⟩)) ?_ ((hk _ _).trans ?_)
  · blk_ext [iblk1, idx1]
  · dsimp only
    rw [krow_div _ _ (by omega), krow_mod _ _ (by omega), lane_div, lane_mod]

theorem blk1_v (hv : VArr v (V c main_v20)) (t : Fin cfg1.N) (i : Fin 2176) (x : Fin 128) :
    iblk1 V c 2 t (ix2 i x) = ((v (t.val / 8) (2 * (t.val % 8 / 2) + x.val / 64) i.val (x.val % 64) : ℝ) : EReal) := by
  have ht : t.val < 16 := t.isLt
  refine Eq.trans (b := V c main_v20 (ix2 ⟨t.val / 8 * 2176 + i.val, by omega⟩ ⟨t.val % 8 / 2 * 128 + x.val, by omega⟩)) ?_ ((hv _ _).trans ?_)
  · blk_ext [iblk1, idx1]
  · dsimp only
    rw [krow_div _ _ (by omega), krow_mod _ _ (by omega), vlane_div, vlane_mod]

theorem blk1_o (ho : WArr v (V c main_v23_0)) (t : Fin cfg1.N) (i : Fin 1088) (x : Fin 128) :
    iblk1 V c 3 t (ix2 i x) = ((v (t.val / 8) (2 * (t.val % 8 / 2) + x.val / 64) (t.val % 2 * 1088 + i.val) (x.val % 64) : ℝ) : EReal) := by
  have ht : t.val < 16 := t.isLt
  refine Eq.trans (b := V c main_v23_0 (ix2 ⟨(2 * (t.val / 8) + t.val % 2) * 1088 + i.val, by omega⟩ ⟨t.val % 8 / 2 * 128 + x.val, by omega⟩)) ?_ ((ho _ _).trans ?_)
  · blk_ext [iblk1, idx1]
  · dsimp only
    rw [row_div _ _ _ (by omega) (by omega), row_mod _ _ _ (by omega) (by omega), vlane_div, vlane_mod]

theorem blk1_l (hl : LArr q k (V c main_v23_1)) (t : Fin cfg1.N) (u : Fin 1) (i : Fin 1088) (j : Fin 2) :
    iblk1 V c 4 t (ix3 u i j) = ((Real.log (Z (q (t.val / 8) (2 * (t.val % 8 / 2) + j.val)) (k (t.val / 8) (2 * (t.val % 8 / 2) + j.val))
      (t.val % 2 * 1088 + i.val)) * l2e : ℝ) : EReal) := by
  have ht : t.val < 16 := t.isLt
  refine Eq.trans (b := V c main_v23_1 (ix3 ⟨t.val % 8 / 2, by omega⟩ ⟨(2 * (t.val / 8) + t.val % 2) * 1088 + i.val, by omega⟩ j)) ?_ ((hl _ _ _).trans ?_)
  · blk_ext [iblk1, idx1]
  · dsimp only
    rw [row_div _ _ _ (by omega) (by omega), row_mod _ _ _ (by omega) (by omega)]

theorem blk1_w (hw : WArr w (V c main_v22)) (t : Fin cfg1.N) (i : Fin 1088) (x : Fin 128) :
    iblk1 V c 5 t (ix2 i x) = ((w (t.val / 8) (2 * (t.val % 8 / 2) + x.val / 64) (t.val % 2 * 1088 + i.val) (x.val % 64) : ℝ) : EReal) := by
  have ht : t.val < 16 := t.isLt
  refine Eq.trans (b := V c main_v22 (ix2 ⟨(2 * (t.val / 8) + t.val % 2) * 1088 + i.val, by omega⟩ ⟨t.val % 8 / 2 * 128 + x.val, by omega⟩)) ?_ ((hw _ _).trans ?_)
  · blk_ext [iblk1, idx1]
  · dsimp only
    rw [row_div _ _ _ (by omega) (by omega), row_mod _ _ _ (by omega) (by omega), vlane_div, vlane_mod]

theorem sum_halves (f : ℕ → ℝ) : ∑ i ∈ Finset.range 2176, f i = ∑ i ∈ Finset.range 1088, f i + ∑ i ∈ Finset.range 1088, f (1088 + i) :=
  Finset.sum_range_add f 1088 1088

/-- The head that lane `x` of point `t`'s block belongs to, at `g` lanes a head. -/
abbrev hd (t x g : ℕ) : ℕ := 2 * (t % 8 / 2) + x / g

include hq hk hv ho hl hw

/-- The query gradient left by point `t`. -/
theorem dq_blk (t : Fin cfg1.N) (i : Fin 1088) (x : Fin 256) (hx : x.val % 128 < 96) :
    (outsAt1 V c t.val t.isLt).1 (ix2 i x) = ((dQ (q (t.val / 8) (hd t x 128)) (k (t.val / 8) (hd t x 128)) (v (t.val / 8) (hd t x 128))
      (w (t.val / 8) (hd t x 128)) (t.val % 2 * 1088 + i.val) (x.val % 128) : ℝ) : EReal) := by
  by_cases h0 : t.val % 2 = 0
  · rw [outsAt1_A V c t h0]
    frame_out
    exact dq_at (q := fun h i => q (t.val / 8) (2 * (t.val % 8 / 2) + h) (t.val % 2 * 1088 + i))
      (k := fun h => k (t.val / 8) (2 * (t.val % 8 / 2) + h)) (v := fun h => v (t.val / 8) (2 * (t.val % 8 / 2) + h))
      (w := fun h i => w (t.val / 8) (2 * (t.val % 8 / 2) + h) (t.val % 2 * 1088 + i)) _ _ _ _ _ _
      (blk1_q V c hq t) (blk1_k V c hk t) (blk1_v V c hv t) (blk1_o V c ho t) (blk1_l V c hl t) (blk1_w V c hw t) i x hx
  · rw [outsAt1_B V c t h0]
    frame_out
    exact dq_at (q := fun h i => q (t.val / 8) (2 * (t.val % 8 / 2) + h) (t.val % 2 * 1088 + i))
      (k := fun h => k (t.val / 8) (2 * (t.val % 8 / 2) + h)) (v := fun h => v (t.val / 8) (2 * (t.val % 8 / 2) + h))
      (w := fun h i => w (t.val / 8) (2 * (t.val % 8 / 2) + h) (t.val % 2 * 1088 + i)) _ _ _ _ _ _
      (blk1_q V c hq t) (blk1_k V c hk t) (blk1_v V c hv t) (blk1_o V c ho t) (blk1_l V c hl t) (blk1_w V c hw t) i x hx

/-- The key gradient after a member's first half of the query rows … -/
theorem dk_blk0 (t : Fin cfg1.N) (h0 : t.val % 2 = 0) (s : Fin 2176) (hs : s.val < 2064) (x : Fin 256) (hx : x.val % 128 < 96) :
    (outsAt1 V c t.val t.isLt).2.1 (ix2 s x) = (((∑ i ∈ Finset.range 1088, dS (q (t.val / 8) (hd t x 128)) (k (t.val / 8) (hd t x 128))
      (v (t.val / 8) (hd t x 128)) (w (t.val / 8) (hd t x 128)) (t.val % 2 * 1088 + i) s.val
        * q (t.val / 8) (hd t x 128) (t.val % 2 * 1088 + i) (x.val % 128)) * sc : ℝ) : EReal) := by
  rw [outsAt1_A V c t h0]
  frame_out
  simp (disch := decide) only [View.readCov_skip, View.readCov_fill]
  refine (dk_at (q := fun h i => q (t.val / 8) (2 * (t.val % 8 / 2) + h) (t.val % 2 * 1088 + i))
      (k := fun h => k (t.val / 8) (2 * (t.val % 8 / 2) + h)) (v := fun h => v (t.val / 8) (2 * (t.val % 8 / 2) + h))
      (w := fun h i => w (t.val / 8) (2 * (t.val % 8 / 2) + h) (t.val % 2 * 1088 + i)) _ _ _ _ _ _
      (blk1_q V c hq t) (blk1_k V c hk t) (blk1_v V c hv t) (blk1_o V c ho t) (blk1_l V c hl t) (blk1_w V c hw t) _ _ _ s hs x hx 0 ?_ ?_).trans ?_
  · intro y _
    pointwise [k1_pay5]
  · intro y _
    pointwise [k1_pay5]
  · exact zero_add _

/-- … and after its second. -/
theorem dk_blk1 (t : Fin cfg1.N) (h1 : t.val % 2 = 1) (s : Fin 2176) (hs : s.val < 2064) (x : Fin 256) (hx : x.val % 128 < 96) :
    (outsAt1 V c t.val t.isLt).2.1 (ix2 s x) = (((∑ i ∈ Finset.range 2176, dS (q (t.val / 8) (hd t x 128)) (k (t.val / 8) (hd t x 128))
      (v (t.val / 8) (hd t x 128)) (w (t.val / 8) (hd t x 128)) i s.val * q (t.val / 8) (hd t x 128) i (x.val % 128)) * sc : ℝ) : EReal) := by
  have ht : t.val < 16 := t.isLt
  have hp := dk_blk0 V c hq hk hv ho hl hw ⟨t.val - 1, by omega⟩ (by dsimp only; omega) s hs x hx
  dsimp only at hp
  rw [show (t.val - 1) / 8 = t.val / 8 by omega, show hd (t.val - 1) x.val 128 = hd t.val x.val 128 by unfold hd; omega, show (t.val - 1) % 2 = 0 by omega] at hp
  rw [outsAt1_B V c t (by omega)]
  frame_out
  refine (dk_at (q := fun h i => q (t.val / 8) (2 * (t.val % 8 / 2) + h) (t.val % 2 * 1088 + i))
      (k := fun h => k (t.val / 8) (2 * (t.val % 8 / 2) + h)) (v := fun h => v (t.val / 8) (2 * (t.val % 8 / 2) + h))
      (w := fun h i => w (t.val / 8) (2 * (t.val % 8 / 2) + h) (t.val % 2 * 1088 + i)) _ _ _ _ _ _
      (blk1_q V c hq t) (blk1_k V c hk t) (blk1_v V c hv t) (blk1_o V c ho t) (blk1_l V c hl t) (blk1_w V c hw t) _ _ _ s hs x hx ((outsAt1 V c (t.val - 1) (by omega)).2.1 (ix2 s x)) ?_ ?_).trans ?_
  · intro y hy
    pointwise []
    blk_ext []
  · intro y hy
    pointwise []
    blk_ext []
  · rw [hp, h1, ← EReal.coe_add, ← add_mul]
    refine congrArg (fun a : ℝ => ((a * sc : ℝ) : EReal)) ?_
    rw [sum_halves]
    simp only [Nat.zero_mul, Nat.zero_add, Nat.one_mul]
    rfl

omit ho hv in
/-- The value gradient after a member's first half of the query rows … -/
theorem dv_blk0 (t : Fin cfg1.N) (h0 : t.val % 2 = 0) (s : Fin 2176) (hs : s.val < 2064) (x : Fin 128) :
    (outsAt1 V c t.val t.isLt).2.2 (ix2 s x) = ((∑ i ∈ Finset.range 1088, Pr (q (t.val / 8) (hd t x 64)) (k (t.val / 8) (hd t x 64))
      (t.val % 2 * 1088 + i) s.val * w (t.val / 8) (hd t x 64) (t.val % 2 * 1088 + i) (x.val % 64) : ℝ) : EReal) := by
  rw [outsAt1_A V c t h0]
  frame_out
  refine (dv_at (q := fun h i => q (t.val / 8) (2 * (t.val % 8 / 2) + h) (t.val % 2 * 1088 + i))
      (k := fun h => k (t.val / 8) (2 * (t.val % 8 / 2) + h))
      (w := fun h i => w (t.val / 8) (2 * (t.val % 8 / 2) + h) (t.val % 2 * 1088 + i)) _ _ _ _
      (blk1_q V c hq t) (blk1_k V c hk t) (blk1_l V c hl t) (blk1_w V c hw t) _ s hs x).trans ?_
  have e : k1_pay6 (F := Ideal) (ix2 s x) = 0 := by pointwise [k1_pay6]
  rw [e]
  exact zero_add _

omit ho hv in
/-- … and after its second. -/
theorem dv_blk1 (t : Fin cfg1.N) (h1 : t.val % 2 = 1) (s : Fin 2176) (hs : s.val < 2064) (x : Fin 128) :
    (outsAt1 V c t.val t.isLt).2.2 (ix2 s x) = ((∑ i ∈ Finset.range 2176, Pr (q (t.val / 8) (hd t x 64)) (k (t.val / 8) (hd t x 64))
      i s.val * w (t.val / 8) (hd t x 64) i (x.val % 64) : ℝ) : EReal) := by
  have ht : t.val < 16 := t.isLt
  have hp := dv_blk0 V c hq hk hl hw ⟨t.val - 1, by omega⟩ (by dsimp only; omega) s hs x
  dsimp only at hp
  rw [show (t.val - 1) / 8 = t.val / 8 by omega, show hd (t.val - 1) x.val 64 = hd t.val x.val 64 by unfold hd; omega, show (t.val - 1) % 2 = 0 by omega] at hp
  rw [outsAt1_B V c t (by omega)]
  frame_out
  refine (dv_at (q := fun h i => q (t.val / 8) (2 * (t.val % 8 / 2) + h) (t.val % 2 * 1088 + i))
      (k := fun h => k (t.val / 8) (2 * (t.val % 8 / 2) + h))
      (w := fun h i => w (t.val / 8) (2 * (t.val % 8 / 2) + h) (t.val % 2 * 1088 + i)) _ _ _ _
      (blk1_q V c hq t) (blk1_k V c hk t) (blk1_l V c hl t) (blk1_w V c hw t) _ s hs x).trans ?_
  rw [hp, h1, ← EReal.coe_add]
  refine congrArg (fun a : ℝ => (a : EReal)) ?_
  rw [sum_halves]
  simp only [Nat.zero_mul, Nat.zero_add, Nat.one_mul]
  rfl

/-- The query gradient's array, on the 96 lanes a head has. -/
theorem dq_arr (r : Fin 4352) (x : Fin 1024) (hx : x.val % 128 < 96) : (dat1 V c).arrAt 6 cfg1.N (ix2 r x)
    = ((dQ (q (r.val / 2176) (x.val / 128)) (k (r.val / 2176) (x.val / 128)) (v (r.val / 2176) (x.val / 128)) (w (r.val / 2176) (x.val / 128))
        (r.val % 2176) (x.val % 128) : ℝ) : EReal) := by
  refine (dat1 V c).arrAt_forall_of_covers 6 (fun (j : S4352x1024.Idx) (e : EReal) => (j 1).val % 128 < 96 →
    e = ((dQ (q ((j 0).val / 2176) ((j 1).val / 128)) (k ((j 0).val / 2176) ((j 1).val / 128)) (v ((j 0).val / 2176) ((j 1).val / 128))
      (w ((j 0).val / 2176) ((j 1).val / 128)) ((j 0).val % 2176) ((j 1).val % 128) : ℝ) : EReal)) (by decide +kernel)
      (fun t hf y => ?_) (ix2 r x) (Memref.isWhole_whole _) hx
  have ht : t.val < 16 := t.isLt
  obtain ⟨i, x, rfl⟩ : ∃ (i : Fin 1088) (x : Fin 256), y = ix2 i x := ⟨y 0, y 1, by funext a; fin_cases a <;> rfl⟩
  blk_simp [idx1]
  rw [after1_6]
  intro hx
  rw [lane_mod] at hx
  refine (dq_blk V c hq hk hv ho hl hw t i x hx).trans ?_
  rw [row_div _ _ _ (by omega) (by omega), row_mod _ _ _ (by omega) (by omega), lane_div, lane_mod]

/-- The key gradient's array, on the rows that exist and the 96 lanes a head has. -/
theorem dk_arr (hz : ∀ b h i d, 2064 ≤ i → q b h i d = 0) (r : Fin 4352) (x : Fin 1024) (hr : r.val % 2176 < 2064) (hx : x.val % 128 < 96) :
    (dat1 V c).arrAt 7 cfg1.N (ix2 r x)
    = ((dK (q (r.val / 2176) (x.val / 128)) (k (r.val / 2176) (x.val / 128)) (v (r.val / 2176) (x.val / 128)) (w (r.val / 2176) (x.val / 128))
        (r.val % 2176) (x.val % 128) : ℝ) : EReal) := by
  refine (dat1 V c).arrAt_forall_of_covers 7 (fun (j : S4352x1024.Idx) (e : EReal) => (j 0).val % 2176 < 2064 → (j 1).val % 128 < 96 →
    e = ((dK (q ((j 0).val / 2176) ((j 1).val / 128)) (k ((j 0).val / 2176) ((j 1).val / 128)) (v ((j 0).val / 2176) ((j 1).val / 128))
      (w ((j 0).val / 2176) ((j 1).val / 128)) ((j 0).val % 2176) ((j 1).val % 128) : ℝ) : EReal)) (by decide +kernel)
      (fun t hf y => ?_) (ix2 r x) (Memref.isWhole_whole _) hr hx
  have ht : t.val < 16 := t.isLt
  obtain ⟨s, x, rfl⟩ : ∃ (i : Fin 2176) (x : Fin 256), y = ix2 i x := ⟨y 0, y 1, by funext a; fin_cases a <;> rfl⟩
  blk_simp [idx1]
  rw [after1_7]
  intro hs hx
  rw [krow_mod _ _ (by omega)] at hs
  rw [lane_mod] at hx
  refine (dk_blk1 V c hq hk hv ho hl hw t ((flush1_7 t).mp hf) s hs x hx).trans ?_
  rw [krow_div _ _ (by omega), krow_mod _ _ (by omega), lane_div, lane_mod]
  unfold dK
  rw [← Finset.sum_subset (Finset.range_mono (show 2064 ≤ 2176 by omega))]
  intro i _ hi
  rw [hz _ _ _ _ (not_lt.mp fun h => hi (Finset.mem_range.mpr h)), mul_zero]

omit ho hv in
/-- The value gradient's array, on the rows that exist. -/
theorem dv_arr (hz : ∀ b h i d, 2064 ≤ i → w b h i d = 0) (r : Fin 4352) (x : Fin 512) (hr : r.val % 2176 < 2064) :
    (dat1 V c).arrAt 8 cfg1.N (ix2 r x)
    = ((dV (q (r.val / 2176) (x.val / 64)) (k (r.val / 2176) (x.val / 64)) (w (r.val / 2176) (x.val / 64)) (r.val % 2176) (x.val % 64) : ℝ) : EReal) := by
  refine (dat1 V c).arrAt_forall_of_covers 8 (fun (j : S4352x512.Idx) (e : EReal) => (j 0).val % 2176 < 2064 →
    e = ((dV (q ((j 0).val / 2176) ((j 1).val / 64)) (k ((j 0).val / 2176) ((j 1).val / 64))
      (w ((j 0).val / 2176) ((j 1).val / 64)) ((j 0).val % 2176) ((j 1).val % 64) : ℝ) : EReal)) (by decide +kernel)
      (fun t hf y => ?_) (ix2 r x) (Memref.isWhole_whole _) hr
  have ht : t.val < 16 := t.isLt
  obtain ⟨s, x, rfl⟩ : ∃ (i : Fin 2176) (x : Fin 128), y = ix2 i x := ⟨y 0, y 1, by funext a; fin_cases a <;> rfl⟩
  blk_simp [idx1]
  rw [after1_8]
  intro hs
  rw [krow_mod _ _ (by omega)] at hs
  refine (dv_blk1 V c hq hk hl hw t ((flush1_8 t).mp hf) s hs x).trans ?_
  rw [krow_div _ _ (by omega), krow_mod _ _ (by omega), vlane_div, vlane_mod]
  unfold dV
  rw [← Finset.sum_subset (Finset.range_mono (show 2064 ≤ 2176 by omega))]
  intro i _ hi
  rw [hz _ _ _ _ (not_lt.mp fun h => hi (Finset.mem_range.mpr h)), mul_zero]

end Bwd

end Cert.KernelIdeal.Attn

end
-- ==== Proof.Host.lean ====
/- What the kernel program computes from its arguments: the host's padding, the two launches, the host's slices. -/
module

public import proofs.«01_k».proof.Proof.Arrays
public import Idealize.ShloMosaic.Lib.StableHlo.ReadAt

@[expose] public section

set_option maxRecDepth 16384

noncomputable section

namespace Cert.KernelIdeal.Attn

open Idealize.ShloMosaic Cert.KernelIdeal Cert.KernelIdeal.Gen Cert.Attn

variable (m : (ℓ : Loc nD τ sig) → Buf (Elt Ideal) ℓ) (ρ : Dev nD → PrngReg) (c : Dev nD)

/-- The four arguments as tables. -/
abbrev tq : ℕ → ℕ → ℕ → ℕ → ℝ := tab4 (n := 96) (m ((c.tc : Thread nD τ).loc main_arg0))
abbrev tk : ℕ → ℕ → ℕ → ℕ → ℝ := tab4 (n := 96) (m ((c.tc : Thread nD τ).loc main_arg1))
abbrev tv : ℕ → ℕ → ℕ → ℕ → ℝ := tab4 (n := 64) (m ((c.tc : Thread nD τ).loc main_arg2))
abbrev tw : ℕ → ℕ → ℕ → ℕ → ℝ := tab3 (m ((c.tc : Thread nD τ).loc main_arg3))

theorem lane96 (l : ℕ) (hl : l < 128) (a b : EReal) :
    Scalar.select (IntOp.cmpi CmpIPredicate.eq (BitVec.ofNat 32 l) 96#32) a b = if l = 96 then a else b := by
  have h : ∀ x : Fin 128, IntOp.cmpi CmpIPredicate.eq (BitVec.ofNat 32 x.val) 96#32 = if x.val = 96 then 1#1 else 0#1 := by decide +kernel
  rw [h ⟨l, hl⟩]
  by_cases e : l = 96 <;> simp [Scalar.select, e]

theorem row2064 (t : ℕ) (ht : t < 2176) (a b : EReal) :
    Scalar.select (IntOp.cmpi CmpIPredicate.slt (BitVec.ofNat 32 t) 2064#32) a b = if t < 2064 then a else b := by
  have h : ∀ x : Fin 2176, IntOp.cmpi CmpIPredicate.slt (BitVec.ofNat 32 x.val) 2064#32 = if x.val < 2064 then 1#1 else 0#1 := by decide +kernel
  rw [h ⟨t, ht⟩]
  by_cases e : t < 2064 <;> simp [Scalar.select, e]

/-- A padded query row, as the host builds it, read at a row and a lane. -/
theorem q_core (X : S2x2064x8x96.Idx → EReal) (h : IsReal X) (r : Fin 4352) (x : Fin 1024) :
    Scalar.select (IntOp.cmpi CmpIPredicate.eq (BitVec.ofNat 32 (x.val % 128)) 96#32) (1 : EReal)
      (if H : r.val / 2176 < 2 ∧ r.val % 2176 < 2064 ∧ x.val / 128 < 8 ∧ x.val % 128 < 96 then
        X (ix4 ⟨r.val / 2176, H.1⟩ ⟨r.val % 2176, H.2.1⟩ ⟨x.val / 128, H.2.2.1⟩ ⟨x.val % 128, H.2.2.2⟩) else 0)
      = qPad (tab4 X (r.val / 2176) (x.val / 128) (r.val % 2176)) (x.val % 128) := by
  refine (lane96 _ (by omega) _ _).trans ?_
  unfold qPad
  by_cases h96 : x.val % 128 < 96
  · rw [if_neg (by omega), if_pos h96]
    by_cases H : r.val / 2176 < 2 ∧ r.val % 2176 < 2064 ∧ x.val / 128 < 8 ∧ x.val % 128 < 96
    · rw [dif_pos H]
      exact tab4_at X h ⟨_, H.1⟩ ⟨_, H.2.1⟩ ⟨_, H.2.2.1⟩ ⟨_, H.2.2.2⟩
    · rw [dif_neg H, tab4, dif_neg H, EReal.coe_zero]
  · rw [if_neg h96, dif_neg fun H => h96 H.2.2.2]

/-- A padded key row, as the host builds it, read at a row and a lane. -/
theorem k_core (X : S2x2064x8x96.Idx → EReal) (h : IsReal X) (r : Fin 4352) (x : Fin 1024) :
    Scalar.select (IntOp.cmpi CmpIPredicate.eq (BitVec.ofNat 32 (x.val % 128)) 96#32)
      (Scalar.select (IntOp.cmpi CmpIPredicate.slt (BitVec.ofNat 32 (r.val % 2176)) 2064#32) (0 : EReal) (Ideal.ofBits .f32 0xFF800000#32))
      (if H : r.val / 2176 < 2 ∧ r.val % 2176 < 2064 ∧ x.val / 128 < 8 ∧ x.val % 128 < 96 then
        X (ix4 ⟨r.val / 2176, H.1⟩ ⟨r.val % 2176, H.2.1⟩ ⟨x.val / 128, H.2.2.1⟩ ⟨x.val % 128, H.2.2.2⟩) else 0)
      = kPad (tab4 X (r.val / 2176) (x.val / 128)) (r.val % 2176) (x.val % 128) := by
  refine (lane96 _ (by omega) _ _).trans ?_
  rw [row2064 _ (by omega), ninf]
  unfold kPad
  by_cases h96 : x.val % 128 < 96
  · rw [if_neg (by omega), if_pos h96]
    by_cases H : r.val / 2176 < 2 ∧ r.val % 2176 < 2064 ∧ x.val / 128 < 8 ∧ x.val % 128 < 96
    · rw [dif_pos H]
      exact tab4_at X h ⟨_, H.1⟩ ⟨_, H.2.1⟩ ⟨_, H.2.2.1⟩ ⟨_, H.2.2.2⟩
    · rw [dif_neg H, tab4, dif_neg H, EReal.coe_zero]
  · rw [if_neg h96, dif_neg fun H => h96 H.2.2.2]

/-- A padded value row, as the host builds it, read at a row and a lane. -/
theorem v_core (X : S2x2064x8x64.Idx → EReal) (h : IsReal X) (r : Fin 4352) (x : Fin 512) :
    (if H : r.val / 2176 < 2 ∧ r.val % 2176 < 2064 ∧ x.val / 64 < 8 ∧ x.val % 64 < 64 then
        X (ix4 ⟨r.val / 2176, H.1⟩ ⟨r.val % 2176, H.2.1⟩ ⟨x.val / 64, H.2.2.1⟩ ⟨x.val % 64, H.2.2.2⟩) else 0)
      = (tab4 X (r.val / 2176) (x.val / 64) (r.val % 2176) (x.val % 64) : EReal) := by
  by_cases H : r.val / 2176 < 2 ∧ r.val % 2176 < 2064 ∧ x.val / 64 < 8 ∧ x.val % 64 < 64
  · rw [dif_pos H]
    exact tab4_at X h ⟨_, H.1⟩ ⟨_, H.2.1⟩ ⟨_, H.2.2.1⟩ ⟨_, H.2.2.2⟩
  · rw [dif_neg H, tab4, dif_neg H, EReal.coe_zero]

/-- A padded row of the output's gradient, as the host builds it, read at a row and a lane. -/
theorem w_core (X : S2x2064x512.Idx → EReal) (h : IsReal X) (r : Fin 4352) (x : Fin 512) :
    (if H : r.val / 2176 < 2 ∧ r.val % 2176 < 2064 then X (ix3 ⟨r.val / 2176, H.1⟩ ⟨r.val % 2176, H.2⟩ x) else 0)
      = (tab3 X (r.val / 2176) (x.val / 64) (r.val % 2176) (x.val % 64) : EReal) := by
  by_cases H : r.val / 2176 < 2 ∧ r.val % 2176 < 2064
  · rw [dif_pos H]
    exact tab3_at X h ⟨_, H.1⟩ ⟨_, H.2⟩ x
  · rw [dif_neg H, tab3, dif_neg fun H' => H ⟨H'.1, H'.2.1⟩, EReal.coe_zero]

theorem qarr (h : IsReal (s := S2x2064x8x96) (m ((c.tc : Thread nD τ).loc main_arg0))) : QArr (tq m c) (V1 m ρ c main_v13) := by
  intro r x
  unfold V1 W1 hostOps0
  after_reads_at
  exact q_core (W0 m ρ c (Proc.devRef .tc main_arg0)) h r x

theorem karr (h : IsReal (s := S2x2064x8x96) (m ((c.tc : Thread nD τ).loc main_arg1))) : KArr (tk m c) (V1 m ρ c main_v17) := by
  intro r x
  unfold V1 W1 hostOps0
  after_reads_at
  exact k_core (W0 m ρ c (Proc.devRef .tc main_arg1)) h r x

theorem varr (h : IsReal (s := S2x2064x8x64) (m ((c.tc : Thread nD τ).loc main_arg2))) : VArr (tv m c) (V1 m ρ c main_v20) := by
  intro r x
  unfold V1 W1 hostOps0
  after_reads_at
  exact v_core (W0 m ρ c (Proc.devRef .tc main_arg2)) h r x

theorem warr (h : IsReal (s := S2x2064x512) (m ((c.tc : Thread nD τ).loc main_arg3))) : WArr (tw m c) (V1 m ρ c main_v22) := by
  intro r x
  unfold V1 W1 hostOps0
  after_reads_at
  exact w_core (W0 m ρ c (Proc.devRef .tc main_arg3)) h r x

section Results
variable (h0 : IsReal (s := S2x2064x8x96) (m ((c.tc : Thread nD τ).loc main_arg0))) (h1 : IsReal (s := S2x2064x8x96) (m ((c.tc : Thread nD τ).loc main_arg1)))
  (h2 : IsReal (s := S2x2064x8x64) (m ((c.tc : Thread nD τ).loc main_arg2))) (h3 : IsReal (s := S2x2064x512) (m ((c.tc : Thread nD τ).loc main_arg3)))
include h0 h1 h2 h3

theorem qarr2 : QArr (tq m c) (V2 m ρ c main_v13) := by
  rw [show V2 m ρ c main_v13 = V1 m ρ c main_v13 from W2_of m ρ c main_v13 (by decide +kernel)]
  exact qarr m ρ c h0
theorem karr2 : KArr (tk m c) (V2 m ρ c main_v17) := by
  rw [show V2 m ρ c main_v17 = V1 m ρ c main_v17 from W2_of m ρ c main_v17 (by decide +kernel)]
  exact karr m ρ c h1
theorem varr2 : VArr (tv m c) (V2 m ρ c main_v20) := by
  rw [show V2 m ρ c main_v20 = V1 m ρ c main_v20 from W2_of m ρ c main_v20 (by decide +kernel)]
  exact varr m ρ c h2
theorem warr2 : WArr (tw m c) (V2 m ρ c main_v22) := by
  rw [show V2 m ρ c main_v22 = V1 m ρ c main_v22 from W2_of m ρ c main_v22 (by decide +kernel)]
  exact warr m ρ c h3
theorem oarr2 : WArr (OF (tq m c) (tk m c) (tv m c)) (V2 m ρ c main_v23_0) := by
  rw [show V2 m ρ c main_v23_0 = _ from W2_arr m ρ c 3]
  exact o_arr (V1 m ρ) c (qarr m ρ c h0) (karr m ρ c h1) (varr m ρ c h2)
theorem larr2 : LArr (tq m c) (tk m c) (V2 m ρ c main_v23_1) := by
  rw [show V2 m ρ c main_v23_1 = _ from W2_arr m ρ c 4]
  exact lse_arr (V1 m ρ) c (qarr m ρ c h0) (karr m ρ c h1) (varr m ρ c h2)

/-- The query gradient the program returns. -/
theorem dq_res (b : Fin 2) (i : Fin 2064) (h : Fin 8) (d : Fin 96) : W4 m ρ c (Proc.devRef .tc main_v26) (ix4 b i h d)
    = ((dQ (tq m c b h) (tk m c b h) (tv m c b h) (tw m c b h) i d : ℝ) : EReal) := by
  unfold W4 hostOps2
  after_reads_at
  rw [show W3 m ρ c (Proc.devRef .tc main_v24_0) = _ from W3_arr m ρ c 6]
  refine (dq_arr (V2 m ρ) c (qarr2 m ρ c h0 h1 h2 h3) (karr2 m ρ c h0 h1 h2 h3) (varr2 m ρ c h0 h1 h2 h3) (oarr2 m ρ c h0 h1 h2 h3)
    (larr2 m ρ c h0 h1 h2 h3) (warr2 m ρ c h0 h1 h2 h3) _ _ (by dsimp only; omega)).trans ?_
  dsimp only
  rw [show (b.val * 2176 + i.val) / 2176 = b.val by omega, show (b.val * 2176 + i.val) % 2176 = i.val by omega,
    show (h.val * 128 + d.val) / 128 = h.val by omega, show (h.val * 128 + d.val) % 128 = d.val by omega]

/-- The key gradient the program returns. -/
theorem dk_res (b : Fin 2) (i : Fin 2064) (h : Fin 8) (d : Fin 96) : W4 m ρ c (Proc.devRef .tc main_v28) (ix4 b i h d)
    = ((dK (tq m c b h) (tk m c b h) (tv m c b h) (tw m c b h) i d : ℝ) : EReal) := by
  unfold W4 hostOps2
  after_reads_at
  rw [show W3 m ρ c (Proc.devRef .tc main_v24_1) = _ from W3_arr m ρ c 7]
  refine (dk_arr (V2 m ρ) c (qarr2 m ρ c h0 h1 h2 h3) (karr2 m ρ c h0 h1 h2 h3) (varr2 m ρ c h0 h1 h2 h3) (oarr2 m ρ c h0 h1 h2 h3)
    (larr2 m ρ c h0 h1 h2 h3) (warr2 m ρ c h0 h1 h2 h3) (fun b h i d hi => tab4_row _ b h i d hi) _ _ (by dsimp only; omega) (by dsimp only; omega)).trans ?_
  dsimp only
  rw [show (b.val * 2176 + i.val) / 2176 = b.val by omega, show (b.val * 2176 + i.val) % 2176 = i.val by omega,
    show (h.val * 128 + d.val) / 128 = h.val by omega, show (h.val * 128 + d.val) % 128 = d.val by omega]

/-- The value gradient the program returns. -/
theorem dv_res (b : Fin 2) (i : Fin 2064) (h : Fin 8) (d : Fin 64) : W4 m ρ c (Proc.devRef .tc main_v30) (ix4 b i h d)
    = ((dV (tq m c b h) (tk m c b h) (tw m c b h) i d : ℝ) : EReal) := by
  unfold W4 hostOps2
  after_reads_at
  rw [show W3 m ρ c (Proc.devRef .tc main_v24_2) = _ from W3_arr m ρ c 8]
  refine (dv_arr (V2 m ρ) c (qarr2 m ρ c h0 h1 h2 h3) (karr2 m ρ c h0 h1 h2 h3)
    (larr2 m ρ c h0 h1 h2 h3) (warr2 m ρ c h0 h1 h2 h3) (fun b h i d hi => tab3_row _ b h i d hi) _ _ (by dsimp only; omega)).trans ?_
  dsimp only
  rw [show (b.val * 2176 + i.val) / 2176 = b.val by omega, show (b.val * 2176 + i.val) % 2176 = i.val by omega,
    show (h.val * 64 + d.val) / 64 = h.val by omega, show (h.val * 64 + d.val) % 64 = d.val by omega]

end Results

end Cert.KernelIdeal.Attn

end
-- ==== Proof.Run.lean ====
/- The run of the idealised kernel program, with every array at the end kept: each buffer ends at the contents the
   frame's fold of the segments gives it (`W4`). -/
module

public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]
variable (m : (ℓ : Loc nD τ sig) → Buf (Elt F) ℓ) (ρ : Dev nD → PrngReg)

/-- Every unscoped buffer ends at the last boundary's contents, and no semaphore counter is left above zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The three results, as the last boundary's contents, with the arguments as launched. -/
theorem run : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_v28) = W4 m ρ c (Proc.devRef .tc main_v28)
      ∧ r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h.1 c _ (mem_uc main_v26 (by decide)), h.1 c _ (mem_uc main_v28 (by decide)), h.1 c _ (mem_uc main_v30 (by decide)),
     (h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c),
     (h.1 c _ (mem_uc main_arg3 (by decide))).trans (W4_main_arg3 m ρ c)⟩) (run_all m ρ)

end Cert.KernelIdeal.Attn

end
-- ==== Proof.Ref.lean ====
/- The reference's gradients, read at an index: each element is the softmax gradient of its head. -/
module

public import proofs.«01_k».proof.Proof.BwdBody
public import proofs.«01_k».proof.Proof.Gen.ReferenceIdeal.Run
public import proofs.«01_k».proof.Proof.Gen.ReferenceIdeal.Read

@[expose] public section

set_option maxRecDepth 16384

noncomputable section

namespace Cert.ReferenceIdeal.Attn

open Idealize.ShloMosaic Cert.ReferenceIdeal Cert.ReferenceIdeal.Gen Cert.ReferenceIdeal.Read Cert.Attn

/-- The greatest of finitely many real numbers is real. -/
theorem fold_real {n : ℕ} (f : Fin (n + 1) → EReal) (hf : ∀ x, ∃ r : ℝ, f x = (r : EReal)) :
    ∃ M : ℝ, Finset.fold max (⊥ : EReal) f Finset.univ = (M : EReal) := by
  set y := Finset.fold max (⊥ : EReal) f Finset.univ with hy
  have h1 : y < ⊤ := by
    rw [hy, Finset.fold_max_lt]
    refine ⟨bot_lt_top, fun x _ => ?_⟩
    obtain ⟨r, hr⟩ := hf x
    rw [hr]; exact EReal.coe_lt_top _
  have h2 : f 0 ≤ y := by
    rw [hy, Finset.le_fold_max]
    exact .inr ⟨0, Finset.mem_univ _, le_rfl⟩
  obtain ⟨r, hr⟩ := hf 0
  have h3 : y ≠ ⊥ := fun h => by rw [h, hr] at h2; exact absurd h2 (not_le.mpr (EReal.bot_lt_coe _))
  exact ⟨y.toReal, (EReal.coe_toReal h1.ne h3).symm⟩

/-- A sum of real numbers over a finite index range. -/
theorem sum_real {n : ℕ} (f : ℕ → ℝ) (g : Fin n → EReal) (h : ∀ x : Fin n, g x = (f x.val : EReal)) :
    ∑ x, g x = ((∑ x ∈ Finset.range n, f x : ℝ) : EReal) := by
  rw [Finset.sum_range, coe_sum]
  exact Finset.sum_congr rfl fun x _ => h x

variable (x0 x1 : S2x2064x8x96.Idx → EReal) (x2 : S2x2064x8x64.Idx → EReal) (x3 : S2x2064x512.Idx → EReal)

/-- An element of an array read at any index. -/
theorem el4 {n : ℕ} (X : (⟨4, ![2, 2064, 8, n]⟩ : Shape).Idx → EReal) (hX : IsReal X) (j : (⟨4, ![2, 2064, 8, n]⟩ : Shape).Idx) :
    X j = (tab4 X (j 0).val (j 2).val (j 1).val (j 3).val : EReal) := by
  have e : j = ix4 (j 0) (j 1) (j 2) (j 3) := by funext a; fin_cases a <;> rfl
  rw [e]; exact tab4_at X hX (j 0) (j 1) (j 2) (j 3)

theorem el3 (X : (⟨3, ![2, 2064, 512]⟩ : Shape).Idx → EReal) (hX : IsReal X) (j : (⟨3, ![2, 2064, 512]⟩ : Shape).Idx) :
    X j = (tab3 X (j 0).val ((j 2).val / 64) (j 1).val ((j 2).val % 64) : EReal) := by
  have e : j = ix3 (j 0) (j 1) (j 2) := by funext a; fin_cases a <;> rfl
  rw [e]; exact tab3_at X hX (j 0) (j 1) (j 2)

section Tables
variable {x0 x1 x2 x3}

theorem r0 (h0 : IsReal x0) (i : S2x8x2064x96.Idx) :
    val_main_v0 (F := Ideal) x0 i = (tab4 x0 (i 0).val (i 1).val (i 2).val (i 3).val : EReal) :=
  (val_main_v0_apply (F := Ideal) x0 i).trans (el4 x0 h0 _)

theorem r1 (h1 : IsReal x1) (i : S2x8x2064x96.Idx) :
    val_main_v1 (F := Ideal) x1 i = (tab4 x1 (i 0).val (i 1).val (i 2).val (i 3).val : EReal) :=
  (val_main_v1_apply (F := Ideal) x1 i).trans (el4 x1 h1 _)

theorem r2 (h2 : IsReal x2) (i : S2x8x2064x64.Idx) :
    val_main_v2 (F := Ideal) x2 i = (tab4 x2 (i 0).val (i 1).val (i 2).val (i 3).val : EReal) :=
  (val_main_v2_apply (F := Ideal) x2 i).trans (el4 x2 h2 _)

/-- The output gradient, its lanes split into heads. -/
theorem r38 (h3 : IsReal x3) (i : S2x8x2064x64.Idx) :
    val_main_v38 (F := Ideal) x3 i = (tab3 x3 (i 0).val (i 1).val (i 2).val (i 3).val : EReal) := by
  refine (val_main_v38_apply (F := Ideal) x3 i).trans ((val_main_v37_apply (F := Ideal) x3 _).trans ((el3 x3 h3 _).trans ?_))
  have a0 : (i 0).val < 2 := (i 0).isLt
  have a1 : (i 1).val < 8 := (i 1).isLt
  have a2 : (i 2).val < 2064 := (i 2).isLt
  have a3 : (i 3).val < 64 := (i 3).isLt
  have key : ∀ a b c d : ℕ, a < 2 → b < 8 → c < 2064 → d < 64 →
      tab3 x3 ((((a * 2064 + c) * 8 + b) * 64 + d) / 1056768) ((((a * 2064 + c) * 8 + b) * 64 + d) % 512 / 64)
        ((((a * 2064 + c) * 8 + b) * 64 + d) / 512 % 2064) ((((a * 2064 + c) * 8 + b) * 64 + d) % 512 % 64) = tab3 x3 a b c d := by
    intro a b c d ha hb hc hd
    have e1 : (((a * 2064 + c) * 8 + b) * 64 + d) / 1056768 = a := by omega
    have e2 : (((a * 2064 + c) * 8 + b) * 64 + d) % 512 / 64 = b := by omega
    have e3 : (((a * 2064 + c) * 8 + b) * 64 + d) / 512 % 2064 = c := by omega
    have e4 : (((a * 2064 + c) * 8 + b) * 64 + d) % 512 % 64 = d := by omega
    rw [e1, e2, e3, e4]
  exact congrArg (fun a : ℝ => (a : EReal)) (key _ _ _ _ a0 a1 a2 a3)

/-- The scores. -/
theorem r5 (h0 : IsReal x0) (h1 : IsReal x1) (i : S2x8x2064x2064.Idx) : val_main_v5 (F := Ideal) x0 x1 i
    = ((sc * S (tab4 x0 (i 0).val (i 1).val) (tab4 x1 (i 0).val (i 1).val) (i 2).val (i 3).val : ℝ) : EReal) := by
  have e3 : val_main_v3 (F := Ideal) x0 x1 i
      = (S (tab4 x0 (i 0).val (i 1).val) (tab4 x1 (i 0).val (i 1).val) (i 2).val (i 3).val : EReal) :=
    (val_main_v3_apply x0 x1 i).trans (sum_real _ _ fun k =>
      (congrArg₂ (· * ·) (r0 h0 _) (r1 h1 _)).trans (EReal.coe_mul _ _).symm)
  have e4 : val_main_v4 (F := Ideal) i = ((sc : ℝ) : EReal) :=
    (val_main_v4_apply (F := Ideal) i).trans ((val_main_cst_apply (F := Ideal) _).trans Cert.KernelIdeal.Attn.scale_bits)
  refine (val_main_v5_apply (F := Ideal) x0 x1 i).trans ?_
  rw [e3, e4, mul_comm sc]
  exact (EReal.coe_mul _ _).symm

/-- The greatest score of each row is real. -/
theorem r13 (h0 : IsReal x0) (h1 : IsReal x1) :
    ∃ M : S2x8x2064.Idx → ℝ, ∀ j, val_main_v13 (F := Ideal) x0 x1 j = ((sc * M j : ℝ) : EReal) := by
  have hsc : (sc : ℝ) ≠ 0 := by unfold sc; norm_num
  have h : ∀ j, ∃ r : ℝ, val_main_v6 (F := Ideal) x0 x1 j = (r : EReal) := by
    intro j
    obtain ⟨r, hr⟩ := fold_real (n := 2063) ((val_main_v5 (F := Ideal) x0 x1) ∘ (show S2x8x2064x2064.Reduces [3] S2x8x2064 by decide).lift j)
      (fun x => ⟨_, r5 h0 h1 _⟩)
    refine ⟨r, Eq.trans ?_ hr⟩
    unfold val_main_v6
    refine (Host.reduce_eq_fold_single (FloatOps.maximumf (F := Ideal) (φ := .f32)) _ _ _ (by decide) _ j).trans ?_
    rw [show (val_main_cst_0 (F := Ideal)) (Shape.Idx.first h_S_) = (⊥ : EReal) from Cert.KernelIdeal.Attn.ninf]
    rfl
  choose r hr using h
  refine ⟨fun j => r j / sc, fun j => ?_⟩
  refine (val_main_v13_apply (F := Ideal) x0 x1 j).trans ?_
  simp only []
  rw [hr j, show val_main_v12 (F := Ideal) j = (⊥ : EReal) from
    (val_main_v12_apply (F := Ideal) j).trans ((val_main_cst_2_apply (F := Ideal) _).trans Cert.KernelIdeal.Attn.ninf), mul_div_cancel₀ _ hsc]
  exact max_eq_right bot_le

/-! The softmax gradient, over a row's subtracted number `M`. -/

/-- A row's exponentials with `M` subtracted, and their sum. -/
def Ex (q k : ℕ → ℕ → ℝ) (M : ℝ) (i t : ℕ) : ℝ := Real.exp (sc * (S q k i t - M))
def Lx (q k : ℕ → ℕ → ℝ) (M : ℝ) (i : ℕ) : ℝ := ∑ t ∈ Finset.range 2064, Ex q k M i t

theorem Lx_pos (q k : ℕ → ℕ → ℝ) (M : ℝ) (i : ℕ) : 0 < Lx q k M i :=
  Finset.sum_pos (fun _ _ => Real.exp_pos _) ⟨0, Finset.mem_range.mpr (by norm_num)⟩

theorem Pr_Lx (q k : ℕ → ℕ → ℝ) (M : ℝ) (i t : ℕ) : Ex q k M i t * (1 / Lx q k M i) = Pr q k i t :=
  (mul_one_div _ _).trans (Pr_shift q k M i t).symm

/-- The reference's score gradient is the model's. -/
theorem dS_Lx (q k v w : ℕ → ℕ → ℝ) (M : ℝ) (i t : ℕ) :
    (dP v w i t * (1 / Lx q k M i)
        + -(∑ t' ∈ Finset.range 2064, dP v w i t' * (1 * (1 / (Lx q k M i * Lx q k M i))) * Ex q k M i t')) * Ex q k M i t
      = dS q k v w i t := by
  unfold dS
  rw [Del_eq, ← Pr_Lx q k M i t]
  have h : ∑ t' ∈ Finset.range 2064, dP v w i t' * (1 * (1 / (Lx q k M i * Lx q k M i))) * Ex q k M i t'
      = (∑ t' ∈ Finset.range 2064, Pr q k i t' * dP v w i t') * (1 / Lx q k M i) := by
    rw [Finset.sum_mul]
    refine Finset.sum_congr rfl fun t' _ => ?_
    rw [← Pr_Lx q k M i t', ← one_div_mul_one_div]
    ring
  rw [h]; ring

/-- The score gradient's last operations on real numbers. -/
theorem ds_form (a b e : ℝ) : FloatOps.mulf (F := Ideal) (φ := .f32) (FloatOps.mulf (F := Ideal) (φ := .f32)
    (FloatOps.addf (F := Ideal) (φ := .f32) (a : EReal) (-(b : EReal))) (e : EReal)) ((sc : ℝ) : EReal) = (((a + -b) * e * sc : ℝ) : EReal) := by
  rw [EReal.coe_mul, EReal.coe_mul, EReal.coe_add, EReal.coe_neg]
  rfl

variable (M : S2x8x2064.Idx → ℝ) (hM : ∀ j, val_main_v13 (F := Ideal) x0 x1 j = ((sc * M j : ℝ) : EReal))
include hM

theorem r26 (h0 : IsReal x0) (h1 : IsReal x1) (i : S2x8x2064x2064.Idx) : val_main_v26 (F := Ideal) x0 x1 i
    = (Ex (tab4 x0 (i 0).val (i 1).val) (tab4 x1 (i 0).val (i 1).val) (M (ix3 (i 0) (i 1) (i 2))) (i 2).val (i 3).val : EReal) := by
  refine (val_main_v26_apply (F := Ideal) x0 x1 i).trans ?_
  have e : val_main_v24 (F := Ideal) x0 x1 i = ((sc * M (ix3 (i 0) (i 1) (i 2)) : ℝ) : EReal) := by
    refine (val_main_v24_apply (F := Ideal) x0 x1 i).trans ((val_main_v23_apply (F := Ideal) x0 x1 _).trans ((hM _).trans ?_))
    refine congrArg (fun j => ((sc * M j : ℝ) : EReal)) ?_
    funext a; fin_cases a <;> rfl
  have e' : val_main_v25 (F := Ideal) x0 x1 i = ((sc * (S (tab4 x0 (i 0).val (i 1).val) (tab4 x1 (i 0).val (i 1).val) (i 2).val (i 3).val
      - M (ix3 (i 0) (i 1) (i 2))) : ℝ) : EReal) := by
    refine (val_main_v25_apply (F := Ideal) x0 x1 i).trans ?_
    rw [e, r5 h0 h1 i, mul_sub]
    exact (EReal.coe_sub _ _).symm
  rw [e']; exact Ideal.exp_coe _

theorem r28 (h0 : IsReal x0) (h1 : IsReal x1) (i : S2x8x2064x1.Idx) : val_main_v28 (F := Ideal) x0 x1 i
    = (Lx (tab4 x0 (i 0).val (i 1).val) (tab4 x1 (i 0).val (i 1).val) (M (ix3 (i 0) (i 1) (i 2))) (i 2).val : EReal) := by
  refine (val_main_v28_apply (F := Ideal) x0 x1 i).trans ((val_main_v27_apply x0 x1 _).trans ?_)
  rw [show (val_main_cst_8 (F := Ideal)) (Shape.Idx.first h_S_) = (0 : EReal) from Cert.KernelIdeal.Attn.zero_bits, zero_add]
  exact sum_real _ _ fun t => r26 M hM h0 h1 _

theorem r30 (h0 : IsReal x0) (h1 : IsReal x1) (i : S2x8x2064x2064.Idx) : val_main_v30 (F := Ideal) x0 x1 i
    = (Pr (tab4 x0 (i 0).val (i 1).val) (tab4 x1 (i 0).val (i 1).val) (i 2).val (i 3).val : EReal) := by
  refine (val_main_v30_apply (F := Ideal) x0 x1 i).trans ?_
  rw [val_main_v29_apply, r26 M hM h0 h1, r28 M hM h0 h1]
  refine (Ideal.div_coe (Lx_pos _ _ _ _).ne' _).trans ((EReal.coe_mul _ _).symm.trans ?_)
  exact congrArg (fun a : ℝ => (a : EReal)) (Pr_Lx _ _ _ _ _)

theorem r58 (h0 : IsReal x0) (h1 : IsReal x1) (h3 : IsReal x3) (i : S2x2064x8x64.Idx) : val_main_v58 (F := Ideal) x0 x1 x3 i
    = (dV (tab4 x0 (i 0).val (i 2).val) (tab4 x1 (i 0).val (i 2).val) (tab3 x3 (i 0).val (i 2).val) (i 1).val (i 3).val : EReal) := by
  refine (val_main_v58_apply (F := Ideal) x0 x1 x3 i).trans ((val_main_v40_apply (F := Ideal) x0 x1 x3 _).trans
    ((val_main_v39_apply x0 x1 x3 _).trans ?_))
  refine sum_real _ _ fun t => ?_
  refine (congrArg₂ (· * ·) (r38 h3 _) (r30 M hM h0 h1 _)).trans ((mul_comm _ _).trans (EReal.coe_mul _ _).symm)

theorem r41 (h2 : IsReal x2) (h3 : IsReal x3) (i : S2x8x2064x2064.Idx) : val_main_v41 (F := Ideal) x2 x3 i
    = (dP (tab4 x2 (i 0).val (i 1).val) (tab3 x3 (i 0).val (i 1).val) (i 2).val (i 3).val : EReal) :=
  (val_main_v41_apply x2 x3 i).trans (sum_real _ _ fun d =>
    (congrArg₂ (· * ·) (r38 h3 _) (r2 h2 _)).trans (EReal.coe_mul _ _).symm)

theorem r33 (h0 : IsReal x0) (h1 : IsReal x1) (i : S2x8x2064x1.Idx) : val_main_v33 (F := Ideal) x0 x1 i
    = ((1 * (1 / (Lx (tab4 x0 (i 0).val (i 1).val) (tab4 x1 (i 0).val (i 1).val) (M (ix3 (i 0) (i 1) (i 2))) (i 2).val
        * Lx (tab4 x0 (i 0).val (i 1).val) (tab4 x1 (i 0).val (i 1).val) (M (ix3 (i 0) (i 1) (i 2))) (i 2).val)) : ℝ) : EReal) := by
  have e : val_main_v32 (F := Ideal) i = ((1 : ℝ) : EReal) := by
    refine (val_main_v32_apply (F := Ideal) i).trans ((val_main_cst_9_apply (F := Ideal) _).trans ?_)
    show Ideal.ofBits .f32 0x3F800000#32 = _
    simp [Ideal.ofBits, Ideal.ieee]
    rw [← EReal.coe_mul]
    norm_num
  have hL := Lx_pos (tab4 x0 (i 0).val (i 1).val) (tab4 x1 (i 0).val (i 1).val) (M (ix3 (i 0) (i 1) (i 2))) (i 2).val
  refine (val_main_v33_apply (F := Ideal) x0 x1 i).trans ?_
  rw [e, val_main_v31_apply, r28 M hM h0 h1]
  refine (congrArg (Ideal.div _) (EReal.coe_mul _ _).symm).trans
    ((Ideal.div_coe (mul_pos hL hL).ne' _).trans (EReal.coe_mul _ _).symm)

theorem r45 (h0 : IsReal x0) (h1 : IsReal x1) (h2 : IsReal x2) (h3 : IsReal x3) (j : S2x8x2064.Idx) :
    val_main_v45 (F := Ideal) x0 x1 x2 x3 j = ((∑ t' ∈ Finset.range 2064, dP (tab4 x2 (j 0).val (j 1).val) (tab3 x3 (j 0).val (j 1).val) (j 2).val t'
      * (1 * (1 / (Lx (tab4 x0 (j 0).val (j 1).val) (tab4 x1 (j 0).val (j 1).val) (M (ix3 (j 0) (j 1) (j 2))) (j 2).val
        * Lx (tab4 x0 (j 0).val (j 1).val) (tab4 x1 (j 0).val (j 1).val) (M (ix3 (j 0) (j 1) (j 2))) (j 2).val)))
      * Ex (tab4 x0 (j 0).val (j 1).val) (tab4 x1 (j 0).val (j 1).val) (M (ix3 (j 0) (j 1) (j 2))) (j 2).val t' : ℝ) : EReal) := by
  refine (val_main_v45_apply x0 x1 x2 x3 j).trans ?_
  rw [show (val_main_cst_10 (F := Ideal)) (Shape.Idx.first h_S_) = (0 : EReal) from Cert.KernelIdeal.Attn.zero_bits, zero_add]
  refine sum_real _ _ fun t => ?_
  refine (val_main_v44_apply (F := Ideal) x0 x1 x2 x3 _).trans ?_
  rw [val_main_v43_apply, val_main_v42_apply, r41 M hM h2 h3, r33 M hM h0 h1, r26 M hM h0 h1]
  exact (congrArg₂ (· * ·) (EReal.coe_mul _ _).symm rfl).trans (EReal.coe_mul _ _).symm

theorem r55 (h0 : IsReal x0) (h1 : IsReal x1) (h2 : IsReal x2) (h3 : IsReal x3) (i : S2x8x2064x2064.Idx) :
    val_main_v55 (F := Ideal) x0 x1 x2 x3 i = ((dS (tab4 x0 (i 0).val (i 1).val) (tab4 x1 (i 0).val (i 1).val)
      (tab4 x2 (i 0).val (i 1).val) (tab3 x3 (i 0).val (i 1).val) (i 2).val (i 3).val * sc : ℝ) : EReal) := by
  have e4 : val_main_v54 (F := Ideal) i = ((sc : ℝ) : EReal) :=
    (val_main_v54_apply (F := Ideal) i).trans ((val_main_cst_12_apply (F := Ideal) _).trans Cert.KernelIdeal.Attn.scale_bits)
  have e51 : val_main_v51 (F := Ideal) x0 x1 x2 x3 i = -(val_main_v45 (F := Ideal) x0 x1 x2 x3 (ix3 (i 0) (i 1) (i 2))) := by
    refine (val_main_v51_apply (F := Ideal) x0 x1 x2 x3 i).trans ((val_main_v50_apply x0 x1 x2 x3 _).trans ?_)
    rw [show (val_main_cst_11 (F := Ideal)) (Shape.Idx.first h_S_) = (0 : EReal) from Cert.KernelIdeal.Attn.zero_bits, zero_add,
      Fin.sum_univ_one, val_main_v47_apply, val_main_v46_apply]
    refine congrArg (fun j => -(val_main_v45 (F := Ideal) x0 x1 x2 x3 j)) ?_
    have a0 : (i 0).val < 2 := (i 0).isLt
    have a1 : (i 1).val < 8 := (i 1).isLt
    have a2 : (i 2).val < 2064 := (i 2).isLt
    funext a
    fin_cases a
    · refine Fin.ext ?_
      show ((((i 0).val * 8 + (i 1).val) * 2064 + (i 2).val) * 1 + 0) / 16512 = (i 0).val
      omega
    · refine Fin.ext ?_
      show ((((i 0).val * 8 + (i 1).val) * 2064 + (i 2).val) * 1 + 0) / 2064 % 8 = (i 1).val
      omega
    · refine Fin.ext ?_
      show ((((i 0).val * 8 + (i 1).val) * 2064 + (i 2).val) * 1 + 0) % 2064 = (i 2).val
      omega
  have e49 : val_main_v49 (F := Ideal) x0 x1 x2 x3 i = ((dP (tab4 x2 (i 0).val (i 1).val) (tab3 x3 (i 0).val (i 1).val) (i 2).val (i 3).val
      * (1 / Lx (tab4 x0 (i 0).val (i 1).val) (tab4 x1 (i 0).val (i 1).val) (M (ix3 (i 0) (i 1) (i 2))) (i 2).val) : ℝ) : EReal) := by
    refine (val_main_v49_apply (F := Ideal) x0 x1 x2 x3 i).trans ?_
    rw [val_main_v48_apply, r41 M hM h2 h3, r28 M hM h0 h1]
    exact (Ideal.div_coe (Lx_pos _ _ _ _).ne' _).trans (EReal.coe_mul _ _).symm
  refine (val_main_v55_apply (F := Ideal) x0 x1 x2 x3 i).trans ?_
  rw [e4, val_main_v53_apply, val_main_v52_apply, e49, e51, r45 M hM h0 h1 h2 h3, r26 M hM h0 h1]
  exact (ds_form _ _ _).trans (congrArg (fun a : ℝ => ((a * sc : ℝ) : EReal)) (dS_Lx (tab4 x0 (i 0).val (i 1).val) (tab4 x1 (i 0).val (i 1).val)
      (tab4 x2 (i 0).val (i 1).val) (tab3 x3 (i 0).val (i 1).val) (M (ix3 (i 0) (i 1) (i 2))) (i 2).val (i 3).val))

/-- Every element of the reference's query gradient. -/
theorem r60 (h0 : IsReal x0) (h1 : IsReal x1) (h2 : IsReal x2) (h3 : IsReal x3) (i : S2x2064x8x96.Idx) :
    val_main_v60 (F := Ideal) x0 x1 x2 x3 i = (dQ (tab4 x0 (i 0).val (i 2).val) (tab4 x1 (i 0).val (i 2).val)
      (tab4 x2 (i 0).val (i 2).val) (tab3 x3 (i 0).val (i 2).val) (i 1).val (i 3).val : EReal) := by
  refine (val_main_v60_apply (F := Ideal) x0 x1 x2 x3 i).trans ((val_main_v57_apply x0 x1 x2 x3 _).trans ?_)
  unfold dQ
  rw [Finset.sum_mul]
  refine sum_real _ _ fun t => ?_
  refine (congrArg₂ (· * ·) (r55 M hM h0 h1 h2 h3 _) (r1 h1 _)).trans ((EReal.coe_mul _ _).symm.trans ?_)
  exact congrArg (fun a : ℝ => (a : EReal)) (mul_right_comm _ _ _)

/-- Every element of the reference's key gradient. -/
theorem r59 (h0 : IsReal x0) (h1 : IsReal x1) (h2 : IsReal x2) (h3 : IsReal x3) (i : S2x2064x8x96.Idx) :
    val_main_v59 (F := Ideal) x0 x1 x2 x3 i = (dK (tab4 x0 (i 0).val (i 2).val) (tab4 x1 (i 0).val (i 2).val)
      (tab4 x2 (i 0).val (i 2).val) (tab3 x3 (i 0).val (i 2).val) (i 1).val (i 3).val : EReal) := by
  refine (val_main_v59_apply (F := Ideal) x0 x1 x2 x3 i).trans ((val_main_v56_apply x0 x1 x2 x3 _).trans ?_)
  unfold dK
  rw [Finset.sum_mul]
  refine sum_real _ _ fun t => ?_
  refine (congrArg₂ (· * ·) (r55 M hM h0 h1 h2 h3 _) (r0 h0 _)).trans ((EReal.coe_mul _ _).symm.trans ?_)
  exact congrArg (fun a : ℝ => (a : EReal)) (mul_right_comm _ _ _)

end Tables

end Cert.ReferenceIdeal.Attn

end
-- ==== Proof.Pre.lean ====
/- What the precondition says: every element of the four arguments is a real number. -/
module

public import proofs.«01_k».proof.Proof.Model
public import proofs.«01_k».proof.Proof.Gen.Pre_finite
public import Idealize.ShloMosaic.Lib.ReduceAll

@[expose] public section

set_option maxRecDepth 16384

noncomputable section

namespace Cert.Pre_finite.Attn

open Idealize.ShloMosaic Cert.Pre_finite Cert.Pre_finite.Gen Cert.Attn

theorem and_one : ∀ a b : BitVec 1, IntOp.andi a b = 1#1 → a = 1#1 ∧ b = 1#1 := by decide

/-- An extended real whose absolute value is below plus infinity is real. -/
theorem real_of_lt (x : EReal) (h : max x (-x) < ⊤) : x = (x.toReal : EReal) := by
  have h1 : x ≠ ⊤ := fun e => by rw [e] at h; simp at h
  have h2 : x ≠ ⊥ := fun e => by rw [e] at h; simp at h
  exact (EReal.coe_toReal h1 h2).symm

theorem inf_bits : Ideal.ofBits FTy.f32 0x7F800000#32 = ⊤ := by simp [Ideal.ofBits, Ideal.ieee]

/-- The comparison of an element's absolute value with plus infinity. -/
theorem real_of_cmp (x : EReal) (h : FloatOps.cmpf (F := Ideal) (φ := .f32) .olt (FloatOps.hostAbsf (F := Ideal) (φ := .f32) x) (Ideal.ofBits .f32 0x7F800000#32) = 1#1) :
    x = (x.toReal : EReal) := by
  rw [inf_bits] at h
  refine real_of_lt x ?_
  by_contra hc
  have : FloatOps.cmpf (F := Ideal) (φ := .f32) .olt (FloatOps.hostAbsf (F := Ideal) (φ := .f32) x) (⊤ : EReal) = 0#1 := by
    show Ideal.cmp .olt (max x (-x)) ⊤ = 0#1
    simp [Ideal.cmp, hc]
  rw [this] at h
  exact absurd h (by decide)

instance : Subsingleton S_.Idx := ⟨fun a b => by funext i; exact i.elim0⟩

theorem pre_real (x0 x1 : S2x2064x8x96.Idx → EReal) (x2 : S2x2064x8x64.Idx → EReal) (x3 : S2x2064x512.Idx → EReal)
    (h : Cert.Pre_finite.fn (F := Ideal) x0 x1 x2 x3 = fun _ => 1#1) : IsReal x0 ∧ IsReal x1 ∧ IsReal x2 ∧ IsReal x3 := by
  have j : S_.Idx := fun a => a.elim0
  have h := congrFun h j
  unfold Cert.Pre_finite.fn fn_part1 at h
  obtain ⟨h, h3⟩ := and_one _ _ h
  obtain ⟨h, h2⟩ := and_one _ _ h
  obtain ⟨h0, h1⟩ := and_one _ _ h
  exact ⟨fun i => real_of_cmp _ (Host.reduce_andi_all _ _ _ _ j h0 i), fun i => real_of_cmp _ (Host.reduce_andi_all _ _ _ _ j h1 i),
    fun i => real_of_cmp _ (Host.reduce_andi_all _ _ _ _ j h2 i), fun i => real_of_cmp _ (Host.reduce_andi_all _ _ _ _ j h3 i)⟩

end Cert.Pre_finite.Attn

end
-- ==== Proof.AdamwModel.lean ====
/- One element of the optimiser's step, and the arrays of such elements. -/
module

public import Idealize.ShloMosaic.PureOps.Ideal

@[expose] public section

noncomputable section

namespace Cert.Adamw

open Idealize.ShloMosaic

variable {F : FTy → Type} [FloatOps F] {S : Type}

/-- The new first moment of one element: 0.9 of the old and 0.1 of the gradient. -/
def mom (g μ : F .f32) : F .f32 :=
  FloatOps.addf (FloatOps.mulf (Scalar.ofBits .f32 0x3F666666#32) μ) (FloatOps.mulf (Scalar.ofBits .f32 0x3DCCCCCD#32) g)

/-- The new second moment of one element: 0.999 of the old and 0.001 of the gradient's square. -/
def var (g ν : F .f32) : F .f32 :=
  FloatOps.addf (FloatOps.mulf (Scalar.ofBits .f32 0x3F7FBE77#32) ν)
    (FloatOps.mulf (Scalar.ofBits .f32 0x3A83126F#32) (FloatOps.mulf g g))

/-- The change of one weight: the corrected first moment over the root of the corrected second, with the weight's decay, times
    the negative rate. -/
def change (w g μ ν : F .f32) : F .f32 :=
  FloatOps.mulf (Scalar.ofBits .f32 0xBA83126F#32)
    (FloatOps.addf
      (FloatOps.divf (FloatOps.divf (mom g μ) (Scalar.ofBits .f32 0x3F26BD02#32))
        (FloatOps.addf (FloatOps.sqrt (FloatOps.divf (var g ν) (Scalar.ofBits .f32 0x3C231ACC#32)))
          (Scalar.ofBits .f32 0x322BCC77#32)))
      (FloatOps.mulf (Scalar.ofBits .f32 0x3C23D70A#32) w))

/-- The new first moments of an array. -/
def moms (g μ : S → F .f32) : S → F .f32 := fun i => mom (g i) (μ i)

/-- The new second moments of an array. -/
def vars (g ν : S → F .f32) : S → F .f32 := fun i => var (g i) (ν i)

/-- The changes of an array of weights. -/
def changes (w g μ ν : S → F .f32) : S → F .f32 := fun i => change (w i) (g i) (μ i) (ν i)

end Cert.Adamw

end
-- ==== Proof.LateRun.lean ====
/- The optimiser's call on the four later weights, run: each block of each result is the body's on the arguments' blocks. -/
module

public import proofs.«01_k».proof.Proof.Gen.AdamwLateIdeal.Launch
public import proofs.«01_k».proof.Proof.Gen.AdamwLateIdeal.Skeleton
public import proofs.«01_k».proof.Proof.Gen.AdamwLateIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamwLateIdeal.Late

open Cert.AdamwLateIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The buffers of device c when the region is entered: as launched. -/
abbrev V (c : Dev nD) (b : Ref sig .tc) : Buf (Elt F) ((c : Thread nD τ).loc b) := m ((c : Thread nD τ).loc b)

set_option maxHeartbeats 800000 in
/-- The program is the one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl

/-! ## The windows' blocks -/

/-- Window w's block at point t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 holds its block at every point, for any proof data over these arrays whose body leaves the block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point, for any proof data over these arrays whose body leaves the block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point, for any proof data over these arrays whose body leaves the block. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point, for any proof data over these arrays whose body leaves the block. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point, for any proof data over these arrays whose body leaves the block. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 holds its block at every point, for any proof data over these arrays whose body leaves the block. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 holds its block at every point, for any proof data over these arrays whose body leaves the block. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7 holds its block at every point, for any proof data over these arrays whose body leaves the block. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8 holds its block at every point, for any proof data over these arrays whose body leaves the block. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9 holds its block at every point, for any proof data over these arrays whose body leaves the block. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10 holds its block at every point, for any proof data over these arrays whose body leaves the block. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11 holds its block at every point, for any proof data over these arrays whose body leaves the block. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12 holds its block at every point, for any proof data over these arrays whose body leaves the block. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13 holds its block at every point, for any proof data over these arrays whose body leaves the block. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14 holds its block at every point, for any proof data over these arrays whose body leaves the block. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15 holds its block at every point, for any proof data over these arrays whose body leaves the block. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1680000 in
/-- A run of the region with these arrays leaves the arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c)))⟩) h

/-! ## The body's accesses -/

abbrev r0_0 : Rect S64x1024 := Rect.unit (s := S64x1024) ![0, 0] S64x1024.size inb_S64x1024_S64x1024_0_0
abbrev r0_1 : Rect S176x1024 := Rect.unit (s := S176x1024) ![0, 0] S176x1024.size inb_S176x1024_S176x1024_0_0

/-! ## What the body leaves in each output window's buffer -/

/-- What the body leaves in window 16, from the input windows' blocks. -/
def out0_16 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S64x1024 .f32 :=
  View.canon [⟨r0_0, k0_pay6 (View.ld x0 r0_0) (View.ld x4 r0_0) (View.ld x8 r0_0) (View.ld x12 r0_0)⟩]

/-- Its one store covers the window. -/
theorem cover0_16 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- What the body leaves in window 17, from the input windows' blocks. -/
def out0_17 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S176x1024 .f32 :=
  View.canon [⟨r0_1, k0_pay9 (View.ld x1 r0_1) (View.ld x5 r0_1) (View.ld x9 r0_1) (View.ld x13 r0_1)⟩]

/-- Its one store covers the window. -/
theorem cover0_17 (p0 : Vec F S176x1024 .f32) (y : S176x1024.Idx) :
    ∃ pc ∈ ([⟨r0_1, p0⟩] : List (View.Piece (Elt F) S176x1024 .f32)), y ∈ pc.1.set :=
  View.cover_of_tiled [⟨r0_1, p0⟩] S176x1024.size (by rfl) y

/-- What the body leaves in window 18, from the input windows' blocks. -/
def out0_18 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S176x1024 .f32 :=
  View.canon [⟨r0_1, k0_pay12 (View.ld x2 r0_1) (View.ld x6 r0_1) (View.ld x10 r0_1) (View.ld x14 r0_1)⟩]

/-- Its one store covers the window. -/
theorem cover0_18 (p0 : Vec F S176x1024 .f32) (y : S176x1024.Idx) :
    ∃ pc ∈ ([⟨r0_1, p0⟩] : List (View.Piece (Elt F) S176x1024 .f32)), y ∈ pc.1.set :=
  View.cover_of_tiled [⟨r0_1, p0⟩] S176x1024.size (by rfl) y

/-- What the body leaves in window 19, from the input windows' blocks. -/
def out0_19 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S176x1024 .f32 :=
  View.canon [⟨r0_1, k0_pay3 (View.ld x3 r0_1) (View.ld x7 r0_1) (View.ld x11 r0_1) (View.ld x15 r0_1)⟩]

/-- Its one store covers the window. -/
theorem cover0_19 (p0 : Vec F S176x1024 .f32) (y : S176x1024.Idx) :
    ∃ pc ∈ ([⟨r0_1, p0⟩] : List (View.Piece (Elt F) S176x1024 .f32)), y ∈ pc.1.set :=
  View.cover_of_tiled [⟨r0_1, p0⟩] S176x1024.size (by rfl) y

/-- What the body leaves in window 20, from the input windows' blocks. -/
def out0_20 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S64x1024 .f32 :=
  View.canon [⟨r0_0, k0_pay4 (View.ld x4 r0_0) (View.ld x8 r0_0)⟩]

/-- Its one store covers the window. -/
theorem cover0_20 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- What the body leaves in window 21, from the input windows' blocks. -/
def out0_21 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S176x1024 .f32 :=
  View.canon [⟨r0_1, k0_pay7 (View.ld x5 r0_1) (View.ld x9 r0_1)⟩]

/-- Its one store covers the window. -/
theorem cover0_21 (p0 : Vec F S176x1024 .f32) (y : S176x1024.Idx) :
    ∃ pc ∈ ([⟨r0_1, p0⟩] : List (View.Piece (Elt F) S176x1024 .f32)), y ∈ pc.1.set :=
  View.cover_of_tiled [⟨r0_1, p0⟩] S176x1024.size (by rfl) y

/-- What the body leaves in window 22, from the input windows' blocks. -/
def out0_22 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S176x1024 .f32 :=
  View.canon [⟨r0_1, k0_pay10 (View.ld x6 r0_1) (View.ld x10 r0_1)⟩]

/-- Its one store covers the window. -/
theorem cover0_22 (p0 : Vec F S176x1024 .f32) (y : S176x1024.Idx) :
    ∃ pc ∈ ([⟨r0_1, p0⟩] : List (View.Piece (Elt F) S176x1024 .f32)), y ∈ pc.1.set :=
  View.cover_of_tiled [⟨r0_1, p0⟩] S176x1024.size (by rfl) y

/-- What the body leaves in window 23, from the input windows' blocks. -/
def out0_23 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S176x1024 .f32 :=
  View.canon [⟨r0_1, k0_pay1 (View.ld x7 r0_1) (View.ld x11 r0_1)⟩]

/-- Its one store covers the window. -/
theorem cover0_23 (p0 : Vec F S176x1024 .f32) (y : S176x1024.Idx) :
    ∃ pc ∈ ([⟨r0_1, p0⟩] : List (View.Piece (Elt F) S176x1024 .f32)), y ∈ pc.1.set :=
  View.cover_of_tiled [⟨r0_1, p0⟩] S176x1024.size (by rfl) y

/-- What the body leaves in window 24, from the input windows' blocks. -/
def out0_24 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S64x1024 .f32 :=
  View.canon [⟨r0_0, k0_pay5 (View.ld x4 r0_0) (View.ld x12 r0_0)⟩]

/-- Its one store covers the window. -/
theorem cover0_24 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- What the body leaves in window 25, from the input windows' blocks. -/
def out0_25 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S176x1024 .f32 :=
  View.canon [⟨r0_1, k0_pay8 (View.ld x5 r0_1) (View.ld x13 r0_1)⟩]

/-- Its one store covers the window. -/
theorem cover0_25 (p0 : Vec F S176x1024 .f32) (y : S176x1024.Idx) :
    ∃ pc ∈ ([⟨r0_1, p0⟩] : List (View.Piece (Elt F) S176x1024 .f32)), y ∈ pc.1.set :=
  View.cover_of_tiled [⟨r0_1, p0⟩] S176x1024.size (by rfl) y

/-- What the body leaves in window 26, from the input windows' blocks. -/
def out0_26 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S176x1024 .f32 :=
  View.canon [⟨r0_1, k0_pay11 (View.ld x6 r0_1) (View.ld x14 r0_1)⟩]

/-- Its one store covers the window. -/
theorem cover0_26 (p0 : Vec F S176x1024 .f32) (y : S176x1024.Idx) :
    ∃ pc ∈ ([⟨r0_1, p0⟩] : List (View.Piece (Elt F) S176x1024 .f32)), y ∈ pc.1.set :=
  View.cover_of_tiled [⟨r0_1, p0⟩] S176x1024.size (by rfl) y

/-- What the body leaves in window 27, from the input windows' blocks. -/
def out0_27 (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) : Vec F S176x1024 .f32 :=
  View.canon [⟨r0_1, k0_pay2 (View.ld x7 r0_1) (View.ld x15 r0_1)⟩]

/-- Its one store covers the window. -/
theorem cover0_27 (p0 : Vec F S176x1024 .f32) (y : S176x1024.Idx) :
    ∃ pc ∈ ([⟨r0_1, p0⟩] : List (View.Piece (Elt F) S176x1024 .f32)), y ∈ pc.1.set :=
  View.cover_of_tiled [⟨r0_1, p0⟩] S176x1024.size (by rfl) y

/-! ## The body's triple -/

set_option maxHeartbeats 1000000 in
/-- The body on whole windows, the inputs at given contents and the outputs at anything, leaves the inputs and writes each output. -/
theorem sound_kernel (c : Dev nD) (E : Set ℕ) (i : grid0.Coords) (arg1 : Memref sig .tc .vmem S64x1024 .f32) (harg1 : arg1.IsWhole) (arg2 : Memref sig .tc .vmem S176x1024 .f32) (harg2 : arg2.IsWhole) (arg3 : Memref sig .tc .vmem S176x1024 .f32) (harg3 : arg3.IsWhole) (arg4 : Memref sig .tc .vmem S176x1024 .f32) (harg4 : arg4.IsWhole) (arg5 : Memref sig .tc .vmem S64x1024 .f32) (harg5 : arg5.IsWhole) (arg6 : Memref sig .tc .vmem S176x1024 .f32) (harg6 : arg6.IsWhole) (arg7 : Memref sig .tc .vmem S176x1024 .f32) (harg7 : arg7.IsWhole) (arg8 : Memref sig .tc .vmem S176x1024 .f32) (harg8 : arg8.IsWhole) (arg9 : Memref sig .tc .vmem S64x1024 .f32) (harg9 : arg9.IsWhole) (arg10 : Memref sig .tc .vmem S176x1024 .f32) (harg10 : arg10.IsWhole) (arg11 : Memref sig .tc .vmem S176x1024 .f32) (harg11 : arg11.IsWhole) (arg12 : Memref sig .tc .vmem S176x1024 .f32) (harg12 : arg12.IsWhole) (arg13 : Memref sig .tc .vmem S64x1024 .f32) (harg13 : arg13.IsWhole) (arg14 : Memref sig .tc .vmem S176x1024 .f32) (harg14 : arg14.IsWhole) (arg15 : Memref sig .tc .vmem S176x1024 .f32) (harg15 : arg15.IsWhole) (arg16 : Memref sig .tc .vmem S176x1024 .f32) (harg16 : arg16.IsWhole) (arg17 : Memref sig .tc .vmem S64x1024 .f32) (harg17 : arg17.IsWhole) (arg18 : Memref sig .tc .vmem S176x1024 .f32) (harg18 : arg18.IsWhole) (arg19 : Memref sig .tc .vmem S176x1024 .f32) (harg19 : arg19.IsWhole) (arg20 : Memref sig .tc .vmem S176x1024 .f32) (harg20 : arg20.IsWhole) (arg21 : Memref sig .tc .vmem S64x1024 .f32) (harg21 : arg21.IsWhole) (arg22 : Memref sig .tc .vmem S176x1024 .f32) (harg22 : arg22.IsWhole) (arg23 : Memref sig .tc .vmem S176x1024 .f32) (harg23 : arg23.IsWhole) (arg24 : Memref sig .tc .vmem S176x1024 .f32) (harg24 : arg24.IsWhole) (arg25 : Memref sig .tc .vmem S64x1024 .f32) (harg25 : arg25.IsWhole) (arg26 : Memref sig .tc .vmem S176x1024 .f32) (harg26 : arg26.IsWhole) (arg27 : Memref sig .tc .vmem S176x1024 .f32) (harg27 : arg27.IsWhole) (arg28 : Memref sig .tc .vmem S176x1024 .f32) (harg28 : arg28.IsWhole)
    (x0 : Vec F S64x1024 .f32) (x1 : Vec F S176x1024 .f32) (x2 : Vec F S176x1024 .f32) (x3 : Vec F S176x1024 .f32) (x4 : Vec F S64x1024 .f32) (x5 : Vec F S176x1024 .f32) (x6 : Vec F S176x1024 .f32) (x7 : Vec F S176x1024 .f32) (x8 : Vec F S64x1024 .f32) (x9 : Vec F S176x1024 .f32) (x10 : Vec F S176x1024 .f32) (x11 : Vec F S176x1024 .f32) (x12 : Vec F S64x1024 .f32) (x13 : Vec F S176x1024 .f32) (x14 : Vec F S176x1024 .f32) (x15 : Vec F S176x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15) ∗ owns (c : Thread nD τ) arg18 fullShare (out0_17 x0 x1 x2 x3 x4 x5 x6 x7 x8 x9 x10 x11 x12 x13 x14 x15) ∗ owns (c : Thread nD τ) arg19 fullShare (out0_18 x0 x1 x2 x3 x4 x5 x6 x7 x8 x9 x10 x11 x12 x13 x14 x15) ∗ owns (c : Thread nD τ) arg20 fullShare (out0_19 x0 x1 x2 x3 x4 x5 x6 x7 x8 x9 x10 x11 x12 x13 x14 x15) ∗ owns (c : Thread nD τ) arg21 fullShare (out0_20 x0 x1 x2 x3 x4 x5 x6 x7 x8 x9 x10 x11 x12 x13 x14 x15) ∗ owns (c : Thread nD τ) arg22 fullShare (out0_21 x0 x1 x2 x3 x4 x5 x6 x7 x8 x9 x10 x11 x12 x13 x14 x15) ∗ owns (c : Thread nD τ) arg23 fullShare (out0_22 x0 x1 x2 x3 x4 x5 x6 x7 x8 x9 x10 x11 x12 x13 x14 x15) ∗ owns (c : Thread nD τ) arg24 fullShare (out0_23 x0 x1 x2 x3 x4 x5 x6 x7 x8 x9 x10 x11 x12 x13 x14 x15) ∗ owns (c : Thread nD τ) arg25 fullShare (out0_24 x0 x1 x2 x3 x4 x5 x6 x7 x8 x9 x10 x11 x12 x13 x14 x15) ∗ owns (c : Thread nD τ) arg26 fullShare (out0_25 x0 x1 x2 x3 x4 x5 x6 x7 x8 x9 x10 x11 x12 x13 x14 x15) ∗ owns (c : Thread nD τ) arg27 fullShare (out0_26 x0 x1 x2 x3 x4 x5 x6 x7 x8 x9 x10 x11 x12 x13 x14 x15) ∗ owns (c : Thread nD τ) arg28 fullShare (out0_27 x0 x1 x2 x3 x4 x5 x6 x7 x8 x9 x10 x11 x12 x13 x14 x15)) -∗ K ⟨⟩))
      ⊢ wp frame (wpE (defs₀ (F := F)) Variants.none c none) E (cc0_adamw_w_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_adamw_w_out_eq_skeleton]; unfold cc0_adamw_w_out_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (cover0_16 _)
  isplitl [H17]
  · iexists _; isplitr
    swap; · iexact H17
    ipureintro
    exact View.read_writes_eq_canon _ _ _ (cover0_17 _)
  isplitl [H18]
  · iexists _; isplitr
    swap; · iexact H18
    ipureintro
    exact View.read_writes_eq_canon _ _ _ (cover0_18 _)
  isplitl [H19]
  · iexists _; isplitr
    swap; · iexact H19
    ipureintro
    exact View.read_writes_eq_canon _ _ _ (cover0_19 _)
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_22 _)
  isplitl [H23]
  · iexists _; isplitr
    swap; · iexact H23
    ipureintro
    exact View.read_writes_eq_canon _ _ _ (cover0_23 _)
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  iexists _; isplitr
  swap; · iexact H27
  ipureintro
  exact View.read_writes_eq_canon _ _ _ (cover0_27 _)

/-! ## The pipeline's proof data -/

/-- The region's proof data: the arrays as launched; after the body each input window holds its block and each output window
    what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 28, h⟩ => absurd h (Nat.not_lt.2 (Nat.le_add_left _ _))
  Φ _ := Pipeline.ΦA spec0 c
  q _ := fullShare
  owed _ := 0

/-- The proof data's arrays are the launched ones. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input window holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 2000000 in
/-- The body at any point, from `sound_kernel`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body the region calls at point t. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body meets the region's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The program's run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program's run. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The program's frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.AdamwLateIdeal.Late

end
-- ==== Proof.LateValue.lean ====
/- The optimiser's call on the four later weights: each result as a function of the arguments. -/
module

public import proofs.«01_k».proof.Proof.AdamwModel
public import proofs.«01_k».proof.Proof.LateRun
public import Idealize.ShloMosaic.Lib.Pipeline.Value

@[expose] public section

noncomputable section

namespace Cert.AdamwLateIdeal.LateValue

open Cert.AdamwLateIdeal Cert.AdamwLateIdeal.Gen Cert.AdamwLateIdeal.Late Cert.Adamw
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- At point t a window of 64 rows is at block row t, -/
theorem at64 : ∀ t : Fin cfg0.N, win0_16.index t (0 : Fin 2) = t.val ∧ win0_16.index t (1 : Fin 2) = 0 :=
  (by decide +kernel : ∀ t : Fin grid0.N, _)

/-- and so is a window of 176 rows. -/
theorem at176 : ∀ t : Fin cfg0.N, win0_17.index t (0 : Fin 2) = t.val ∧ win0_17.index t (1 : Fin 2) = 0 :=
  (by decide +kernel : ∀ t : Fin grid0.N, _)

/-- The four blocks of 64 rows fill an array of 256 rows. -/
theorem fill256 (i : S256x1024.Idx) : ∃ t : Fin cfg0.N, i ∈ (win0_16.rect t).set := by
  have hi0 : (i 0).val < 256 := (i 0).isLt
  have hi1 : (i 1).val < 1024 := (i 1).isLt
  have hN : (i 0).val / 64 < 4 := by omega
  refine ⟨⟨(i 0).val / 64, hN⟩, ?_⟩
  obtain ⟨q0, q1⟩ := at64 ⟨(i 0).val / 64, hN⟩
  replace q0 : win0_16.index ⟨(i 0).val / 64, hN⟩ (0 : Fin 2) = (i 0).val / 64 := q0
  rw [Rect.mem_set_unit]
  intro a
  match a with
  | ⟨0, _⟩ =>
    show win0_16.index _ (0 : Fin 2) * 64 ≤ (i 0).val ∧ (i 0).val < win0_16.index _ (0 : Fin 2) * 64 + 64
    rw [q0]; omega
  | ⟨1, _⟩ =>
    show win0_16.index _ (1 : Fin 2) * 1024 ≤ (i 1).val ∧ (i 1).val < win0_16.index _ (1 : Fin 2) * 1024 + 1024
    rw [q1]; omega

/-- The four blocks of 176 rows fill an array of 704 rows. -/
theorem fill704 (i : S704x1024.Idx) : ∃ t : Fin cfg0.N, i ∈ (win0_17.rect t).set := by
  have hi0 : (i 0).val < 704 := (i 0).isLt
  have hi1 : (i 1).val < 1024 := (i 1).isLt
  have hN : (i 0).val / 176 < 4 := by omega
  refine ⟨⟨(i 0).val / 176, hN⟩, ?_⟩
  obtain ⟨q0, q1⟩ := at176 ⟨(i 0).val / 176, hN⟩
  replace q0 : win0_17.index ⟨(i 0).val / 176, hN⟩ (0 : Fin 2) = (i 0).val / 176 := q0
  rw [Rect.mem_set_unit]
  intro a
  match a with
  | ⟨0, _⟩ =>
    show win0_17.index _ (0 : Fin 2) * 176 ≤ (i 0).val ∧ (i 0).val < win0_17.index _ (0 : Fin 2) * 176 + 176
    rw [q0]; omega
  | ⟨1, _⟩ =>
    show win0_17.index _ (1 : Fin 2) * 1024 ≤ (i 1).val ∧ (i 1).val < win0_17.index _ (1 : Fin 2) * 1024 + 1024
    rw [q1]; omega

/-- The changes of w_out after the run. -/
theorem final16 (c : Dev nD) : (dats m 0 c).arrAt 16 cfg0.N = changes (m ((c : Thread nD τ).loc main_arg0)) (m ((c : Thread nD τ).loc main_arg4)) (m ((c : Thread nD τ).loc main_arg8)) (m ((c : Thread nD τ).loc main_arg12)) :=
  (dats m 0 c).arrAt_eq_of_cover 16 _ (fun t _ => by
      show (cfg0.win 16).cut (grid0.coords t) ((dats m 0 c).after 16 t) = _
      rw [after0_16]
      unfold out0_16
      rw [View.canon_unit_zero hz]
      simp only [View.ld_unit_zero (S := S64x1024) hz]
      rfl)
    fun i => (fill256 i).imp fun t h => ⟨flush0_16 t, by
      show i ∈ ((View.whole main_v0_0).slice (win0_16.rect t)).set
      rw [View.set_slice_whole]; exact h⟩

/-- The changes of w_gate after the run. -/
theorem final17 (c : Dev nD) : (dats m 0 c).arrAt 17 cfg0.N = changes (m ((c : Thread nD τ).loc main_arg1)) (m ((c : Thread nD τ).loc main_arg5)) (m ((c : Thread nD τ).loc main_arg9)) (m ((c : Thread nD τ).loc main_arg13)) :=
  (dats m 0 c).arrAt_eq_of_cover 17 _ (fun t _ => by
      show (cfg0.win 17).cut (grid0.coords t) ((dats m 0 c).after 17 t) = _
      rw [after0_17]
      unfold out0_17
      rw [View.canon_unit_zero hz]
      simp only [View.ld_unit_zero (S := S176x1024) hz]
      rfl)
    fun i => (fill704 i).imp fun t h => ⟨flush0_17 t, by
      show i ∈ ((View.whole main_v0_1).slice (win0_17.rect t)).set
      rw [View.set_slice_whole]; exact h⟩

/-- The changes of w_up after the run. -/
theorem final18 (c : Dev nD) : (dats m 0 c).arrAt 18 cfg0.N = changes (m ((c : Thread nD τ).loc main_arg2)) (m ((c : Thread nD τ).loc main_arg6)) (m ((c : Thread nD τ).loc main_arg10)) (m ((c : Thread nD τ).loc main_arg14)) :=
  (dats m 0 c).arrAt_eq_of_cover 18 _ (fun t _ => by
      show (cfg0.win 18).cut (grid0.coords t) ((dats m 0 c).after 18 t) = _
      rw [after0_18]
      unfold out0_18
      rw [View.canon_unit_zero hz]
      simp only [View.ld_unit_zero (S := S176x1024) hz]
      rfl)
    fun i => (fill704 i).imp fun t h => ⟨flush0_18 t, by
      show i ∈ ((View.whole main_v0_2).slice (win0_18.rect t)).set
      rw [View.set_slice_whole]; exact h⟩

/-- The changes of w_down after the run. -/
theorem final19 (c : Dev nD) : (dats m 0 c).arrAt 19 cfg0.N = changes (m ((c : Thread nD τ).loc main_arg3)) (m ((c : Thread nD τ).loc main_arg7)) (m ((c : Thread nD τ).loc main_arg11)) (m ((c : Thread nD τ).loc main_arg15)) :=
  (dats m 0 c).arrAt_eq_of_cover 19 _ (fun t _ => by
      show (cfg0.win 19).cut (grid0.coords t) ((dats m 0 c).after 19 t) = _
      rw [after0_19]
      unfold out0_19
      rw [View.canon_unit_zero hz]
      simp only [View.ld_unit_zero (S := S176x1024) hz]
      rfl)
    fun i => (fill704 i).imp fun t h => ⟨flush0_19 t, by
      show i ∈ ((View.whole main_v0_3).slice (win0_19.rect t)).set
      rw [View.set_slice_whole]; exact h⟩

/-- The new first moments of w_out after the run. -/
theorem final20 (c : Dev nD) : (dats m 0 c).arrAt 20 cfg0.N = moms (m ((c : Thread nD τ).loc main_arg4)) (m ((c : Thread nD τ).loc main_arg8)) :=
  (dats m 0 c).arrAt_eq_of_cover 20 _ (fun t _ => by
      show (cfg0.win 20).cut (grid0.coords t) ((dats m 0 c).after 20 t) = _
      rw [after0_20]
      unfold out0_20
      rw [View.canon_unit_zero hz]
      simp only [View.ld_unit_zero (S := S64x1024) hz]
      rfl)
    fun i => (fill256 i).imp fun t h => ⟨flush0_20 t, by
      show i ∈ ((View.whole main_v0_4).slice (win0_20.rect t)).set
      rw [View.set_slice_whole]; exact h⟩

/-- The new first moments of w_gate after the run. -/
theorem final21 (c : Dev nD) : (dats m 0 c).arrAt 21 cfg0.N = moms (m ((c : Thread nD τ).loc main_arg5)) (m ((c : Thread nD τ).loc main_arg9)) :=
  (dats m 0 c).arrAt_eq_of_cover 21 _ (fun t _ => by
      show (cfg0.win 21).cut (grid0.coords t) ((dats m 0 c).after 21 t) = _
      rw [after0_21]
      unfold out0_21
      rw [View.canon_unit_zero hz]
      simp only [View.ld_unit_zero (S := S176x1024) hz]
      rfl)
    fun i => (fill704 i).imp fun t h => ⟨flush0_21 t, by
      show i ∈ ((View.whole main_v0_5).slice (win0_21.rect t)).set
      rw [View.set_slice_whole]; exact h⟩

/-- The new first moments of w_up after the run. -/
theorem final22 (c : Dev nD) : (dats m 0 c).arrAt 22 cfg0.N = moms (m ((c : Thread nD τ).loc main_arg6)) (m ((c : Thread nD τ).loc main_arg10)) :=
  (dats m 0 c).arrAt_eq_of_cover 22 _ (fun t _ => by
      show (cfg0.win 22).cut (grid0.coords t) ((dats m 0 c).after 22 t) = _
      rw [after0_22]
      unfold out0_22
      rw [View.canon_unit_zero hz]
      simp only [View.ld_unit_zero (S := S176x1024) hz]
      rfl)
    fun i => (fill704 i).imp fun t h => ⟨flush0_22 t, by
      show i ∈ ((View.whole main_v0_6).slice (win0_22.rect t)).set
      rw [View.set_slice_whole]; exact h⟩

/-- The new first moments of w_down after the run. -/
theorem final23 (c : Dev nD) : (dats m 0 c).arrAt 23 cfg0.N = moms (m ((c : Thread nD τ).loc main_arg7)) (m ((c : Thread nD τ).loc main_arg11)) :=
  (dats m 0 c).arrAt_eq_of_cover 23 _ (fun t _ => by
      show (cfg0.win 23).cut (grid0.coords t) ((dats m 0 c).after 23 t) = _
      rw [after0_23]
      unfold out0_23
      rw [View.canon_unit_zero hz]
      simp only [View.ld_unit_zero (S := S176x1024) hz]
      rfl)
    fun i => (fill704 i).imp fun t h => ⟨flush0_23 t, by
      show i ∈ ((View.whole main_v0_7).slice (win0_23.rect t)).set
      rw [View.set_slice_whole]; exact h⟩

/-- The new second moments of w_out after the run. -/
theorem final24 (c : Dev nD) : (dats m 0 c).arrAt 24 cfg0.N = vars (m ((c : Thread nD τ).loc main_arg4)) (m ((c : Thread nD τ).loc main_arg12)) :=
  (dats m 0 c).arrAt_eq_of_cover 24 _ (fun t _ => by
      show (cfg0.win 24).cut (grid0.coords t) ((dats m 0 c).after 24 t) = _
      rw [after0_24]
      unfold out0_24
      rw [View.canon_unit_zero hz]
      simp only [View.ld_unit_zero (S := S64x1024) hz]
      rfl)
    fun i => (fill256 i).imp fun t h => ⟨flush0_24 t, by
      show i ∈ ((View.whole main_v0_8).slice (win0_24.rect t)).set
      rw [View.set_slice_whole]; exact h⟩

/-- The new second moments of w_gate after the run. -/
theorem final25 (c : Dev nD) : (dats m 0 c).arrAt 25 cfg0.N = vars (m ((c : Thread nD τ).loc main_arg5)) (m ((c : Thread nD τ).loc main_arg13)) :=
  (dats m 0 c).arrAt_eq_of_cover 25 _ (fun t _ => by
      show (cfg0.win 25).cut (grid0.coords t) ((dats m 0 c).after 25 t) = _
      rw [after0_25]
      unfold out0_25
      rw [View.canon_unit_zero hz]
      simp only [View.ld_unit_zero (S := S176x1024) hz]
      rfl)
    fun i => (fill704 i).imp fun t h => ⟨flush0_25 t, by
      show i ∈ ((View.whole main_v0_9).slice (win0_25.rect t)).set
      rw [View.set_slice_whole]; exact h⟩

/-- The new second moments of w_up after the run. -/
theorem final26 (c : Dev nD) : (dats m 0 c).arrAt 26 cfg0.N = vars (m ((c : Thread nD τ).loc main_arg6)) (m ((c : Thread nD τ).loc main_arg14)) :=
  (dats m 0 c).arrAt_eq_of_cover 26 _ (fun t _ => by
      show (cfg0.win 26).cut (grid0.coords t) ((dats m 0 c).after 26 t) = _
      rw [after0_26]
      unfold out0_26
      rw [View.canon_unit_zero hz]
      simp only [View.ld_unit_zero (S := S176x1024) hz]
      rfl)
    fun i => (fill704 i).imp fun t h => ⟨flush0_26 t, by
      show i ∈ ((View.whole main_v0_10).slice (win0_26.rect t)).set
      rw [View.set_slice_whole]; exact h⟩

/-- The new second moments of w_down after the run. -/
theorem final27 (c : Dev nD) : (dats m 0 c).arrAt 27 cfg0.N = vars (m ((c : Thread nD τ).loc main_arg7)) (m ((c : Thread nD τ).loc main_arg15)) :=
  (dats m 0 c).arrAt_eq_of_cover 27 _ (fun t _ => by
      show (cfg0.win 27).cut (grid0.coords t) ((dats m 0 c).after 27 t) = _
      rw [after0_27]
      unfold out0_27
      rw [View.canon_unit_zero hz]
      simp only [View.ld_unit_zero (S := S176x1024) hz]
      rfl)
    fun i => (fill704 i).imp fun t h => ⟨flush0_27 t, by
      show i ∈ ((View.whole main_v0_11).slice (win0_27.rect t)).set
      rw [View.set_slice_whole]; exact h⟩

set_option maxHeartbeats 2000000 in
/-- The call's run: each result at its function of the arguments, the arguments unchanged. -/
theorem run : θ_run defs (onTc (τ := τ) (main (F := F))) ⟨m, fun _ => 0, ρ⟩ fun r => ∀ c : Dev nD,
      r.2.mem ((c : Thread nD τ).loc main_v0_0) = changes (m ((c : Thread nD τ).loc main_arg0)) (m ((c : Thread nD τ).loc main_arg4)) (m ((c : Thread nD τ).loc main_arg8)) (m ((c : Thread nD τ).loc main_arg12))
      ∧ r.2.mem ((c : Thread nD τ).loc main_v0_1) = changes (m ((c : Thread nD τ).loc main_arg1)) (m ((c : Thread nD τ).loc main_arg5)) (m ((c : Thread nD τ).loc main_arg9)) (m ((c : Thread nD τ).loc main_arg13))
      ∧ r.2.mem ((c : Thread nD τ).loc main_v0_2) = changes (m ((c : Thread nD τ).loc main_arg2)) (m ((c : Thread nD τ).loc main_arg6)) (m ((c : Thread nD τ).loc main_arg10)) (m ((c : Thread nD τ).loc main_arg14))
      ∧ r.2.mem ((c : Thread nD τ).loc main_v0_3) = changes (m ((c : Thread nD τ).loc main_arg3)) (m ((c : Thread nD τ).loc main_arg7)) (m ((c : Thread nD τ).loc main_arg11)) (m ((c : Thread nD τ).loc main_arg15))
      ∧ r.2.mem ((c : Thread nD τ).loc main_v0_4) = moms (m ((c : Thread nD τ).loc main_arg4)) (m ((c : Thread nD τ).loc main_arg8))
      ∧ r.2.mem ((c : Thread nD τ).loc main_v0_5) = moms (m ((c : Thread nD τ).loc main_arg5)) (m ((c : Thread nD τ).loc main_arg9))
      ∧ r.2.mem ((c : Thread nD τ).loc main_v0_6) = moms (m ((c : Thread nD τ).loc main_arg6)) (m ((c : Thread nD τ).loc main_arg10))
      ∧ r.2.mem ((c : Thread nD τ).loc main_v0_7) = moms (m ((c : Thread nD τ).loc main_arg7)) (m ((c : Thread nD τ).loc main_arg11))
      ∧ r.2.mem ((c : Thread nD τ).loc main_v0_8) = vars (m ((c : Thread nD τ).loc main_arg4)) (m ((c : Thread nD τ).loc main_arg12))
      ∧ r.2.mem ((c : Thread nD τ).loc main_v0_9) = vars (m ((c : Thread nD τ).loc main_arg5)) (m ((c : Thread nD τ).loc main_arg13))
      ∧ r.2.mem ((c : Thread nD τ).loc main_v0_10) = vars (m ((c : Thread nD τ).loc main_arg6)) (m ((c : Thread nD τ).loc main_arg14))
      ∧ r.2.mem ((c : Thread nD τ).loc main_v0_11) = vars (m ((c : Thread nD τ).loc main_arg7)) (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨((h c).1 16).trans (final16 m c),
      ((h c).1 17).trans (final17 m c),
      ((h c).1 18).trans (final18 m c),
      ((h c).1 19).trans (final19 m c),
      ((h c).1 20).trans (final20 m c),
      ((h c).1 21).trans (final21 m c),
      ((h c).1 22).trans (final22 m c),
      ((h c).1 23).trans (final23 m c),
      ((h c).1 24).trans (final24 m c),
      ((h c).1 25).trans (final25 m c),
      ((h c).1 26).trans (final26 m c),
      ((h c).1 27).trans (final27 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c)))⟩)
    (run_main m ρ)

end Cert.AdamwLateIdeal.LateValue

end
-- ==== Proof.EndRunA.lean ====
module

public import proofs.«01_k».proof.Proof.Gen.LayerEndIdeal.Launch
public import proofs.«01_k».proof.Proof.Gen.LayerEndIdeal.Skeleton
public import proofs.«01_k».proof.Proof.Gen.LayerEndIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The layer-end call: the run of its body at the first point -/

@[expose] public section

set_option maxRecDepth 16384

noncomputable section

namespace Cert.LayerEndIdeal.End

open Cert.LayerEndIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates. -/
abbrev cond0_0 (i : grid0.Coords) : Prop :=
  (Scalar.cmpi .ne (Scalar.extui (Scalar.cmpi .eq (BitVec.ofNat 32 (i 0).val) 0#32)) 0#32) = 1#1

set_option maxHeartbeats 4000000 in
/-- The stores of the body at the first point, where the four running sums start from zero: for each output the list of
    what is stored into its staging buffer, last store first, with the proof that the body run on whole staging buffers
    leaves exactly that. -/
noncomputable def kernelRun0_A
    (c : Dev nD) (i : grid0.Coords) (arg1 : Memref sig .tc .vmem S256x1024 .f32) (harg1 : arg1.IsWhole) (arg2 : Memref sig .tc .vmem S256x512 .f32)
    (harg2 : arg2.IsWhole) (arg3 : Memref sig .tc .vmem S256x512 .f32) (harg3 : arg3.IsWhole) (arg4 : Memref sig .tc .vmem S256x1024 .f32)
    (harg4 : arg4.IsWhole) (arg5 : Memref sig .tc .vmem S1x512 .f32) (harg5 : arg5.IsWhole) (arg6 : Memref sig .tc .vmem S1x512 .f32) (harg6 : arg6.IsWhole)
    (arg7 : Memref sig .tc .vmem S1024x1024 .bf16) (harg7 : arg7.IsWhole) (arg8 : Memref sig .tc .vmem S1x1024 .f32) (harg8 : arg8.IsWhole)
    (arg9 : Memref sig .tc .vmem S2816x1024 .bf16) (harg9 : arg9.IsWhole) (arg10 : Memref sig .tc .vmem S2816x1024 .bf16) (harg10 : arg10.IsWhole)
    (arg11 : Memref sig .tc .vmem S2816x1024 .bf16) (harg11 : arg11.IsWhole) (arg12 : Memref sig .tc .vmem S256x512 .f32) (harg12 : arg12.IsWhole)
    (arg13 : Memref sig .tc .vmem S256x512 .f32) (harg13 : arg13.IsWhole) (arg14 : Memref sig .tc .vmem S256x1024 .f32) (harg14 : arg14.IsWhole)
    (arg15 : Memref sig .tc .vmem S256x1024 .bf16) (harg15 : arg15.IsWhole) (arg16 : Memref sig .tc .vmem S256x1024 .bf16) (harg16 : arg16.IsWhole)
    (arg17 : Memref sig .tc .vmem S256x1024 .bf16) (harg17 : arg17.IsWhole) (arg18 : Memref sig .tc .vmem S256x2816 .bf16) (harg18 : arg18.IsWhole)
    (arg19 : Memref sig .tc .vmem S256x2816 .bf16) (harg19 : arg19.IsWhole) (arg20 : Memref sig .tc .vmem S256x2816 .bf16) (harg20 : arg20.IsWhole)
    (arg21 : Memref sig .tc .vmem S256x1024 .bf16) (harg21 : arg21.IsWhole) (arg22 : Memref sig .tc .vmem S1x1 .f32) (harg22 : arg22.IsWhole)
    (arg23 : Memref sig .tc .vmem S1x512 .f32) (harg23 : arg23.IsWhole) (arg24 : Memref sig .tc .vmem S1x512 .f32) (harg24 : arg24.IsWhole)
    (arg25 : Memref sig .tc .vmem S1x1024 .f32) (harg25 : arg25.IsWhole)
    (hc0 : cond0_0 i)
    (x0 : Vec F S256x1024 .f32) (x1 : Vec F S256x512 .f32) (x2 : Vec F S256x512 .f32) (x3 : Vec F S256x1024 .f32) (x4 : Vec F S1x512 .f32)
    (x5 : Vec F S1x512 .f32) (x6 : Vec F S1024x1024 .bf16) (x7 : Vec F S1x1024 .f32) (x8 : Vec F S2816x1024 .bf16) (x9 : Vec F S2816x1024 .bf16)
    (x10 : Vec F S2816x1024 .bf16) :
    Σ' (L11 : List (View.Piece (Elt F) S256x512 .f32)),
    Σ' (L12 : List (View.Piece (Elt F) S256x512 .f32)),
    Σ' (L13 : List (View.Piece (Elt F) S256x1024 .f32)),
    Σ' (L14 : List (View.Piece (Elt F) S256x1024 .bf16)),
    Σ' (L15 : List (View.Piece (Elt F) S256x1024 .bf16)),
    Σ' (L16 : List (View.Piece (Elt F) S256x1024 .bf16)),
    Σ' (L17 : List (View.Piece (Elt F) S256x2816 .bf16)),
    Σ' (L18 : List (View.Piece (Elt F) S256x2816 .bf16)),
    Σ' (L19 : List (View.Piece (Elt F) S256x2816 .bf16)),
    Σ' (L20 : List (View.Piece (Elt F) S256x1024 .bf16)),
    Σ' (L21 : List (View.Piece (Elt F) S1x1 .f32)),
    Σ' (L22 : List (View.Piece (Elt F) S1x512 .f32)),
    Σ' (L23 : List (View.Piece (Elt F) S1x512 .f32)), { L24 : List (View.Piece (Elt F) S1x1024 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ (∃ f, arg12.view.loc (c : Thread nD τ) ↦[arg12.view.set]{fullShare} arg12.view.writes (Elt F) f L11)
            ∗ (∃ f, arg13.view.loc (c : Thread nD τ) ↦[arg13.view.set]{fullShare} arg13.view.writes (Elt F) f L12)
            ∗ (∃ f, arg14.view.loc (c : Thread nD τ) ↦[arg14.view.set]{fullShare} arg14.view.writes (Elt F) f L13)
            ∗ (∃ f, arg15.view.loc (c : Thread nD τ) ↦[arg15.view.set]{fullShare} arg15.view.writes (Elt F) f L14)
            ∗ (∃ f, arg16.view.loc (c : Thread nD τ) ↦[arg16.view.set]{fullShare} arg16.view.writes (Elt F) f L15)
            ∗ (∃ f, arg17.view.loc (c : Thread nD τ) ↦[arg17.view.set]{fullShare} arg17.view.writes (Elt F) f L16)
            ∗ (∃ f, arg18.view.loc (c : Thread nD τ) ↦[arg18.view.set]{fullShare} arg18.view.writes (Elt F) f L17)
            ∗ (∃ f, arg19.view.loc (c : Thread nD τ) ↦[arg19.view.set]{fullShare} arg19.view.writes (Elt F) f L18)
            ∗ (∃ f, arg20.view.loc (c : Thread nD τ) ↦[arg20.view.set]{fullShare} arg20.view.writes (Elt F) f L19)
            ∗ (∃ f, arg21.view.loc (c : Thread nD τ) ↦[arg21.view.set]{fullShare} arg21.view.writes (Elt F) f L20)
            ∗ (∃ f, arg22.view.loc (c : Thread nD τ) ↦[arg22.view.set]{fullShare} arg22.view.writes (Elt F) f L21)
            ∗ (∃ f, arg23.view.loc (c : Thread nD τ) ↦[arg23.view.set]{fullShare} arg23.view.writes (Elt F) f L22)
            ∗ (∃ f, arg24.view.loc (c : Thread nD τ) ↦[arg24.view.set]{fullShare} arg24.view.writes (Elt F) f L23)
            ∗ (∃ f, arg25.view.loc (c : Thread nD τ) ↦[arg25.view.set]{fullShare} arg25.view.writes (Elt F) f L24)) -∗ K ⟨⟩))
          ⊢ wp frame (wpE (defs₀ (F := F)) Variants.none c none) E (cc0_stage_d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, fun E K => ?run⟩
  case run =>
    simp only [cc0_stage_d_eq_skeleton]; unfold cc0_stage_d_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.LayerEndIdeal.End

end
-- ==== Proof.EndRunB.lean ====
module

public import proofs.«01_k».proof.Proof.Gen.LayerEndIdeal.Launch
public import proofs.«01_k».proof.Proof.Gen.LayerEndIdeal.Skeleton
public import proofs.«01_k».proof.Proof.Gen.LayerEndIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The layer-end call: the run of its body at a later point -/

@[expose] public section

set_option maxRecDepth 16384

noncomputable section

namespace Cert.LayerEndIdeal.End

open Cert.LayerEndIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores of the body at a later point, where the four running sums go on from what their buffers hold: for each
    output the list of what is stored into its staging buffer, with the proof that the body leaves exactly that. -/
noncomputable def kernelRun0_B
    (c : Dev nD) (i : grid0.Coords) (arg1 : Memref sig .tc .vmem S256x1024 .f32) (harg1 : arg1.IsWhole) (arg2 : Memref sig .tc .vmem S256x512 .f32)
    (harg2 : arg2.IsWhole) (arg3 : Memref sig .tc .vmem S256x512 .f32) (harg3 : arg3.IsWhole) (arg4 : Memref sig .tc .vmem S256x1024 .f32)
    (harg4 : arg4.IsWhole) (arg5 : Memref sig .tc .vmem S1x512 .f32) (harg5 : arg5.IsWhole) (arg6 : Memref sig .tc .vmem S1x512 .f32) (harg6 : arg6.IsWhole)
    (arg7 : Memref sig .tc .vmem S1024x1024 .bf16) (harg7 : arg7.IsWhole) (arg8 : Memref sig .tc .vmem S1x1024 .f32) (harg8 : arg8.IsWhole)
    (arg9 : Memref sig .tc .vmem S2816x1024 .bf16) (harg9 : arg9.IsWhole) (arg10 : Memref sig .tc .vmem S2816x1024 .bf16) (harg10 : arg10.IsWhole)
    (arg11 : Memref sig .tc .vmem S2816x1024 .bf16) (harg11 : arg11.IsWhole) (arg12 : Memref sig .tc .vmem S256x512 .f32) (harg12 : arg12.IsWhole)
    (arg13 : Memref sig .tc .vmem S256x512 .f32) (harg13 : arg13.IsWhole) (arg14 : Memref sig .tc .vmem S256x1024 .f32) (harg14 : arg14.IsWhole)
    (arg15 : Memref sig .tc .vmem S256x1024 .bf16) (harg15 : arg15.IsWhole) (arg16 : Memref sig .tc .vmem S256x1024 .bf16) (harg16 : arg16.IsWhole)
    (arg17 : Memref sig .tc .vmem S256x1024 .bf16) (harg17 : arg17.IsWhole) (arg18 : Memref sig .tc .vmem S256x2816 .bf16) (harg18 : arg18.IsWhole)
    (arg19 : Memref sig .tc .vmem S256x2816 .bf16) (harg19 : arg19.IsWhole) (arg20 : Memref sig .tc .vmem S256x2816 .bf16) (harg20 : arg20.IsWhole)
    (arg21 : Memref sig .tc .vmem S256x1024 .bf16) (harg21 : arg21.IsWhole) (arg22 : Memref sig .tc .vmem S1x1 .f32) (harg22 : arg22.IsWhole)
    (arg23 : Memref sig .tc .vmem S1x512 .f32) (harg23 : arg23.IsWhole) (arg24 : Memref sig .tc .vmem S1x512 .f32) (harg24 : arg24.IsWhole)
    (arg25 : Memref sig .tc .vmem S1x1024 .f32) (harg25 : arg25.IsWhole)
    (hc0 : ¬(Scalar.cmpi .ne (Scalar.extui (Scalar.cmpi .eq (BitVec.ofNat 32 (i 0).val) 0#32)) 0#32) = 1#1)
    (x0 : Vec F S256x1024 .f32) (x1 : Vec F S256x512 .f32) (x2 : Vec F S256x512 .f32) (x3 : Vec F S256x1024 .f32) (x4 : Vec F S1x512 .f32)
    (x5 : Vec F S1x512 .f32) (x6 : Vec F S1024x1024 .bf16) (x7 : Vec F S1x1024 .f32) (x8 : Vec F S2816x1024 .bf16) (x9 : Vec F S2816x1024 .bf16)
    (x10 : Vec F S2816x1024 .bf16) (xo21 : Vec F S1x1 .f32) (xo22 : Vec F S1x512 .f32) (xo23 : Vec F S1x512 .f32) (xo24 : Vec F S1x1024 .f32) :
    Σ' (L11 : List (View.Piece (Elt F) S256x512 .f32)),
    Σ' (L12 : List (View.Piece (Elt F) S256x512 .f32)),
    Σ' (L13 : List (View.Piece (Elt F) S256x1024 .f32)),
    Σ' (L14 : List (View.Piece (Elt F) S256x1024 .bf16)),
    Σ' (L15 : List (View.Piece (Elt F) S256x1024 .bf16)),
    Σ' (L16 : List (View.Piece (Elt F) S256x1024 .bf16)),
    Σ' (L17 : List (View.Piece (Elt F) S256x2816 .bf16)),
    Σ' (L18 : List (View.Piece (Elt F) S256x2816 .bf16)),
    Σ' (L19 : List (View.Piece (Elt F) S256x2816 .bf16)),
    Σ' (L20 : List (View.Piece (Elt F) S256x1024 .bf16)),
    Σ' (L21 : List (View.Piece (Elt F) S1x1 .f32)),
    Σ' (L22 : List (View.Piece (Elt F) S1x512 .f32)),
    Σ' (L23 : List (View.Piece (Elt F) S1x512 .f32)), { L24 : List (View.Piece (Elt F) S1x1024 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ owns (c : Thread nD τ) arg22 fullShare xo21
            ∗ owns (c : Thread nD τ) arg23 fullShare xo22
            ∗ owns (c : Thread nD τ) arg24 fullShare xo23
            ∗ owns (c : Thread nD τ) arg25 fullShare xo24
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ (∃ f, arg12.view.loc (c : Thread nD τ) ↦[arg12.view.set]{fullShare} arg12.view.writes (Elt F) f L11)
            ∗ (∃ f, arg13.view.loc (c : Thread nD τ) ↦[arg13.view.set]{fullShare} arg13.view.writes (Elt F) f L12)
            ∗ (∃ f, arg14.view.loc (c : Thread nD τ) ↦[arg14.view.set]{fullShare} arg14.view.writes (Elt F) f L13)
            ∗ (∃ f, arg15.view.loc (c : Thread nD τ) ↦[arg15.view.set]{fullShare} arg15.view.writes (Elt F) f L14)
            ∗ (∃ f, arg16.view.loc (c : Thread nD τ) ↦[arg16.view.set]{fullShare} arg16.view.writes (Elt F) f L15)
            ∗ (∃ f, arg17.view.loc (c : Thread nD τ) ↦[arg17.view.set]{fullShare} arg17.view.writes (Elt F) f L16)
            ∗ (∃ f, arg18.view.loc (c : Thread nD τ) ↦[arg18.view.set]{fullShare} arg18.view.writes (Elt F) f L17)
            ∗ (∃ f, arg19.view.loc (c : Thread nD τ) ↦[arg19.view.set]{fullShare} arg19.view.writes (Elt F) f L18)
            ∗ (∃ f, arg20.view.loc (c : Thread nD τ) ↦[arg20.view.set]{fullShare} arg20.view.writes (Elt F) f L19)
            ∗ (∃ f, arg21.view.loc (c : Thread nD τ) ↦[arg21.view.set]{fullShare} arg21.view.writes (Elt F) f L20)
            ∗ (∃ f, arg22.view.loc (c : Thread nD τ) ↦[arg22.view.set]{fullShare} arg22.view.writes (Elt F) f L21)
            ∗ (∃ f, arg23.view.loc (c : Thread nD τ) ↦[arg23.view.set]{fullShare} arg23.view.writes (Elt F) f L22)
            ∗ (∃ f, arg24.view.loc (c : Thread nD τ) ↦[arg24.view.set]{fullShare} arg24.view.writes (Elt F) f L23)
            ∗ (∃ f, arg25.view.loc (c : Thread nD τ) ↦[arg25.view.set]{fullShare} arg25.view.writes (Elt F) f L24)) -∗ K ⟨⟩))
          ⊢ wp frame (wpE (defs₀ (F := F)) Variants.none c none) E (cc0_stage_d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, fun E K => ?run⟩
  case run =>
    simp only [cc0_stage_d_eq_skeleton]; unfold cc0_stage_d_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%f23, %hf23, H23⟩, ⟨%f24, %hf24, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg22.eq_unread hf21; obtain rfl := harg23.eq_unread hf22; obtain rfl := harg24.eq_unread hf23; obtain rfl := harg25.eq_unread hf24
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.LayerEndIdeal.End

end
-- ==== Proof.EndRegion.lean ====
module

public import proofs.«01_k».proof.Proof.EndRunA
public import proofs.«01_k».proof.Proof.EndRunB
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The layer-end call: what its body leaves at each point of the grid -/

@[expose] public section

set_option maxRecDepth 16384

noncomputable section

namespace Cert.LayerEndIdeal.End

open Cert.LayerEndIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window at a point, read off its array as the call finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

abbrev VO0_11 : View sig .tc .vmem S256x512 .f32 := (Memref.whole cc0_stg11_0 : Memref sig .tc .vmem S256x512 .f32).view
abbrev VO0_12 : View sig .tc .vmem S256x512 .f32 := (Memref.whole cc0_stg12_0 : Memref sig .tc .vmem S256x512 .f32).view
abbrev VO0_13 : View sig .tc .vmem S256x1024 .f32 := (Memref.whole cc0_stg13_0 : Memref sig .tc .vmem S256x1024 .f32).view
abbrev VO0_14 : View sig .tc .vmem S256x1024 .bf16 := (Memref.whole cc0_stg14_0 : Memref sig .tc .vmem S256x1024 .bf16).view
abbrev VO0_15 : View sig .tc .vmem S256x1024 .bf16 := (Memref.whole cc0_stg15_0 : Memref sig .tc .vmem S256x1024 .bf16).view
abbrev VO0_16 : View sig .tc .vmem S256x1024 .bf16 := (Memref.whole cc0_stg16_0 : Memref sig .tc .vmem S256x1024 .bf16).view
abbrev VO0_17 : View sig .tc .vmem S256x2816 .bf16 := (Memref.whole cc0_stg17_0 : Memref sig .tc .vmem S256x2816 .bf16).view
abbrev VO0_18 : View sig .tc .vmem S256x2816 .bf16 := (Memref.whole cc0_stg18_0 : Memref sig .tc .vmem S256x2816 .bf16).view
abbrev VO0_19 : View sig .tc .vmem S256x2816 .bf16 := (Memref.whole cc0_stg19_0 : Memref sig .tc .vmem S256x2816 .bf16).view
abbrev VO0_20 : View sig .tc .vmem S256x1024 .bf16 := (Memref.whole cc0_stg20_0 : Memref sig .tc .vmem S256x1024 .bf16).view
abbrev VO0_21 : View sig .tc .vmem S1x1 .f32 := (Memref.whole cc0_stg21_0 : Memref sig .tc .vmem S1x1 .f32).view
abbrev VO0_22 : View sig .tc .vmem S1x512 .f32 := (Memref.whole cc0_stg22_0 : Memref sig .tc .vmem S1x512 .f32).view
abbrev VO0_23 : View sig .tc .vmem S1x512 .f32 := (Memref.whole cc0_stg23_0 : Memref sig .tc .vmem S1x512 .f32).view
abbrev VO0_24 : View sig .tc .vmem S1x1024 .f32 := (Memref.whole cc0_stg24_0 : Memref sig .tc .vmem S1x1024 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2816x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2816x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2816x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x1024 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x2816 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x2816 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x2816 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x1024 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x512 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x512 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1024 .f32 := win0_24.stage (cfg0.slots t 24)
abbrev hs0_24 (t : Fin cfg0.N) : (ms0_24 t).IsWhole := hstage0_24 ((cfg0.slots t 24).cast nbuf0_24)

/-- The run at the first point, on the point's own buffers and blocks. -/
abbrev runA (c : Dev nD) (t : Fin cfg0.N) (h0 : t.val % 17 = 0) :=
  kernelRun0_A (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t)
    (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t)
    (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t)
    (hs0_21 t) (ms0_22 t) (hs0_22 t) (ms0_23 t) (hs0_23 t) (ms0_24 t) (hs0_24 t)
    ((hcond0_0 t).mpr h0)
    (iblk0 V c 0 t) (iblk0 V c 1 t) (iblk0 V c 2 t) (iblk0 V c 3 t) (iblk0 V c 4 t) (iblk0 V c 5 t) (iblk0 V c 6 t) (iblk0 V c 7 t) (iblk0 V c 8 t)
    (iblk0 V c 9 t) (iblk0 V c 10 t)

/-- The run at a later point, over what the running sums hold. -/
abbrev runB (c : Dev nD) (t : Fin cfg0.N) (h0 : ¬t.val % 17 = 0)
    (xo21 : Vec F S1x1 .f32) (xo22 : Vec F S1x512 .f32) (xo23 : Vec F S1x512 .f32) (xo24 : Vec F S1x1024 .f32) :=
  kernelRun0_B (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t)
    (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t)
    (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t)
    (hs0_21 t) (ms0_22 t) (hs0_22 t) (ms0_23 t) (hs0_23 t) (ms0_24 t) (hs0_24 t)
    (fun h => h0 ((hcond0_0 t).mp h))
    (iblk0 V c 0 t) (iblk0 V c 1 t) (iblk0 V c 2 t) (iblk0 V c 3 t) (iblk0 V c 4 t) (iblk0 V c 5 t) (iblk0 V c 6 t) (iblk0 V c 7 t) (iblk0 V c 8 t)
    (iblk0 V c 9 t) (iblk0 V c 10 t)
    xo21 xo22 xo23 xo24

theorem coverA_11 (c : Dev nD) (t : Fin cfg0.N) (h0 : t.val % 17 = 0)
    (y : S256x512.Idx) : ∃ pc ∈ (runA V c t h0).1, y ∈ pc.1.set :=
  View.cover_of_tiledL (runA V c t h0).1 S256x512.size (by sl_kernel_rfl) y
theorem coverB_11 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S256x512.Idx) : ∃ pc ∈ (runB V c t h0 xo21 xo22 xo23 xo24).1, y ∈ pc.1.set :=
  View.cover_of_tiledL (runB V c t h0 xo21 xo22 xo23 xo24).1 S256x512.size (by sl_kernel_rfl) y
theorem coverA_12 (c : Dev nD) (t : Fin cfg0.N) (h0 : t.val % 17 = 0)
    (y : S256x512.Idx) : ∃ pc ∈ (runA V c t h0).2.1, y ∈ pc.1.set :=
  View.cover_of_tiledL (runA V c t h0).2.1 S256x512.size (by sl_kernel_rfl) y
theorem coverB_12 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S256x512.Idx) : ∃ pc ∈ (runB V c t h0 xo21 xo22 xo23 xo24).2.1, y ∈ pc.1.set :=
  View.cover_of_tiledL (runB V c t h0 xo21 xo22 xo23 xo24).2.1 S256x512.size (by sl_kernel_rfl) y
theorem coverA_13 (c : Dev nD) (t : Fin cfg0.N) (h0 : t.val % 17 = 0)
    (y : S256x1024.Idx) : ∃ pc ∈ (runA V c t h0).2.2.1, y ∈ pc.1.set :=
  View.cover_of_tiledL (runA V c t h0).2.2.1 S256x1024.size (by sl_kernel_rfl) y
theorem coverB_13 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S256x1024.Idx) : ∃ pc ∈ (runB V c t h0 xo21 xo22 xo23 xo24).2.2.1, y ∈ pc.1.set :=
  View.cover_of_tiledL (runB V c t h0 xo21 xo22 xo23 xo24).2.2.1 S256x1024.size (by sl_kernel_rfl) y
theorem coverA_14 (c : Dev nD) (t : Fin cfg0.N) (h0 : t.val % 17 = 0)
    (y : S256x1024.Idx) : ∃ pc ∈ (runA V c t h0).2.2.2.1, y ∈ pc.1.set :=
  View.cover_of_tiledL (runA V c t h0).2.2.2.1 S256x512.size (by sl_kernel_rfl) y
theorem coverB_14 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S256x1024.Idx) : ∃ pc ∈ (runB V c t h0 xo21 xo22 xo23 xo24).2.2.2.1, y ∈ pc.1.set :=
  View.cover_of_tiledL (runB V c t h0 xo21 xo22 xo23 xo24).2.2.2.1 S256x512.size (by sl_kernel_rfl) y
theorem coverA_15 (c : Dev nD) (t : Fin cfg0.N) (h0 : t.val % 17 = 0)
    (y : S256x1024.Idx) : ∃ pc ∈ (runA V c t h0).2.2.2.2.1, y ∈ pc.1.set :=
  View.cover_of_tiledL (runA V c t h0).2.2.2.2.1 S256x1024.size (by sl_kernel_rfl) y
theorem coverB_15 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S256x1024.Idx) : ∃ pc ∈ (runB V c t h0 xo21 xo22 xo23 xo24).2.2.2.2.1, y ∈ pc.1.set :=
  View.cover_of_tiledL (runB V c t h0 xo21 xo22 xo23 xo24).2.2.2.2.1 S256x1024.size (by sl_kernel_rfl) y
theorem coverA_16 (c : Dev nD) (t : Fin cfg0.N) (h0 : t.val % 17 = 0)
    (y : S256x1024.Idx) : ∃ pc ∈ (runA V c t h0).2.2.2.2.2.1, y ∈ pc.1.set :=
  View.cover_of_tiledL (runA V c t h0).2.2.2.2.2.1 S256x1024.size (by sl_kernel_rfl) y
theorem coverB_16 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S256x1024.Idx) : ∃ pc ∈ (runB V c t h0 xo21 xo22 xo23 xo24).2.2.2.2.2.1, y ∈ pc.1.set :=
  View.cover_of_tiledL (runB V c t h0 xo21 xo22 xo23 xo24).2.2.2.2.2.1 S256x1024.size (by sl_kernel_rfl) y
theorem coverA_17 (c : Dev nD) (t : Fin cfg0.N) (h0 : t.val % 17 = 0)
    (y : S256x2816.Idx) : ∃ pc ∈ (runA V c t h0).2.2.2.2.2.2.1, y ∈ pc.1.set :=
  View.cover_of_tiledL (runA V c t h0).2.2.2.2.2.2.1 S256x2816.size (by sl_kernel_rfl) y
theorem coverB_17 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S256x2816.Idx) : ∃ pc ∈ (runB V c t h0 xo21 xo22 xo23 xo24).2.2.2.2.2.2.1, y ∈ pc.1.set :=
  View.cover_of_tiledL (runB V c t h0 xo21 xo22 xo23 xo24).2.2.2.2.2.2.1 S256x2816.size (by sl_kernel_rfl) y
theorem coverA_18 (c : Dev nD) (t : Fin cfg0.N) (h0 : t.val % 17 = 0)
    (y : S256x2816.Idx) : ∃ pc ∈ (runA V c t h0).2.2.2.2.2.2.2.1, y ∈ pc.1.set :=
  View.cover_of_tiledL (runA V c t h0).2.2.2.2.2.2.2.1 S256x2816.size (by sl_kernel_rfl) y
theorem coverB_18 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S256x2816.Idx) : ∃ pc ∈ (runB V c t h0 xo21 xo22 xo23 xo24).2.2.2.2.2.2.2.1, y ∈ pc.1.set :=
  View.cover_of_tiledL (runB V c t h0 xo21 xo22 xo23 xo24).2.2.2.2.2.2.2.1 S256x2816.size (by sl_kernel_rfl) y
theorem coverA_19 (c : Dev nD) (t : Fin cfg0.N) (h0 : t.val % 17 = 0)
    (y : S256x2816.Idx) : ∃ pc ∈ (runA V c t h0).2.2.2.2.2.2.2.2.1, y ∈ pc.1.set :=
  View.cover_of_tiledL (runA V c t h0).2.2.2.2.2.2.2.2.1 S256x2816.size (by sl_kernel_rfl) y
theorem coverB_19 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S256x2816.Idx) : ∃ pc ∈ (runB V c t h0 xo21 xo22 xo23 xo24).2.2.2.2.2.2.2.2.1, y ∈ pc.1.set :=
  View.cover_of_tiledL (runB V c t h0 xo21 xo22 xo23 xo24).2.2.2.2.2.2.2.2.1 S256x2816.size (by sl_kernel_rfl) y
theorem coverA_20 (c : Dev nD) (t : Fin cfg0.N) (h0 : t.val % 17 = 0)
    (y : S256x1024.Idx) : ∃ pc ∈ (runA V c t h0).2.2.2.2.2.2.2.2.2.1, y ∈ pc.1.set :=
  View.cover_of_tiledL (runA V c t h0).2.2.2.2.2.2.2.2.2.1 S256x1024.size (by sl_kernel_rfl) y
theorem coverB_20 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S256x1024.Idx) : ∃ pc ∈ (runB V c t h0 xo21 xo22 xo23 xo24).2.2.2.2.2.2.2.2.2.1, y ∈ pc.1.set :=
  View.cover_of_tiledL (runB V c t h0 xo21 xo22 xo23 xo24).2.2.2.2.2.2.2.2.2.1 S256x1024.size (by sl_kernel_rfl) y
theorem coverA_21 (c : Dev nD) (t : Fin cfg0.N) (h0 : t.val % 17 = 0)
    (y : S1x1.Idx) : ∃ pc ∈ (runA V c t h0).2.2.2.2.2.2.2.2.2.2.1, y ∈ pc.1.set :=
  View.cover_of_tiledL (runA V c t h0).2.2.2.2.2.2.2.2.2.2.1 S1x1.size (by sl_kernel_rfl) y
theorem coverB_21 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S1x1.Idx) : ∃ pc ∈ (runB V c t h0 xo21 xo22 xo23 xo24).2.2.2.2.2.2.2.2.2.2.1, y ∈ pc.1.set :=
  View.cover_of_tiledL (runB V c t h0 xo21 xo22 xo23 xo24).2.2.2.2.2.2.2.2.2.2.1 S1x1.size (by sl_kernel_rfl) y
theorem coverA_22 (c : Dev nD) (t : Fin cfg0.N) (h0 : t.val % 17 = 0)
    (y : S1x512.Idx) : ∃ pc ∈ (runA V c t h0).2.2.2.2.2.2.2.2.2.2.2.1, y ∈ pc.1.set :=
  View.cover_of_tiledL (runA V c t h0).2.2.2.2.2.2.2.2.2.2.2.1 S1x512.size (by sl_kernel_rfl) y
theorem coverB_22 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S1x512.Idx) : ∃ pc ∈ (runB V c t h0 xo21 xo22 xo23 xo24).2.2.2.2.2.2.2.2.2.2.2.1, y ∈ pc.1.set :=
  View.cover_of_tiledL (runB V c t h0 xo21 xo22 xo23 xo24).2.2.2.2.2.2.2.2.2.2.2.1 S1x512.size (by sl_kernel_rfl) y
theorem coverA_23 (c : Dev nD) (t : Fin cfg0.N) (h0 : t.val % 17 = 0)
    (y : S1x512.Idx) : ∃ pc ∈ (runA V c t h0).2.2.2.2.2.2.2.2.2.2.2.2.1, y ∈ pc.1.set :=
  View.cover_of_tiledL (runA V c t h0).2.2.2.2.2.2.2.2.2.2.2.2.1 S1x512.size (by sl_kernel_rfl) y
theorem coverB_23 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S1x512.Idx) : ∃ pc ∈ (runB V c t h0 xo21 xo22 xo23 xo24).2.2.2.2.2.2.2.2.2.2.2.2.1, y ∈ pc.1.set :=
  View.cover_of_tiledL (runB V c t h0 xo21 xo22 xo23 xo24).2.2.2.2.2.2.2.2.2.2.2.2.1 S1x512.size (by sl_kernel_rfl) y
theorem coverA_24 (c : Dev nD) (t : Fin cfg0.N) (h0 : t.val % 17 = 0)
    (y : S1x1024.Idx) : ∃ pc ∈ (runA V c t h0).2.2.2.2.2.2.2.2.2.2.2.2.2.1, y ∈ pc.1.set :=
  View.cover_of_tiledL (runA V c t h0).2.2.2.2.2.2.2.2.2.2.2.2.2.1 S1x1024.size (by sl_kernel_rfl) y
theorem coverB_24 (c : Dev nD) (t : Fin cfg0.N) (h0 : ¬t.val % 17 = 0)
    (xo21 : Vec F S1x1 .f32) (xo22 : Vec F S1x512 .f32) (xo23 : Vec F S1x512 .f32) (xo24 : Vec F S1x1024 .f32)
    (y : S1x1024.Idx) : ∃ pc ∈ (runB V c t h0 xo21 xo22 xo23 xo24).2.2.2.2.2.2.2.2.2.2.2.2.2.1, y ∈ pc.1.set :=
  View.cover_of_tiledL (runB V c t h0 xo21 xo22 xo23 xo24).2.2.2.2.2.2.2.2.2.2.2.2.2.1 S1x1024.size (by sl_kernel_rfl) y

/-- What the fourteen outputs hold after a point. -/
abbrev Outs (F : FTy → Type) : Type :=
  Vec F S256x512 .f32 × Vec F S256x512 .f32 × Vec F S256x1024 .f32 × Vec F S256x1024 .bf16 × Vec F S256x1024 .bf16 × Vec F S256x1024 .bf16 × Vec F S256x2816 .bf16 × Vec F S256x2816 .bf16 × Vec F S256x2816 .bf16 × Vec F S256x1024 .bf16 × Vec F S1x1 .f32 × Vec F S1x512 .f32 × Vec F S1x512 .f32 × Vec F S1x1024 .f32

/-- The outputs after the first point. -/
def outsA (c : Dev nD) (t : Fin cfg0.N) (h0 : t.val % 17 = 0) : Outs F :=
  (VO0_11.read (Elt F) (VO0_11.writes (Elt F) VO0_11.junk (runA V c t h0).1),
   VO0_12.read (Elt F) (VO0_12.writes (Elt F) VO0_12.junk (runA V c t h0).2.1),
   VO0_13.read (Elt F) (VO0_13.writes (Elt F) VO0_13.junk (runA V c t h0).2.2.1),
   VO0_14.read (Elt F) (VO0_14.writes (Elt F) VO0_14.junk (runA V c t h0).2.2.2.1),
   VO0_15.read (Elt F) (VO0_15.writes (Elt F) VO0_15.junk (runA V c t h0).2.2.2.2.1),
   VO0_16.read (Elt F) (VO0_16.writes (Elt F) VO0_16.junk (runA V c t h0).2.2.2.2.2.1),
   VO0_17.read (Elt F) (VO0_17.writes (Elt F) VO0_17.junk (runA V c t h0).2.2.2.2.2.2.1),
   VO0_18.read (Elt F) (VO0_18.writes (Elt F) VO0_18.junk (runA V c t h0).2.2.2.2.2.2.2.1),
   VO0_19.read (Elt F) (VO0_19.writes (Elt F) VO0_19.junk (runA V c t h0).2.2.2.2.2.2.2.2.1),
   VO0_20.read (Elt F) (VO0_20.writes (Elt F) VO0_20.junk (runA V c t h0).2.2.2.2.2.2.2.2.2.1),
   VO0_21.read (Elt F) (VO0_21.writes (Elt F) VO0_21.junk (runA V c t h0).2.2.2.2.2.2.2.2.2.2.1),
   VO0_22.read (Elt F) (VO0_22.writes (Elt F) VO0_22.junk (runA V c t h0).2.2.2.2.2.2.2.2.2.2.2.1),
   VO0_23.read (Elt F) (VO0_23.writes (Elt F) VO0_23.junk (runA V c t h0).2.2.2.2.2.2.2.2.2.2.2.2.1),
   VO0_24.read (Elt F) (VO0_24.writes (Elt F) VO0_24.junk (runA V c t h0).2.2.2.2.2.2.2.2.2.2.2.2.2.1))

/-- The outputs after a later point, over what the running sums hold. -/
def outsB (c : Dev nD) (t : Fin cfg0.N) (h0 : ¬t.val % 17 = 0)
    (xo21 : Vec F S1x1 .f32) (xo22 : Vec F S1x512 .f32) (xo23 : Vec F S1x512 .f32) (xo24 : Vec F S1x1024 .f32) : Outs F :=
  (VO0_11.read (Elt F) (VO0_11.writes (Elt F) VO0_11.junk (runB V c t h0 xo21 xo22 xo23 xo24).1),
   VO0_12.read (Elt F) (VO0_12.writes (Elt F) VO0_12.junk (runB V c t h0 xo21 xo22 xo23 xo24).2.1),
   VO0_13.read (Elt F) (VO0_13.writes (Elt F) VO0_13.junk (runB V c t h0 xo21 xo22 xo23 xo24).2.2.1),
   VO0_14.read (Elt F) (VO0_14.writes (Elt F) VO0_14.junk (runB V c t h0 xo21 xo22 xo23 xo24).2.2.2.1),
   VO0_15.read (Elt F) (VO0_15.writes (Elt F) VO0_15.junk (runB V c t h0 xo21 xo22 xo23 xo24).2.2.2.2.1),
   VO0_16.read (Elt F) (VO0_16.writes (Elt F) VO0_16.junk (runB V c t h0 xo21 xo22 xo23 xo24).2.2.2.2.2.1),
   VO0_17.read (Elt F) (VO0_17.writes (Elt F) VO0_17.junk (runB V c t h0 xo21 xo22 xo23 xo24).2.2.2.2.2.2.1),
   VO0_18.read (Elt F) (VO0_18.writes (Elt F) VO0_18.junk (runB V c t h0 xo21 xo22 xo23 xo24).2.2.2.2.2.2.2.1),
   VO0_19.read (Elt F) (VO0_19.writes (Elt F) VO0_19.junk (runB V c t h0 xo21 xo22 xo23 xo24).2.2.2.2.2.2.2.2.1),
   VO0_20.read (Elt F) (VO0_20.writes (Elt F) VO0_20.junk (runB V c t h0 xo21 xo22 xo23 xo24).2.2.2.2.2.2.2.2.2.1),
   VO0_21.read (Elt F) (VO0_21.writes (Elt F) VO0_21.junk (runB V c t h0 xo21 xo22 xo23 xo24).2.2.2.2.2.2.2.2.2.2.1),
   VO0_22.read (Elt F) (VO0_22.writes (Elt F) VO0_22.junk (runB V c t h0 xo21 xo22 xo23 xo24).2.2.2.2.2.2.2.2.2.2.2.1),
   VO0_23.read (Elt F) (VO0_23.writes (Elt F) VO0_23.junk (runB V c t h0 xo21 xo22 xo23 xo24).2.2.2.2.2.2.2.2.2.2.2.2.1),
   VO0_24.read (Elt F) (VO0_24.writes (Elt F) VO0_24.junk (runB V c t h0 xo21 xo22 xo23 xo24).2.2.2.2.2.2.2.2.2.2.2.2.2.1))

/-- The outputs after every point. -/
def outsAt0 (c : Dev nD) : (n : ℕ) → n < cfg0.N → Outs F
  | 0, hn => outsA V c ⟨0, hn⟩ (Nat.zero_mod _)
  | n + 1, hn =>
    if h0 : (n + 1) % 17 = 0 then outsA V c ⟨n + 1, hn⟩ h0
    else
      outsB V c ⟨n + 1, hn⟩ h0 ((outsAt0 c n (Nat.lt_of_succ_lt hn)).2.2.2.2.2.2.2.2.2.2.1) ((outsAt0 c n (Nat.lt_of_succ_lt hn)).2.2.2.2.2.2.2.2.2.2.2.1) ((outsAt0 c n (Nat.lt_of_succ_lt hn)).2.2.2.2.2.2.2.2.2.2.2.2.1) ((outsAt0 c n (Nat.lt_of_succ_lt hn)).2.2.2.2.2.2.2.2.2.2.2.2.2)

theorem outsAt0_A (c : Dev nD) (t : Fin cfg0.N) (h0 : t.val % 17 = 0) : outsAt0 V c t.val t.isLt = outsA V c t h0 := by
  obtain ⟨n, hn⟩ := t
  cases n with
  | zero => exact rfl
  | succ n => exact (dif_pos h0).trans rfl

/-- What the point before left. -/
abbrev prev0 (c : Dev nD) (t : Fin cfg0.N) : Outs F := outsAt0 V c (t.val - 1) (Nat.lt_of_le_of_lt (Nat.sub_le _ _) t.isLt)

theorem outsAt0_B (c : Dev nD) (t : Fin cfg0.N) (h0 : ¬t.val % 17 = 0) :
    outsAt0 V c t.val t.isLt = outsB V c t h0
      ((prev0 V c t).2.2.2.2.2.2.2.2.2.2.1) ((prev0 V c t).2.2.2.2.2.2.2.2.2.2.2.1) ((prev0 V c t).2.2.2.2.2.2.2.2.2.2.2.2.1) ((prev0 V c t).2.2.2.2.2.2.2.2.2.2.2.2.2) := by
  obtain ⟨n, hn⟩ := t
  cases n with
  | zero => exact absurd (Nat.zero_mod _) h0
  | succ n => exact (dif_neg h0).trans rfl

/-- The proof data of the call: the arrays as found, and each buffer after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (outsAt0 V c t.val t.isLt).1
    | ⟨12, _⟩ => (outsAt0 V c t.val t.isLt).2.1
    | ⟨13, _⟩ => (outsAt0 V c t.val t.isLt).2.2.1
    | ⟨14, _⟩ => (outsAt0 V c t.val t.isLt).2.2.2.1
    | ⟨15, _⟩ => (outsAt0 V c t.val t.isLt).2.2.2.2.1
    | ⟨16, _⟩ => (outsAt0 V c t.val t.isLt).2.2.2.2.2.1
    | ⟨17, _⟩ => (outsAt0 V c t.val t.isLt).2.2.2.2.2.2.1
    | ⟨18, _⟩ => (outsAt0 V c t.val t.isLt).2.2.2.2.2.2.2.1
    | ⟨19, _⟩ => (outsAt0 V c t.val t.isLt).2.2.2.2.2.2.2.2.1
    | ⟨20, _⟩ => (outsAt0 V c t.val t.isLt).2.2.2.2.2.2.2.2.2.1
    | ⟨21, _⟩ => (outsAt0 V c t.val t.isLt).2.2.2.2.2.2.2.2.2.2.1
    | ⟨22, _⟩ => (outsAt0 V c t.val t.isLt).2.2.2.2.2.2.2.2.2.2.2.1
    | ⟨23, _⟩ => (outsAt0 V c t.val t.isLt).2.2.2.2.2.2.2.2.2.2.2.2.1
    | ⟨24, _⟩ => (outsAt0 V c t.val t.isLt).2.2.2.2.2.2.2.2.2.2.2.2.2
    | ⟨_ + 25, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = (outsAt0 V c t.val t.isLt).1 := by dsimp only [dat0]
theorem after0_12 (c : Dev nD) (t : Fin cfg0.N) : (dat0 V c).after 12 t = (outsAt0 V c t.val t.isLt).2.1 := by dsimp only [dat0]
theorem after0_13 (c : Dev nD) (t : Fin cfg0.N) : (dat0 V c).after 13 t = (outsAt0 V c t.val t.isLt).2.2.1 := by dsimp only [dat0]
theorem after0_14 (c : Dev nD) (t : Fin cfg0.N) : (dat0 V c).after 14 t = (outsAt0 V c t.val t.isLt).2.2.2.1 := by dsimp only [dat0]
theorem after0_15 (c : Dev nD) (t : Fin cfg0.N) : (dat0 V c).after 15 t = (outsAt0 V c t.val t.isLt).2.2.2.2.1 := by dsimp only [dat0]
theorem after0_16 (c : Dev nD) (t : Fin cfg0.N) : (dat0 V c).after 16 t = (outsAt0 V c t.val t.isLt).2.2.2.2.2.1 := by dsimp only [dat0]
theorem after0_17 (c : Dev nD) (t : Fin cfg0.N) : (dat0 V c).after 17 t = (outsAt0 V c t.val t.isLt).2.2.2.2.2.2.1 := by dsimp only [dat0]
theorem after0_18 (c : Dev nD) (t : Fin cfg0.N) : (dat0 V c).after 18 t = (outsAt0 V c t.val t.isLt).2.2.2.2.2.2.2.1 := by dsimp only [dat0]
theorem after0_19 (c : Dev nD) (t : Fin cfg0.N) : (dat0 V c).after 19 t = (outsAt0 V c t.val t.isLt).2.2.2.2.2.2.2.2.1 := by dsimp only [dat0]
theorem after0_20 (c : Dev nD) (t : Fin cfg0.N) : (dat0 V c).after 20 t = (outsAt0 V c t.val t.isLt).2.2.2.2.2.2.2.2.2.1 := by dsimp only [dat0]
theorem after0_21 (c : Dev nD) (t : Fin cfg0.N) : (dat0 V c).after 21 t = (outsAt0 V c t.val t.isLt).2.2.2.2.2.2.2.2.2.2.1 := by dsimp only [dat0]
theorem after0_22 (c : Dev nD) (t : Fin cfg0.N) : (dat0 V c).after 22 t = (outsAt0 V c t.val t.isLt).2.2.2.2.2.2.2.2.2.2.2.1 := by dsimp only [dat0]
theorem after0_23 (c : Dev nD) (t : Fin cfg0.N) : (dat0 V c).after 23 t = (outsAt0 V c t.val t.isLt).2.2.2.2.2.2.2.2.2.2.2.2.1 := by dsimp only [dat0]
theorem after0_24 (c : Dev nD) (t : Fin cfg0.N) : (dat0 V c).after 24 t = (outsAt0 V c t.val t.isLt).2.2.2.2.2.2.2.2.2.2.2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_21_B (c : Dev nD) (t : Fin cfg0.N) (h0 : ¬t.val % 17 = 0) (d) :
    (dat0 V c).before 21 t d = (outsAt0 V c (t.val - 1) (Nat.lt_of_le_of_lt (Nat.sub_le _ _) t.isLt)).2.2.2.2.2.2.2.2.2.2.1 := by
  have hN : t.val < 17 := lt_of_lt_of_eq t.isLt (show cfg0.N = 17 from N_0)
  rw [Dat.before_out_kept _ 21 rfl t (by omega) (Bool.eq_false_iff.mpr fun h => by have := (flush0_21 _).mp h; dsimp only at this; omega)
    (fun _ => rfl) (fun _ _ => rfl)]
  dsimp only [dat0]
theorem before0_22_B (c : Dev nD) (t : Fin cfg0.N) (h0 : ¬t.val % 17 = 0) (d) :
    (dat0 V c).before 22 t d = (outsAt0 V c (t.val - 1) (Nat.lt_of_le_of_lt (Nat.sub_le _ _) t.isLt)).2.2.2.2.2.2.2.2.2.2.2.1 := by
  have hN : t.val < 17 := lt_of_lt_of_eq t.isLt (show cfg0.N = 17 from N_0)
  rw [Dat.before_out_kept _ 22 rfl t (by omega) (Bool.eq_false_iff.mpr fun h => by have := (flush0_22 _).mp h; dsimp only at this; omega)
    (fun _ => rfl) (fun _ _ => rfl)]
  dsimp only [dat0]
theorem before0_23_B (c : Dev nD) (t : Fin cfg0.N) (h0 : ¬t.val % 17 = 0) (d) :
    (dat0 V c).before 23 t d = (outsAt0 V c (t.val - 1) (Nat.lt_of_le_of_lt (Nat.sub_le _ _) t.isLt)).2.2.2.2.2.2.2.2.2.2.2.2.1 := by
  have hN : t.val < 17 := lt_of_lt_of_eq t.isLt (show cfg0.N = 17 from N_0)
  rw [Dat.before_out_kept _ 23 rfl t (by omega) (Bool.eq_false_iff.mpr fun h => by have := (flush0_23 _).mp h; dsimp only at this; omega)
    (fun _ => rfl) (fun _ _ => rfl)]
  dsimp only [dat0]
theorem before0_24_B (c : Dev nD) (t : Fin cfg0.N) (h0 : ¬t.val % 17 = 0) (d) :
    (dat0 V c).before 24 t d = (outsAt0 V c (t.val - 1) (Nat.lt_of_le_of_lt (Nat.sub_le _ _) t.isLt)).2.2.2.2.2.2.2.2.2.2.2.2.2 := by
  have hN : t.val < 17 := lt_of_lt_of_eq t.isLt (show cfg0.N = 17 from N_0)
  rw [Dat.before_out_kept _ 24 rfl t (by omega) (Bool.eq_false_iff.mpr fun h => by have := (flush0_24 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d))
    ∗ (∃ d, owns (c : Thread nD τ) (ms0_19 t) fullShare ((dat0 V c).before 19 t d))
    ∗ (∃ d, owns (c : Thread nD τ) (ms0_20 t) fullShare ((dat0 V c).before 20 t d))
    ∗ (∃ d, owns (c : Thread nD τ) (ms0_21 t) fullShare ((dat0 V c).before 21 t d))
    ∗ (∃ d, owns (c : Thread nD τ) (ms0_22 t) fullShare ((dat0 V c).before 22 t d))
    ∗ (∃ d, owns (c : Thread nD τ) (ms0_23 t) fullShare ((dat0 V c).before 23 t d))
    ∗ (∃ d, owns (c : Thread nD τ) (ms0_24 t) fullShare ((dat0 V c).before 24 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t)
    ∗ owns (c : Thread nD τ) (ms0_17 t) fullShare ((dat0 V c).after 17 t)
    ∗ owns (c : Thread nD τ) (ms0_18 t) fullShare ((dat0 V c).after 18 t)
    ∗ owns (c : Thread nD τ) (ms0_19 t) fullShare ((dat0 V c).after 19 t)
    ∗ owns (c : Thread nD τ) (ms0_20 t) fullShare ((dat0 V c).after 20 t)
    ∗ owns (c : Thread nD τ) (ms0_21 t) fullShare ((dat0 V c).after 21 t)
    ∗ owns (c : Thread nD τ) (ms0_22 t) fullShare ((dat0 V c).after 22 t)
    ∗ owns (c : Thread nD τ) (ms0_23 t) fullShare ((dat0 V c).after 23 t)
    ∗ owns (c : Thread nD τ) (ms0_24 t) fullShare ((dat0 V c).after 24 t))

set_option maxHeartbeats 4800000 in
/-- The body, run on what it is called with, leaves what it returns. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  by_cases h0 : t.val % 17 = 0
  · rw [outsAt0_A V c t h0]; unfold outsA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((runA V c t h0).2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverA_11 V c t h0)
    isplitl [H12]
    · unfold owns; iexists _; isplitr
      swap; · iexact H12
      ipureintro; exact View.read_writes_of_cover _ _ _ _ _ (coverA_12 V c t h0)
    isplitl [H13]
    · unfold owns; iexists _; isplitr
      swap; · iexact H13
      ipureintro; exact View.read_writes_of_cover _ _ _ _ _ (coverA_13 V c t h0)
    isplitl [H14]
    · unfold owns; iexists _; isplitr
      swap; · iexact H14
      ipureintro; exact View.read_writes_of_cover _ _ _ _ _ (coverA_14 V c t h0)
    isplitl [H15]
    · unfold owns; iexists _; isplitr
      swap; · iexact H15
      ipureintro; exact View.read_writes_of_cover _ _ _ _ _ (coverA_15 V c t h0)
    isplitl [H16]
    · unfold owns; iexists _; isplitr
      swap; · iexact H16
      ipureintro; exact View.read_writes_of_cover _ _ _ _ _ (coverA_16 V c t h0)
    isplitl [H17]
    · unfold owns; iexists _; isplitr
      swap; · iexact H17
      ipureintro; exact View.read_writes_of_cover _ _ _ _ _ (coverA_17 V c t h0)
    isplitl [H18]
    · unfold owns; iexists _; isplitr
      swap; · iexact H18
      ipureintro; exact View.read_writes_of_cover _ _ _ _ _ (coverA_18 V c t h0)
    isplitl [H19]
    · unfold owns; iexists _; isplitr
      swap; · iexact H19
      ipureintro; exact View.read_writes_of_cover _ _ _ _ _ (coverA_19 V c t h0)
    isplitl [H20]
    · unfold owns; iexists _; isplitr
      swap; · iexact H20
      ipureintro; exact View.read_writes_of_cover _ _ _ _ _ (coverA_20 V c t h0)
    isplitl [H21]
    · unfold owns; iexists _; isplitr
      swap; · iexact H21
      ipureintro; exact View.read_writes_of_cover _ _ _ _ _ (coverA_21 V c t h0)
    isplitl [H22]
    · unfold owns; iexists _; isplitr
      swap; · iexact H22
      ipureintro; exact View.read_writes_of_cover _ _ _ _ _ (coverA_22 V c t h0)
    isplitl [H23]
    · unfold owns; iexists _; isplitr
      swap; · iexact H23
      ipureintro; exact View.read_writes_of_cover _ _ _ _ _ (coverA_23 V c t h0)
    unfold owns; iexists _; isplitr
    swap; · iexact H24
    ipureintro; exact View.read_writes_of_cover _ _ _ _ _ (coverA_24 V c t h0)
  · rw [outsAt0_B V c t h0]
    simp only [before0_21_B V c t h0, before0_22_B V c t h0, before0_23_B V c t h0, before0_24_B V c t h0]
    unfold outsB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((runB V c t h0 _ _ _ _).2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexact H23
    isplitl [H24]; · iexact H24
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverB_11 V c t h0 _ _ _ _)
    isplitl [H12]
    · unfold owns; iexists _; isplitr
      swap; · iexact H12
      ipureintro; exact View.read_writes_of_cover _ _ _ _ _ (coverB_12 V c t h0 _ _ _ _)
    isplitl [H13]
    · unfold owns; iexists _; isplitr
      swap; · iexact H13
      ipureintro; exact View.read_writes_of_cover _ _ _ _ _ (coverB_13 V c t h0 _ _ _ _)
    isplitl [H14]
    · unfold owns; iexists _; isplitr
      swap; · iexact H14
      ipureintro; exact View.read_writes_of_cover _ _ _ _ _ (coverB_14 V c t h0 _ _ _ _)
    isplitl [H15]
    · unfold owns; iexists _; isplitr
      swap; · iexact H15
      ipureintro; exact View.read_writes_of_cover _ _ _ _ _ (coverB_15 V c t h0 _ _ _ _)
    isplitl [H16]
    · unfold owns; iexists _; isplitr
      swap; · iexact H16
      ipureintro; exact View.read_writes_of_cover _ _ _ _ _ (coverB_16 V c t h0 _ _ _ _)
    isplitl [H17]
    · unfold owns; iexists _; isplitr
      swap; · iexact H17
      ipureintro; exact View.read_writes_of_cover _ _ _ _ _ (coverB_17 V c t h0 _ _ _ _)
    isplitl [H18]
    · unfold owns; iexists _; isplitr
      swap; · iexact H18
      ipureintro; exact View.read_writes_of_cover _ _ _ _ _ (coverB_18 V c t h0 _ _ _ _)
    isplitl [H19]
    · unfold owns; iexists _; isplitr
      swap; · iexact H19
      ipureintro; exact View.read_writes_of_cover _ _ _ _ _ (coverB_19 V c t h0 _ _ _ _)
    isplitl [H20]
    · unfold owns; iexists _; isplitr
      swap; · iexact H20
      ipureintro; exact View.read_writes_of_cover _ _ _ _ _ (coverB_20 V c t h0 _ _ _ _)
    isplitl [H21]
    · unfold owns; iexists _; isplitr
      swap; · iexact H21
      ipureintro; exact View.read_writes_of_cover _ _ _ _ _ (coverB_21 V c t h0 _ _ _ _)
    isplitl [H22]
    · unfold owns; iexists _; isplitr
      swap; · iexact H22
      ipureintro; exact View.read_writes_of_cover _ _ _ _ _ (coverB_22 V c t h0 _ _ _ _)
    isplitl [H23]
    · unfold owns; iexists _; isplitr
      swap; · iexact H23
      ipureintro; exact View.read_writes_of_cover _ _ _ _ _ (coverB_23 V c t h0 _ _ _ _)
    unfold owns; iexists _; isplitr
    swap; · iexact H24
    ipureintro; exact View.read_writes_of_cover _ _ _ _ _ (coverB_24 V c t h0 _ _ _ _)

theorem defs₀_row0 (t : Fin cfg0.N) :
    defs₀ (F := F) .tc cfg0.body (cfg0.bodyArgs t (cfg0.slots t)) = bodyAt0 t := by
  unfold defs₀; rw [Defs.onTc_tc]

set_option maxHeartbeats 2000000 in
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.LayerEndIdeal.End

end
-- ==== Proof.EndFold.lean ====
module

public import proofs.«01_k».proof.Proof.EndRegion
public import proofs.«01_k».proof.Proof.Gen.LayerEndIdeal.Frame.Region1
public import proofs.«01_k».proof.Proof.Gen.LayerEndIdeal.Frame.Region2
public import proofs.«01_k».proof.Proof.Gen.LayerEndIdeal.Frame.Region3
public import proofs.«01_k».proof.Proof.Gen.LayerEndIdeal.Frame.Region4
public import proofs.«01_k».proof.Proof.Gen.LayerEndIdeal.Frame.Hosts0
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The layer end: the buffers at each boundary between its calls, and each call as a segment of the program -/

@[expose] public section

set_option maxRecDepth 16384

noncomputable section

namespace Cert.LayerEndIdeal.End

open Cert.LayerEndIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps5 (W6 m ρ c)
theorem W7_of (c : Dev nD) (r : Ref sig .tc) (h : r ∉ hostOps5_W) : W7 m ρ c (Proc.devRef .tc r) = W6 m ρ c (Proc.devRef .tc r) :=
  StableHlo.after_of_writes_sub hostOps5 _ hostOps5_writes h
theorem W7_args (c : Dev nD) : ∀ a ∈ argRefs, W7 m ρ c (Proc.devRef .tc a) = m ((c : Thread nD τ).loc a) :=
  fun a ha => (W7_of m ρ c a (hostOps5_args a ha)).trans (W6_args m ρ c a ha)

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)
theorem W7_main_arg10 (c : Dev nD) : W7 m ρ c (Proc.devRef .tc main_arg10) = m ((c : Thread nD τ).loc main_arg10) :=
  W7_args m ρ c main_arg10 (by decide)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- Call 0 as a segment: entered from the buffers at its boundary, left at the next. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered from the buffers at its boundary, left at the next. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered from the buffers at its boundary, left at the next. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: entered from the buffers at its boundary, left at the next. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 as a segment: entered from the buffers at its boundary, left at the next. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .host (hseg hostOps5 hostOps5_sub hostOps5_fresh (W6 m ρ)) ]
theorem main_run (c : Dev nD) : main (F := F) c = Pipeline.Seg.run (segs m ρ) := (main_chain c).trans (by chain_rfl)

theorem no_unscoped : ∀ sm : SemLoc sig, sm.isScoped .tc = true := by decide

end Cert.LayerEndIdeal.End

end
-- ==== Proof.EndRun.lean ====
module

public import proofs.«01_k».proof.Proof.EndFold
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The run of the layer end, with every array at the end kept -/

@[expose] public section

set_option maxRecDepth 16384

noncomputable section

namespace Cert.LayerEndIdeal.End

open Cert.LayerEndIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the calls' own ends at the last boundary's contents, and no semaphore counter is left above
    zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The eleven results, as the last boundary's contents, with the arguments as launched. -/
theorem run : θ_run defs (onTc (τ := τ) (main (F := F))) ⟨m, fun _ => 0, ρ⟩ (fun r => ∀ c : Dev nD,
      r.2.mem ((c.tc : Thread nD τ).loc main_v22) = W7 m ρ c (Proc.devRef .tc main_v22)
      ∧ r.2.mem ((c.tc : Thread nD τ).loc main_v24) = W7 m ρ c (Proc.devRef .tc main_v24)
      ∧ r.2.mem ((c.tc : Thread nD τ).loc main_v26) = W7 m ρ c (Proc.devRef .tc main_v26)
      ∧ r.2.mem ((c.tc : Thread nD τ).loc main_v28) = W7 m ρ c (Proc.devRef .tc main_v28)
      ∧ r.2.mem ((c.tc : Thread nD τ).loc main_v29) = W7 m ρ c (Proc.devRef .tc main_v29)
      ∧ r.2.mem ((c.tc : Thread nD τ).loc main_v30) = W7 m ρ c (Proc.devRef .tc main_v30)
      ∧ r.2.mem ((c.tc : Thread nD τ).loc main_v18) = W7 m ρ c (Proc.devRef .tc main_v18)
      ∧ r.2.mem ((c.tc : Thread nD τ).loc main_v31) = W7 m ρ c (Proc.devRef .tc main_v31)
      ∧ r.2.mem ((c.tc : Thread nD τ).loc main_v32) = W7 m ρ c (Proc.devRef .tc main_v32)
      ∧ r.2.mem ((c.tc : Thread nD τ).loc main_v33) = W7 m ρ c (Proc.devRef .tc main_v33)
      ∧ r.2.mem ((c.tc : Thread nD τ).loc main_v21) = W7 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h.1 c _ (mem_uc main_v22 (by decide)),
     h.1 c _ (mem_uc main_v24 (by decide)),
     h.1 c _ (mem_uc main_v26 (by decide)),
     h.1 c _ (mem_uc main_v28 (by decide)),
     h.1 c _ (mem_uc main_v29 (by decide)),
     h.1 c _ (mem_uc main_v30 (by decide)),
     h.1 c _ (mem_uc main_v18 (by decide)),
     h.1 c _ (mem_uc main_v31 (by decide)),
     h.1 c _ (mem_uc main_v32 (by decide)),
     h.1 c _ (mem_uc main_v33 (by decide)),
     h.1 c _ (mem_uc main_v21 (by decide)),
     (h.1 c _ (mem_uc main_arg0 (by decide))).trans (W7_main_arg0 m ρ c),
     (h.1 c _ (mem_uc main_arg1 (by decide))).trans (W7_main_arg1 m ρ c),
     (h.1 c _ (mem_uc main_arg2 (by decide))).trans (W7_main_arg2 m ρ c),
     (h.1 c _ (mem_uc main_arg3 (by decide))).trans (W7_main_arg3 m ρ c),
     (h.1 c _ (mem_uc main_arg4 (by decide))).trans (W7_main_arg4 m ρ c),
     (h.1 c _ (mem_uc main_arg5 (by decide))).trans (W7_main_arg5 m ρ c),
     (h.1 c _ (mem_uc main_arg6 (by decide))).trans (W7_main_arg6 m ρ c),
     (h.1 c _ (mem_uc main_arg7 (by decide))).trans (W7_main_arg7 m ρ c),
     (h.1 c _ (mem_uc main_arg8 (by decide))).trans (W7_main_arg8 m ρ c),
     (h.1 c _ (mem_uc main_arg9 (by decide))).trans (W7_main_arg9 m ρ c),
     (h.1 c _ (mem_uc main_arg10 (by decide))).trans (W7_main_arg10 m ρ c)⟩) (run_all m ρ)

/-- The arguments end as launched, and no semaphore counter is left above zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
    ⟨(h.1 c _ (mem_uc main_arg0 (by decide))).trans (W7_main_arg0 m ρ c),
     (h.1 c _ (mem_uc main_arg1 (by decide))).trans (W7_main_arg1 m ρ c),
     (h.1 c _ (mem_uc main_arg2 (by decide))).trans (W7_main_arg2 m ρ c),
     (h.1 c _ (mem_uc main_arg3 (by decide))).trans (W7_main_arg3 m ρ c),
     (h.1 c _ (mem_uc main_arg4 (by decide))).trans (W7_main_arg4 m ρ c),
     (h.1 c _ (mem_uc main_arg5 (by decide))).trans (W7_main_arg5 m ρ c),
     (h.1 c _ (mem_uc main_arg6 (by decide))).trans (W7_main_arg6 m ρ c),
     (h.1 c _ (mem_uc main_arg7 (by decide))).trans (W7_main_arg7 m ρ c),
     (h.1 c _ (mem_uc main_arg8 (by decide))).trans (W7_main_arg8 m ρ c),
     (h.1 c _ (mem_uc main_arg9 (by decide))).trans (W7_main_arg9 m ρ c),
     (h.1 c _ (mem_uc main_arg10 (by decide))).trans (W7_main_arg10 m ρ c)⟩, h.2⟩) (run_all m ρ)

end Cert.LayerEndIdeal.End

end
-- ==== Proof.EndFrame.lean ====
/- The layer end's programs: each leaves its arguments as they were and every counter at zero. -/
module

public import proofs.«01_k».proof.Defs
public import proofs.«01_k».proof.Proof.Gen.LayerEnd
public import proofs.«01_k».proof.Proof.Gen.LayerEndIdeal
public import proofs.«01_k».proof.Proof.Gen.LayerEndVjpIdeal
public import proofs.«01_k».proof.Proof.Gen.LayerEndVjpIdeal.Run
public import proofs.«01_k».proof.Proof.EndRun
public import Idealize.ShloMosaic.Adequacy
public import Idealize.ShloMosaic.Init

@[expose] public section

noncomputable section

namespace Cert.Proof

open Idealize.ShloMosaic Idealize.SL.Sem

/-- A run carries over to an equal program over an equal body table. -/
theorem run_of_eq {nD : ℕ} {τ : Topo} {sig : RefSig} {Val : EltTy → Type} [∀ e, Nonempty (Val e)] {Λ : Labels}
    {d d' : Defs nD τ sig Val Λ} {p p' : Dev nD → Prog (TpuEff nD τ sig Val Λ .tc) PUnit} {s : MemSt nD τ sig Val}
    {Q : PUnit × MemSt nD τ sig Val → Prop} (hd : d = d') (hp : p = p') (h : θ_run d' (onTc p') s Q) :
    θ_run d (onTc p) s Q := by subst hd; subst hp; exact h

set_option maxHeartbeats 2000000 in
/-- The layer end's text is the same in both programs: its host part, -/
theorem main_end : letI := Cert.LayerEnd.Gen.facts; letI := Cert.LayerEndIdeal.Gen.facts
    Cert.LayerEnd.main (F := Bits) = Cert.LayerEndIdeal.main (F := Bits) := rfl

set_option maxHeartbeats 2000000 in
/-- its kernels' bodies, -/
theorem defs₀_end : letI := Cert.LayerEnd.Gen.facts; letI := Cert.LayerEndIdeal.Gen.facts
    Cert.LayerEnd.defs₀ (F := Bits) = Cert.LayerEndIdeal.defs₀ (F := Bits) := by
  refine congrArg Defs.onTc (funext fun l => funext fun a => ?_)
  match l, a with
  | 0, a => exact rfl
  | 1, a => exact rfl
  | 2, a => exact rfl
  | 3, a => exact rfl
  | 4, a => exact rfl

set_option maxHeartbeats 2000000 in
/-- and its calls. -/
theorem defs_end : letI := Cert.LayerEnd.Gen.facts; letI := Cert.LayerEndIdeal.Gen.facts
    Cert.LayerEnd.defs (F := Bits) = Cert.LayerEndIdeal.defs (F := Bits) := congrArg (Pipeline.defs _) defs₀_end

set_option maxHeartbeats 2000000 in
theorem frame_end : letI := Cert.LayerEnd.Gen.facts; quiescent_LayerEnd := fun m ρ _ =>
  run_of_eq defs_end main_end (Cert.LayerEndIdeal.End.frame (F := Bits) m ρ)

theorem frame_end_ideal : letI := Cert.LayerEndIdeal.Gen.facts; quiescent_LayerEndIdeal := fun m ρ _ =>
  Cert.LayerEndIdeal.End.frame (F := Ideal) m ρ

theorem frame_end_vjp : letI := Cert.LayerEndVjpIdeal.Gen.facts; quiescent_LayerEndVjpIdeal := fun m ρ _ =>
  (θ_run Cert.LayerEndVjpIdeal.defs _ _).mono
    (fun r h => ⟨fun c => (h c).2.2.2.2.2.2.2.2.2.2.2, sem_eq_zero_of_no_sems (by decide) r.2⟩) (Cert.LayerEndVjpIdeal.Value.run m ρ)

end Cert.Proof

end
-- ==== Proof.AdamwValue.lean ====
/- The optimiser's calls: each leaves its arguments as they were, and ends with the reference's results. -/
module

public import proofs.«01_k».proof.Defs
public import proofs.«01_k».proof.Proof.Gen.AdamwLate
public import proofs.«01_k».proof.Proof.Gen.AdamwLateIdeal
public import proofs.«01_k».proof.Proof.Gen.AdamwRefLateIdeal
public import proofs.«01_k».proof.Proof.Gen.AdamwRefLateIdeal.Run
public import proofs.«01_k».proof.Proof.Gen.AdamwIn
public import proofs.«01_k».proof.Proof.Gen.AdamwInIdeal
public import proofs.«01_k».proof.Proof.Gen.AdamwInIdeal.Value
public import proofs.«01_k».proof.Proof.Gen.AdamwRefInIdeal
public import proofs.«01_k».proof.Proof.Gen.AdamwRefInIdeal.Run
public import proofs.«01_k».proof.Proof.Gen.AdamwUq
public import proofs.«01_k».proof.Proof.Gen.AdamwUqIdeal
public import proofs.«01_k».proof.Proof.Gen.AdamwUqIdeal.Value
public import proofs.«01_k».proof.Proof.Gen.AdamwRefUqIdeal
public import proofs.«01_k».proof.Proof.Gen.AdamwRefUqIdeal.Run
public import proofs.«01_k».proof.Proof.Gen.AdamwUkv
public import proofs.«01_k».proof.Proof.Gen.AdamwUkvIdeal
public import proofs.«01_k».proof.Proof.Gen.AdamwUkvIdeal.Value
public import proofs.«01_k».proof.Proof.Gen.AdamwRefUkvIdeal
public import proofs.«01_k».proof.Proof.Gen.AdamwRefUkvIdeal.Run
public import proofs.«01_k».proof.Proof.LateValue
public import proofs.«01_k».proof.Proof.EndFrame
public import Idealize.ShloMosaic.Adequacy
public import Idealize.ShloMosaic.Init

@[expose] public section

noncomputable section

namespace Cert.Proof

open Idealize.ShloMosaic Idealize.SL.Sem Cert.Adamw

/-! ## The reference's arrays, over the extended reals -/

/-- A number written out over an array. -/
abbrev all (t : Shape) (h : (⟨0, ![]⟩ : Shape).BroadcastsInDim t ![]) (w : BitVec 32) : t.Idx → Ideal .f32 :=
  broadcastInDim t ![] h (constant ⟨0, ![]⟩ .f32 w)

variable {t : Shape} (h : (⟨0, ![]⟩ : Shape).BroadcastsInDim t ![])

/-- The reference's first moments, as `moms`. -/
theorem ref_moms (g μ : t.Idx → Ideal .f32) :
    addf (mulf (all t h 0x3F666666#32) μ) (mulf (all t h 0x3DCCCCCD#32) g) = moms (F := Ideal) g μ := rfl

/-- The reference's second moments, as `vars`. -/
theorem ref_vars (g ν : t.Idx → Ideal .f32) :
    addf (mulf (all t h 0x3F7FBE77#32) ν) (mulf (all t h 0x3A83126F#32) (mulf g g)) = vars (F := Ideal) g ν := rfl

/-- The reference's changes of the weights, as `changes`. -/
theorem ref_changes (w g μ ν : t.Idx → Ideal .f32) :
    mulf (all t h 0xBA83126F#32)
      (addf (Host.divf (Host.divf (addf (mulf (all t h 0x3F666666#32) μ) (mulf (all t h 0x3DCCCCCD#32) g)) (all t h 0x3F26BD02#32))
          (addf (Host.sqrt (Host.divf (addf (mulf (all t h 0x3F7FBE77#32) ν) (mulf (all t h 0x3A83126F#32) (mulf g g)))
            (all t h 0x3C231ACC#32))) (all t h 0x322BCC77#32)))
        (mulf (all t h 0x3C23D70A#32) w)) = changes (F := Ideal) w g μ ν := rfl

/-! ## The step of w_out, w_gate, w_up and w_down -/

set_option maxHeartbeats 2000000 in
/-- The text of the step is the same in both programs. -/
theorem defs₀_Late : letI := Cert.AdamwLate.Gen.facts; letI := Cert.AdamwLateIdeal.Gen.facts
    Cert.AdamwLate.defs₀ (F := Bits) = Cert.AdamwLateIdeal.defs₀ (F := Bits) := by
  refine congrArg Defs.onTc (funext fun l => funext fun a => ?_)
  match l, a with
  | 0, a => exact rfl

set_option maxHeartbeats 2000000 in
theorem frame_Late : letI := Cert.AdamwLate.Gen.facts; quiescent_AdamwLate := fun m ρ _ =>
  letI := Cert.AdamwLate.Gen.facts; letI := Cert.AdamwLateIdeal.Gen.facts
  run_of_eq (congrArg (Pipeline.defs _) defs₀_Late) (show Cert.AdamwLate.main (F := Bits) = Cert.AdamwLateIdeal.main (F := Bits) from rfl)
    (Cert.AdamwLateIdeal.Late.frame (F := Bits) m ρ)

theorem frame_Late_ideal : letI := Cert.AdamwLateIdeal.Gen.facts; quiescent_AdamwLateIdeal := fun m ρ _ =>
  Cert.AdamwLateIdeal.Late.frame (F := Ideal) m ρ

theorem frame_Late_ref : letI := Cert.AdamwRefLateIdeal.Gen.facts; quiescent_AdamwRefLateIdeal := fun m ρ _ =>
  (θ_run Cert.AdamwRefLateIdeal.defs _ _).mono
    (fun r h => ⟨fun c => (h c).2.2.2.2.2.2.2.2.2.2.2.2, sem_eq_zero_of_no_sems (by decide) r.2⟩) (Cert.AdamwRefLateIdeal.Value.run m ρ)

set_option maxHeartbeats 2000000 in
/-- The step of w_out, w_gate, w_up and w_down and its reference end with equal results, whatever the arguments. -/
theorem value_Late : letI := Cert.AdamwLateIdeal.Gen.facts; letI := Cert.AdamwRefLateIdeal.Gen.facts
    algebraic_AdamwLateIdeal_AdamwRefLateIdeal := by
  intro m g m' g' _ hag
  refine ⟨_, _, _, _, _, _, _, _, _, _, _, _, Cert.AdamwLateIdeal.LateValue.run m g, (θ_run Cert.AdamwRefLateIdeal.defs _ _).mono (fun _ h c => ?_) (Cert.AdamwRefLateIdeal.Value.run m' g')⟩
  obtain ⟨h0, h1, h2, h3, h4, h5, h6, h7, h8, h9, h10, h11, rest⟩ := h c
  obtain ⟨a0, a1, a2, a3, a4, a5, a6, a7, a8, a9, a10, a11, a12, a13, a14, a15⟩ := hag c
  exact ⟨(h0.trans (by rw [a0, a4, a8, a12]; exact ref_changes _ _ _ _ _)),
    (h1.trans (by rw [a1, a5, a9, a13]; exact ref_changes _ _ _ _ _)),
    (h2.trans (by rw [a2, a6, a10, a14]; exact ref_changes _ _ _ _ _)),
    (h3.trans (by rw [a3, a7, a11, a15]; exact ref_changes _ _ _ _ _)),
    (h4.trans (by rw [a4, a8]; exact ref_moms _ _ _)),
    (h5.trans (by rw [a5, a9]; exact ref_moms _ _ _)),
    (h6.trans (by rw [a6, a10]; exact ref_moms _ _ _)),
    (h7.trans (by rw [a7, a11]; exact ref_moms _ _ _)),
    (h8.trans (by rw [a4, a12]; exact ref_vars _ _ _)),
    (h9.trans (by rw [a5, a13]; exact ref_vars _ _ _)),
    (h10.trans (by rw [a6, a14]; exact ref_vars _ _ _)),
    (h11.trans (by rw [a7, a15]; exact ref_vars _ _ _)), rest⟩

/-! ## The step of w_in -/

set_option maxHeartbeats 2000000 in
/-- The text of the step is the same in both programs. -/
theorem defs₀_In : letI := Cert.AdamwIn.Gen.facts; letI := Cert.AdamwInIdeal.Gen.facts
    Cert.AdamwIn.defs₀ (F := Bits) = Cert.AdamwInIdeal.defs₀ (F := Bits) := by
  refine congrArg Defs.onTc (funext fun l => funext fun a => ?_)
  match l, a with
  | 0, a => exact rfl

set_option maxHeartbeats 2000000 in
theorem frame_In : letI := Cert.AdamwIn.Gen.facts; quiescent_AdamwIn := fun m ρ _ =>
  letI := Cert.AdamwIn.Gen.facts; letI := Cert.AdamwInIdeal.Gen.facts
  run_of_eq (congrArg (Pipeline.defs _) defs₀_In) (show Cert.AdamwIn.main (F := Bits) = Cert.AdamwInIdeal.main (F := Bits) from rfl)
    (Cert.AdamwInIdeal.Gen.frame (F := Bits) m ρ)

theorem frame_In_ideal : letI := Cert.AdamwInIdeal.Gen.facts; quiescent_AdamwInIdeal := fun m ρ _ =>
  Cert.AdamwInIdeal.Gen.frame (F := Ideal) m ρ

theorem frame_In_ref : letI := Cert.AdamwRefInIdeal.Gen.facts; quiescent_AdamwRefInIdeal := fun m ρ _ =>
  (θ_run Cert.AdamwRefInIdeal.defs _ _).mono
    (fun r h => ⟨fun c => (h c).2.2.2, sem_eq_zero_of_no_sems (by decide) r.2⟩) (Cert.AdamwRefInIdeal.Value.run m ρ)

set_option maxHeartbeats 2000000 in
/-- The step of w_in and its reference end with equal results, whatever the arguments. -/
theorem value_In : letI := Cert.AdamwInIdeal.Gen.facts; letI := Cert.AdamwRefInIdeal.Gen.facts
    algebraic_AdamwInIdeal_AdamwRefInIdeal := by
  intro m g m' g' _ hag
  refine ⟨_, _, _, Cert.AdamwInIdeal.Value.run m g, (θ_run Cert.AdamwRefInIdeal.defs _ _).mono (fun _ h c => ?_) (Cert.AdamwRefInIdeal.Value.run m' g')⟩
  obtain ⟨h0, h1, h2, rest⟩ := h c
  obtain ⟨a0, a1, a2, a3⟩ := hag c
  exact ⟨(h0.trans (by rw [a0, a1, a2, a3]; exact ref_changes _ _ _ _ _)),
    (h1.trans (by rw [a1, a2]; exact ref_moms _ _ _)),
    (h2.trans (by rw [a1, a3]; exact ref_vars _ _ _)), rest⟩

/-! ## The step of w_uq -/

set_option maxHeartbeats 2000000 in
/-- The text of the step is the same in both programs. -/
theorem defs₀_Uq : letI := Cert.AdamwUq.Gen.facts; letI := Cert.AdamwUqIdeal.Gen.facts
    Cert.AdamwUq.defs₀ (F := Bits) = Cert.AdamwUqIdeal.defs₀ (F := Bits) := by
  refine congrArg Defs.onTc (funext fun l => funext fun a => ?_)
  match l, a with
  | 0, a => exact rfl

set_option maxHeartbeats 2000000 in
theorem frame_Uq : letI := Cert.AdamwUq.Gen.facts; quiescent_AdamwUq := fun m ρ _ =>
  letI := Cert.AdamwUq.Gen.facts; letI := Cert.AdamwUqIdeal.Gen.facts
  run_of_eq (congrArg (Pipeline.defs _) defs₀_Uq) (show Cert.AdamwUq.main (F := Bits) = Cert.AdamwUqIdeal.main (F := Bits) from rfl)
    (Cert.AdamwUqIdeal.Gen.frame (F := Bits) m ρ)

theorem frame_Uq_ideal : letI := Cert.AdamwUqIdeal.Gen.facts; quiescent_AdamwUqIdeal := fun m ρ _ =>
  Cert.AdamwUqIdeal.Gen.frame (F := Ideal) m ρ

theorem frame_Uq_ref : letI := Cert.AdamwRefUqIdeal.Gen.facts; quiescent_AdamwRefUqIdeal := fun m ρ _ =>
  (θ_run Cert.AdamwRefUqIdeal.defs _ _).mono
    (fun r h => ⟨fun c => (h c).2.2.2, sem_eq_zero_of_no_sems (by decide) r.2⟩) (Cert.AdamwRefUqIdeal.Value.run m ρ)

set_option maxHeartbeats 2000000 in
/-- The step of w_uq and its reference end with equal results, whatever the arguments. -/
theorem value_Uq : letI := Cert.AdamwUqIdeal.Gen.facts; letI := Cert.AdamwRefUqIdeal.Gen.facts
    algebraic_AdamwUqIdeal_AdamwRefUqIdeal := by
  intro m g m' g' _ hag
  refine ⟨_, _, _, Cert.AdamwUqIdeal.Value.run m g, (θ_run Cert.AdamwRefUqIdeal.defs _ _).mono (fun _ h c => ?_) (Cert.AdamwRefUqIdeal.Value.run m' g')⟩
  obtain ⟨h0, h1, h2, rest⟩ := h c
  obtain ⟨a0, a1, a2, a3⟩ := hag c
  exact ⟨(h0.trans (by rw [a0, a1, a2, a3]; exact ref_changes _ _ _ _ _)),
    (h1.trans (by rw [a1, a2]; exact ref_moms _ _ _)),
    (h2.trans (by rw [a1, a3]; exact ref_vars _ _ _)), rest⟩

/-! ## The step of w_ukv -/

set_option maxHeartbeats 2000000 in
/-- The text of the step is the same in both programs. -/
theorem defs₀_Ukv : letI := Cert.AdamwUkv.Gen.facts; letI := Cert.AdamwUkvIdeal.Gen.facts
    Cert.AdamwUkv.defs₀ (F := Bits) = Cert.AdamwUkvIdeal.defs₀ (F := Bits) := by
  refine congrArg Defs.onTc (funext fun l => funext fun a => ?_)
  match l, a with
  | 0, a => exact rfl

set_option maxHeartbeats 2000000 in
theorem frame_Ukv : letI := Cert.AdamwUkv.Gen.facts; quiescent_AdamwUkv := fun m ρ _ =>
  letI := Cert.AdamwUkv.Gen.facts; letI := Cert.AdamwUkvIdeal.Gen.facts
  run_of_eq (congrArg (Pipeline.defs _) defs₀_Ukv) (show Cert.AdamwUkv.main (F := Bits) = Cert.AdamwUkvIdeal.main (F := Bits) from rfl)
    (Cert.AdamwUkvIdeal.Gen.frame (F := Bits) m ρ)

theorem frame_Ukv_ideal : letI := Cert.AdamwUkvIdeal.Gen.facts; quiescent_AdamwUkvIdeal := fun m ρ _ =>
  Cert.AdamwUkvIdeal.Gen.frame (F := Ideal) m ρ

theorem frame_Ukv_ref : letI := Cert.AdamwRefUkvIdeal.Gen.facts; quiescent_AdamwRefUkvIdeal := fun m ρ _ =>
  (θ_run Cert.AdamwRefUkvIdeal.defs _ _).mono
    (fun r h => ⟨fun c => (h c).2.2.2, sem_eq_zero_of_no_sems (by decide) r.2⟩) (Cert.AdamwRefUkvIdeal.Value.run m ρ)

set_option maxHeartbeats 2000000 in
/-- The step of w_ukv and its reference end with equal results, whatever the arguments. -/
theorem value_Ukv : letI := Cert.AdamwUkvIdeal.Gen.facts; letI := Cert.AdamwRefUkvIdeal.Gen.facts
    algebraic_AdamwUkvIdeal_AdamwRefUkvIdeal := by
  intro m g m' g' _ hag
  refine ⟨_, _, _, Cert.AdamwUkvIdeal.Value.run m g, (θ_run Cert.AdamwRefUkvIdeal.defs _ _).mono (fun _ h c => ?_) (Cert.AdamwRefUkvIdeal.Value.run m' g')⟩
  obtain ⟨h0, h1, h2, rest⟩ := h c
  obtain ⟨a0, a1, a2, a3⟩ := hag c
  exact ⟨(h0.trans (by rw [a0, a1, a2, a3]; exact ref_changes _ _ _ _ _)),
    (h1.trans (by rw [a1, a2]; exact ref_moms _ _ _)),
    (h2.trans (by rw [a1, a3]; exact ref_vars _ _ _)), rest⟩

end Cert.Proof

end
-- ==== Proof.EndModel.lean ====
/- One row of the layer's end, over the extended reals: the two norms of the mixers' outputs, the output product, the
   gated feed-forward, the error against the target, and the gradients back to the mixers' outputs. -/
module

public import proofs.«01_k».proof.Proof.Gen.LayerEndIdeal.Skeleton
public import Idealize.ShloMosaic.Lib.Pointwise

@[expose] public section

set_option maxRecDepth 16384

noncomputable section

namespace Cert.End

open Idealize.ShloMosaic

/-! The constants, as the program writes them. -/

abbrev eps : EReal := Ideal.ofBits FTy.f32 0x358637BD#32
abbrev mhalf : EReal := Ideal.ofBits FTy.f32 0xBF000000#32
abbrev i512 : EReal := Ideal.ofBits FTy.f32 0x3B000000#32
abbrev i1024 : EReal := Ideal.ofBits FTy.f32 0x3A800000#32
abbrev i2048 : EReal := Ideal.ofBits FTy.f32 0x3A000000#32

section Norm
variable {n : ℕ} (c : EReal) (x d : Fin n → EReal)

/-- The mean square of a row, with its small constant added. -/
def ms : EReal := (∑ k, x k * x k) * c + eps
/-- Its inverse root. -/
def rs : EReal := Ideal.rsqrt (ms c x)
/-- The row scaled to unit mean square. -/
def xh (j : Fin n) : EReal := x j * rs c x
/-- The derivative's part through the mean square, for the gradient `d` of the scaled row. -/
def tt : EReal := (∑ k, x k * d k) * (mhalf * Ideal.div (rs c x) (ms c x)) * c
/-- The gradient of the row. -/
def back (j : Fin n) : EReal := d j * rs c x + (x j * tt c x d + tt c x d * x j)

theorem tt_zero (h : ∀ j, d j = 0) : tt c x d = 0 := by simp [tt, h]
theorem back_zero (h : ∀ j, d j = 0) (j : Fin n) : back c x d j = 0 := by simp [back, tt_zero c x d h, h]

end Norm

/-- The weights: the two gains, the output product, the second norm's gain, and the three feed-forward matrices with
    their hidden axis first. -/
structure Params where
  ga : Fin 512 → EReal
  gr : Fin 512 → EReal
  wo : Fin 1024 → Fin 1024 → EReal
  ln : Fin 1024 → EReal
  wg : Fin 2816 → Fin 1024 → EReal
  wu : Fin 2816 → Fin 1024 → EReal
  wd : Fin 2816 → Fin 1024 → EReal

/-- One row's inputs, and whether the loss counts it. -/
structure Row where
  h : Fin 1024 → EReal
  o : Fin 512 → EReal
  y : Fin 512 → EReal
  t : Fin 1024 → EReal
  live : Bool

variable (P : Params) (R : Row)

/-- The two halves of a row of 1024 lanes. -/
abbrev lo (k : Fin 512) : Fin 1024 := ⟨k.val, by omega⟩
abbrev hi (k : Fin 512) : Fin 1024 := ⟨512 + k.val, by omega⟩

def mo (k : Fin 512) : EReal := xh i512 R.o k * P.ga k
def mr (k : Fin 512) : EReal := xh i512 R.y k * P.gr k
/-- The mixed row. -/
def mix (k : Fin 1024) : EReal := if h : k.val < 512 then mo P R ⟨k.val, h⟩ else mr P R ⟨k.val - 512, by omega⟩
def h1 (j : Fin 1024) : EReal := R.h j + (∑ k, mo P R k * P.wo (lo k) j) + ∑ k, mr P R k * P.wo (hi k) j
def hn (j : Fin 1024) : EReal := xh i1024 (h1 P R) j * P.ln j
def g (f : Fin 2816) : EReal := ∑ j, hn P R j * P.wg f j
def u (f : Fin 2816) : EReal := ∑ j, hn P R j * P.wu f j
def sg (f : Fin 2816) : EReal := Ideal.logistic (g P R f)
def act (f : Fin 2816) : EReal := g P R f * sg P R f * u P R f
def h2 (j : Fin 1024) : EReal := h1 P R j + ∑ f, act P R f * P.wd f j
def err (j : Fin 1024) : EReal := if R.live = true then h2 P R j - R.t j else 0
def dh2 (j : Fin 1024) : EReal := err P R j * i1024
def dact (f : Fin 2816) : EReal := ∑ j, dh2 P R j * P.wd f j
def dg (f : Fin 2816) : EReal :=
  dact P R f * u P R f * sg P R f + g P R f * (dact P R f * u P R f) * (sg P R f * (1 - sg P R f))
def du (f : Fin 2816) : EReal := g P R f * sg P R f * dact P R f
def dhn (j : Fin 1024) : EReal := (∑ f, dg P R f * P.wg f j) + ∑ f, du P R f * P.wu f j
def dh1 (j : Fin 1024) : EReal := dh2 P R j + back i1024 (h1 P R) (fun j => dhn P R j * P.ln j) j
def dmix (k : Fin 1024) : EReal := ∑ j, dh1 P R j * P.wo k j
def doo (k : Fin 512) : EReal := back i512 R.o (fun k => dmix P R (lo k) * P.ga k) k
def dyy (k : Fin 512) : EReal := back i512 R.y (fun k => dmix P R (hi k) * P.gr k) k
/-! What the row adds to the loss and to the gains' gradients. -/
def sq : EReal := ∑ j, err P R j * err P R j
def cga (k : Fin 512) : EReal := xh i512 R.o k * dmix P R (lo k)
def cgr (k : Fin 512) : EReal := xh i512 R.y k * dmix P R (hi k)
def cln (j : Fin 1024) : EReal := xh i1024 (h1 P R) j * dhn P R j

/-! A row the loss does not count has no gradient. -/
section Dead
variable (hl : R.live = false)
include hl
theorem err_dead (j : Fin 1024) : err P R j = 0 := by simp [err, hl]
theorem dh2_dead (j : Fin 1024) : dh2 P R j = 0 := by simp [dh2, err_dead P R hl]
theorem dact_dead (f : Fin 2816) : dact P R f = 0 := by simp [dact, dh2_dead P R hl]
theorem dg_dead (f : Fin 2816) : dg P R f = 0 := by simp [dg, dact_dead P R hl]
theorem du_dead (f : Fin 2816) : du P R f = 0 := by simp [du, dact_dead P R hl]
theorem dhn_dead (j : Fin 1024) : dhn P R j = 0 := by simp [dhn, dg_dead P R hl, du_dead P R hl]
theorem dh1_dead (j : Fin 1024) : dh1 P R j = 0 := by
  rw [dh1, dh2_dead P R hl, back_zero _ _ _ (fun j => by rw [dhn_dead P R hl, zero_mul]), zero_add]
theorem dmix_dead (k : Fin 1024) : dmix P R k = 0 := by simp [dmix, dh1_dead P R hl]
theorem doo_dead (k : Fin 512) : doo P R k = 0 := back_zero _ _ _ (fun k => by rw [dmix_dead P R hl, zero_mul]) k
theorem dyy_dead (k : Fin 512) : dyy P R k = 0 := back_zero _ _ _ (fun k => by rw [dmix_dead P R hl, zero_mul]) k
theorem sq_dead : sq P R = 0 := by simp [sq, err_dead P R hl]
theorem cga_dead (k : Fin 512) : cga P R k = 0 := by rw [cga, dmix_dead P R hl, mul_zero]
theorem cgr_dead (k : Fin 512) : cgr P R k = 0 := by rw [cgr, dmix_dead P R hl, mul_zero]
theorem cln_dead (j : Fin 1024) : cln P R j = 0 := by rw [cln, dhn_dead P R hl, mul_zero]
end Dead

end Cert.End
-- ==== Proof.EndArgs.lean ====
/- The layer end's weights and rows, by its arguments, and sums over the padded rows as sums over the rows there are. -/
module

public import proofs.«01_k».proof.Proof.EndModel
public import Idealize.ShloMosaic.Lib.Pipeline.ValueKit

@[expose] public section

set_option maxRecDepth 16384

noncomputable section

namespace Cert.End

open Idealize.ShloMosaic

/-- The arguments' shapes, as functions on their indices. -/
abbrev T1 (a : ℕ) := (⟨1, ![a]⟩ : Shape).Idx → EReal
abbrev T2 (a b : ℕ) := (⟨2, ![a, b]⟩ : Shape).Idx → EReal
abbrev T3 (a b c : ℕ) := (⟨3, ![a, b, c]⟩ : Shape).Idx → EReal

/-- The weights. -/
def argP (x4 x5 : T1 512) (x6 : T2 1024 1024) (x7 : T1 1024) (x8 x9 : T2 1024 2816) (x10 : T2 2816 1024) : Params where
  ga k := x4 (ix1 k)
  gr k := x5 (ix1 k)
  wo k j := x6 (ix2 k j)
  ln j := x7 (ix1 j)
  wg f j := x8 (ix2 j f)
  wu f j := x9 (ix2 j f)
  wd f j := x10 (ix2 f j)

/-- Row `t` of sequence `b`: zero beyond the sequence, the target zero on its first 16 rows, which the loss leaves out. -/
def argR (x0 : T3 2 2064 1024) (x1 x2 : T3 2 2064 512) (x3 : T3 2 2048 1024) (b t : ℕ) : Row where
  h j := if h : b < 2 ∧ t < 2064 then x0 (ix3 ⟨b, h.1⟩ ⟨t, h.2⟩ j) else 0
  o k := if h : b < 2 ∧ t < 2064 then x1 (ix3 ⟨b, h.1⟩ ⟨t, h.2⟩ k) else 0
  y k := if h : b < 2 ∧ t < 2064 then x2 (ix3 ⟨b, h.1⟩ ⟨t, h.2⟩ k) else 0
  t j := if h : b < 2 ∧ 16 ≤ t ∧ t - 16 < 2048 then x3 (ix3 ⟨b, h.1⟩ ⟨t - 16, h.2.2⟩ j) else 0
  live := decide (16 ≤ t ∧ t < 2064)

theorem argR_dead (x0 : T3 2 2064 1024) (x1 x2 : T3 2 2064 512) (x3 : T3 2 2048 1024) (b t : ℕ) (ht : 2064 ≤ t) :
    (argR x0 x1 x2 x3 b t).live = false := decide_eq_false (by omega)

theorem argR_first (x0 : T3 2 2064 1024) (x1 x2 : T3 2 2064 512) (x3 : T3 2 2048 1024) (b t : ℕ) (ht : t < 16) :
    (argR x0 x1 x2 x3 b t).live = false := decide_eq_false (by omega)

/-! Sums of numbers that are not negative distribute. -/

theorem self_mul_nonneg (x : EReal) : 0 ≤ x * x := by
  rcases le_total 0 x with h | h
  · exact mul_nonneg h h
  · rw [← neg_mul_neg]
    exact mul_nonneg (EReal.neg_nonneg.mpr h) (EReal.neg_nonneg.mpr h)

theorem sum_mul_nonneg {ι : Type} (s : Finset ι) (f : ι → EReal) (h : ∀ i, 0 ≤ f i) (a : EReal) : ∑ i ∈ s, f i * a = (∑ i ∈ s, f i) * a := by
  classical
  induction s using Finset.induction_on with
  | empty => simp
  | insert i s hi ih => rw [Finset.sum_insert hi, Finset.sum_insert hi, ih, EReal.right_distrib_of_nonneg (h i) (Finset.sum_nonneg fun j _ => h j)]

theorem row_sq_nonneg (P : Params) (R : Row) : 0 ≤ sq P R := Finset.sum_nonneg fun j _ => self_mul_nonneg _

/-- A sum over the padded rows of a quantity the padding adds nothing to. -/
theorem rows_live (f : ℕ → ℕ → EReal) (hd : ∀ b t, 2064 ≤ t → f b t = 0) :
    ∑ r : Fin 4352, f (r.val / 2176) (r.val % 2176) = ∑ b : Fin 2, ∑ t : Fin 2064, f b.val t.val := by
  rw [Fin.sum_univ_eq_sum_range (fun r => f (r / 2176) (r % 2176)) 4352, Fin.sum_univ_eq_sum_range (fun b => ∑ t : Fin 2064, f b t.val) 2,
    show (4352 : ℕ) = 2 * 2176 from rfl, Finset.sum_range_mul_split]
  refine Finset.sum_congr rfl fun b _ => ?_
  rw [Fin.sum_univ_eq_sum_range (fun t => f b t) 2064]
  symm
  rw [← Finset.sum_subset (Finset.range_subset_range.mpr (show 2064 ≤ 2176 by decide)) (fun t _ ht => ?_)]
  · refine Finset.sum_congr rfl fun t ht => ?_
    have := Finset.mem_range.mp ht
    rw [show (b * 2176 + t) / 2176 = b by omega, show (b * 2176 + t) % 2176 = t by omega]
  · have h1 : 2064 ≤ t := not_lt.mp fun h => ht (Finset.mem_range.mpr h)
    exact hd _ _ (by have := Finset.mem_range.mp ‹t ∈ Finset.range 2176›; omega)

end Cert.End

end
-- ==== Proof.EndBody.lean ====
/- The row computation's body at one block of 256 rows, read at an element: the row model of that row. -/
module

public import proofs.«01_k».proof.Proof.EndModel

@[expose] public section

set_option maxRecDepth 16384

noncomputable section

namespace Cert.LayerEndIdeal.End

open Idealize.ShloMosaic Cert.LayerEndIdeal Cert.LayerEndIdeal.Gen Cert.End

/-- The blocks a grid point reads, and the point's number. -/
structure Blk where
  x0 : Vec Ideal S256x1024 .f32
  x1 : Vec Ideal S256x512 .f32
  x2 : Vec Ideal S256x512 .f32
  x3 : Vec Ideal S256x1024 .f32
  x4 : Vec Ideal S1x512 .f32
  x5 : Vec Ideal S1x512 .f32
  x6 : Vec Ideal S1024x1024 .bf16
  x7 : Vec Ideal S1x1024 .f32
  x8 : Vec Ideal S2816x1024 .bf16
  x9 : Vec Ideal S2816x1024 .bf16
  x10 : Vec Ideal S2816x1024 .bf16
  t : ℕ

namespace Blk

/-- The weights, as the blocks hold them. -/
abbrev P (B : Blk) : Params where
  ga k := B.x4 (ix2 0 k)
  gr k := B.x5 (ix2 0 k)
  wo k j := B.x6 (ix2 k j)
  ln j := B.x7 (ix2 0 j)
  wg f j := B.x8 (ix2 f j)
  wu f j := B.x9 (ix2 f j)
  wd f j := B.x10 (ix2 f j)

/-- A row of the blocks. -/
abbrev R (B : Blk) (i : Fin 256) : Row where
  h j := B.x0 (ix2 i j)
  o k := B.x1 (ix2 i k)
  y k := B.x2 (ix2 i k)
  t j := B.x3 (ix2 i j)
  live := decide (16 ≤ (256 * B.t + i.val) % 2176 ∧ (256 * B.t + i.val) % 2176 < 2064)

abbrev top (B : Blk) : Vec Ideal S512x1024 .bf16 := fun y => B.x6 (ix2 (lo (y 0)) (y 1))
abbrev bot (B : Blk) : Vec Ideal S512x1024 .bf16 := fun y => B.x6 (ix2 (hi (y 0)) (y 1))

/-! The values of the body, in its order. -/
abbrev v21 (B : Blk) := k0_pay12 (F := Ideal) B.x1 B.x4
abbrev v38 (B : Blk) := k0_pay18 (F := Ideal) B.x2
abbrev v39 (B : Blk) := k0_pay19 (F := Ideal) B.x5
abbrev v54 (B : Blk) := k0_pay22 (F := Ideal) B.v21 B.v38 B.v39 B.x0 B.top B.bot
abbrev v64 (B : Blk) := k0_pay25 (F := Ideal) B.v21 B.v38 B.v39 B.x0 B.top B.bot
abbrev v67 (B : Blk) := k0_pay26 (F := Ideal) B.v21 B.v38 B.v39 B.x0 B.top B.bot
abbrev v69 (B : Blk) := k0_pay27 (F := Ideal) B.v21 B.v38 B.v39 B.x0 B.top B.bot
abbrev v72 (B : Blk) := k0_pay28 (F := Ideal) B.v21 B.v38 B.v39 B.x0 B.top B.bot B.x7
abbrev v76 (B : Blk) := k0_pay29 (F := Ideal) B.v72 B.x8
abbrev v79 (B : Blk) := k0_pay30 (F := Ideal) B.v72 B.x9
abbrev v80 (B : Blk) := k0_pay31 (F := Ideal) B.v72 B.x8
abbrev v83 (B : Blk) := k0_pay32 (F := Ideal) B.v72 B.x8
abbrev v84 (B : Blk) := k0_pay33 (F := Ideal) B.v72 B.x8
abbrev v86 (B : Blk) := k0_pay34 (F := Ideal) B.v72 B.x8 B.x9
abbrev v112 (B : Blk) := k0_pay35 (F := Ideal) (BitVec.ofNat 32 B.t) B.v54 B.v72 B.x8 B.x9 B.x10 B.x3
abbrev v127 (B : Blk) := k0_pay37 (F := Ideal) B.v112
abbrev v139 (B : Blk) := k0_pay39 (F := Ideal) B.v76 B.v79 B.v80 B.v83 B.v112 B.x10
abbrev v140 (B : Blk) := k0_pay40 (F := Ideal) B.v84 B.v112 B.x10
abbrev v147 (B : Blk) := k0_pay41 (F := Ideal) B.v76 B.v79 B.v80 B.v83 B.v84 B.v112 B.x10 B.x8 B.x9
abbrev v148 (B : Blk) := k0_pay42 (F := Ideal) B.v69 B.v76 B.v79 B.v80 B.v83 B.v84 B.v112 B.x10 B.x8 B.x9
abbrev v56 (B : Blk) := k0_pay23 (F := Ideal) B.x7
abbrev v170 (B : Blk) := k0_pay44 (F := Ideal) B.v54 B.v56 B.v64 B.v67 B.v112 B.v147
abbrev v171 (B : Blk) := k0_pay45 (F := Ideal) B.v54 B.v56 B.v64 B.v67 B.v112 B.v147
abbrev v176 (B : Blk) := k0_pay46 (F := Ideal) B.v54 B.v56 B.v64 B.v67 B.v112 B.v147 B.x6

end Blk

theorem norm_ms (x : Vec Ideal S256x512 .f32) (i : Fin 256) : k0_pay8 (F := Ideal) x (ix2 i 0) = ms i512 fun k => x (ix2 i k) := by
  pointwise [k0_pay8, k0_pay6]
  rfl
theorem norm_rs (x : Vec Ideal S256x512 .f32) (i : Fin 256) : k0_pay9 (F := Ideal) x (ix2 i 0) = rs i512 fun k => x (ix2 i k) := by
  pointwise [k0_pay9]
  rw [norm_ms]; rfl
theorem norm_q (x : Vec Ideal S256x512 .f32) (i : Fin 256) :
    k0_pay10 (F := Ideal) x (ix2 i 0) = mhalf * Ideal.div (rs i512 fun k => x (ix2 i k)) (ms i512 fun k => x (ix2 i k)) := by
  pointwise [k0_pay10]
  rw [norm_ms, norm_rs]
theorem norm_xh (x : Vec Ideal S256x512 .f32) (i : Fin 256) (k : Fin 512) : k0_pay11 (F := Ideal) x (ix2 i k) = xh i512 (fun k => x (ix2 i k)) k := by
  pointwise [k0_pay11, k0_pay6]
  rw [norm_rs]; rfl
theorem pay16_eq : k0_pay16 (F := Ideal) = k0_pay9 := rfl
theorem pay17_eq : k0_pay17 (F := Ideal) = k0_pay10 := rfl
theorem pay18_eq : k0_pay18 (F := Ideal) = k0_pay11 := rfl

section
variable (B : Blk) (i : Fin 256)

theorem v21_raw (k : Fin 512) : k0_pay12 (F := Ideal) B.x1 B.x4 (ix2 i k) = mo B.P (B.R i) k := by
  pointwise [k0_pay12, k0_pay7]
  rw [norm_xh]; rfl
theorem v21_at (k : Fin 512) : B.v21 (ix2 i k) = mo B.P (B.R i) k := v21_raw B i k
theorem v38_raw (k : Fin 512) : k0_pay18 (F := Ideal) B.x2 (ix2 i k) = xh i512 (B.R i).y k := norm_xh _ i k
theorem v38_at (k : Fin 512) : B.v38 (ix2 i k) = xh i512 (B.R i).y k := v38_raw B i k
theorem v39_raw (k : Fin 512) : k0_pay19 (F := Ideal) B.x5 (ix2 i k) = B.P.gr k := by
  pointwise [k0_pay19, k0_pay14]
theorem v39_at (k : Fin 512) : B.v39 (ix2 i k) = B.P.gr k := v39_raw B i k
theorem v54_raw (j : Fin 1024) : k0_pay22 (F := Ideal) B.v21 B.v38 B.v39 B.x0 B.top B.bot (ix2 i j) = h1 B.P (B.R i) j := by
  pointwise [k0_pay22, k0_pay20, k0_pay21]
  simp only [v21_at, v38_at, v39_at]
  rfl
theorem v54_at (j : Fin 1024) : B.v54 (ix2 i j) = h1 B.P (B.R i) j := v54_raw B i j
theorem ms_at : k0_pay24 (F := Ideal) B.v21 B.v38 B.v39 B.x0 B.top B.bot (ix2 i 0) = ms i1024 (h1 B.P (B.R i)) := by
  pointwise [k0_pay24]
  simp only [v54_raw]
  rfl
theorem v64_raw : k0_pay25 (F := Ideal) B.v21 B.v38 B.v39 B.x0 B.top B.bot (ix2 i 0) = rs i1024 (h1 B.P (B.R i)) := by
  pointwise [k0_pay25]
  rw [ms_at]; rfl
theorem v64_at : B.v64 (ix2 i 0) = rs i1024 (h1 B.P (B.R i)) := v64_raw B i
theorem v67_raw : k0_pay26 (F := Ideal) B.v21 B.v38 B.v39 B.x0 B.top B.bot (ix2 i 0) = mhalf * Ideal.div (rs i1024 (h1 B.P (B.R i))) (ms i1024 (h1 B.P (B.R i))) := by
  pointwise [k0_pay26]
  rw [ms_at, v64_raw]
theorem v67_at : B.v67 (ix2 i 0) = mhalf * Ideal.div (rs i1024 (h1 B.P (B.R i))) (ms i1024 (h1 B.P (B.R i))) := v67_raw B i
theorem v69_raw (j : Fin 1024) : k0_pay27 (F := Ideal) B.v21 B.v38 B.v39 B.x0 B.top B.bot (ix2 i j) = xh i1024 (h1 B.P (B.R i)) j := by
  pointwise [k0_pay27]
  rw [v54_raw, v64_raw]; rfl
theorem v69_at (j : Fin 1024) : B.v69 (ix2 i j) = xh i1024 (h1 B.P (B.R i)) j := v69_raw B i j
theorem v56_raw (j : Fin 1024) : k0_pay23 (F := Ideal) B.x7 (ix2 0 j) = B.P.ln j := by
  pointwise [k0_pay23]
theorem v56_at (j : Fin 1024) : B.v56 (ix2 0 j) = B.P.ln j := v56_raw B j
theorem v72_raw (j : Fin 1024) : k0_pay28 (F := Ideal) B.v21 B.v38 B.v39 B.x0 B.top B.bot B.x7 (ix2 i j) = hn B.P (B.R i) j := by
  pointwise [k0_pay28]
  rw [v69_raw, v56_raw]; rfl
theorem v72_at (j : Fin 1024) : B.v72 (ix2 i j) = hn B.P (B.R i) j := v72_raw B i j
theorem v76_raw (f : Fin 2816) : k0_pay29 (F := Ideal) B.v72 B.x8 (ix2 i f) = g B.P (B.R i) f := by
  pointwise [k0_pay29]
  simp only [v72_at]
  rfl
theorem v76_at (f : Fin 2816) : B.v76 (ix2 i f) = g B.P (B.R i) f := v76_raw B i f
theorem v79_raw (f : Fin 2816) : k0_pay30 (F := Ideal) B.v72 B.x9 (ix2 i f) = u B.P (B.R i) f := by
  pointwise [k0_pay30]
  simp only [v72_at]
  rfl
theorem v79_at (f : Fin 2816) : B.v79 (ix2 i f) = u B.P (B.R i) f := v79_raw B i f
theorem v80_raw (f : Fin 2816) : k0_pay31 (F := Ideal) B.v72 B.x8 (ix2 i f) = sg B.P (B.R i) f := by
  pointwise [k0_pay31]
  rw [v76_raw]; rfl
theorem v80_at (f : Fin 2816) : B.v80 (ix2 i f) = sg B.P (B.R i) f := v80_raw B i f
theorem v83_raw (f : Fin 2816) : k0_pay32 (F := Ideal) B.v72 B.x8 (ix2 i f) = sg B.P (B.R i) f * (1 - sg B.P (B.R i) f) := by
  pointwise [k0_pay32]
  rw [v80_raw]
theorem v83_at (f : Fin 2816) : B.v83 (ix2 i f) = sg B.P (B.R i) f * (1 - sg B.P (B.R i) f) := v83_raw B i f
theorem v84_raw (f : Fin 2816) : k0_pay33 (F := Ideal) B.v72 B.x8 (ix2 i f) = g B.P (B.R i) f * sg B.P (B.R i) f := by
  pointwise [k0_pay33]
  rw [v76_raw, v80_raw]
theorem v84_at (f : Fin 2816) : B.v84 (ix2 i f) = g B.P (B.R i) f * sg B.P (B.R i) f := v84_raw B i f
theorem v86_raw (f : Fin 2816) : k0_pay34 (F := Ideal) B.v72 B.x8 B.x9 (ix2 i f) = act B.P (B.R i) f := by
  pointwise [k0_pay34]
  rw [v84_raw, v79_raw]; rfl

theorem v86_at (f : Fin 2816) : B.v86 (ix2 i f) = act B.P (B.R i) f := v86_raw B i f
/-- The rows the loss counts, as the program's comparisons pick them. -/
theorem live_bits : ∀ (t : Fin 17) (i : Fin 256),
    IntOp.andi
      (IntOp.cmpi CmpIPredicate.sge (Scalar.select (IntOp.cmpi CmpIPredicate.sge (IntOp.addi (IntOp.muli (BitVec.ofNat 32 t.val) 256#32) (BitVec.ofNat 32 i.val)) 2176#32)
        (IntOp.subi (IntOp.addi (IntOp.muli (BitVec.ofNat 32 t.val) 256#32) (BitVec.ofNat 32 i.val)) 2176#32)
        (IntOp.addi (IntOp.muli (BitVec.ofNat 32 t.val) 256#32) (BitVec.ofNat 32 i.val))) 16#32)
      (IntOp.cmpi CmpIPredicate.slt (Scalar.select (IntOp.cmpi CmpIPredicate.sge (IntOp.addi (IntOp.muli (BitVec.ofNat 32 t.val) 256#32) (BitVec.ofNat 32 i.val)) 2176#32)
        (IntOp.subi (IntOp.addi (IntOp.muli (BitVec.ofNat 32 t.val) 256#32) (BitVec.ofNat 32 i.val)) 2176#32)
        (IntOp.addi (IntOp.muli (BitVec.ofNat 32 t.val) 256#32) (BitVec.ofNat 32 i.val))) 2064#32)
      = BitVec.ofBool (decide (16 ≤ (256 * t.val + i.val) % 2176 ∧ (256 * t.val + i.val) % 2176 < 2064)) := by
  decide +kernel

theorem sel_bool (b : Bool) (x y : EReal) : Scalar.select (BitVec.ofBool b) x y = if b = true then x else y := by
  cases b <;> simp [Scalar.select]

theorem v112_at (ht : B.t < 17) (j : Fin 1024) : B.v112 (ix2 i j) = err B.P (B.R i) j := by
  pointwise [Blk.v112, k0_pay35]
  simp only [v86_raw, v54_at]
  exact (congrArg (fun b => Scalar.select b _ _) (live_bits ⟨B.t, ht⟩ i)).trans (sel_bool _ _ _)

variable (ht : B.t < 17)
include ht

theorem v127_raw (j : Fin 1024) : k0_pay37 (F := Ideal) B.v112 (ix2 i j) = dh2 B.P (B.R i) j := by
  pointwise [k0_pay37]
  rw [v112_at B i ht]; rfl
theorem dact_raw (f : Fin 2816) : k0_pay38 (F := Ideal) B.v112 B.x10 (ix2 i f) = dact B.P (B.R i) f := by
  pointwise [k0_pay38]
  simp only [v127_raw B i ht]
  rfl
theorem v139_raw (f : Fin 2816) : k0_pay39 (F := Ideal) B.v76 B.v79 B.v80 B.v83 B.v112 B.x10 (ix2 i f) = dg B.P (B.R i) f := by
  pointwise [k0_pay39]
  rw [dact_raw B i ht, v79_at, v76_at, v80_at, v83_at]; rfl
theorem v140_raw (f : Fin 2816) : k0_pay40 (F := Ideal) B.v84 B.v112 B.x10 (ix2 i f) = du B.P (B.R i) f := by
  pointwise [k0_pay40]
  rw [dact_raw B i ht, v84_at]; rfl
theorem v147_raw (j : Fin 1024) : k0_pay41 (F := Ideal) B.v76 B.v79 B.v80 B.v83 B.v84 B.v112 B.x10 B.x8 B.x9 (ix2 i j) = dhn B.P (B.R i) j := by
  pointwise [k0_pay41]
  simp only [v139_raw B i ht, v140_raw B i ht]
  rfl
theorem v147_at (j : Fin 1024) : B.v147 (ix2 i j) = dhn B.P (B.R i) j := v147_raw B i ht j
theorem v148_raw (j : Fin 1024) :
    k0_pay42 (F := Ideal) B.v69 B.v76 B.v79 B.v80 B.v83 B.v84 B.v112 B.x10 B.x8 B.x9 (ix2 i j) = cln B.P (B.R i) j := by
  pointwise [k0_pay42]
  rw [v147_raw B i ht, v69_at]; rfl
theorem v148_at (j : Fin 1024) : B.v148 (ix2 i j) = cln B.P (B.R i) j := v148_raw B i ht j
theorem v170_raw (j : Fin 1024) : k0_pay44 (F := Ideal) B.v54 B.v56 B.v64 B.v67 B.v112 B.v147 (ix2 i j) = dh1 B.P (B.R i) j := by
  pointwise [k0_pay44]
  simp only [v112_at B i ht, v147_at B i ht, v54_at, v56_at, v64_at, v67_at, Fin.sum_univ_one]
  rw [dh1, back, ← add_assoc (_ * rs _ _)]; rfl
theorem v171_raw (j : Fin 1024) : k0_pay45 (F := Ideal) B.v54 B.v56 B.v64 B.v67 B.v112 B.v147 (ix2 i j) = dh1 B.P (B.R i) j := by
  pointwise [k0_pay45]
  exact v170_raw B i ht j
theorem v176_raw (k : Fin 1024) : k0_pay46 (F := Ideal) B.v54 B.v56 B.v64 B.v67 B.v112 B.v147 B.x6 (ix2 i k) = dmix B.P (B.R i) k := by
  pointwise [k0_pay46]
  simp only [v171_raw B i ht]
  rfl
theorem v176_at (k : Fin 1024) : B.v176 (ix2 i k) = dmix B.P (B.R i) k := v176_raw B i ht k
theorem v177_raw (k : Fin 512) : k0_pay47 (F := Ideal) B.v54 B.v56 B.v64 B.v67 B.v112 B.v147 B.x6 (ix2 i k) = dmix B.P (B.R i) (lo k) := by
  pointwise [k0_pay47]
  exact v176_raw B i ht _
theorem v198_raw (k : Fin 512) : k0_pay53 (F := Ideal) B.v176 (ix2 i k) = dmix B.P (B.R i) (hi k) := by
  pointwise [k0_pay53]
  exact v176_raw B i ht _
omit ht in
theorem v6_at (k : Fin 512) (x : Vec Ideal S1x512 .f32) : k0_pay7 (F := Ideal) x (ix2 0 k) = x (ix2 0 k) := by
  pointwise [k0_pay7]
omit ht in
theorem v4_at (k : Fin 512) (x : Vec Ideal S256x512 .f32) : k0_pay6 (F := Ideal) x (ix2 i k) = x (ix2 i k) := by
  pointwise [k0_pay6]
theorem v182_raw (k : Fin 512) : k0_pay49 (F := Ideal) (k0_pay7 B.x4) B.v54 B.v56 B.v64 B.v67 B.v112 B.v147 B.x6 (ix2 i k)
    = dmix B.P (B.R i) (lo k) * B.P.ga k := by
  pointwise [k0_pay49]
  rw [v177_raw B i ht, v6_at]

/-- The gradient of the first mixer's row. -/
abbrev Blk.vdo (B : Blk) := k0_pay52 (F := Ideal) (k0_pay6 B.x1) (k0_pay50 (k0_pay7 B.x4) (k0_pay9 B.x1) B.v54 B.v56 B.v64 B.v67 B.v112 B.v147 B.x6)
  (k0_pay51 (k0_pay6 B.x1) (k0_pay7 B.x4) (k0_pay10 B.x1) B.v54 B.v56 B.v64 B.v67 B.v112 B.v147 B.x6)
theorem vdo_at (k : Fin 512) : B.vdo (ix2 i k) = doo B.P (B.R i) k := by
  pointwise [Blk.vdo, k0_pay52, k0_pay50, k0_pay51]
  simp only [v182_raw B i ht, v4_at, norm_rs, norm_q, Fin.sum_univ_one]
  rw [doo, back, ← add_assoc]; rfl
/-- The gradient of the second mixer's row. -/
abbrev Blk.vdy (B : Blk) := k0_pay54 (F := Ideal) (k0_pay13 B.x2) (k0_pay14 B.x5) (k0_pay16 B.x2) (k0_pay17 B.x2) B.v176
theorem vdy_at (k : Fin 512) : B.vdy (ix2 i k) = dyy B.P (B.R i) k := by
  rw [Blk.vdy, pay16_eq, pay17_eq, show k0_pay13 (F := Ideal) = k0_pay6 from rfl, show k0_pay14 (F := Ideal) = k0_pay7 from rfl]
  pointwise [k0_pay54]
  simp only [v198_raw B i ht, v4_at, v6_at, norm_rs, norm_q, Fin.sum_univ_one]
  rw [dyy, back, ← add_assoc]; rfl

/-! What the block adds to the accumulators. -/

omit ht in
theorem acc_ln (prev : Vec Ideal S1x1024 .f32) (j : Fin 1024) : k0_pay1 (F := Ideal) (k0_pay43 B.v148) prev (ix2 0 j)
    = prev (ix2 0 j) + ∑ i, B.v148 (ix2 i j) := by
  pointwise [k0_pay1, k0_pay43]
theorem ln_at (prev : Vec Ideal S1x1024 .f32) (j : Fin 1024) : k0_pay1 (F := Ideal) (k0_pay43 B.v148) prev (ix2 0 j)
    = prev (ix2 0 j) + ∑ i, cln B.P (B.R i) j := by
  rw [acc_ln]; simp only [v148_at B _ ht]
theorem ga_at (prev : Vec Ideal S1x512 .f32) (k : Fin 512) :
    k0_pay55 (F := Ideal) (k0_pay48 (k0_pay11 B.x1) B.v54 B.v56 B.v64 B.v67 B.v112 B.v147 B.x6) prev (ix2 0 k)
      = prev (ix2 0 k) + ∑ i, cga B.P (B.R i) k := by
  pointwise [k0_pay55, k0_pay48]
  simp only [v177_raw B _ ht, norm_xh]
  rfl
theorem gr_at (prev : Vec Ideal S1x512 .f32) (k : Fin 512) : k0_pay56 (F := Ideal) B.v38 B.v176 prev (ix2 0 k)
    = prev (ix2 0 k) + ∑ i, cgr B.P (B.R i) k := by
  pointwise [k0_pay56]
  simp only [v198_raw B _ ht, v38_at]
  rfl
theorem loss_at (prev : Vec Ideal S1x1 .f32) : k0_pay36 (F := Ideal) B.v112 prev (ix2 0 0)
    = prev (ix2 0 0) + (∑ i, sq B.P (B.R i)) * i2048 := by
  pointwise [k0_pay36]
  simp only [v112_at B _ ht]
  rfl

end
end Cert.LayerEndIdeal.End
-- ==== Proof.EndOuts.lean ====
module

public import proofs.«01_k».proof.Proof.EndRegion
public import proofs.«01_k».proof.Proof.EndBody
public import proofs.«01_k».proof.Proof.BwdBody
public import Idealize.ShloMosaic.Lib.Pipeline.ValueKit

/-! # The layer-end call: each output block, as the row model of its rows -/

@[expose] public section

set_option maxRecDepth 16384

noncomputable section

namespace Cert.LayerEndIdeal.End

open Idealize.ShloMosaic Cert.LayerEndIdeal Cert.LayerEndIdeal.Gen Cert.End
open Idealize.ShloMosaic.TcCoe

variable (V : (c : Dev nD) → (b : Ref sig .tc) → Buf (Elt Ideal) ((c : Thread nD τ).loc b)) (c : Dev nD)

/-- The blocks of a grid point. -/
abbrev Bt (t : Fin cfg0.N) : Blk :=
  ⟨iblk0 V c 0 t, iblk0 V c 1 t, iblk0 V c 2 t, iblk0 V c 3 t, iblk0 V c 4 t, iblk0 V c 5 t, iblk0 V c 6 t, iblk0 V c 7 t, iblk0 V c 8 t,
    iblk0 V c 9 t, iblk0 V c 10 t, t.val⟩

theorem coord0 (t : Fin cfg0.N) : (grid0.coords t 0).val = t.val :=
  (by decide +kernel : ∀ t : Fin cfg0.N, (grid0.coords t 0).val = t.val) t

theorem ld_top (B : Blk) : View.ld B.x6 (Rect.unit ![0, 0] ![512, 1024] inb_S1024x1024_S512x1024_0_0) = B.top := by
  funext y
  obtain ⟨k, j, rfl⟩ : ∃ (k : Fin 512) (j : Fin 1024), y = ix2 k j := ⟨y 0, y 1, by funext a; fin_cases a <;> rfl⟩
  refine congrArg B.x6 ?_
  funext a; fin_cases a <;> exact Fin.ext (by simp [Rect.emb_apply, lo])

theorem ld_bot (B : Blk) : View.ld B.x6 (Rect.unit ![512, 0] ![512, 1024] inb_S1024x1024_S512x1024_512_0) = B.bot := by
  funext y
  obtain ⟨k, j, rfl⟩ : ∃ (k : Fin 512) (j : Fin 1024), y = ix2 k j := ⟨y 0, y 1, by funext a; fin_cases a <;> rfl⟩
  refine congrArg B.x6 ?_
  funext a; fin_cases a <;> exact Fin.ext (by simp [Rect.emb_apply, hi])

theorem ldT (t : Fin cfg0.N) :
    View.ld (iblk0 V c 6 t) (Rect.unit ![0, 0] ![512, 1024] inb_S1024x1024_S512x1024_0_0) = (Bt V c t).top := ld_top (Bt V c t)

theorem ldB (t : Fin cfg0.N) :
    View.ld (iblk0 V c 6 t) (Rect.unit ![512, 0] ![512, 1024] inb_S1024x1024_S512x1024_512_0) = (Bt V c t).bot := ld_bot (Bt V c t)

/-- Two blocks of 512 lanes side by side, read at a lane. -/
theorem two_halves {n : ℕ} {e : EltTy} (inb1 : ∀ a, (![0, 512] : Fin 2 → ℕ) a + (![n, 512] : Fin 2 → ℕ) a ≤ (⟨2, ![n, 1024]⟩ : Shape).size a)
    (inb0 : ∀ a, (![0, 0] : Fin 2 → ℕ) a + (![n, 512] : Fin 2 → ℕ) a ≤ (⟨2, ![n, 1024]⟩ : Shape).size a)
    (w1 w0 : (⟨2, ![n, 512]⟩ : Shape).Idx → Elt Ideal e) (L : List (View.Piece (Elt Ideal) ⟨2, ![n, 1024]⟩ e)) (i : Fin n) (x : Fin 1024) (G : Elt Ideal e)
    (h0 : ∀ h : x.val < 512, w0 (ix2 i ⟨x.val, h⟩) = G) (h1 : ∀ y : Fin 512, x.val = 512 + y.val → w1 (ix2 i y) = G) :
    View.canon (⟨Rect.unit ![0, 512] ![n, 512] inb1, w1⟩ :: ⟨Rect.unit ![0, 0] ![n, 512] inb0, w0⟩ :: L) (ix2 i x) = G := by
  by_cases hx : x.val < 512
  · rw [View.canon_cons_of_not_mem]
    · exact (Cert.KernelIdeal.Attn.tile_at _ _ _ _ _ _ (ix2 i ⟨x.val, hx⟩)
        (Fin.forall_fin_two.mpr ⟨(Nat.zero_add _).symm, (Nat.zero_add _).symm⟩)).trans (h0 hx)
    · intro h
      have h' : 512 ≤ x.val := ((Rect.mem_set_unit (inb := inb1)).mp h 1).1
      omega
  · exact (Cert.KernelIdeal.Attn.tile_at _ _ _ _ _ _ (ix2 i ⟨x.val - 512, by omega⟩)
      (Fin.forall_fin_two.mpr ⟨(Nat.zero_add _).symm, show x.val = 512 + (x.val - 512) by omega⟩)).trans
        (h1 _ (show x.val = 512 + (x.val - 512) by omega))

theorem mix_at (B : Blk) (i : Fin 256) (j : Fin 1024) (inb1 inb0) :
    View.canon (Val := Elt Ideal) (s := S256x1024) (e := .bf16)
      [⟨Rect.unit ![0, 512] ![256, 512] inb1, k0_pay21 (k0_pay18 B.x2) (k0_pay19 B.x5)⟩,
        ⟨Rect.unit ![0, 0] ![256, 512] inb0, k0_pay20 (k0_pay12 B.x1 B.x4)⟩] (ix2 i j) = mix B.P (B.R i) j := by
  refine two_halves _ _ _ _ _ i j _ (fun h => ?_) fun y hy => ?_
  · rw [mix, dif_pos h]
    pointwise [k0_pay20]
    exact v21_raw B i _
  · have hj : ¬ j.val < 512 := by omega
    rw [mix, dif_neg hj, show (⟨j.val - 512, by omega⟩ : Fin 512) = y from Fin.ext (show j.val - 512 = y.val by omega)]
    pointwise [k0_pay21]
    rw [v38_raw, v39_raw]; rfl

theorem out11 (t : Fin cfg0.N) : (outsAt0 V c t.val t.isLt).1 = (Bt V c t).vdo := by
  by_cases h0 : t.val % 17 = 0
  · rw [outsAt0_A V c t h0, outsA]
    dsimp only [runA]
    frame_out
    simp only [ldT, ldB, coord0]
  · rw [outsAt0_B V c t h0, outsB]
    dsimp only [runB]
    frame_out
    simp only [ldT, ldB, coord0]

theorem out12 (t : Fin cfg0.N) : (outsAt0 V c t.val t.isLt).2.1 = (Bt V c t).vdy := by
  by_cases h0 : t.val % 17 = 0
  · rw [outsAt0_A V c t h0, outsA]
    dsimp only [runA]
    frame_out
    simp only [ldT, ldB, coord0]
  · rw [outsAt0_B V c t h0, outsB]
    dsimp only [runB]
    frame_out
    simp only [ldT, ldB, coord0]

theorem out13 (t : Fin cfg0.N) : (outsAt0 V c t.val t.isLt).2.2.1 = (Bt V c t).v170 := by
  by_cases h0 : t.val % 17 = 0
  · rw [outsAt0_A V c t h0, outsA]
    dsimp only [runA]
    frame_out
    simp only [ldT, ldB, coord0]
  · rw [outsAt0_B V c t h0, outsB]
    dsimp only [runB]
    frame_out
    simp only [ldT, ldB, coord0]

theorem out15 (t : Fin cfg0.N) : (outsAt0 V c t.val t.isLt).2.2.2.2.1 = (Bt V c t).v171 := by
  by_cases h0 : t.val % 17 = 0
  · rw [outsAt0_A V c t h0, outsA]
    dsimp only [runA]
    frame_out
    simp only [ldT, ldB, coord0]
  · rw [outsAt0_B V c t h0, outsB]
    dsimp only [runB]
    frame_out
    simp only [ldT, ldB, coord0]

theorem out16 (t : Fin cfg0.N) : (outsAt0 V c t.val t.isLt).2.2.2.2.2.1 = (Bt V c t).v72 := by
  by_cases h0 : t.val % 17 = 0
  · rw [outsAt0_A V c t h0, outsA]
    dsimp only [runA]
    frame_out
    simp only [ldT, ldB, coord0]
  · rw [outsAt0_B V c t h0, outsB]
    dsimp only [runB]
    frame_out
    simp only [ldT, ldB, coord0]

theorem out17 (t : Fin cfg0.N) : (outsAt0 V c t.val t.isLt).2.2.2.2.2.2.1 = (Bt V c t).v139 := by
  by_cases h0 : t.val % 17 = 0
  · rw [outsAt0_A V c t h0, outsA]
    dsimp only [runA]
    frame_out
    simp only [ldT, ldB, coord0]
  · rw [outsAt0_B V c t h0, outsB]
    dsimp only [runB]
    frame_out
    simp only [ldT, ldB, coord0]

theorem out18 (t : Fin cfg0.N) : (outsAt0 V c t.val t.isLt).2.2.2.2.2.2.2.1 = (Bt V c t).v140 := by
  by_cases h0 : t.val % 17 = 0
  · rw [outsAt0_A V c t h0, outsA]
    dsimp only [runA]
    frame_out
    simp only [ldT, ldB, coord0]
  · rw [outsAt0_B V c t h0, outsB]
    dsimp only [runB]
    frame_out
    simp only [ldT, ldB, coord0]

theorem out19 (t : Fin cfg0.N) : (outsAt0 V c t.val t.isLt).2.2.2.2.2.2.2.2.1 = (Bt V c t).v86 := by
  by_cases h0 : t.val % 17 = 0
  · rw [outsAt0_A V c t h0, outsA]
    dsimp only [runA]
    frame_out
    simp only [ldT, ldB, coord0]
  · rw [outsAt0_B V c t h0, outsB]
    dsimp only [runB]
    frame_out
    simp only [ldT, ldB, coord0]

theorem out20 (t : Fin cfg0.N) : (outsAt0 V c t.val t.isLt).2.2.2.2.2.2.2.2.2.1 = (Bt V c t).v127 := by
  by_cases h0 : t.val % 17 = 0
  · rw [outsAt0_A V c t h0, outsA]
    dsimp only [runA]
    frame_out
    simp only [ldT, ldB, coord0]
  · rw [outsAt0_B V c t h0, outsB]
    dsimp only [runB]
    frame_out
    simp only [ldT, ldB, coord0]

theorem out14 (t : Fin cfg0.N) (i : Fin 256) (j : Fin 1024) : (outsAt0 V c t.val t.isLt).2.2.2.1 (ix2 i j) = mix (Bt V c t).P ((Bt V c t).R i) j := by
  by_cases h0 : t.val % 17 = 0
  · rw [outsAt0_A V c t h0, outsA]
    dsimp only [runA]
    frame_out
    exact mix_at (Bt V c t) i j _ _
  · rw [outsAt0_B V c t h0, outsB]
    dsimp only [runB]
    frame_out
    exact mix_at (Bt V c t) i j _ _

theorem outA21 (t : Fin cfg0.N) (h0 : t.val % 17 = 0) : (outsAt0 V c t.val t.isLt).2.2.2.2.2.2.2.2.2.2.1 = k0_pay36 (F := Ideal) (Bt V c t).v112 (k0_pay2 (F := Ideal)) := by
  rw [outsAt0_A V c t h0, outsA]
  dsimp only [runA]
  frame_out
  simp only [ldT, ldB, coord0]

theorem outB21 (t : Fin cfg0.N) (h0 : ¬t.val % 17 = 0) : (outsAt0 V c t.val t.isLt).2.2.2.2.2.2.2.2.2.2.1 = k0_pay36 (F := Ideal) (Bt V c t).v112 (prev0 V c t).2.2.2.2.2.2.2.2.2.2.1 := by
  rw [outsAt0_B V c t h0, outsB]
  dsimp only [runB]
  frame_out
  simp only [ldT, ldB, coord0]

/-- What all the points add to output 21. -/
theorem acc21 (t : Fin cfg0.N) (ht : t.val + 1 = cfg0.N) :
    (outsAt0 V c t.val t.isLt).2.2.2.2.2.2.2.2.2.2.1 (ix2 0 0) = 0 + ∑ p : Fin cfg0.N, (∑ i, sq (Bt V c p).P ((Bt V c p).R i)) * i2048 := by
  refine Pipeline.eq_sum_fin_of_reset_step_apply_last (fun n h => (outsAt0 V c n h).2.2.2.2.2.2.2.2.2.2.1) 17 (fun _ => 0)
    (fun p j => (∑ i, sq (Bt V c p).P ((Bt V c p).R i)) * i2048) (fun t h j => ?_) (fun t h j => ?_) (le_of_eq N_0) t ht (ix2 0 0)
  · obtain rfl : j = ix2 0 0 := by funext a; fin_cases a <;> exact Subsingleton.elim (α := Fin 1) _ _
    rw [outA21 V c t h]
    refine (loss_at (Bt V c t) (lt_of_lt_of_eq t.isLt N_0) _).trans (congrArg (· + _) ?_)
    pointwise [k0_pay2]
  · obtain rfl : j = ix2 0 0 := by funext a; fin_cases a <;> exact Subsingleton.elim (α := Fin 1) _ _
    rw [outB21 V c t h]
    exact loss_at (Bt V c t) (lt_of_lt_of_eq t.isLt N_0) _

theorem outA22 (t : Fin cfg0.N) (h0 : t.val % 17 = 0) : (outsAt0 V c t.val t.isLt).2.2.2.2.2.2.2.2.2.2.2.1 = k0_pay55 (F := Ideal) (k0_pay48 (k0_pay11 (Bt V c t).x1) (Bt V c t).v54 (Bt V c t).v56 (Bt V c t).v64 (Bt V c t).v67 (Bt V c t).v112 (Bt V c t).v147 (Bt V c t).x6) (k0_pay3 (F := Ideal)) := by
  rw [outsAt0_A V c t h0, outsA]
  dsimp only [runA]
  frame_out
  simp only [ldT, ldB, coord0]

theorem outB22 (t : Fin cfg0.N) (h0 : ¬t.val % 17 = 0) : (outsAt0 V c t.val t.isLt).2.2.2.2.2.2.2.2.2.2.2.1 = k0_pay55 (F := Ideal) (k0_pay48 (k0_pay11 (Bt V c t).x1) (Bt V c t).v54 (Bt V c t).v56 (Bt V c t).v64 (Bt V c t).v67 (Bt V c t).v112 (Bt V c t).v147 (Bt V c t).x6) (prev0 V c t).2.2.2.2.2.2.2.2.2.2.2.1 := by
  rw [outsAt0_B V c t h0, outsB]
  dsimp only [runB]
  frame_out
  simp only [ldT, ldB, coord0]

/-- What all the points add to output 22. -/
theorem acc22 (t : Fin cfg0.N) (ht : t.val + 1 = cfg0.N) (k : Fin 512) :
    (outsAt0 V c t.val t.isLt).2.2.2.2.2.2.2.2.2.2.2.1 (ix2 0 k) = 0 + ∑ p : Fin cfg0.N, ∑ i, cga (Bt V c p).P ((Bt V c p).R i) k := by
  refine Pipeline.eq_sum_fin_of_reset_step_apply_last (fun n h => (outsAt0 V c n h).2.2.2.2.2.2.2.2.2.2.2.1) 17 (fun _ => 0)
    (fun p j => ∑ i, cga (Bt V c p).P ((Bt V c p).R i) (j 1)) (fun t h j => ?_) (fun t h j => ?_) (le_of_eq N_0) t ht (ix2 0 k)
  · obtain ⟨k, rfl⟩ : ∃ k : Fin 512, j = ix2 0 k := ⟨j 1, by funext a; fin_cases a; exacts [Subsingleton.elim (α := Fin 1) _ _, rfl]⟩
    rw [outA22 V c t h]
    refine (ga_at (Bt V c t) (lt_of_lt_of_eq t.isLt N_0) _ k).trans (congrArg (· + _) ?_)
    pointwise [k0_pay3]
  · obtain ⟨k, rfl⟩ : ∃ k : Fin 512, j = ix2 0 k := ⟨j 1, by funext a; fin_cases a; exacts [Subsingleton.elim (α := Fin 1) _ _, rfl]⟩
    rw [outB22 V c t h]
    exact ga_at (Bt V c t) (lt_of_lt_of_eq t.isLt N_0) _ k

theorem outA23 (t : Fin cfg0.N) (h0 : t.val % 17 = 0) : (outsAt0 V c t.val t.isLt).2.2.2.2.2.2.2.2.2.2.2.2.1 = k0_pay56 (F := Ideal) (Bt V c t).v38 (Bt V c t).v176 (k0_pay4 (F := Ideal)) := by
  rw [outsAt0_A V c t h0, outsA]
  dsimp only [runA]
  frame_out
  simp only [ldT, ldB, coord0]

theorem outB23 (t : Fin cfg0.N) (h0 : ¬t.val % 17 = 0) : (outsAt0 V c t.val t.isLt).2.2.2.2.2.2.2.2.2.2.2.2.1 = k0_pay56 (F := Ideal) (Bt V c t).v38 (Bt V c t).v176 (prev0 V c t).2.2.2.2.2.2.2.2.2.2.2.2.1 := by
  rw [outsAt0_B V c t h0, outsB]
  dsimp only [runB]
  frame_out
  simp only [ldT, ldB, coord0]

/-- What all the points add to output 23. -/
theorem acc23 (t : Fin cfg0.N) (ht : t.val + 1 = cfg0.N) (k : Fin 512) :
    (outsAt0 V c t.val t.isLt).2.2.2.2.2.2.2.2.2.2.2.2.1 (ix2 0 k) = 0 + ∑ p : Fin cfg0.N, ∑ i, cgr (Bt V c p).P ((Bt V c p).R i) k := by
  refine Pipeline.eq_sum_fin_of_reset_step_apply_last (fun n h => (outsAt0 V c n h).2.2.2.2.2.2.2.2.2.2.2.2.1) 17 (fun _ => 0)
    (fun p j => ∑ i, cgr (Bt V c p).P ((Bt V c p).R i) (j 1)) (fun t h j => ?_) (fun t h j => ?_) (le_of_eq N_0) t ht (ix2 0 k)
  · obtain ⟨k, rfl⟩ : ∃ k : Fin 512, j = ix2 0 k := ⟨j 1, by funext a; fin_cases a; exacts [Subsingleton.elim (α := Fin 1) _ _, rfl]⟩
    rw [outA23 V c t h]
    refine (gr_at (Bt V c t) (lt_of_lt_of_eq t.isLt N_0) _ k).trans (congrArg (· + _) ?_)
    pointwise [k0_pay4]
  · obtain ⟨k, rfl⟩ : ∃ k : Fin 512, j = ix2 0 k := ⟨j 1, by funext a; fin_cases a; exacts [Subsingleton.elim (α := Fin 1) _ _, rfl]⟩
    rw [outB23 V c t h]
    exact gr_at (Bt V c t) (lt_of_lt_of_eq t.isLt N_0) _ k

theorem outA24 (t : Fin cfg0.N) (h0 : t.val % 17 = 0) : (outsAt0 V c t.val t.isLt).2.2.2.2.2.2.2.2.2.2.2.2.2 = k0_pay1 (F := Ideal) (k0_pay43 (Bt V c t).v148) (k0_pay5 (F := Ideal)) := by
  rw [outsAt0_A V c t h0, outsA]
  dsimp only [runA]
  frame_out
  simp only [ldT, ldB, coord0]

theorem outB24 (t : Fin cfg0.N) (h0 : ¬t.val % 17 = 0) : (outsAt0 V c t.val t.isLt).2.2.2.2.2.2.2.2.2.2.2.2.2 = k0_pay1 (F := Ideal) (k0_pay43 (Bt V c t).v148) (prev0 V c t).2.2.2.2.2.2.2.2.2.2.2.2.2 := by
  rw [outsAt0_B V c t h0, outsB]
  dsimp only [runB]
  frame_out
  simp only [ldT, ldB, coord0]

/-- What all the points add to output 24. -/
theorem acc24 (t : Fin cfg0.N) (ht : t.val + 1 = cfg0.N) (k : Fin 1024) :
    (outsAt0 V c t.val t.isLt).2.2.2.2.2.2.2.2.2.2.2.2.2 (ix2 0 k) = 0 + ∑ p : Fin cfg0.N, ∑ i, cln (Bt V c p).P ((Bt V c p).R i) k := by
  refine Pipeline.eq_sum_fin_of_reset_step_apply_last (fun n h => (outsAt0 V c n h).2.2.2.2.2.2.2.2.2.2.2.2.2) 17 (fun _ => 0)
    (fun p j => ∑ i, cln (Bt V c p).P ((Bt V c p).R i) (j 1)) (fun t h j => ?_) (fun t h j => ?_) (le_of_eq N_0) t ht (ix2 0 k)
  · obtain ⟨k, rfl⟩ : ∃ k : Fin 1024, j = ix2 0 k := ⟨j 1, by funext a; fin_cases a; exacts [Subsingleton.elim (α := Fin 1) _ _, rfl]⟩
    rw [outA24 V c t h]
    refine (ln_at (Bt V c t) (lt_of_lt_of_eq t.isLt N_0) _ k).trans (congrArg (· + _) ?_)
    pointwise [k0_pay5]
  · obtain ⟨k, rfl⟩ : ∃ k : Fin 1024, j = ix2 0 k := ⟨j 1, by funext a; fin_cases a; exacts [Subsingleton.elim (α := Fin 1) _ _, rfl]⟩
    rw [outB24 V c t h]
    exact ln_at (Bt V c t) (lt_of_lt_of_eq t.isLt N_0) _ k

end Cert.LayerEndIdeal.End

end
-- ==== Proof.EndArrays0.lean ====
module

public import proofs.«01_k».proof.Proof.EndArgs
public import proofs.«01_k».proof.Proof.EndOuts

/-! # The layer-end call: its outputs as whole arrays, by the row model of the rows of its input arrays -/

@[expose] public section

set_option maxRecDepth 16384

noncomputable section

namespace Cert.LayerEndIdeal.End

open Idealize.ShloMosaic Cert.LayerEndIdeal Cert.LayerEndIdeal.Gen Cert.End
open Idealize.ShloMosaic.TcCoe

variable (V : (c : Dev nD) → (b : Ref sig .tc) → Buf (Elt Ideal) ((c : Thread nD τ).loc b)) (c : Dev nD)

/-- Point `t` takes and leaves rows `256 t …`; the weights and the sums stay. -/
theorem idx0 (t : Fin grid0.N) : win0_0.index t = ![t.val, 0] ∧ win0_1.index t = ![t.val, 0] ∧ win0_2.index t = ![t.val, 0] ∧ win0_3.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_21.index t = ![0, 0] ∧ win0_22.index t = ![0, 0] ∧ win0_23.index t = ![0, 0] ∧ win0_24.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_21.index t = ![0, 0] ∧ win0_22.index t = ![0, 0] ∧ win0_23.index t = ![0, 0] ∧ win0_24.index t = ![0, 0]) t

/-- The weights, by the arrays the call is given. -/
abbrev parOf (a2 a3 : Vec Ideal S1x512 .f32) (a5 : Vec Ideal S1024x1024 .bf16) (a4 : Vec Ideal S1x1024 .f32) (a7 a9 a10 : Vec Ideal S2816x1024 .bf16) :
    Params where
  ga k := a2 (ix2 0 k)
  gr k := a3 (ix2 0 k)
  wo k j := a5 (ix2 k j)
  ln j := a4 (ix2 0 j)
  wg f j := a7 (ix2 f j)
  wu f j := a9 (ix2 f j)
  wd f j := a10 (ix2 f j)

/-- Row `r` of the arrays the call is given: two sequences of 2176 rows, of which the loss counts 16 to 2063. -/
abbrev rowOf (a12 : Vec Ideal S4352x1024 .f32) (a14 a16 : Vec Ideal S4352x512 .f32) (a1 : Vec Ideal S4352x1024 .f32) (r : Fin 4352) : Row where
  h j := a12 (ix2 r j)
  o k := a14 (ix2 r k)
  y k := a16 (ix2 r k)
  t j := a1 (ix2 r j)
  live := decide (16 ≤ r.val % 2176 ∧ r.val % 2176 < 2064)

abbrev PV : Params := parOf (V c main_v2) (V c main_v3) (V c main_v5) (V c main_v4) (V c main_v7) (V c main_v9) (V c main_v10)
abbrev RV (r : Fin 4352) : Row := rowOf (V c main_v12) (V c main_v14) (V c main_v16) (V c main_v1) r

theorem blk0 (t : Fin cfg0.N) (i : Fin 256) (j : Fin 1024) (h : 256 * t.val + i.val < 4352) :
    iblk0 V c 0 t (ix2 i j) = V c main_v12 (ix2 ⟨256 * t.val + i.val, h⟩ j) := by
  blk_ext [iblk0, idx0]
theorem blk1 (t : Fin cfg0.N) (i : Fin 256) (j : Fin 512) (h : 256 * t.val + i.val < 4352) :
    iblk0 V c 1 t (ix2 i j) = V c main_v14 (ix2 ⟨256 * t.val + i.val, h⟩ j) := by
  blk_ext [iblk0, idx0]
theorem blk2 (t : Fin cfg0.N) (i : Fin 256) (j : Fin 512) (h : 256 * t.val + i.val < 4352) :
    iblk0 V c 2 t (ix2 i j) = V c main_v16 (ix2 ⟨256 * t.val + i.val, h⟩ j) := by
  blk_ext [iblk0, idx0]
theorem blk3 (t : Fin cfg0.N) (i : Fin 256) (j : Fin 1024) (h : 256 * t.val + i.val < 4352) :
    iblk0 V c 3 t (ix2 i j) = V c main_v1 (ix2 ⟨256 * t.val + i.val, h⟩ j) := by
  blk_ext [iblk0, idx0]
theorem blk4 (t : Fin cfg0.N) (i : Fin 1) (j : Fin 512) : iblk0 V c 4 t (ix2 i j) = V c main_v2 (ix2 i j) := by
  blk_ext [iblk0, idx0]
theorem blk5 (t : Fin cfg0.N) (i : Fin 1) (j : Fin 512) : iblk0 V c 5 t (ix2 i j) = V c main_v3 (ix2 i j) := by
  blk_ext [iblk0, idx0]
theorem blk6 (t : Fin cfg0.N) (i : Fin 1024) (j : Fin 1024) : iblk0 V c 6 t (ix2 i j) = V c main_v5 (ix2 i j) := by
  blk_ext [iblk0, idx0]
theorem blk7 (t : Fin cfg0.N) (i : Fin 1) (j : Fin 1024) : iblk0 V c 7 t (ix2 i j) = V c main_v4 (ix2 i j) := by
  blk_ext [iblk0, idx0]
theorem blk8 (t : Fin cfg0.N) (i : Fin 2816) (j : Fin 1024) : iblk0 V c 8 t (ix2 i j) = V c main_v7 (ix2 i j) := by
  blk_ext [iblk0, idx0]
theorem blk9 (t : Fin cfg0.N) (i : Fin 2816) (j : Fin 1024) : iblk0 V c 9 t (ix2 i j) = V c main_v9 (ix2 i j) := by
  blk_ext [iblk0, idx0]
theorem blk10 (t : Fin cfg0.N) (i : Fin 2816) (j : Fin 1024) : iblk0 V c 10 t (ix2 i j) = V c main_v10 (ix2 i j) := by
  blk_ext [iblk0, idx0]

theorem Bt_P (t : Fin cfg0.N) : (Bt V c t).P = PV V c := by
  simp only [Blk.P, blk4, blk5, blk6, blk7, blk8, blk9, blk10]

theorem Bt_R (t : Fin cfg0.N) (i : Fin 256) (h : 256 * t.val + i.val < 4352) : (Bt V c t).R i = RV V c ⟨256 * t.val + i.val, h⟩ := by
  simp only [Blk.R, blk0 V c t i _ h, blk1 V c t i _ h, blk2 V c t i _ h, blk3 V c t i _ h]

theorem row_lt (t : Fin cfg0.N) (i : Fin 256) : 256 * t.val + i.val < 4352 := by
  have := lt_of_lt_of_eq t.isLt N_0
  omega

theorem arr11 (r : Fin 4352) (j : Fin 512) : (dat0 V c).arrAt 11 cfg0.N (ix2 r j) = doo (PV V c) (RV V c r) j := by
  have h : (dat0 V c).arrAt 11 cfg0.N = fun y : S4352x512.Idx => doo (PV V c) (RV V c (y 0)) (y 1) := by
    refine (dat0 V c).arrAt_eq_of_covers 11 _ (by decide +kernel) fun t hf y => ?_
    obtain ⟨i, j, rfl⟩ : ∃ (i : Fin 256) (j : Fin 512), y = ix2 i j := ⟨y 0, y 1, by funext a; fin_cases a <;> rfl⟩
    blk_simp [idx0]
    rw [after0_11]
    rw [out11]
    refine (vdo_at (Bt V c t) i (lt_of_lt_of_eq t.isLt N_0) j).trans ?_
    rw [Bt_P, Bt_R V c t i (row_lt t i)]
    congr 2 <;> refine Fin.ext ?_ <;> blk_simp [idx0] <;> exact congrArg (· + _) (Nat.mul_comm _ _)
  rw [h]
  rfl

theorem arr12 (r : Fin 4352) (j : Fin 512) : (dat0 V c).arrAt 12 cfg0.N (ix2 r j) = dyy (PV V c) (RV V c r) j := by
  have h : (dat0 V c).arrAt 12 cfg0.N = fun y : S4352x512.Idx => dyy (PV V c) (RV V c (y 0)) (y 1) := by
    refine (dat0 V c).arrAt_eq_of_covers 12 _ (by decide +kernel) fun t hf y => ?_
    obtain ⟨i, j, rfl⟩ : ∃ (i : Fin 256) (j : Fin 512), y = ix2 i j := ⟨y 0, y 1, by funext a; fin_cases a <;> rfl⟩
    blk_simp [idx0]
    rw [after0_12]
    rw [out12]
    refine (vdy_at (Bt V c t) i (lt_of_lt_of_eq t.isLt N_0) j).trans ?_
    rw [Bt_P, Bt_R V c t i (row_lt t i)]
    congr 2 <;> refine Fin.ext ?_ <;> blk_simp [idx0] <;> exact congrArg (· + _) (Nat.mul_comm _ _)
  rw [h]
  rfl

theorem arr13 (r : Fin 4352) (j : Fin 1024) : (dat0 V c).arrAt 13 cfg0.N (ix2 r j) = dh1 (PV V c) (RV V c r) j := by
  have h : (dat0 V c).arrAt 13 cfg0.N = fun y : S4352x1024.Idx => dh1 (PV V c) (RV V c (y 0)) (y 1) := by
    refine (dat0 V c).arrAt_eq_of_covers 13 _ (by decide +kernel) fun t hf y => ?_
    obtain ⟨i, j, rfl⟩ : ∃ (i : Fin 256) (j : Fin 1024), y = ix2 i j := ⟨y 0, y 1, by funext a; fin_cases a <;> rfl⟩
    blk_simp [idx0]
    rw [after0_13]
    rw [out13]
    refine (v170_raw (Bt V c t) i (lt_of_lt_of_eq t.isLt N_0) j).trans ?_
    rw [Bt_P, Bt_R V c t i (row_lt t i)]
    congr 2 <;> refine Fin.ext ?_ <;> blk_simp [idx0] <;> exact congrArg (· + _) (Nat.mul_comm _ _)
  rw [h]
  rfl

theorem arr14 (r : Fin 4352) (j : Fin 1024) : (dat0 V c).arrAt 14 cfg0.N (ix2 r j) = mix (PV V c) (RV V c r) j := by
  have h : (dat0 V c).arrAt 14 cfg0.N = fun y : S4352x1024.Idx => mix (PV V c) (RV V c (y 0)) (y 1) := by
    refine (dat0 V c).arrAt_eq_of_covers 14 _ (by decide +kernel) fun t hf y => ?_
    obtain ⟨i, j, rfl⟩ : ∃ (i : Fin 256) (j : Fin 1024), y = ix2 i j := ⟨y 0, y 1, by funext a; fin_cases a <;> rfl⟩
    blk_simp [idx0]
    rw [after0_14]
    refine (out14 V c t i j).trans ?_
    rw [Bt_P, Bt_R V c t i (row_lt t i)]
    congr 2 <;> refine Fin.ext ?_ <;> blk_simp [idx0] <;> exact congrArg (· + _) (Nat.mul_comm _ _)
  rw [h]
  rfl

theorem arr15 (r : Fin 4352) (j : Fin 1024) : (dat0 V c).arrAt 15 cfg0.N (ix2 r j) = dh1 (PV V c) (RV V c r) j := by
  have h : (dat0 V c).arrAt 15 cfg0.N = fun y : S4352x1024.Idx => dh1 (PV V c) (RV V c (y 0)) (y 1) := by
    refine (dat0 V c).arrAt_eq_of_covers 15 _ (by decide +kernel) fun t hf y => ?_
    obtain ⟨i, j, rfl⟩ : ∃ (i : Fin 256) (j : Fin 1024), y = ix2 i j := ⟨y 0, y 1, by funext a; fin_cases a <;> rfl⟩
    blk_simp [idx0]
    rw [after0_15]
    rw [out15]
    refine (v171_raw (Bt V c t) i (lt_of_lt_of_eq t.isLt N_0) j).trans ?_
    rw [Bt_P, Bt_R V c t i (row_lt t i)]
    congr 2 <;> refine Fin.ext ?_ <;> blk_simp [idx0] <;> exact congrArg (· + _) (Nat.mul_comm _ _)
  rw [h]
  rfl

theorem arr16 (r : Fin 4352) (j : Fin 1024) : (dat0 V c).arrAt 16 cfg0.N (ix2 r j) = hn (PV V c) (RV V c r) j := by
  have h : (dat0 V c).arrAt 16 cfg0.N = fun y : S4352x1024.Idx => hn (PV V c) (RV V c (y 0)) (y 1) := by
    refine (dat0 V c).arrAt_eq_of_covers 16 _ (by decide +kernel) fun t hf y => ?_
    obtain ⟨i, j, rfl⟩ : ∃ (i : Fin 256) (j : Fin 1024), y = ix2 i j := ⟨y 0, y 1, by funext a; fin_cases a <;> rfl⟩
    blk_simp [idx0]
    rw [after0_16]
    rw [out16]
    refine (v72_at (Bt V c t) i j).trans ?_
    rw [Bt_P, Bt_R V c t i (row_lt t i)]
    congr 2 <;> refine Fin.ext ?_ <;> blk_simp [idx0] <;> exact congrArg (· + _) (Nat.mul_comm _ _)
  rw [h]
  rfl

theorem arr17 (r : Fin 4352) (j : Fin 2816) : (dat0 V c).arrAt 17 cfg0.N (ix2 r j) = dg (PV V c) (RV V c r) j := by
  have h : (dat0 V c).arrAt 17 cfg0.N = fun y : S4352x2816.Idx => dg (PV V c) (RV V c (y 0)) (y 1) := by
    refine (dat0 V c).arrAt_eq_of_covers 17 _ (by decide +kernel) fun t hf y => ?_
    obtain ⟨i, j, rfl⟩ : ∃ (i : Fin 256) (j : Fin 2816), y = ix2 i j := ⟨y 0, y 1, by funext a; fin_cases a <;> rfl⟩
    blk_simp [idx0]
    rw [after0_17]
    rw [out17]
    refine (v139_raw (Bt V c t) i (lt_of_lt_of_eq t.isLt N_0) j).trans ?_
    rw [Bt_P, Bt_R V c t i (row_lt t i)]
    congr 2 <;> refine Fin.ext ?_ <;> blk_simp [idx0] <;> exact congrArg (· + _) (Nat.mul_comm _ _)
  rw [h]
  rfl

theorem arr18 (r : Fin 4352) (j : Fin 2816) : (dat0 V c).arrAt 18 cfg0.N (ix2 r j) = du (PV V c) (RV V c r) j := by
  have h : (dat0 V c).arrAt 18 cfg0.N = fun y : S4352x2816.Idx => du (PV V c) (RV V c (y 0)) (y 1) := by
    refine (dat0 V c).arrAt_eq_of_covers 18 _ (by decide +kernel) fun t hf y => ?_
    obtain ⟨i, j, rfl⟩ : ∃ (i : Fin 256) (j : Fin 2816), y = ix2 i j := ⟨y 0, y 1, by funext a; fin_cases a <;> rfl⟩
    blk_simp [idx0]
    rw [after0_18]
    rw [out18]
    refine (v140_raw (Bt V c t) i (lt_of_lt_of_eq t.isLt N_0) j).trans ?_
    rw [Bt_P, Bt_R V c t i (row_lt t i)]
    congr 2 <;> refine Fin.ext ?_ <;> blk_simp [idx0] <;> exact congrArg (· + _) (Nat.mul_comm _ _)
  rw [h]
  rfl

theorem arr19 (r : Fin 4352) (j : Fin 2816) : (dat0 V c).arrAt 19 cfg0.N (ix2 r j) = act (PV V c) (RV V c r) j := by
  have h : (dat0 V c).arrAt 19 cfg0.N = fun y : S4352x2816.Idx => act (PV V c) (RV V c (y 0)) (y 1) := by
    refine (dat0 V c).arrAt_eq_of_covers 19 _ (by decide +kernel) fun t hf y => ?_
    obtain ⟨i, j, rfl⟩ : ∃ (i : Fin 256) (j : Fin 2816), y = ix2 i j := ⟨y 0, y 1, by funext a; fin_cases a <;> rfl⟩
    blk_simp [idx0]
    rw [after0_19]
    rw [out19]
    refine (v86_at (Bt V c t) i j).trans ?_
    rw [Bt_P, Bt_R V c t i (row_lt t i)]
    congr 2 <;> refine Fin.ext ?_ <;> blk_simp [idx0] <;> exact congrArg (· + _) (Nat.mul_comm _ _)
  rw [h]
  rfl

theorem arr20 (r : Fin 4352) (j : Fin 1024) : (dat0 V c).arrAt 20 cfg0.N (ix2 r j) = dh2 (PV V c) (RV V c r) j := by
  have h : (dat0 V c).arrAt 20 cfg0.N = fun y : S4352x1024.Idx => dh2 (PV V c) (RV V c (y 0)) (y 1) := by
    refine (dat0 V c).arrAt_eq_of_covers 20 _ (by decide +kernel) fun t hf y => ?_
    obtain ⟨i, j, rfl⟩ : ∃ (i : Fin 256) (j : Fin 1024), y = ix2 i j := ⟨y 0, y 1, by funext a; fin_cases a <;> rfl⟩
    blk_simp [idx0]
    rw [after0_20]
    rw [out20]
    refine (v127_raw (Bt V c t) i (lt_of_lt_of_eq t.isLt N_0) j).trans ?_
    rw [Bt_P, Bt_R V c t i (row_lt t i)]
    congr 2 <;> refine Fin.ext ?_ <;> blk_simp [idx0] <;> exact congrArg (· + _) (Nat.mul_comm _ _)
  rw [h]
  rfl

theorem rows_sum (f : Fin 4352 → EReal) : ∑ p : Fin cfg0.N, ∑ i : Fin 256, f ⟨256 * p.val + i.val, row_lt p i⟩ = ∑ r, f r := by
  refine (Finset.sum_congr rfl fun p _ => Finset.sum_congr rfl fun i _ => congrArg f (Fin.ext (congrArg (· + _) (Nat.mul_comm _ _)))).trans
    (Fin.sum_mul_add_fin (S := cfg0.N) (n := 256) f (by decide))

theorem arr21 : (dat0 V c).arrAt 21 cfg0.N (ix2 0 0) = (∑ r, sq (PV V c) (RV V c r)) * i2048 := by
  have h : (dat0 V c).arrAt 21 cfg0.N = fun y : S1x1.Idx => (∑ r, sq (PV V c) (RV V c r)) * i2048 := by
    refine (dat0 V c).arrAt_eq_of_covers 21 _ (by decide +kernel) fun t hf y => ?_
    have ht : t.val + 1 = cfg0.N := by
      have h1 := (flush0_21 t).mp hf
      have h2 := lt_of_lt_of_eq t.isLt N_0
      have h3 : cfg0.N = 17 := N_0
      omega
    obtain rfl : y = ix2 0 0 := by funext a; fin_cases a <;> exact Subsingleton.elim (α := Fin 1) _ _
    blk_simp [idx0]
    rw [after0_21]
    have e : ∑ p : Fin cfg0.N, ∑ i, sq (Bt V c p).P ((Bt V c p).R i) = ∑ r, sq (PV V c) (RV V c r) := by
      rw [← rows_sum]
      refine Finset.sum_congr rfl fun p _ => Finset.sum_congr rfl fun i _ => ?_
      rw [Bt_P, Bt_R V c p i (row_lt p i)]
    rw [acc21 V c t ht, zero_add, sum_mul_nonneg _ _ (fun p => Finset.sum_nonneg fun i _ => row_sq_nonneg _ _), e]
  rw [h]

theorem arr22 (k : Fin 512) : (dat0 V c).arrAt 22 cfg0.N (ix2 0 k) = ∑ r, cga (PV V c) (RV V c r) k := by
  have h : (dat0 V c).arrAt 22 cfg0.N = fun y : S1x512.Idx => ∑ r, cga (PV V c) (RV V c r) (y 1) := by
    refine (dat0 V c).arrAt_eq_of_covers 22 _ (by decide +kernel) fun t hf y => ?_
    have ht : t.val + 1 = cfg0.N := by
      have h1 := (flush0_22 t).mp hf
      have h2 := lt_of_lt_of_eq t.isLt N_0
      have h3 : cfg0.N = 17 := N_0
      omega
    obtain ⟨k, rfl⟩ : ∃ k : Fin 512, y = ix2 0 k := ⟨y 1, by funext a; fin_cases a; exacts [Subsingleton.elim (α := Fin 1) _ _, rfl]⟩
    blk_simp [idx0]
    rw [after0_22]
    refine (acc22 V c t ht k).trans ?_
    rw [zero_add, ← rows_sum]
    refine Finset.sum_congr rfl fun p _ => Finset.sum_congr rfl fun i _ => ?_
    rw [Bt_P, Bt_R V c p i (row_lt p i)]
    congr 1
    refine Fin.ext ?_
    blk_simp [idx0]
  rw [h]
  rfl

theorem arr23 (k : Fin 512) : (dat0 V c).arrAt 23 cfg0.N (ix2 0 k) = ∑ r, cgr (PV V c) (RV V c r) k := by
  have h : (dat0 V c).arrAt 23 cfg0.N = fun y : S1x512.Idx => ∑ r, cgr (PV V c) (RV V c r) (y 1) := by
    refine (dat0 V c).arrAt_eq_of_covers 23 _ (by decide +kernel) fun t hf y => ?_
    have ht : t.val + 1 = cfg0.N := by
      have h1 := (flush0_23 t).mp hf
      have h2 := lt_of_lt_of_eq t.isLt N_0
      have h3 : cfg0.N = 17 := N_0
      omega
    obtain ⟨k, rfl⟩ : ∃ k : Fin 512, y = ix2 0 k := ⟨y 1, by funext a; fin_cases a; exacts [Subsingleton.elim (α := Fin 1) _ _, rfl]⟩
    blk_simp [idx0]
    rw [after0_23]
    refine (acc23 V c t ht k).trans ?_
    rw [zero_add, ← rows_sum]
    refine Finset.sum_congr rfl fun p _ => Finset.sum_congr rfl fun i _ => ?_
    rw [Bt_P, Bt_R V c p i (row_lt p i)]
    congr 1
    refine Fin.ext ?_
    blk_simp [idx0]
  rw [h]
  rfl

theorem arr24 (k : Fin 1024) : (dat0 V c).arrAt 24 cfg0.N (ix2 0 k) = ∑ r, cln (PV V c) (RV V c r) k := by
  have h : (dat0 V c).arrAt 24 cfg0.N = fun y : S1x1024.Idx => ∑ r, cln (PV V c) (RV V c r) (y 1) := by
    refine (dat0 V c).arrAt_eq_of_covers 24 _ (by decide +kernel) fun t hf y => ?_
    have ht : t.val + 1 = cfg0.N := by
      have h1 := (flush0_24 t).mp hf
      have h2 := lt_of_lt_of_eq t.isLt N_0
      have h3 : cfg0.N = 17 := N_0
      omega
    obtain ⟨k, rfl⟩ : ∃ k : Fin 1024, y = ix2 0 k := ⟨y 1, by funext a; fin_cases a; exacts [Subsingleton.elim (α := Fin 1) _ _, rfl]⟩
    blk_simp [idx0]
    rw [after0_24]
    refine (acc24 V c t ht k).trans ?_
    rw [zero_add, ← rows_sum]
    refine Finset.sum_congr rfl fun p _ => Finset.sum_congr rfl fun i _ => ?_
    rw [Bt_P, Bt_R V c p i (row_lt p i)]
    congr 1
    refine Fin.ext ?_
    blk_simp [idx0]
  rw [h]
  rfl

end Cert.LayerEndIdeal.End

end
-- ==== Proof.EndArrays1.lean ====
module

public import proofs.«01_k».proof.Proof.Gen.LayerEndIdeal.Frame.Region1
public import proofs.«01_k».proof.Proof.Gen.LayerEndIdeal.Frame.Region2
public import proofs.«01_k».proof.Proof.Gen.LayerEndIdeal.Frame.Region3
public import proofs.«01_k».proof.Proof.Gen.LayerEndIdeal.Frame.Region4
public import Idealize.ShloMosaic.Lib.Pipeline.ValueKit
public import Idealize.ShloMosaic.Lib.Pointwise

/-! # The four weight-gradient calls: each output as the product, over all rows, of its two input arrays -/

@[expose] public section

set_option maxRecDepth 16384

noncomputable section

namespace Cert.LayerEndIdeal.End

open Idealize.ShloMosaic Cert.LayerEndIdeal Cert.LayerEndIdeal.Gen
open Idealize.ShloMosaic.TcCoe

variable (V : (c : Dev nD) → (b : Ref sig .tc) → Buf (Elt Ideal) ((c : Thread nD τ).loc b)) (c : Dev nD)

/-- The product of two arrays over their rows, at a pair of columns. -/
def gram {R K J : ℕ} (a : (⟨2, ![R, K]⟩ : Shape).Idx → EReal) (b : (⟨2, ![R, J]⟩ : Shape).Idx → EReal) (x : Fin K) (j : Fin J) : EReal :=
  ∑ r : Fin R, a (ix2 r x) * b (ix2 r j)

theorem idx1 (t : Fin grid1.N) : win1_0.index t = ![t.val % 2, t.val / 2] ∧ win1_1.index t = ![t.val % 2, 0] ∧ win1_2.index t = ![t.val / 2, 0] :=
  (by decide +kernel : ∀ t : Fin grid1.N, win1_0.index t = ![t.val % 2, t.val / 2] ∧ win1_1.index t = ![t.val % 2, 0] ∧ win1_2.index t = ![t.val / 2, 0]) t

theorem blk1_0 (t : Fin cfg1.N) (r : Fin 2176) (x : Fin 1024) (R : Fin 4352) (X : Fin 1024) (hR : t.val % 2 * 2176 + r.val = R.val)
    (hX : t.val / 2 * 1024 + x.val = X.val) : iblk1 V c 0 t (ix2 r x) = V c main_v17_3 (ix2 R X) := by
  obtain ⟨R, hR'⟩ := R
  obtain ⟨X, hX'⟩ := X
  dsimp only at hR hX
  subst hR hX
  blk_ext [iblk1, idx1]

theorem blk1_1 (t : Fin cfg1.N) (r : Fin 2176) (j : Fin 1024) (R : Fin 4352) (J : Fin 1024) (hR : t.val % 2 * 2176 + r.val = R.val)
    (hJ : j.val = J.val) : iblk1 V c 1 t (ix2 r j) = V c main_v17_4 (ix2 R J) := by
  obtain ⟨R, hR'⟩ := R
  obtain rfl := Fin.ext hJ
  dsimp only at hR
  subst hR
  blk_ext [iblk1, idx1]

theorem pay1 (o : Vec Ideal S1024x1024 .f32) (a : Vec Ideal S2176x1024 .bf16) (b : Vec Ideal S2176x1024 .bf16) (x : Fin 1024) (j : Fin 1024) :
    k1_pay2 (F := Ideal) o a b (ix2 x j) = o (ix2 x j) + gram a b x j := by
  unfold gram
  pointwise [k1_pay2]

theorem outA1 (t : Fin cfg1.N) (h : t.val % 2 = 0) :
    outsAt1 V c t.val t.isLt = k1_pay2 (F := Ideal) (k1_pay1 (F := Ideal)) (iblk1 V c 0 t) (iblk1 V c 1 t) := by
  rw [outsAt1_A V c t h]
  frame_out

theorem outB1 (t : Fin cfg1.N) (h : ¬t.val % 2 = 0) : outsAt1 V c t.val t.isLt = k1_pay2 (F := Ideal)
    (outsAt1 V c (t.val - 1) (Nat.lt_of_le_of_lt (Nat.sub_le _ _) t.isLt)) (iblk1 V c 0 t) (iblk1 V c 1 t) := by
  rw [outsAt1_B V c t h]
  frame_out

theorem after1 (t : Fin cfg1.N) (ht : t.val % 2 = 2 - 1) (x : Fin 1024) (j : Fin 1024) :
    outsAt1 V c t.val t.isLt (ix2 x j) = 0 + ∑ s : Fin 2,
      gram (iblk1 V c 0 ⟨2 * (t.val / 2) + s.val, Pipeline.run_point_lt_of_flush t ht s⟩)
        (iblk1 V c 1 ⟨2 * (t.val / 2) + s.val, Pipeline.run_point_lt_of_flush t ht s⟩) x j := by
  refine Pipeline.eq_sum_fin_of_reset_step_apply_of_flush (fun n h => outsAt1 V c n h) 2 (fun _ => 0)
    (fun p y => gram (iblk1 V c 0 p) (iblk1 V c 1 p) (y 0) (y 1)) (fun t h y => ?_) (fun t h y => ?_) t ht (ix2 x j)
  · obtain ⟨x, j, rfl⟩ : ∃ (x : Fin 1024) (j : Fin 1024), y = ix2 x j := ⟨y 0, y 1, by funext a; fin_cases a <;> rfl⟩
    rw [outA1 V c t h]
    refine (pay1 _ _ _ x j).trans (congrArg (· + _) ?_)
    pointwise [k1_pay1]
  · obtain ⟨x, j, rfl⟩ : ∃ (x : Fin 1024) (j : Fin 1024), y = ix2 x j := ⟨y 0, y 1, by funext a; fin_cases a <;> rfl⟩
    rw [outB1 V c t h]
    exact pay1 _ _ _ x j

theorem wgrad1 (x : Fin 1024) (j : Fin 1024) :
    (dat1 V c).arrAt 2 cfg1.N (ix2 x j) = gram (V c main_v17_3) (V c main_v17_4) x j := by
  have h : (dat1 V c).arrAt 2 cfg1.N = fun y : S1024x1024.Idx => gram (V c main_v17_3) (V c main_v17_4) (y 0) (y 1) := by
    refine (dat1 V c).arrAt_eq_of_covers 2 _ (by decide +kernel) fun t hf y => ?_
    have ht : t.val % 2 = 2 - 1 := (flush1_2 t).mp hf
    have hN := lt_of_lt_of_eq t.isLt N_1
    obtain ⟨x, j, rfl⟩ : ∃ (x : Fin 1024) (j : Fin 1024), y = ix2 x j := ⟨y 0, y 1, by funext a; fin_cases a <;> rfl⟩
    blk_simp [idx1]
    rw [after1_2]
    refine (after1 V c t ht x j).trans ?_
    rw [zero_add]
    unfold gram
    refine Fin.sum_mul_add_congr (S := 2) (n := 2176) fun s r hl => ?_
    have hs : (2 * (t.val / 2) + s.val) % 2 = s.val := by omega
    have hd : (2 * (t.val / 2) + s.val) / 2 = t.val / 2 := by omega
    refine congrArg₂ (fun p q : EReal => p * q) (blk1_0 V c _ r x _ _ ?_ ?_) (blk1_1 V c _ r j _ _ ?_ ?_)
    · dsimp only; rw [hs]
    · dsimp only; rw [hd]; blk_simp [idx1]
    · dsimp only; rw [hs]
    · blk_simp [idx1]
  rw [h]
  rfl

theorem idx2 (t : Fin grid2.N) : win2_0.index t = ![t.val % 2, t.val / 2] ∧ win2_1.index t = ![t.val % 2, 0] ∧ win2_2.index t = ![t.val / 2, 0] :=
  (by decide +kernel : ∀ t : Fin grid2.N, win2_0.index t = ![t.val % 2, t.val / 2] ∧ win2_1.index t = ![t.val % 2, 0] ∧ win2_2.index t = ![t.val / 2, 0]) t

theorem blk2_0 (t : Fin cfg2.N) (r : Fin 2176) (x : Fin 1408) (R : Fin 4352) (X : Fin 2816) (hR : t.val % 2 * 2176 + r.val = R.val)
    (hX : t.val / 2 * 1408 + x.val = X.val) : iblk2 V c 0 t (ix2 r x) = V c main_v17_6 (ix2 R X) := by
  obtain ⟨R, hR'⟩ := R
  obtain ⟨X, hX'⟩ := X
  dsimp only at hR hX
  subst hR hX
  blk_ext [iblk2, idx2]

theorem blk2_1 (t : Fin cfg2.N) (r : Fin 2176) (j : Fin 1024) (R : Fin 4352) (J : Fin 1024) (hR : t.val % 2 * 2176 + r.val = R.val)
    (hJ : j.val = J.val) : iblk2 V c 1 t (ix2 r j) = V c main_v17_5 (ix2 R J) := by
  obtain ⟨R, hR'⟩ := R
  obtain rfl := Fin.ext hJ
  dsimp only at hR
  subst hR
  blk_ext [iblk2, idx2]

theorem pay2 (o : Vec Ideal S1408x1024 .f32) (a : Vec Ideal S2176x1408 .bf16) (b : Vec Ideal S2176x1024 .bf16) (x : Fin 1408) (j : Fin 1024) :
    k2_pay2 (F := Ideal) o a b (ix2 x j) = o (ix2 x j) + gram a b x j := by
  unfold gram
  pointwise [k2_pay2]

theorem outA2 (t : Fin cfg2.N) (h : t.val % 2 = 0) :
    outsAt2 V c t.val t.isLt = k2_pay2 (F := Ideal) (k2_pay1 (F := Ideal)) (iblk2 V c 0 t) (iblk2 V c 1 t) := by
  rw [outsAt2_A V c t h]
  frame_out

theorem outB2 (t : Fin cfg2.N) (h : ¬t.val % 2 = 0) : outsAt2 V c t.val t.isLt = k2_pay2 (F := Ideal)
    (outsAt2 V c (t.val - 1) (Nat.lt_of_le_of_lt (Nat.sub_le _ _) t.isLt)) (iblk2 V c 0 t) (iblk2 V c 1 t) := by
  rw [outsAt2_B V c t h]
  frame_out

theorem after2 (t : Fin cfg2.N) (ht : t.val % 2 = 2 - 1) (x : Fin 1408) (j : Fin 1024) :
    outsAt2 V c t.val t.isLt (ix2 x j) = 0 + ∑ s : Fin 2,
      gram (iblk2 V c 0 ⟨2 * (t.val / 2) + s.val, Pipeline.run_point_lt_of_flush t ht s⟩)
        (iblk2 V c 1 ⟨2 * (t.val / 2) + s.val, Pipeline.run_point_lt_of_flush t ht s⟩) x j := by
  refine Pipeline.eq_sum_fin_of_reset_step_apply_of_flush (fun n h => outsAt2 V c n h) 2 (fun _ => 0)
    (fun p y => gram (iblk2 V c 0 p) (iblk2 V c 1 p) (y 0) (y 1)) (fun t h y => ?_) (fun t h y => ?_) t ht (ix2 x j)
  · obtain ⟨x, j, rfl⟩ : ∃ (x : Fin 1408) (j : Fin 1024), y = ix2 x j := ⟨y 0, y 1, by funext a; fin_cases a <;> rfl⟩
    rw [outA2 V c t h]
    refine (pay2 _ _ _ x j).trans (congrArg (· + _) ?_)
    pointwise [k2_pay1]
  · obtain ⟨x, j, rfl⟩ : ∃ (x : Fin 1408) (j : Fin 1024), y = ix2 x j := ⟨y 0, y 1, by funext a; fin_cases a <;> rfl⟩
    rw [outB2 V c t h]
    exact pay2 _ _ _ x j

theorem wgrad2 (x : Fin 2816) (j : Fin 1024) :
    (dat2 V c).arrAt 2 cfg2.N (ix2 x j) = gram (V c main_v17_6) (V c main_v17_5) x j := by
  have h : (dat2 V c).arrAt 2 cfg2.N = fun y : S2816x1024.Idx => gram (V c main_v17_6) (V c main_v17_5) (y 0) (y 1) := by
    refine (dat2 V c).arrAt_eq_of_covers 2 _ (by decide +kernel) fun t hf y => ?_
    have ht : t.val % 2 = 2 - 1 := (flush2_2 t).mp hf
    have hN := lt_of_lt_of_eq t.isLt N_2
    obtain ⟨x, j, rfl⟩ : ∃ (x : Fin 1408) (j : Fin 1024), y = ix2 x j := ⟨y 0, y 1, by funext a; fin_cases a <;> rfl⟩
    blk_simp [idx2]
    rw [after2_2]
    refine (after2 V c t ht x j).trans ?_
    rw [zero_add]
    unfold gram
    refine Fin.sum_mul_add_congr (S := 2) (n := 2176) fun s r hl => ?_
    have hs : (2 * (t.val / 2) + s.val) % 2 = s.val := by omega
    have hd : (2 * (t.val / 2) + s.val) / 2 = t.val / 2 := by omega
    refine congrArg₂ (fun p q : EReal => p * q) (blk2_0 V c _ r x _ _ ?_ ?_) (blk2_1 V c _ r j _ _ ?_ ?_)
    · dsimp only; rw [hs]
    · dsimp only; rw [hd]; blk_simp [idx2]
    · dsimp only; rw [hs]
    · blk_simp [idx2]
  rw [h]
  rfl

theorem idx3 (t : Fin grid3.N) : win3_0.index t = ![t.val % 2, t.val / 2] ∧ win3_1.index t = ![t.val % 2, 0] ∧ win3_2.index t = ![t.val / 2, 0] :=
  (by decide +kernel : ∀ t : Fin grid3.N, win3_0.index t = ![t.val % 2, t.val / 2] ∧ win3_1.index t = ![t.val % 2, 0] ∧ win3_2.index t = ![t.val / 2, 0]) t

theorem blk3_0 (t : Fin cfg3.N) (r : Fin 2176) (x : Fin 1408) (R : Fin 4352) (X : Fin 2816) (hR : t.val % 2 * 2176 + r.val = R.val)
    (hX : t.val / 2 * 1408 + x.val = X.val) : iblk3 V c 0 t (ix2 r x) = V c main_v17_7 (ix2 R X) := by
  obtain ⟨R, hR'⟩ := R
  obtain ⟨X, hX'⟩ := X
  dsimp only at hR hX
  subst hR hX
  blk_ext [iblk3, idx3]

theorem blk3_1 (t : Fin cfg3.N) (r : Fin 2176) (j : Fin 1024) (R : Fin 4352) (J : Fin 1024) (hR : t.val % 2 * 2176 + r.val = R.val)
    (hJ : j.val = J.val) : iblk3 V c 1 t (ix2 r j) = V c main_v17_5 (ix2 R J) := by
  obtain ⟨R, hR'⟩ := R
  obtain rfl := Fin.ext hJ
  dsimp only at hR
  subst hR
  blk_ext [iblk3, idx3]

theorem pay3 (o : Vec Ideal S1408x1024 .f32) (a : Vec Ideal S2176x1408 .bf16) (b : Vec Ideal S2176x1024 .bf16) (x : Fin 1408) (j : Fin 1024) :
    k3_pay2 (F := Ideal) o a b (ix2 x j) = o (ix2 x j) + gram a b x j := by
  unfold gram
  pointwise [k3_pay2]

theorem outA3 (t : Fin cfg3.N) (h : t.val % 2 = 0) :
    outsAt3 V c t.val t.isLt = k3_pay2 (F := Ideal) (k3_pay1 (F := Ideal)) (iblk3 V c 0 t) (iblk3 V c 1 t) := by
  rw [outsAt3_A V c t h]
  frame_out

theorem outB3 (t : Fin cfg3.N) (h : ¬t.val % 2 = 0) : outsAt3 V c t.val t.isLt = k3_pay2 (F := Ideal)
    (outsAt3 V c (t.val - 1) (Nat.lt_of_le_of_lt (Nat.sub_le _ _) t.isLt)) (iblk3 V c 0 t) (iblk3 V c 1 t) := by
  rw [outsAt3_B V c t h]
  frame_out

theorem after3 (t : Fin cfg3.N) (ht : t.val % 2 = 2 - 1) (x : Fin 1408) (j : Fin 1024) :
    outsAt3 V c t.val t.isLt (ix2 x j) = 0 + ∑ s : Fin 2,
      gram (iblk3 V c 0 ⟨2 * (t.val / 2) + s.val, Pipeline.run_point_lt_of_flush t ht s⟩)
        (iblk3 V c 1 ⟨2 * (t.val / 2) + s.val, Pipeline.run_point_lt_of_flush t ht s⟩) x j := by
  refine Pipeline.eq_sum_fin_of_reset_step_apply_of_flush (fun n h => outsAt3 V c n h) 2 (fun _ => 0)
    (fun p y => gram (iblk3 V c 0 p) (iblk3 V c 1 p) (y 0) (y 1)) (fun t h y => ?_) (fun t h y => ?_) t ht (ix2 x j)
  · obtain ⟨x, j, rfl⟩ : ∃ (x : Fin 1408) (j : Fin 1024), y = ix2 x j := ⟨y 0, y 1, by funext a; fin_cases a <;> rfl⟩
    rw [outA3 V c t h]
    refine (pay3 _ _ _ x j).trans (congrArg (· + _) ?_)
    pointwise [k3_pay1]
  · obtain ⟨x, j, rfl⟩ : ∃ (x : Fin 1408) (j : Fin 1024), y = ix2 x j := ⟨y 0, y 1, by funext a; fin_cases a <;> rfl⟩
    rw [outB3 V c t h]
    exact pay3 _ _ _ x j

theorem wgrad3 (x : Fin 2816) (j : Fin 1024) :
    (dat3 V c).arrAt 2 cfg3.N (ix2 x j) = gram (V c main_v17_7) (V c main_v17_5) x j := by
  have h : (dat3 V c).arrAt 2 cfg3.N = fun y : S2816x1024.Idx => gram (V c main_v17_7) (V c main_v17_5) (y 0) (y 1) := by
    refine (dat3 V c).arrAt_eq_of_covers 2 _ (by decide +kernel) fun t hf y => ?_
    have ht : t.val % 2 = 2 - 1 := (flush3_2 t).mp hf
    have hN := lt_of_lt_of_eq t.isLt N_3
    obtain ⟨x, j, rfl⟩ : ∃ (x : Fin 1408) (j : Fin 1024), y = ix2 x j := ⟨y 0, y 1, by funext a; fin_cases a <;> rfl⟩
    blk_simp [idx3]
    rw [after3_2]
    refine (after3 V c t ht x j).trans ?_
    rw [zero_add]
    unfold gram
    refine Fin.sum_mul_add_congr (S := 2) (n := 2176) fun s r hl => ?_
    have hs : (2 * (t.val / 2) + s.val) % 2 = s.val := by omega
    have hd : (2 * (t.val / 2) + s.val) / 2 = t.val / 2 := by omega
    refine congrArg₂ (fun p q : EReal => p * q) (blk3_0 V c _ r x _ _ ?_ ?_) (blk3_1 V c _ r j _ _ ?_ ?_)
    · dsimp only; rw [hs]
    · dsimp only; rw [hd]; blk_simp [idx3]
    · dsimp only; rw [hs]
    · blk_simp [idx3]
  rw [h]
  rfl

theorem idx4 (t : Fin grid4.N) : win4_0.index t = ![t.val % 2, t.val / 2] ∧ win4_1.index t = ![t.val % 2, 0] ∧ win4_2.index t = ![t.val / 2, 0] :=
  (by decide +kernel : ∀ t : Fin grid4.N, win4_0.index t = ![t.val % 2, t.val / 2] ∧ win4_1.index t = ![t.val % 2, 0] ∧ win4_2.index t = ![t.val / 2, 0]) t

theorem blk4_0 (t : Fin cfg4.N) (r : Fin 2176) (x : Fin 1408) (R : Fin 4352) (X : Fin 2816) (hR : t.val % 2 * 2176 + r.val = R.val)
    (hX : t.val / 2 * 1408 + x.val = X.val) : iblk4 V c 0 t (ix2 r x) = V c main_v17_8 (ix2 R X) := by
  obtain ⟨R, hR'⟩ := R
  obtain ⟨X, hX'⟩ := X
  dsimp only at hR hX
  subst hR hX
  blk_ext [iblk4, idx4]

theorem blk4_1 (t : Fin cfg4.N) (r : Fin 2176) (j : Fin 1024) (R : Fin 4352) (J : Fin 1024) (hR : t.val % 2 * 2176 + r.val = R.val)
    (hJ : j.val = J.val) : iblk4 V c 1 t (ix2 r j) = V c main_v17_9 (ix2 R J) := by
  obtain ⟨R, hR'⟩ := R
  obtain rfl := Fin.ext hJ
  dsimp only at hR
  subst hR
  blk_ext [iblk4, idx4]

theorem pay4 (o : Vec Ideal S1408x1024 .f32) (a : Vec Ideal S2176x1408 .bf16) (b : Vec Ideal S2176x1024 .bf16) (x : Fin 1408) (j : Fin 1024) :
    k4_pay2 (F := Ideal) o a b (ix2 x j) = o (ix2 x j) + gram a b x j := by
  unfold gram
  pointwise [k4_pay2]

theorem outA4 (t : Fin cfg4.N) (h : t.val % 2 = 0) :
    outsAt4 V c t.val t.isLt = k4_pay2 (F := Ideal) (k4_pay1 (F := Ideal)) (iblk4 V c 0 t) (iblk4 V c 1 t) := by
  rw [outsAt4_A V c t h]
  frame_out

theorem outB4 (t : Fin cfg4.N) (h : ¬t.val % 2 = 0) : outsAt4 V c t.val t.isLt = k4_pay2 (F := Ideal)
    (outsAt4 V c (t.val - 1) (Nat.lt_of_le_of_lt (Nat.sub_le _ _) t.isLt)) (iblk4 V c 0 t) (iblk4 V c 1 t) := by
  rw [outsAt4_B V c t h]
  frame_out

theorem after4 (t : Fin cfg4.N) (ht : t.val % 2 = 2 - 1) (x : Fin 1408) (j : Fin 1024) :
    outsAt4 V c t.val t.isLt (ix2 x j) = 0 + ∑ s : Fin 2,
      gram (iblk4 V c 0 ⟨2 * (t.val / 2) + s.val, Pipeline.run_point_lt_of_flush t ht s⟩)
        (iblk4 V c 1 ⟨2 * (t.val / 2) + s.val, Pipeline.run_point_lt_of_flush t ht s⟩) x j := by
  refine Pipeline.eq_sum_fin_of_reset_step_apply_of_flush (fun n h => outsAt4 V c n h) 2 (fun _ => 0)
    (fun p y => gram (iblk4 V c 0 p) (iblk4 V c 1 p) (y 0) (y 1)) (fun t h y => ?_) (fun t h y => ?_) t ht (ix2 x j)
  · obtain ⟨x, j, rfl⟩ : ∃ (x : Fin 1408) (j : Fin 1024), y = ix2 x j := ⟨y 0, y 1, by funext a; fin_cases a <;> rfl⟩
    rw [outA4 V c t h]
    refine (pay4 _ _ _ x j).trans (congrArg (· + _) ?_)
    pointwise [k4_pay1]
  · obtain ⟨x, j, rfl⟩ : ∃ (x : Fin 1408) (j : Fin 1024), y = ix2 x j := ⟨y 0, y 1, by funext a; fin_cases a <;> rfl⟩
    rw [outB4 V c t h]
    exact pay4 _ _ _ x j

theorem wgrad4 (x : Fin 2816) (j : Fin 1024) :
    (dat4 V c).arrAt 2 cfg4.N (ix2 x j) = gram (V c main_v17_8) (V c main_v17_9) x j := by
  have h : (dat4 V c).arrAt 2 cfg4.N = fun y : S2816x1024.Idx => gram (V c main_v17_8) (V c main_v17_9) (y 0) (y 1) := by
    refine (dat4 V c).arrAt_eq_of_covers 2 _ (by decide +kernel) fun t hf y => ?_
    have ht : t.val % 2 = 2 - 1 := (flush4_2 t).mp hf
    have hN := lt_of_lt_of_eq t.isLt N_4
    obtain ⟨x, j, rfl⟩ : ∃ (x : Fin 1408) (j : Fin 1024), y = ix2 x j := ⟨y 0, y 1, by funext a; fin_cases a <;> rfl⟩
    blk_simp [idx4]
    rw [after4_2]
    refine (after4 V c t ht x j).trans ?_
    rw [zero_add]
    unfold gram
    refine Fin.sum_mul_add_congr (S := 2) (n := 2176) fun s r hl => ?_
    have hs : (2 * (t.val / 2) + s.val) % 2 = s.val := by omega
    have hd : (2 * (t.val / 2) + s.val) / 2 = t.val / 2 := by omega
    refine congrArg₂ (fun p q : EReal => p * q) (blk4_0 V c _ r x _ _ ?_ ?_) (blk4_1 V c _ r j _ _ ?_ ?_)
    · dsimp only; rw [hs]
    · dsimp only; rw [hd]; blk_simp [idx4]
    · dsimp only; rw [hs]
    · blk_simp [idx4]
  rw [h]
  rfl

end Cert.LayerEndIdeal.End

end
-- ==== Proof.EndHost.lean ====
module

public import proofs.«01_k».proof.Proof.EndFold
public import proofs.«01_k».proof.Proof.EndArrays0
public import proofs.«01_k».proof.Proof.EndArrays1
public import proofs.«01_k».proof.Proof.EndArgs
public import Idealize.ShloMosaic.Lib.StableHlo.ReadAt

/-! # What the layer end computes from its arguments: the padding, the calls, the slices -/

@[expose] public section

set_option maxRecDepth 16384

noncomputable section

namespace Cert.LayerEndIdeal.End

open Idealize.ShloMosaic Cert.LayerEndIdeal Cert.LayerEndIdeal.Gen Cert.End
open Idealize.ShloMosaic.TcCoe

variable (m : (ℓ : Loc nD τ sig) → Buf (Elt Ideal) ℓ) (ρ : Dev nD → PrngReg) (c : Dev nD)

/-- The weights and the rows, by the program's arguments. -/
abbrev P0 : Params := argP (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))
abbrev R0 (b t : ℕ) : Row := argR (m ((c : Thread nD τ).loc main_arg0)) (m ((c : Thread nD τ).loc main_arg1)) (m ((c : Thread nD τ).loc main_arg2))
  (m ((c : Thread nD τ).loc main_arg3)) b t

theorem rd_v2 (k : Fin 512) : V1 m ρ c main_v2 (ix2 0 k) = m ((c : Thread nD τ).loc main_arg4) (ix1 k) := by
  unfold V1 W1 hostOps0
  after_reads_at
  try rfl
theorem rd_v3 (k : Fin 512) : V1 m ρ c main_v3 (ix2 0 k) = m ((c : Thread nD τ).loc main_arg5) (ix1 k) := by
  unfold V1 W1 hostOps0
  after_reads_at
  try rfl
theorem rd_v4 (k : Fin 1024) : V1 m ρ c main_v4 (ix2 0 k) = m ((c : Thread nD τ).loc main_arg7) (ix1 k) := by
  unfold V1 W1 hostOps0
  after_reads_at
  try rfl
theorem rd_v5 (r : Fin 1024) (k : Fin 1024) : V1 m ρ c main_v5 (ix2 r k) = m ((c : Thread nD τ).loc main_arg6) (ix2 r k) := by
  unfold V1 W1 hostOps0
  after_reads_at
  try rfl
theorem rd_v7 (r : Fin 2816) (k : Fin 1024) : V1 m ρ c main_v7 (ix2 r k) = m ((c : Thread nD τ).loc main_arg8) (ix2 k r) := by
  unfold V1 W1 hostOps0
  after_reads_at
  try rfl
theorem rd_v9 (r : Fin 2816) (k : Fin 1024) : V1 m ρ c main_v9 (ix2 r k) = m ((c : Thread nD τ).loc main_arg9) (ix2 k r) := by
  unfold V1 W1 hostOps0
  after_reads_at
  try rfl
theorem rd_v10 (r : Fin 2816) (k : Fin 1024) : V1 m ρ c main_v10 (ix2 r k) = m ((c : Thread nD τ).loc main_arg10) (ix2 r k) := by
  unfold V1 W1 hostOps0
  after_reads_at
  try rfl
theorem rd_v12 (r : Fin 4352) (k : Fin 1024) : V1 m ρ c main_v12 (ix2 r k) = (R0 m c (r.val / 2176) (r.val % 2176)).h k := by
  unfold V1 W1 hostOps0
  after_reads_at
  rfl
theorem rd_v14 (r : Fin 4352) (k : Fin 512) : V1 m ρ c main_v14 (ix2 r k) = (R0 m c (r.val / 2176) (r.val % 2176)).o k := by
  unfold V1 W1 hostOps0
  after_reads_at
  rfl
theorem rd_v16 (r : Fin 4352) (k : Fin 512) : V1 m ρ c main_v16 (ix2 r k) = (R0 m c (r.val / 2176) (r.val % 2176)).y k := by
  unfold V1 W1 hostOps0
  after_reads_at
  rfl
theorem rd_v1 (r : Fin 4352) (k : Fin 1024) : V1 m ρ c main_v1 (ix2 r k) = (R0 m c (r.val / 2176) (r.val % 2176)).t k := by
  unfold V1 W1 hostOps0
  after_reads_at
  rfl

theorem PV_eq : PV (V1 m ρ) c = P0 m c := by
  refine (Params.mk.injEq ..).mpr ⟨funext fun k => rd_v2 m ρ c k, funext fun k => rd_v3 m ρ c k, funext fun k => funext fun j => rd_v5 m ρ c k j,
    funext fun j => rd_v4 m ρ c j, funext fun f => funext fun j => rd_v7 m ρ c f j, funext fun f => funext fun j => rd_v9 m ρ c f j,
    funext fun f => funext fun j => rd_v10 m ρ c f j⟩

theorem RV_eq (r : Fin 4352) : RV (V1 m ρ) c r = R0 m c (r.val / 2176) (r.val % 2176) := by
  refine (Row.mk.injEq ..).mpr ⟨funext fun k => rd_v12 m ρ c r k, funext fun k => rd_v14 m ρ c r k, funext fun k => rd_v16 m ρ c r k,
    funext fun k => rd_v1 m ρ c r k, rfl⟩

theorem w2_11 (r : Fin 4352) (j : Fin 512) : W2 m ρ c (Proc.devRef .tc main_v17_0) (ix2 r j)
    = doo (P0 m c) (R0 m c (r.val / 2176) (r.val % 2176)) j := by
  rw [show W2 m ρ c (Proc.devRef .tc main_v17_0) = _ from W2_arr m ρ c 11]
  refine (arr11 (V1 m ρ) c r j).trans ?_
  rw [PV_eq, RV_eq]

theorem w2_12 (r : Fin 4352) (j : Fin 512) : W2 m ρ c (Proc.devRef .tc main_v17_1) (ix2 r j)
    = dyy (P0 m c) (R0 m c (r.val / 2176) (r.val % 2176)) j := by
  rw [show W2 m ρ c (Proc.devRef .tc main_v17_1) = _ from W2_arr m ρ c 12]
  refine (arr12 (V1 m ρ) c r j).trans ?_
  rw [PV_eq, RV_eq]

theorem w2_13 (r : Fin 4352) (j : Fin 1024) : W2 m ρ c (Proc.devRef .tc main_v17_2) (ix2 r j)
    = dh1 (P0 m c) (R0 m c (r.val / 2176) (r.val % 2176)) j := by
  rw [show W2 m ρ c (Proc.devRef .tc main_v17_2) = _ from W2_arr m ρ c 13]
  refine (arr13 (V1 m ρ) c r j).trans ?_
  rw [PV_eq, RV_eq]

theorem w2_14 (r : Fin 4352) (j : Fin 1024) : W2 m ρ c (Proc.devRef .tc main_v17_3) (ix2 r j)
    = mix (P0 m c) (R0 m c (r.val / 2176) (r.val % 2176)) j := by
  rw [show W2 m ρ c (Proc.devRef .tc main_v17_3) = _ from W2_arr m ρ c 14]
  refine (arr14 (V1 m ρ) c r j).trans ?_
  rw [PV_eq, RV_eq]

theorem w2_15 (r : Fin 4352) (j : Fin 1024) : W2 m ρ c (Proc.devRef .tc main_v17_4) (ix2 r j)
    = dh1 (P0 m c) (R0 m c (r.val / 2176) (r.val % 2176)) j := by
  rw [show W2 m ρ c (Proc.devRef .tc main_v17_4) = _ from W2_arr m ρ c 15]
  refine (arr15 (V1 m ρ) c r j).trans ?_
  rw [PV_eq, RV_eq]

theorem w2_16 (r : Fin 4352) (j : Fin 1024) : W2 m ρ c (Proc.devRef .tc main_v17_5) (ix2 r j)
    = hn (P0 m c) (R0 m c (r.val / 2176) (r.val % 2176)) j := by
  rw [show W2 m ρ c (Proc.devRef .tc main_v17_5) = _ from W2_arr m ρ c 16]
  refine (arr16 (V1 m ρ) c r j).trans ?_
  rw [PV_eq, RV_eq]

theorem w2_17 (r : Fin 4352) (j : Fin 2816) : W2 m ρ c (Proc.devRef .tc main_v17_6) (ix2 r j)
    = dg (P0 m c) (R0 m c (r.val / 2176) (r.val % 2176)) j := by
  rw [show W2 m ρ c (Proc.devRef .tc main_v17_6) = _ from W2_arr m ρ c 17]
  refine (arr17 (V1 m ρ) c r j).trans ?_
  rw [PV_eq, RV_eq]

theorem w2_18 (r : Fin 4352) (j : Fin 2816) : W2 m ρ c (Proc.devRef .tc main_v17_7) (ix2 r j)
    = du (P0 m c) (R0 m c (r.val / 2176) (r.val % 2176)) j := by
  rw [show W2 m ρ c (Proc.devRef .tc main_v17_7) = _ from W2_arr m ρ c 18]
  refine (arr18 (V1 m ρ) c r j).trans ?_
  rw [PV_eq, RV_eq]

theorem w2_19 (r : Fin 4352) (j : Fin 2816) : W2 m ρ c (Proc.devRef .tc main_v17_8) (ix2 r j)
    = act (P0 m c) (R0 m c (r.val / 2176) (r.val % 2176)) j := by
  rw [show W2 m ρ c (Proc.devRef .tc main_v17_8) = _ from W2_arr m ρ c 19]
  refine (arr19 (V1 m ρ) c r j).trans ?_
  rw [PV_eq, RV_eq]

theorem w2_20 (r : Fin 4352) (j : Fin 1024) : W2 m ρ c (Proc.devRef .tc main_v17_9) (ix2 r j)
    = dh2 (P0 m c) (R0 m c (r.val / 2176) (r.val % 2176)) j := by
  rw [show W2 m ρ c (Proc.devRef .tc main_v17_9) = _ from W2_arr m ρ c 20]
  refine (arr20 (V1 m ρ) c r j).trans ?_
  rw [PV_eq, RV_eq]

theorem w2_22 (k : Fin 512) : W2 m ρ c (Proc.devRef .tc main_v17_11) (ix2 0 k)
    = ∑ b : Fin 2, ∑ t : Fin 2064, cga (P0 m c) (R0 m c b.val t.val) k := by
  rw [show W2 m ρ c (Proc.devRef .tc main_v17_11) = _ from W2_arr m ρ c 22]
  refine (arr22 (V1 m ρ) c k).trans ?_
  simp only [PV_eq, RV_eq]
  exact rows_live (fun b t => cga (P0 m c) (R0 m c b t) k) fun b t ht => cga_dead _ _ (argR_dead _ _ _ _ b t ht) k

theorem w2_23 (k : Fin 512) : W2 m ρ c (Proc.devRef .tc main_v17_12) (ix2 0 k)
    = ∑ b : Fin 2, ∑ t : Fin 2064, cgr (P0 m c) (R0 m c b.val t.val) k := by
  rw [show W2 m ρ c (Proc.devRef .tc main_v17_12) = _ from W2_arr m ρ c 23]
  refine (arr23 (V1 m ρ) c k).trans ?_
  simp only [PV_eq, RV_eq]
  exact rows_live (fun b t => cgr (P0 m c) (R0 m c b t) k) fun b t ht => cgr_dead _ _ (argR_dead _ _ _ _ b t ht) k

theorem w2_24 (k : Fin 1024) : W2 m ρ c (Proc.devRef .tc main_v17_13) (ix2 0 k)
    = ∑ b : Fin 2, ∑ t : Fin 2064, cln (P0 m c) (R0 m c b.val t.val) k := by
  rw [show W2 m ρ c (Proc.devRef .tc main_v17_13) = _ from W2_arr m ρ c 24]
  refine (arr24 (V1 m ρ) c k).trans ?_
  simp only [PV_eq, RV_eq]
  exact rows_live (fun b t => cln (P0 m c) (R0 m c b t) k) fun b t ht => cln_dead _ _ (argR_dead _ _ _ _ b t ht) k

theorem w2_21 : W2 m ρ c (Proc.devRef .tc main_v17_10) (ix2 0 0) = (∑ b : Fin 2, ∑ t : Fin 2064, sq (P0 m c) (R0 m c b.val t.val)) * i2048 := by
  rw [show W2 m ρ c (Proc.devRef .tc main_v17_10) = _ from W2_arr m ρ c 21]
  refine (arr21 (V1 m ρ) c).trans ?_
  simp only [PV_eq, RV_eq]
  exact congrArg (fun s : EReal => s * i2048)
    (rows_live (fun b t => sq (P0 m c) (R0 m c b t)) fun b t ht => sq_dead _ _ (argR_dead _ _ _ _ b t ht))

theorem w3_out (x : Fin 1024) (j : Fin 1024) : W3 m ρ c (Proc.devRef .tc main_v18) (ix2 x j)
    = ∑ b : Fin 2, ∑ t : Fin 2064, mix (P0 m c) (R0 m c b.val t.val) x * dh1 (P0 m c) (R0 m c b.val t.val) j := by
  rw [show W3 m ρ c (Proc.devRef .tc main_v18) = _ from W3_arr m ρ c 2]
  refine (wgrad1 (V2 m ρ) c x j).trans ?_
  rw [show V2 m ρ c main_v17_3 = W2 m ρ c (Proc.devRef .tc main_v17_3) from rfl,
    show V2 m ρ c main_v17_4 = W2 m ρ c (Proc.devRef .tc main_v17_4) from rfl]
  unfold gram
  refine (Finset.sum_congr rfl fun r _ => congrArg₂ (fun p q : EReal => p * q) (w2_14 m ρ c r x) (w2_15 m ρ c r j)).trans ?_
  exact rows_live (fun b t => mix (P0 m c) (R0 m c b t) x * dh1 (P0 m c) (R0 m c b t) j) fun b t ht => by rw [dh1_dead _ _ (argR_dead _ _ _ _ b t ht), mul_zero]

theorem w4_out (x : Fin 2816) (j : Fin 1024) : W4 m ρ c (Proc.devRef .tc main_v19) (ix2 x j)
    = ∑ b : Fin 2, ∑ t : Fin 2064, dg (P0 m c) (R0 m c b.val t.val) x * hn (P0 m c) (R0 m c b.val t.val) j := by
  rw [show W4 m ρ c (Proc.devRef .tc main_v19) = _ from W4_arr m ρ c 2]
  refine (wgrad2 (V3 m ρ) c x j).trans ?_
  rw [show V3 m ρ c main_v17_6 = W2 m ρ c (Proc.devRef .tc main_v17_6) from (W3_of m ρ c main_v17_6 (by decide +kernel)),
    show V3 m ρ c main_v17_5 = W2 m ρ c (Proc.devRef .tc main_v17_5) from (W3_of m ρ c main_v17_5 (by decide +kernel))]
  unfold gram
  refine (Finset.sum_congr rfl fun r _ => congrArg₂ (fun p q : EReal => p * q) (w2_17 m ρ c r x) (w2_16 m ρ c r j)).trans ?_
  exact rows_live (fun b t => dg (P0 m c) (R0 m c b t) x * hn (P0 m c) (R0 m c b t) j) fun b t ht => by rw [dg_dead _ _ (argR_dead _ _ _ _ b t ht), zero_mul]

theorem w5_out (x : Fin 2816) (j : Fin 1024) : W5 m ρ c (Proc.devRef .tc main_v20) (ix2 x j)
    = ∑ b : Fin 2, ∑ t : Fin 2064, du (P0 m c) (R0 m c b.val t.val) x * hn (P0 m c) (R0 m c b.val t.val) j := by
  rw [show W5 m ρ c (Proc.devRef .tc main_v20) = _ from W5_arr m ρ c 2]
  refine (wgrad3 (V4 m ρ) c x j).trans ?_
  rw [show V4 m ρ c main_v17_7 = W2 m ρ c (Proc.devRef .tc main_v17_7) from ((W4_of m ρ c main_v17_7 (by decide +kernel))).trans (W3_of m ρ c main_v17_7 (by decide +kernel)),
    show V4 m ρ c main_v17_5 = W2 m ρ c (Proc.devRef .tc main_v17_5) from ((W4_of m ρ c main_v17_5 (by decide +kernel))).trans (W3_of m ρ c main_v17_5 (by decide +kernel))]
  unfold gram
  refine (Finset.sum_congr rfl fun r _ => congrArg₂ (fun p q : EReal => p * q) (w2_18 m ρ c r x) (w2_16 m ρ c r j)).trans ?_
  exact rows_live (fun b t => du (P0 m c) (R0 m c b t) x * hn (P0 m c) (R0 m c b t) j) fun b t ht => by rw [du_dead _ _ (argR_dead _ _ _ _ b t ht), zero_mul]

theorem w6_out (x : Fin 2816) (j : Fin 1024) : W6 m ρ c (Proc.devRef .tc main_v21) (ix2 x j)
    = ∑ b : Fin 2, ∑ t : Fin 2064, act (P0 m c) (R0 m c b.val t.val) x * dh2 (P0 m c) (R0 m c b.val t.val) j := by
  rw [show W6 m ρ c (Proc.devRef .tc main_v21) = _ from W6_arr m ρ c 2]
  refine (wgrad4 (V5 m ρ) c x j).trans ?_
  rw [show V5 m ρ c main_v17_8 = W2 m ρ c (Proc.devRef .tc main_v17_8) from (((W5_of m ρ c main_v17_8 (by decide +kernel))).trans (W4_of m ρ c main_v17_8 (by decide +kernel))).trans (W3_of m ρ c main_v17_8 (by decide +kernel)),
    show V5 m ρ c main_v17_9 = W2 m ρ c (Proc.devRef .tc main_v17_9) from (((W5_of m ρ c main_v17_9 (by decide +kernel))).trans (W4_of m ρ c main_v17_9 (by decide +kernel))).trans (W3_of m ρ c main_v17_9 (by decide +kernel))]
  unfold gram
  refine (Finset.sum_congr rfl fun r _ => congrArg₂ (fun p q : EReal => p * q) (w2_19 m ρ c r x) (w2_20 m ρ c r j)).trans ?_
  exact rows_live (fun b t => act (P0 m c) (R0 m c b t) x * dh2 (P0 m c) (R0 m c b t) j) fun b t ht => by rw [dh2_dead _ _ (argR_dead _ _ _ _ b t ht), mul_zero]

theorem res_v22 : W7 m ρ c (Proc.devRef .tc main_v22) (ix0) = (∑ b : Fin 2, ∑ t : Fin 2064, sq (P0 m c) (R0 m c b.val t.val)) * i2048 := by
  unfold W7 hostOps5
  after_reads_at
  rw [show W6 m ρ c (Proc.devRef .tc main_v17_10) = W2 m ρ c (Proc.devRef .tc main_v17_10) from ((((W6_of m ρ c main_v17_10 (by decide +kernel)).trans (W5_of m ρ c main_v17_10 (by decide +kernel))).trans (W4_of m ρ c main_v17_10 (by decide +kernel))).trans (W3_of m ρ c main_v17_10 (by decide +kernel)))]
  exact w2_21 m ρ c

theorem res_v29 (k : Fin 512) : W7 m ρ c (Proc.devRef .tc main_v29) (ix1 k) = ∑ b : Fin 2, ∑ t : Fin 2064, cga (P0 m c) (R0 m c b.val t.val) k := by
  unfold W7 hostOps5
  after_reads_at
  rw [show W6 m ρ c (Proc.devRef .tc main_v17_11) = W2 m ρ c (Proc.devRef .tc main_v17_11) from ((((W6_of m ρ c main_v17_11 (by decide +kernel)).trans (W5_of m ρ c main_v17_11 (by decide +kernel))).trans (W4_of m ρ c main_v17_11 (by decide +kernel))).trans (W3_of m ρ c main_v17_11 (by decide +kernel)))]
  exact w2_22 m ρ c k

theorem res_v30 (k : Fin 512) : W7 m ρ c (Proc.devRef .tc main_v30) (ix1 k) = ∑ b : Fin 2, ∑ t : Fin 2064, cgr (P0 m c) (R0 m c b.val t.val) k := by
  unfold W7 hostOps5
  after_reads_at
  rw [show W6 m ρ c (Proc.devRef .tc main_v17_12) = W2 m ρ c (Proc.devRef .tc main_v17_12) from ((((W6_of m ρ c main_v17_12 (by decide +kernel)).trans (W5_of m ρ c main_v17_12 (by decide +kernel))).trans (W4_of m ρ c main_v17_12 (by decide +kernel))).trans (W3_of m ρ c main_v17_12 (by decide +kernel)))]
  exact w2_23 m ρ c k

theorem res_v31 (k : Fin 1024) : W7 m ρ c (Proc.devRef .tc main_v31) (ix1 k) = ∑ b : Fin 2, ∑ t : Fin 2064, cln (P0 m c) (R0 m c b.val t.val) k := by
  unfold W7 hostOps5
  after_reads_at
  rw [show W6 m ρ c (Proc.devRef .tc main_v17_13) = W2 m ρ c (Proc.devRef .tc main_v17_13) from ((((W6_of m ρ c main_v17_13 (by decide +kernel)).trans (W5_of m ρ c main_v17_13 (by decide +kernel))).trans (W4_of m ρ c main_v17_13 (by decide +kernel))).trans (W3_of m ρ c main_v17_13 (by decide +kernel)))]
  exact w2_24 m ρ c k

theorem res_v32 (j : Fin 1024) (f : Fin 2816) : W7 m ρ c (Proc.devRef .tc main_v32) (ix2 j f) = ∑ b : Fin 2, ∑ t : Fin 2064, dg (P0 m c) (R0 m c b.val t.val) f * hn (P0 m c) (R0 m c b.val t.val) j := by
  unfold W7 hostOps5
  after_reads_at
  rw [show W6 m ρ c (Proc.devRef .tc main_v19) = W4 m ρ c (Proc.devRef .tc main_v19) from ((W6_of m ρ c main_v19 (by decide +kernel)).trans (W5_of m ρ c main_v19 (by decide +kernel)))]
  exact w4_out m ρ c f j

theorem res_v33 (j : Fin 1024) (f : Fin 2816) : W7 m ρ c (Proc.devRef .tc main_v33) (ix2 j f) = ∑ b : Fin 2, ∑ t : Fin 2064, du (P0 m c) (R0 m c b.val t.val) f * hn (P0 m c) (R0 m c b.val t.val) j := by
  unfold W7 hostOps5
  after_reads_at
  rw [show W6 m ρ c (Proc.devRef .tc main_v20) = W5 m ρ c (Proc.devRef .tc main_v20) from (W6_of m ρ c main_v20 (by decide +kernel))]
  exact w5_out m ρ c f j

theorem res_v24 (b : Fin 2) (t : Fin 2064) (j : Fin 1024) : W7 m ρ c (Proc.devRef .tc main_v24) (ix3 b t j)
    = dh1 (P0 m c) (R0 m c b.val t.val) j := by
  unfold W7 hostOps5
  after_reads_at
  rw [show W6 m ρ c (Proc.devRef .tc main_v17_2) = W2 m ρ c (Proc.devRef .tc main_v17_2) from ((((W6_of m ρ c main_v17_2 (by decide +kernel)).trans (W5_of m ρ c main_v17_2 (by decide +kernel))).trans (W4_of m ρ c main_v17_2 (by decide +kernel))).trans (W3_of m ρ c main_v17_2 (by decide +kernel)))]
  refine (w2_13 m ρ c _ j).trans ?_
  dsimp only
  rw [show (b.val * 2176 + t.val) / 2176 = b.val by omega, show (b.val * 2176 + t.val) % 2176 = t.val by omega]

theorem res_v26 (b : Fin 2) (t : Fin 2064) (j : Fin 512) : W7 m ρ c (Proc.devRef .tc main_v26) (ix3 b t j)
    = doo (P0 m c) (R0 m c b.val t.val) j := by
  unfold W7 hostOps5
  after_reads_at
  rw [show W6 m ρ c (Proc.devRef .tc main_v17_0) = W2 m ρ c (Proc.devRef .tc main_v17_0) from ((((W6_of m ρ c main_v17_0 (by decide +kernel)).trans (W5_of m ρ c main_v17_0 (by decide +kernel))).trans (W4_of m ρ c main_v17_0 (by decide +kernel))).trans (W3_of m ρ c main_v17_0 (by decide +kernel)))]
  refine (w2_11 m ρ c _ j).trans ?_
  dsimp only
  rw [show (b.val * 2176 + t.val) / 2176 = b.val by omega, show (b.val * 2176 + t.val) % 2176 = t.val by omega]

theorem res_v28 (b : Fin 2) (t : Fin 2064) (j : Fin 512) : W7 m ρ c (Proc.devRef .tc main_v28) (ix3 b t j)
    = dyy (P0 m c) (R0 m c b.val t.val) j := by
  unfold W7 hostOps5
  after_reads_at
  rw [show W6 m ρ c (Proc.devRef .tc main_v17_1) = W2 m ρ c (Proc.devRef .tc main_v17_1) from ((((W6_of m ρ c main_v17_1 (by decide +kernel)).trans (W5_of m ρ c main_v17_1 (by decide +kernel))).trans (W4_of m ρ c main_v17_1 (by decide +kernel))).trans (W3_of m ρ c main_v17_1 (by decide +kernel)))]
  refine (w2_12 m ρ c _ j).trans ?_
  dsimp only
  rw [show (b.val * 2176 + t.val) / 2176 = b.val by omega, show (b.val * 2176 + t.val) % 2176 = t.val by omega]

theorem res_v18 (x : Fin 1024) (j : Fin 1024) : W7 m ρ c (Proc.devRef .tc main_v18) (ix2 x j)
    = ∑ b : Fin 2, ∑ t : Fin 2064, mix (P0 m c) (R0 m c b.val t.val) x * dh1 (P0 m c) (R0 m c b.val t.val) j := by
  rw [show W7 m ρ c (Proc.devRef .tc main_v18) = W3 m ρ c (Proc.devRef .tc main_v18) from ((((W7_of m ρ c main_v18 (by decide +kernel)).trans (W6_of m ρ c main_v18 (by decide +kernel))).trans (W5_of m ρ c main_v18 (by decide +kernel))).trans (W4_of m ρ c main_v18 (by decide +kernel)))]
  exact w3_out m ρ c x j

theorem res_v21 (x : Fin 2816) (j : Fin 1024) : W7 m ρ c (Proc.devRef .tc main_v21) (ix2 x j)
    = ∑ b : Fin 2, ∑ t : Fin 2064, act (P0 m c) (R0 m c b.val t.val) x * dh2 (P0 m c) (R0 m c b.val t.val) j := by
  rw [show W7 m ρ c (Proc.devRef .tc main_v21) = W6 m ρ c (Proc.devRef .tc main_v21) from (W7_of m ρ c main_v21 (by decide +kernel))]
  exact w6_out m ρ c x j

end Cert.LayerEndIdeal.End

end
-- ==== Proof.EndRef.lean ====
/- The layer end's reference, read at an index: each row is the row model's, and the weights' gradients are sums over the rows. -/
module

public import proofs.«01_k».proof.Proof.EndArgs
public import proofs.«01_k».proof.Proof.BwdBody
public import proofs.«01_k».proof.Proof.Gen.LayerEndVjpIdeal.Run
public import proofs.«01_k».proof.Proof.Gen.LayerEndVjpIdeal.Read

@[expose] public section

set_option maxRecDepth 16384

noncomputable section

namespace Cert.LayerEndVjpIdeal.End

open Idealize.ShloMosaic Cert.LayerEndVjpIdeal Cert.LayerEndVjpIdeal.Gen Cert.LayerEndVjpIdeal.Read Cert.End

/-! The constants. -/

theorem half_bits : Ideal.ofBits FTy.f32 0x3F000000#32 = ((1 / 2 : ℝ) : EReal) := by
  simp [Ideal.ofBits, Ideal.ieee, -EReal.coe_mul]; norm_num
theorem two_bits : Ideal.ofBits FTy.f32 0x40000000#32 = ((2 : ℝ) : EReal) := by
  simp [Ideal.ofBits, Ideal.ieee, -EReal.coe_mul]; norm_num
theorem n512_bits : Ideal.ofBits FTy.f32 0x44000000#32 = ((512 : ℝ) : EReal) := by
  simp [Ideal.ofBits, Ideal.ieee, -EReal.coe_mul]; norm_num
theorem n1024_bits : Ideal.ofBits FTy.f32 0x44800000#32 = ((1024 : ℝ) : EReal) := by
  simp [Ideal.ofBits, Ideal.ieee, -EReal.coe_mul]; norm_num
theorem i512_bits : i512 = ((1 / 512 : ℝ) : EReal) := by
  simp [Ideal.ofBits, Ideal.ieee, -EReal.coe_mul]; norm_num
theorem i1024_bits : i1024 = ((1 / 1024 : ℝ) : EReal) := by
  simp [Ideal.ofBits, Ideal.ieee, -EReal.coe_mul]; norm_num
theorem i2048_bits : i2048 = ((1 / 2048 : ℝ) : EReal) := by
  simp [Ideal.ofBits, Ideal.ieee, -EReal.coe_mul]; norm_num

theorem div512 (a : EReal) : Ideal.div a (Ideal.ofBits FTy.f32 0x44000000#32) = a * i512 := by
  rw [n512_bits, i512_bits]; exact Ideal.div_coe (by norm_num) a
theorem div1024 (a : EReal) : Ideal.div a (Ideal.ofBits FTy.f32 0x44800000#32) = a * i1024 := by
  rw [n1024_bits, i1024_bits]; exact Ideal.div_coe (by norm_num) a
/-- The mean over 1024 lanes of the error's half square has the error's 1024th part as its gradient. -/
theorem seed (e : EReal) : Ideal.div (Ideal.ofBits FTy.f32 0x3F000000#32) (Ideal.ofBits FTy.f32 0x44800000#32)
    * (Ideal.ofBits FTy.f32 0x40000000#32 * e) = e * i1024 := by
  rw [div1024, half_bits, two_bits, i1024_bits, ← mul_assoc, ← EReal.coe_mul, ← EReal.coe_mul, mul_comm]
  congr 2
  norm_num

theorem half_i1024 (s : EReal) : Ideal.ofBits FTy.f32 0x3F000000#32 * (s * i1024) = s * i2048 := by
  rw [half_bits, i1024_bits, i2048_bits, mul_comm, mul_assoc, ← EReal.coe_mul]
  congr 2
  norm_num

theorem mix_lo (P : Params) (R : Row) (k : Fin 512) : mix P R (lo k) = mo P R k := dif_pos k.isLt
theorem mix_hi (P : Params) (R : Row) (k : Fin 512) : mix P R (hi k) = mr P R k :=
  (dif_neg (by simp)).trans (congrArg (mr P R) (Fin.ext (by simp)))

theorem reduce01 {n0 n1 n2 : ℕ} (h : (⟨3, ![n0, n1, n2]⟩ : Shape).ReducesTo [0, 1] ⟨1, ![n2]⟩) (x : T3 n0 n1 n2) (init : EReal) (k : Fin n2) :
    Ideal.hostReduceAdd h x init (ix1 k) = init + ∑ a : Fin n0, ∑ b : Fin n1, x (ix3 a b k) := by
  refine congrArg (fun s : EReal => init + s) ((Finset.sum_filter_eq_sum_of_fiber _ (fun p : Fin n0 × Fin n1 => ix3 p.1 p.2 k)
    (fun _ _ e => Prod.ext (congrFun e 0) (congrFun e 1)) (fun i => ⟨fun e => ⟨(i 0, i 1), ?_⟩, ?_⟩) x).trans (Fintype.sum_prod_type _))
  · funext a
    match a with
    | ⟨0, _⟩ => rfl
    | ⟨1, _⟩ => rfl
    | ⟨2, _⟩ => exact Fin.ext (congrArg Fin.val (congrFun e 0)).symm
  · rintro ⟨p, rfl⟩
    funext b
    match b with
    | ⟨0, _⟩ => exact Fin.ext rfl

variable (x0 : T3 2 2064 1024) (x1 x2 : T3 2 2064 512) (x3 : T3 2 2048 1024) (x4 x5 : T1 512) (x6 : T2 1024 1024)
  (x7 : T1 1024) (x8 x9 : T2 1024 2816) (x10 : T2 2816 1024) (b : Fin 2) (t : Fin 2064)

include x0 x1 x2 x3 x4 x5 x6 x7 x8 x9 x10

theorem h_at (j : Fin 1024) : (argR x0 x1 x2 x3 b.val t.val).h j = x0 (ix3 b t j) := dif_pos ⟨b.isLt, t.isLt⟩
theorem o_at (k : Fin 512) : (argR x0 x1 x2 x3 b.val t.val).o k = x1 (ix3 b t k) := dif_pos ⟨b.isLt, t.isLt⟩
theorem y_at (k : Fin 512) : (argR x0 x1 x2 x3 b.val t.val).y k = x2 (ix3 b t k) := dif_pos ⟨b.isLt, t.isLt⟩

/-- The mean square of a row of `o`. -/
theorem r6 : val_main_v6 (F := Ideal) x1 (ix3 b t 0)
    = ms i512 (argR x0 x1 x2 x3 b.val t.val).o := by
  pointwise [val_main_v6, val_main_v5, val_main_v4, val_main_v3, val_main_v2, val_main_v1, val_main_v0, val_main_cst, val_main_cst_0, val_main_cst_1]
  rw [div512]
  simp only [ms, o_at x0 x1 x2 x3 x4 x5 x6 x7 x8 x9 x10 b t]

theorem r7 : val_main_v7 (F := Ideal) x1 (ix3 b t 0)
    = rs i512 (argR x0 x1 x2 x3 b.val t.val).o := by
  pointwise [val_main_v7]
  rw [r6 x0 x1 x2 x3 x4 x5 x6 x7 x8 x9 x10 b t]
  rfl

theorem r10 : val_main_v10 (F := Ideal) x1 (ix3 b t 0)
    = mhalf * Ideal.div (rs i512 (argR x0 x1 x2 x3 b.val t.val).o) (ms i512 (argR x0 x1 x2 x3 b.val t.val).o) := by
  pointwise [val_main_v10, val_main_v9, val_main_v8, val_main_cst_2]
  rw [r7 x0 x1 x2 x3 x4 x5 x6 x7 x8 x9 x10 b t, r6 x0 x1 x2 x3 x4 x5 x6 x7 x8 x9 x10 b t]

theorem r12 (k : Fin 512) : val_main_v12 (F := Ideal) x1 (ix3 b t k)
    = xh i512 (argR x0 x1 x2 x3 b.val t.val).o k := by
  pointwise [val_main_v12, val_main_v11]
  rw [r7 x0 x1 x2 x3 x4 x5 x6 x7 x8 x9 x10 b t, xh, o_at x0 x1 x2 x3 x4 x5 x6 x7 x8 x9 x10 b t]

theorem r15 (k : Fin 512) : val_main_v15 (F := Ideal) x1 x4 (ix3 b t k)
    = mo (argP x4 x5 x6 x7 x8 x9 x10) (argR x0 x1 x2 x3 b.val t.val) k := by
  pointwise [val_main_v15, val_main_v14, val_main_v13]
  rw [r12 x0 x1 x2 x3 x4 x5 x6 x7 x8 x9 x10 b t k]
  rfl

/-- The mean square of a row of `y`. -/
theorem r22 : val_main_v22 (F := Ideal) x2 (ix3 b t 0)
    = ms i512 (argR x0 x1 x2 x3 b.val t.val).y := by
  pointwise [val_main_v22, val_main_v21, val_main_v20, val_main_v19, val_main_v18, val_main_v17, val_main_v16, val_main_cst_3, val_main_cst_4, val_main_cst_5]
  rw [div512]
  simp only [ms, y_at x0 x1 x2 x3 x4 x5 x6 x7 x8 x9 x10 b t]

theorem r23 : val_main_v23 (F := Ideal) x2 (ix3 b t 0)
    = rs i512 (argR x0 x1 x2 x3 b.val t.val).y := by
  pointwise [val_main_v23]
  rw [r22 x0 x1 x2 x3 x4 x5 x6 x7 x8 x9 x10 b t]
  rfl

theorem r26 : val_main_v26 (F := Ideal) x2 (ix3 b t 0)
    = mhalf * Ideal.div (rs i512 (argR x0 x1 x2 x3 b.val t.val).y) (ms i512 (argR x0 x1 x2 x3 b.val t.val).y) := by
  pointwise [val_main_v26, val_main_v25, val_main_v24, val_main_cst_6]
  rw [r23 x0 x1 x2 x3 x4 x5 x6 x7 x8 x9 x10 b t, r22 x0 x1 x2 x3 x4 x5 x6 x7 x8 x9 x10 b t]

theorem r28 (k : Fin 512) : val_main_v28 (F := Ideal) x2 (ix3 b t k)
    = xh i512 (argR x0 x1 x2 x3 b.val t.val).y k := by
  pointwise [val_main_v28, val_main_v27]
  rw [r23 x0 x1 x2 x3 x4 x5 x6 x7 x8 x9 x10 b t, xh, y_at x0 x1 x2 x3 x4 x5 x6 x7 x8 x9 x10 b t]

theorem r31 (k : Fin 512) : val_main_v31 (F := Ideal) x2 x5 (ix3 b t k)
    = mr (argP x4 x5 x6 x7 x8 x9 x10) (argR x0 x1 x2 x3 b.val t.val) k := by
  pointwise [val_main_v31, val_main_v30, val_main_v29]
  rw [r28 x0 x1 x2 x3 x4 x5 x6 x7 x8 x9 x10 b t k]
  rfl

/-- The mixed row. -/
theorem r32 (k : Fin 1024) : val_main_v32 (F := Ideal) x1 x2 x4 x5 (ix3 b t k)
    = mix (argP x4 x5 x6 x7 x8 x9 x10) (argR x0 x1 x2 x3 b.val t.val) k := by
  pointwise [val_main_v32]
  exact dite_congr rfl (fun h => r15 x0 x1 x2 x3 x4 x5 x6 x7 x8 x9 x10 b t _) (fun h => r31 x0 x1 x2 x3 x4 x5 x6 x7 x8 x9 x10 b t _)

/-- The residual row after the output product. -/
theorem r34 (j : Fin 1024) : val_main_v34 (F := Ideal) x0 x1 x2 x4 x5 x6 (ix3 b t j)
    = h1 (argP x4 x5 x6 x7 x8 x9 x10) (argR x0 x1 x2 x3 b.val t.val) j := by
  pointwise [val_main_v34, val_main_v33]
  rw [Fin.sum_univ_two_halves 512 512 rfl, ← add_assoc, h1, h_at x0 x1 x2 x3 x4 x5 x6 x7 x8 x9 x10 b t]
  refine congrArg₂ (· + ·) (congrArg₂ (· + ·) rfl (Finset.sum_congr rfl fun k _ => ?_)) (Finset.sum_congr rfl fun k _ => ?_)
  · exact congrArg₂ (· * ·) ((r32 x0 x1 x2 x3 x4 x5 x6 x7 x8 x9 x10 b t (lo k)).trans (mix_lo _ _ k)) rfl
  · exact congrArg₂ (· * ·) ((r32 x0 x1 x2 x3 x4 x5 x6 x7 x8 x9 x10 b t (hi k)).trans (mix_hi _ _ k)) rfl

theorem r41 : val_main_v41 (F := Ideal) x0 x1 x2 x4 x5 x6 (ix3 b t 0)
    = ms i1024 (h1 (argP x4 x5 x6 x7 x8 x9 x10) (argR x0 x1 x2 x3 b.val t.val)) := by
  pointwise [val_main_v41, val_main_v40, val_main_v39, val_main_v38, val_main_v37, val_main_v36, val_main_v35, val_main_cst_7, val_main_cst_8, val_main_cst_9]
  rw [div1024]
  simp only [ms, r34 x0 x1 x2 x3 x4 x5 x6 x7 x8 x9 x10 b t]

theorem r42 : val_main_v42 (F := Ideal) x0 x1 x2 x4 x5 x6 (ix3 b t 0)
    = rs i1024 (h1 (argP x4 x5 x6 x7 x8 x9 x10) (argR x0 x1 x2 x3 b.val t.val)) := by
  pointwise [val_main_v42]
  rw [r41 x0 x1 x2 x3 x4 x5 x6 x7 x8 x9 x10 b t]
  rfl

theorem r45 : val_main_v45 (F := Ideal) x0 x1 x2 x4 x5 x6 (ix3 b t 0)
    = mhalf * Ideal.div (rs i1024 (h1 (argP x4 x5 x6 x7 x8 x9 x10) (argR x0 x1 x2 x3 b.val t.val))) (ms i1024 (h1 (argP x4 x5 x6 x7 x8 x9 x10) (argR x0 x1 x2 x3 b.val t.val))) := by
  pointwise [val_main_v45, val_main_v44, val_main_v43, val_main_cst_10]
  rw [r42 x0 x1 x2 x3 x4 x5 x6 x7 x8 x9 x10 b t, r41 x0 x1 x2 x3 x4 x5 x6 x7 x8 x9 x10 b t]

theorem r47 (j : Fin 1024) : val_main_v47 (F := Ideal) x0 x1 x2 x4 x5 x6 (ix3 b t j)
    = xh i1024 (h1 (argP x4 x5 x6 x7 x8 x9 x10) (argR x0 x1 x2 x3 b.val t.val)) j := by
  pointwise [val_main_v47, val_main_v46]
  rw [r34 x0 x1 x2 x3 x4 x5 x6 x7 x8 x9 x10 b t, r42 x0 x1 x2 x3 x4 x5 x6 x7 x8 x9 x10 b t, xh]

theorem r50 (j : Fin 1024) : val_main_v50 (F := Ideal) x0 x1 x2 x4 x5 x6 x7 (ix3 b t j)
    = hn (argP x4 x5 x6 x7 x8 x9 x10) (argR x0 x1 x2 x3 b.val t.val) j := by
  pointwise [val_main_v50, val_main_v49, val_main_v48]
  rw [r47 x0 x1 x2 x3 x4 x5 x6 x7 x8 x9 x10 b t]
  rfl

theorem r51 (f : Fin 2816) : val_main_v51 (F := Ideal) x0 x1 x2 x4 x5 x6 x7 x8 (ix3 b t f)
    = g (argP x4 x5 x6 x7 x8 x9 x10) (argR x0 x1 x2 x3 b.val t.val) f := by
  pointwise [val_main_v51]
  simp only [r50 x0 x1 x2 x3 x4 x5 x6 x7 x8 x9 x10 b t]
  rfl

theorem r52_2 (f : Fin 2816) : val_main_v52_2 (F := Ideal) x0 x1 x2 x4 x5 x6 x7 x8 (ix3 b t f)
    = sg (argP x4 x5 x6 x7 x8 x9 x10) (argR x0 x1 x2 x3 b.val t.val) f := by
  pointwise [val_main_v52_2, val_main_call0_v4, val_main_call0_v3, val_main_call0_v2, val_main_call0_v1, val_main_call0_v0, val_main_call0_cst, val_main_call0_cst_0]
  rw [r51 x0 x1 x2 x3 x4 x5 x6 x7 x8 x9 x10 b t]
  rfl

theorem r52_1 (f : Fin 2816) : val_main_v52_1 (F := Ideal) x0 x1 x2 x4 x5 x6 x7 x8 (ix3 b t f)
    = sg (argP x4 x5 x6 x7 x8 x9 x10) (argR x0 x1 x2 x3 b.val t.val) f * (1 - sg (argP x4 x5 x6 x7 x8 x9 x10) (argR x0 x1 x2 x3 b.val t.val) f) := by
  pointwise [val_main_v52_1, val_main_call0_v7, val_main_call0_v6, val_main_call0_cst_1]
  rw [r52_2 x0 x1 x2 x3 x4 x5 x6 x7 x8 x9 x10 b t]

theorem r52_0 (f : Fin 2816) : val_main_v52_0 (F := Ideal) x0 x1 x2 x4 x5 x6 x7 x8 (ix3 b t f)
    = g (argP x4 x5 x6 x7 x8 x9 x10) (argR x0 x1 x2 x3 b.val t.val) f * sg (argP x4 x5 x6 x7 x8 x9 x10) (argR x0 x1 x2 x3 b.val t.val) f := by
  pointwise [val_main_v52_0]
  rw [r51 x0 x1 x2 x3 x4 x5 x6 x7 x8 x9 x10 b t, r52_2 x0 x1 x2 x3 x4 x5 x6 x7 x8 x9 x10 b t]

theorem r53 (f : Fin 2816) : val_main_v53 (F := Ideal) x0 x1 x2 x4 x5 x6 x7 x9 (ix3 b t f)
    = u (argP x4 x5 x6 x7 x8 x9 x10) (argR x0 x1 x2 x3 b.val t.val) f := by
  pointwise [val_main_v53]
  simp only [r50 x0 x1 x2 x3 x4 x5 x6 x7 x8 x9 x10 b t]
  rfl

theorem r54 (f : Fin 2816) : val_main_v54 (F := Ideal) x0 x1 x2 x4 x5 x6 x7 x8 x9 (ix3 b t f)
    = act (argP x4 x5 x6 x7 x8 x9 x10) (argR x0 x1 x2 x3 b.val t.val) f := by
  pointwise [val_main_v54]
  rw [r52_0 x0 x1 x2 x3 x4 x5 x6 x7 x8 x9 x10 b t, r53 x0 x1 x2 x3 x4 x5 x6 x7 x8 x9 x10 b t]
  rfl

/-- The layer's output row. -/
theorem r56 (j : Fin 1024) : val_main_v56 (F := Ideal) x0 x1 x2 x4 x5 x6 x7 x8 x9 x10 (ix3 b t j)
    = h2 (argP x4 x5 x6 x7 x8 x9 x10) (argR x0 x1 x2 x3 b.val t.val) j := by
  pointwise [val_main_v56, val_main_v55]
  simp only [r34 x0 x1 x2 x3 x4 x5 x6 x7 x8 x9 x10 b t, r54 x0 x1 x2 x3 x4 x5 x6 x7 x8 x9 x10 b t]
  rfl

omit t in
/-- The error of a row the loss counts. -/
theorem r58 (t : Fin 2048) (j : Fin 1024) : val_main_v58 (F := Ideal) x0 x1 x2 x3 x4 x5 x6 x7 x8 x9 x10 (ix3 b t j)
    = err (argP x4 x5 x6 x7 x8 x9 x10) (argR x0 x1 x2 x3 b.val (16 + t.val)) j := by
  pointwise [val_main_v58, val_main_v57]
  rw [err, if_pos (show (argR x0 x1 x2 x3 b.val (16 + t.val)).live = true from decide_eq_true (by omega))]
  refine congrArg₂ (· - ·) (r56 x0 x1 x2 x3 x4 x5 x6 x7 x8 x9 x10 b ⟨16 + t.val, by omega⟩ j) ?_
  refine Eq.trans ?_ (dif_pos ⟨b.isLt, by omega, by omega⟩).symm
  exact congrArg (fun s => x3 (ix3 b s j)) (Fin.ext (by simp))

/-- The gradient of the layer's output row. -/
theorem r73 (j : Fin 1024) : val_main_v73 (F := Ideal) x0 x1 x2 x3 x4 x5 x6 x7 x8 x9 x10 (ix3 b t j)
    = dh2 (argP x4 x5 x6 x7 x8 x9 x10) (argR x0 x1 x2 x3 b.val t.val) j := by
  pointwise [val_main_v73, val_main_v72, val_main_v71, val_main_v70, val_main_v69, val_main_v68, val_main_v67, val_main_v61, val_main_v60, val_main_cst_11, val_main_cst_16, val_main_cst_17, val_main_cst_18, val_main_cst_19]
  split
  · rename_i h
    rw [seed, r58 x0 x1 x2 x3 x4 x5 x6 x7 x8 x9 x10 b ⟨t.val - 16, h.2⟩ j, show 16 + (t.val - 16) = t.val by omega]
    rfl
  · rename_i h
    rw [dh2_dead _ _ (decide_eq_false (by omega))]

theorem r76 (f : Fin 2816) : val_main_v76 (F := Ideal) x0 x1 x2 x3 x4 x5 x6 x7 x8 x9 x10 (ix3 b t f)
    = dact (argP x4 x5 x6 x7 x8 x9 x10) (argR x0 x1 x2 x3 b.val t.val) f := by
  pointwise [val_main_v76]
  simp only [r73 x0 x1 x2 x3 x4 x5 x6 x7 x8 x9 x10 b t]
  rfl

theorem r77 (f : Fin 2816) : val_main_v77 (F := Ideal) x0 x1 x2 x3 x4 x5 x6 x7 x8 x9 x10 (ix3 b t f)
    = du (argP x4 x5 x6 x7 x8 x9 x10) (argR x0 x1 x2 x3 b.val t.val) f := by
  pointwise [val_main_v77]
  rw [r52_0 x0 x1 x2 x3 x4 x5 x6 x7 x8 x9 x10 b t, r76 x0 x1 x2 x3 x4 x5 x6 x7 x8 x9 x10 b t]
  rfl

theorem r82 (f : Fin 2816) : val_main_v82 (F := Ideal) x0 x1 x2 x3 x4 x5 x6 x7 x8 x9 x10 (ix3 b t f)
    = dg (argP x4 x5 x6 x7 x8 x9 x10) (argR x0 x1 x2 x3 b.val t.val) f := by
  pointwise [val_main_v82, val_main_call1_v2, val_main_call1_v1, val_main_call1_v0, val_main_v78]
  rw [r76 x0 x1 x2 x3 x4 x5 x6 x7 x8 x9 x10 b t, r53 x0 x1 x2 x3 x4 x5 x6 x7 x8 x9 x10 b t, r52_2 x0 x1 x2 x3 x4 x5 x6 x7 x8 x9 x10 b t, r51 x0 x1 x2 x3 x4 x5 x6 x7 x8 x9 x10 b t, r52_1 x0 x1 x2 x3 x4 x5 x6 x7 x8 x9 x10 b t]
  rfl

theorem r86 (j : Fin 1024) : val_main_v86 (F := Ideal) x0 x1 x2 x3 x4 x5 x6 x7 x8 x9 x10 (ix3 b t j)
    = dhn (argP x4 x5 x6 x7 x8 x9 x10) (argR x0 x1 x2 x3 b.val t.val) j := by
  pointwise [val_main_v86, val_main_v85, val_main_v81]
  simp only [r77 x0 x1 x2 x3 x4 x5 x6 x7 x8 x9 x10 b t, r82 x0 x1 x2 x3 x4 x5 x6 x7 x8 x9 x10 b t]
  exact add_comm _ _

theorem r91 (j : Fin 1024) : val_main_v91 (F := Ideal) x0 x1 x2 x3 x4 x5 x6 x7 x8 x9 x10 (ix3 b t j)
    = dhn (argP x4 x5 x6 x7 x8 x9 x10) (argR x0 x1 x2 x3 b.val t.val) j * (argP x4 x5 x6 x7 x8 x9 x10).ln j := by
  pointwise [val_main_v91, val_main_v90, val_main_v48]
  rw [r86 x0 x1 x2 x3 x4 x5 x6 x7 x8 x9 x10 b t]
  rfl

theorem r102 : val_main_v102 (F := Ideal) x0 x1 x2 x3 x4 x5 x6 x7 x8 x9 x10 (ix2 b t)
    = tt i1024 (h1 (argP x4 x5 x6 x7 x8 x9 x10) (argR x0 x1 x2 x3 b.val t.val)) (fun j => dhn (argP x4 x5 x6 x7 x8 x9 x10) (argR x0 x1 x2 x3 b.val t.val) j * (argP x4 x5 x6 x7 x8 x9 x10).ln j) := by
  pointwise [val_main_v102, val_main_v101, val_main_v100, val_main_v99, val_main_v95, val_main_v94, val_main_v93, val_main_cst_22, val_main_cst_23, val_main_cst_24]
  rw [Fin.sum_univ_one, div1024, r45 x0 x1 x2 x3 x4 x5 x6 x7 x8 x9 x10 b t]
  simp only [r34 x0 x1 x2 x3 x4 x5 x6 x7 x8 x9 x10 b t, r91 x0 x1 x2 x3 x4 x5 x6 x7 x8 x9 x10 b t]
  rfl

/-- The gradient of the residual row. -/
theorem r107 (j : Fin 1024) : val_main_v107 (F := Ideal) x0 x1 x2 x3 x4 x5 x6 x7 x8 x9 x10 (ix3 b t j)
    = dh1 (argP x4 x5 x6 x7 x8 x9 x10) (argR x0 x1 x2 x3 b.val t.val) j := by
  pointwise [val_main_v107, val_main_v106, val_main_v105, val_main_v104, val_main_v103, val_main_v98, val_main_v97, val_main_v96]
  rw [r73 x0 x1 x2 x3 x4 x5 x6 x7 x8 x9 x10 b t, r91 x0 x1 x2 x3 x4 x5 x6 x7 x8 x9 x10 b t, r42 x0 x1 x2 x3 x4 x5 x6 x7 x8 x9 x10 b t, r34 x0 x1 x2 x3 x4 x5 x6 x7 x8 x9 x10 b t, r102 x0 x1 x2 x3 x4 x5 x6 x7 x8 x9 x10 b t, add_assoc, add_assoc]
  rfl

theorem r110 (k : Fin 1024) : val_main_v110 (F := Ideal) x0 x1 x2 x3 x4 x5 x6 x7 x8 x9 x10 (ix3 b t k)
    = dmix (argP x4 x5 x6 x7 x8 x9 x10) (argR x0 x1 x2 x3 b.val t.val) k := by
  pointwise [val_main_v110]
  simp only [r107 x0 x1 x2 x3 x4 x5 x6 x7 x8 x9 x10 b t]
  rfl

theorem r111 (k : Fin 512) : val_main_v111 (F := Ideal) x0 x1 x2 x3 x4 x5 x6 x7 x8 x9 x10 (ix3 b t k)
    = dmix (argP x4 x5 x6 x7 x8 x9 x10) (argR x0 x1 x2 x3 b.val t.val) (lo k) := by
  pointwise [val_main_v111]
  exact r110 x0 x1 x2 x3 x4 x5 x6 x7 x8 x9 x10 b t (lo k)

theorem r112 (k : Fin 512) : val_main_v112 (F := Ideal) x0 x1 x2 x3 x4 x5 x6 x7 x8 x9 x10 (ix3 b t k)
    = dmix (argP x4 x5 x6 x7 x8 x9 x10) (argR x0 x1 x2 x3 b.val t.val) (hi k) := by
  pointwise [val_main_v112]
  exact r110 x0 x1 x2 x3 x4 x5 x6 x7 x8 x9 x10 b t (hi k)

theorem r117 (k : Fin 512) : val_main_v117 (F := Ideal) x0 x1 x2 x3 x4 x5 x6 x7 x8 x9 x10 (ix3 b t k)
    = dmix (argP x4 x5 x6 x7 x8 x9 x10) (argR x0 x1 x2 x3 b.val t.val) (hi k) * (argP x4 x5 x6 x7 x8 x9 x10).gr k := by
  pointwise [val_main_v117, val_main_v116, val_main_v29]
  rw [r112 x0 x1 x2 x3 x4 x5 x6 x7 x8 x9 x10 b t]
  rfl

theorem r127 : val_main_v127 (F := Ideal) x0 x1 x2 x3 x4 x5 x6 x7 x8 x9 x10 (ix2 b t)
    = tt i512 (argR x0 x1 x2 x3 b.val t.val).y (fun k => dmix (argP x4 x5 x6 x7 x8 x9 x10) (argR x0 x1 x2 x3 b.val t.val) (hi k) * (argP x4 x5 x6 x7 x8 x9 x10).gr k) := by
  pointwise [val_main_v127, val_main_v126, val_main_v125, val_main_v124, val_main_v121, val_main_v120, val_main_v119, val_main_cst_27, val_main_cst_28, val_main_cst_29]
  rw [Fin.sum_univ_one, div512, r26 x0 x1 x2 x3 x4 x5 x6 x7 x8 x9 x10 b t]
  simp only [tt, y_at x0 x1 x2 x3 x4 x5 x6 x7 x8 x9 x10 b t, r117 x0 x1 x2 x3 x4 x5 x6 x7 x8 x9 x10 b t]

/-- The gradient of `y`. -/
theorem r132 (k : Fin 512) : val_main_v132 (F := Ideal) x0 x1 x2 x3 x4 x5 x6 x7 x8 x9 x10 (ix3 b t k)
    = dyy (argP x4 x5 x6 x7 x8 x9 x10) (argR x0 x1 x2 x3 b.val t.val) k := by
  pointwise [val_main_v132, val_main_v131, val_main_v130, val_main_v129, val_main_v128, val_main_v123, val_main_v122]
  rw [r117 x0 x1 x2 x3 x4 x5 x6 x7 x8 x9 x10 b t, r23 x0 x1 x2 x3 x4 x5 x6 x7 x8 x9 x10 b t, r127 x0 x1 x2 x3 x4 x5 x6 x7 x8 x9 x10 b t, add_assoc, dyy, back, y_at x0 x1 x2 x3 x4 x5 x6 x7 x8 x9 x10 b t]

theorem r137 (k : Fin 512) : val_main_v137 (F := Ideal) x0 x1 x2 x3 x4 x5 x6 x7 x8 x9 x10 (ix3 b t k)
    = dmix (argP x4 x5 x6 x7 x8 x9 x10) (argR x0 x1 x2 x3 b.val t.val) (lo k) * (argP x4 x5 x6 x7 x8 x9 x10).ga k := by
  pointwise [val_main_v137, val_main_v136, val_main_v13]
  rw [r111 x0 x1 x2 x3 x4 x5 x6 x7 x8 x9 x10 b t]
  rfl

theorem r147 : val_main_v147 (F := Ideal) x0 x1 x2 x3 x4 x5 x6 x7 x8 x9 x10 (ix2 b t)
    = tt i512 (argR x0 x1 x2 x3 b.val t.val).o (fun k => dmix (argP x4 x5 x6 x7 x8 x9 x10) (argR x0 x1 x2 x3 b.val t.val) (lo k) * (argP x4 x5 x6 x7 x8 x9 x10).ga k) := by
  pointwise [val_main_v147, val_main_v146, val_main_v145, val_main_v144, val_main_v141, val_main_v140, val_main_v139, val_main_cst_32, val_main_cst_33, val_main_cst_34]
  rw [Fin.sum_univ_one, div512, r10 x0 x1 x2 x3 x4 x5 x6 x7 x8 x9 x10 b t]
  simp only [tt, o_at x0 x1 x2 x3 x4 x5 x6 x7 x8 x9 x10 b t, r137 x0 x1 x2 x3 x4 x5 x6 x7 x8 x9 x10 b t]

/-- The gradient of `o`. -/
theorem r152 (k : Fin 512) : val_main_v152 (F := Ideal) x0 x1 x2 x3 x4 x5 x6 x7 x8 x9 x10 (ix3 b t k)
    = doo (argP x4 x5 x6 x7 x8 x9 x10) (argR x0 x1 x2 x3 b.val t.val) k := by
  pointwise [val_main_v152, val_main_v151, val_main_v150, val_main_v149, val_main_v148, val_main_v143, val_main_v142]
  rw [r137 x0 x1 x2 x3 x4 x5 x6 x7 x8 x9 x10 b t, r7 x0 x1 x2 x3 x4 x5 x6 x7 x8 x9 x10 b t, r147 x0 x1 x2 x3 x4 x5 x6 x7 x8 x9 x10 b t, add_assoc, doo, back, o_at x0 x1 x2 x3 x4 x5 x6 x7 x8 x9 x10 b t]

omit b t

theorem r75 (f : Fin 2816) (j : Fin 1024) : val_main_v75 (F := Ideal) x0 x1 x2 x3 x4 x5 x6 x7 x8 x9 x10 (ix2 f j)
    = ∑ b : Fin 2, ∑ t : Fin 2064, act (argP x4 x5 x6 x7 x8 x9 x10) (argR x0 x1 x2 x3 b.val t.val) f * dh2 (argP x4 x5 x6 x7 x8 x9 x10) (argR x0 x1 x2 x3 b.val t.val) j := by
  pointwise [val_main_v75, val_main_v74]
  refine Finset.sum_congr rfl fun b _ => Finset.sum_congr rfl fun t _ => ?_
  rw [r73 x0 x1 x2 x3 x4 x5 x6 x7 x8 x9 x10 b t, r54 x0 x1 x2 x3 x4 x5 x6 x7 x8 x9 x10 b t, mul_comm]

theorem r80 (j : Fin 1024) (f : Fin 2816) : val_main_v80 (F := Ideal) x0 x1 x2 x3 x4 x5 x6 x7 x8 x9 x10 (ix2 j f)
    = ∑ b : Fin 2, ∑ t : Fin 2064, du (argP x4 x5 x6 x7 x8 x9 x10) (argR x0 x1 x2 x3 b.val t.val) f * hn (argP x4 x5 x6 x7 x8 x9 x10) (argR x0 x1 x2 x3 b.val t.val) j := by
  pointwise [val_main_v80, val_main_v79]
  refine Finset.sum_congr rfl fun b _ => Finset.sum_congr rfl fun t _ => ?_
  rw [r77 x0 x1 x2 x3 x4 x5 x6 x7 x8 x9 x10 b t, r50 x0 x1 x2 x3 x4 x5 x6 x7 x8 x9 x10 b t]

theorem r84 (j : Fin 1024) (f : Fin 2816) : val_main_v84 (F := Ideal) x0 x1 x2 x3 x4 x5 x6 x7 x8 x9 x10 (ix2 j f)
    = ∑ b : Fin 2, ∑ t : Fin 2064, dg (argP x4 x5 x6 x7 x8 x9 x10) (argR x0 x1 x2 x3 b.val t.val) f * hn (argP x4 x5 x6 x7 x8 x9 x10) (argR x0 x1 x2 x3 b.val t.val) j := by
  pointwise [val_main_v84, val_main_v83]
  refine Finset.sum_congr rfl fun b _ => Finset.sum_congr rfl fun t _ => ?_
  rw [r82 x0 x1 x2 x3 x4 x5 x6 x7 x8 x9 x10 b t, r50 x0 x1 x2 x3 x4 x5 x6 x7 x8 x9 x10 b t]

theorem r109 (x j : Fin 1024) : val_main_v109 (F := Ideal) x0 x1 x2 x3 x4 x5 x6 x7 x8 x9 x10 (ix2 x j)
    = ∑ b : Fin 2, ∑ t : Fin 2064, mix (argP x4 x5 x6 x7 x8 x9 x10) (argR x0 x1 x2 x3 b.val t.val) x * dh1 (argP x4 x5 x6 x7 x8 x9 x10) (argR x0 x1 x2 x3 b.val t.val) j := by
  pointwise [val_main_v109, val_main_v108]
  refine Finset.sum_congr rfl fun b _ => Finset.sum_congr rfl fun t _ => ?_
  rw [r107 x0 x1 x2 x3 x4 x5 x6 x7 x8 x9 x10 b t, r32 x0 x1 x2 x3 x4 x5 x6 x7 x8 x9 x10 b t, mul_comm]

theorem r87 (b : Fin 2) (t : Fin 2064) (k : Fin 1024) : val_main_v87 (F := Ideal) x0 x1 x2 x3 x4 x5 x6 x7 x8 x9 x10 (ix3 b t k)
    = cln (argP x4 x5 x6 x7 x8 x9 x10) (argR x0 x1 x2 x3 b.val t.val) k := by
  pointwise [val_main_v87]
  rw [r47 x0 x1 x2 x3 x4 x5 x6 x7 x8 x9 x10 b t, r86 x0 x1 x2 x3 x4 x5 x6 x7 x8 x9 x10 b t]
  rfl

theorem r88 (k : Fin 1024) : val_main_v88 (F := Ideal) x0 x1 x2 x3 x4 x5 x6 x7 x8 x9 x10 (ix1 k)
    = ∑ b : Fin 2, ∑ t : Fin 2064, cln (argP x4 x5 x6 x7 x8 x9 x10) (argR x0 x1 x2 x3 b.val t.val) k := by
  pointwise [val_main_v88, val_main_cst_20, val_main_cst_21]
  rw [reduce01, zero_add]
  exact Finset.sum_congr rfl fun b _ => Finset.sum_congr rfl fun t _ => r87 x0 x1 x2 x3 x4 x5 x6 x7 x8 x9 x10 b t k

theorem r89 (k : Fin 1024) : val_main_v89 (F := Ideal) x0 x1 x2 x3 x4 x5 x6 x7 x8 x9 x10 (ix3 0 0 k)
    = ∑ b : Fin 2, ∑ t : Fin 2064, cln (argP x4 x5 x6 x7 x8 x9 x10) (argR x0 x1 x2 x3 b.val t.val) k := by
  pointwise [val_main_v89]
  exact r88 x0 x1 x2 x3 x4 x5 x6 x7 x8 x9 x10 k

theorem r92 (k : Fin 1024) : val_main_v92 (F := Ideal) x0 x1 x2 x3 x4 x5 x6 x7 x8 x9 x10 (ix1 k)
    = ∑ b : Fin 2, ∑ t : Fin 2064, cln (argP x4 x5 x6 x7 x8 x9 x10) (argR x0 x1 x2 x3 b.val t.val) k := by
  pointwise [val_main_v92, val_main_cst_20, val_main_cst_21]
  rw [reduce01, zero_add, Fin.sum_univ_one, Fin.sum_univ_one]
  exact r89 x0 x1 x2 x3 x4 x5 x6 x7 x8 x9 x10 k

theorem r113 (b : Fin 2) (t : Fin 2064) (k : Fin 512) : val_main_v113 (F := Ideal) x0 x1 x2 x3 x4 x5 x6 x7 x8 x9 x10 (ix3 b t k)
    = cgr (argP x4 x5 x6 x7 x8 x9 x10) (argR x0 x1 x2 x3 b.val t.val) k := by
  pointwise [val_main_v113]
  rw [r28 x0 x1 x2 x3 x4 x5 x6 x7 x8 x9 x10 b t, r112 x0 x1 x2 x3 x4 x5 x6 x7 x8 x9 x10 b t]
  rfl

theorem r114 (k : Fin 512) : val_main_v114 (F := Ideal) x0 x1 x2 x3 x4 x5 x6 x7 x8 x9 x10 (ix1 k)
    = ∑ b : Fin 2, ∑ t : Fin 2064, cgr (argP x4 x5 x6 x7 x8 x9 x10) (argR x0 x1 x2 x3 b.val t.val) k := by
  pointwise [val_main_v114, val_main_cst_25, val_main_cst_26]
  rw [reduce01, zero_add]
  exact Finset.sum_congr rfl fun b _ => Finset.sum_congr rfl fun t _ => r113 x0 x1 x2 x3 x4 x5 x6 x7 x8 x9 x10 b t k

theorem r115 (k : Fin 512) : val_main_v115 (F := Ideal) x0 x1 x2 x3 x4 x5 x6 x7 x8 x9 x10 (ix3 0 0 k)
    = ∑ b : Fin 2, ∑ t : Fin 2064, cgr (argP x4 x5 x6 x7 x8 x9 x10) (argR x0 x1 x2 x3 b.val t.val) k := by
  pointwise [val_main_v115]
  exact r114 x0 x1 x2 x3 x4 x5 x6 x7 x8 x9 x10 k

theorem r118 (k : Fin 512) : val_main_v118 (F := Ideal) x0 x1 x2 x3 x4 x5 x6 x7 x8 x9 x10 (ix1 k)
    = ∑ b : Fin 2, ∑ t : Fin 2064, cgr (argP x4 x5 x6 x7 x8 x9 x10) (argR x0 x1 x2 x3 b.val t.val) k := by
  pointwise [val_main_v118, val_main_cst_25, val_main_cst_26]
  rw [reduce01, zero_add, Fin.sum_univ_one, Fin.sum_univ_one]
  exact r115 x0 x1 x2 x3 x4 x5 x6 x7 x8 x9 x10 k

theorem r133 (b : Fin 2) (t : Fin 2064) (k : Fin 512) : val_main_v133 (F := Ideal) x0 x1 x2 x3 x4 x5 x6 x7 x8 x9 x10 (ix3 b t k)
    = cga (argP x4 x5 x6 x7 x8 x9 x10) (argR x0 x1 x2 x3 b.val t.val) k := by
  pointwise [val_main_v133]
  rw [r12 x0 x1 x2 x3 x4 x5 x6 x7 x8 x9 x10 b t, r111 x0 x1 x2 x3 x4 x5 x6 x7 x8 x9 x10 b t]
  rfl

theorem r134 (k : Fin 512) : val_main_v134 (F := Ideal) x0 x1 x2 x3 x4 x5 x6 x7 x8 x9 x10 (ix1 k)
    = ∑ b : Fin 2, ∑ t : Fin 2064, cga (argP x4 x5 x6 x7 x8 x9 x10) (argR x0 x1 x2 x3 b.val t.val) k := by
  pointwise [val_main_v134, val_main_cst_30, val_main_cst_31]
  rw [reduce01, zero_add]
  exact Finset.sum_congr rfl fun b _ => Finset.sum_congr rfl fun t _ => r133 x0 x1 x2 x3 x4 x5 x6 x7 x8 x9 x10 b t k

theorem r135 (k : Fin 512) : val_main_v135 (F := Ideal) x0 x1 x2 x3 x4 x5 x6 x7 x8 x9 x10 (ix3 0 0 k)
    = ∑ b : Fin 2, ∑ t : Fin 2064, cga (argP x4 x5 x6 x7 x8 x9 x10) (argR x0 x1 x2 x3 b.val t.val) k := by
  pointwise [val_main_v135]
  exact r134 x0 x1 x2 x3 x4 x5 x6 x7 x8 x9 x10 k

theorem r138 (k : Fin 512) : val_main_v138 (F := Ideal) x0 x1 x2 x3 x4 x5 x6 x7 x8 x9 x10 (ix1 k)
    = ∑ b : Fin 2, ∑ t : Fin 2064, cga (argP x4 x5 x6 x7 x8 x9 x10) (argR x0 x1 x2 x3 b.val t.val) k := by
  pointwise [val_main_v138, val_main_cst_30, val_main_cst_31]
  rw [reduce01, zero_add, Fin.sum_univ_one, Fin.sum_univ_one]
  exact r135 x0 x1 x2 x3 x4 x5 x6 x7 x8 x9 x10 k

/-- The rows before the 16th add nothing to the loss. -/
theorem sq_rows (b : Fin 2) : ∑ t : Fin 2064, sq (argP x4 x5 x6 x7 x8 x9 x10) (argR x0 x1 x2 x3 b.val t.val) = ∑ t : Fin 2048, sq (argP x4 x5 x6 x7 x8 x9 x10) (argR x0 x1 x2 x3 b.val (16 + t.val)) := by
  rw [Fin.sum_univ_two_halves 16 2048 rfl]
  have e : ∑ k : Fin 16, sq (argP x4 x5 x6 x7 x8 x9 x10) (argR x0 x1 x2 x3 b.val k.val) = 0 :=
    Finset.sum_eq_zero fun k _ => sq_dead _ _ (argR_first _ _ _ _ _ _ k.isLt)
  dsimp only
  rw [e, zero_add]

/-- The loss. -/
theorem r66 : val_main_v66 (F := Ideal) x0 x1 x2 x3 x4 x5 x6 x7 x8 x9 x10 (ix0)
    = (∑ b : Fin 2, ∑ t : Fin 2064, sq (argP x4 x5 x6 x7 x8 x9 x10) (argR x0 x1 x2 x3 b.val t.val)) * i2048 := by
  pointwise [val_main_v66, val_main_v65, val_main_v64, val_main_v63, val_main_v62, val_main_v59, val_main_cst_12, val_main_cst_13, val_main_cst_14, val_main_cst_15]
  have e : ∀ b : Fin 2, ∀ t : Fin 2048, Ideal.div (∑ j : Fin 1024, val_main_v58 (F := Ideal) x0 x1 x2 x3 x4 x5 x6 x7 x8 x9 x10 (ix3 b t j) * val_main_v58 (F := Ideal) x0 x1 x2 x3 x4 x5 x6 x7 x8 x9 x10 (ix3 b t j))
      (Ideal.ofBits FTy.f32 0x44800000#32) = sq (argP x4 x5 x6 x7 x8 x9 x10) (argR x0 x1 x2 x3 b.val (16 + t.val)) * i1024 := fun b t => by
    rw [div1024]
    simp only [r58 x0 x1 x2 x3 x4 x5 x6 x7 x8 x9 x10 b t]
    rfl
  simp only [e, sq_rows x0 x1 x2 x3 x4 x5 x6 x7 x8 x9 x10]
  have e1 : ∀ b : Fin 2, ∑ t : Fin 2048, sq (argP x4 x5 x6 x7 x8 x9 x10) (argR x0 x1 x2 x3 b.val (16 + t.val)) * i1024 = (∑ t : Fin 2048, sq (argP x4 x5 x6 x7 x8 x9 x10) (argR x0 x1 x2 x3 b.val (16 + t.val))) * i1024 := fun b =>
    sum_mul_nonneg _ _ (fun t => row_sq_nonneg _ _) _
  have e2 : ∑ b : Fin 2, (∑ t : Fin 2048, sq (argP x4 x5 x6 x7 x8 x9 x10) (argR x0 x1 x2 x3 b.val (16 + t.val))) * i1024 = (∑ b : Fin 2, ∑ t : Fin 2048, sq (argP x4 x5 x6 x7 x8 x9 x10) (argR x0 x1 x2 x3 b.val (16 + t.val))) * i1024 :=
    sum_mul_nonneg _ _ (fun b => Finset.sum_nonneg fun t _ => row_sq_nonneg _ _) _
  simp only [e1]
  rw [e2, half_i1024]

end Cert.LayerEndVjpIdeal.End

end
-- ==== Proof.EndValue.lean ====
/- The layer end and its reference end with equal results. -/
module

public import proofs.«01_k».proof.Defs
public import proofs.«01_k».proof.Proof.Gen.LayerEndIdeal
public import proofs.«01_k».proof.Proof.Gen.LayerEndVjpIdeal
public import proofs.«01_k».proof.Proof.Gen.LayerEndVjpIdeal.Run
public import proofs.«01_k».proof.Proof.Gen.LayerEndVjpIdeal.Read
public import proofs.«01_k».proof.Proof.EndRun
public import proofs.«01_k».proof.Proof.EndHost
public import proofs.«01_k».proof.Proof.EndRef
public import Idealize.ShloMosaic.Adequacy
public import Idealize.ShloMosaic.Init

@[expose] public section

noncomputable section

namespace Cert.Proof

open Idealize.ShloMosaic Idealize.SL.Sem

set_option maxHeartbeats 2000000 in
/-- The layer end and its reference end with equal results, whatever the arguments. -/
theorem value_end : letI := Cert.LayerEndIdeal.Gen.facts; letI := Cert.LayerEndVjpIdeal.Gen.facts
    algebraic_LayerEndIdeal_LayerEndVjpIdeal := by
  intro m g m' g' _ hag
  refine ⟨_, _, _, _, _, _, _, _, _, _, _, Cert.LayerEndIdeal.End.run m g,
    (θ_run Cert.LayerEndVjpIdeal.defs _ _).mono (fun _ h c => ?_) (Cert.LayerEndVjpIdeal.Value.run m' g')⟩
  obtain ⟨h0, h1, h2, h3, h4, h5, h6, h7, h8, h9, h10, rest⟩ := h c
  obtain ⟨a0, a1, a2, a3, a4, a5, a6, a7, a8, a9, a10⟩ := hag c
  replace a0 := (StableHlo.launchContents_devRef m' c Cert.LayerEndVjpIdeal.main_arg0).trans a0
  replace a1 := (StableHlo.launchContents_devRef m' c Cert.LayerEndVjpIdeal.main_arg1).trans a1
  replace a2 := (StableHlo.launchContents_devRef m' c Cert.LayerEndVjpIdeal.main_arg2).trans a2
  replace a3 := (StableHlo.launchContents_devRef m' c Cert.LayerEndVjpIdeal.main_arg3).trans a3
  replace a4 := (StableHlo.launchContents_devRef m' c Cert.LayerEndVjpIdeal.main_arg4).trans a4
  replace a5 := (StableHlo.launchContents_devRef m' c Cert.LayerEndVjpIdeal.main_arg5).trans a5
  replace a6 := (StableHlo.launchContents_devRef m' c Cert.LayerEndVjpIdeal.main_arg6).trans a6
  replace a7 := (StableHlo.launchContents_devRef m' c Cert.LayerEndVjpIdeal.main_arg7).trans a7
  replace a8 := (StableHlo.launchContents_devRef m' c Cert.LayerEndVjpIdeal.main_arg8).trans a8
  replace a9 := (StableHlo.launchContents_devRef m' c Cert.LayerEndVjpIdeal.main_arg9).trans a9
  replace a10 := (StableHlo.launchContents_devRef m' c Cert.LayerEndVjpIdeal.main_arg10).trans a10
  refine ⟨?_, ?_, ?_, ?_, ?_, ?_, ?_, ?_, ?_, ?_, ?_, rest⟩
  · rw [h0, Cert.LayerEndVjpIdeal.Read.val_main_v66_eq, a0, a1, a2, a3, a4, a5, a6, a7, a8, a9, a10]
    funext i
    rw [show i = ValueIdx.ix0 from funext fun a => a.elim0]
    exact (Cert.LayerEndVjpIdeal.End.r66 _ _ _ _ _ _ _ _ _ _ _).trans (Cert.LayerEndIdeal.End.res_v22 m g c).symm
  · rw [h1, Cert.LayerEndVjpIdeal.Read.val_main_v107_eq, a0, a1, a2, a3, a4, a5, a6, a7, a8, a9, a10]
    funext i
    obtain ⟨b, t, j, rfl⟩ : ∃ (b : Fin 2) (t : Fin 2064) (j : Fin 1024), i = ix3 b t j := ⟨i 0, i 1, i 2, by funext a; fin_cases a <;> rfl⟩
    exact (Cert.LayerEndVjpIdeal.End.r107 _ _ _ _ _ _ _ _ _ _ _ b t j).trans (Cert.LayerEndIdeal.End.res_v24 m g c b t j).symm
  · rw [h2, Cert.LayerEndVjpIdeal.Read.val_main_v152_eq, a0, a1, a2, a3, a4, a5, a6, a7, a8, a9, a10]
    funext i
    obtain ⟨b, t, j, rfl⟩ : ∃ (b : Fin 2) (t : Fin 2064) (j : Fin 512), i = ix3 b t j := ⟨i 0, i 1, i 2, by funext a; fin_cases a <;> rfl⟩
    exact (Cert.LayerEndVjpIdeal.End.r152 _ _ _ _ _ _ _ _ _ _ _ b t j).trans (Cert.LayerEndIdeal.End.res_v26 m g c b t j).symm
  · rw [h3, Cert.LayerEndVjpIdeal.Read.val_main_v132_eq, a0, a1, a2, a3, a4, a5, a6, a7, a8, a9, a10]
    funext i
    obtain ⟨b, t, j, rfl⟩ : ∃ (b : Fin 2) (t : Fin 2064) (j : Fin 512), i = ix3 b t j := ⟨i 0, i 1, i 2, by funext a; fin_cases a <;> rfl⟩
    exact (Cert.LayerEndVjpIdeal.End.r132 _ _ _ _ _ _ _ _ _ _ _ b t j).trans (Cert.LayerEndIdeal.End.res_v28 m g c b t j).symm
  · rw [h4, Cert.LayerEndVjpIdeal.Read.val_main_v138_eq, a0, a1, a2, a3, a4, a5, a6, a7, a8, a9, a10]
    funext i
    obtain ⟨j, rfl⟩ : ∃ j : Fin 512, i = ix1 j := ⟨i 0, by funext a; fin_cases a; rfl⟩
    exact (Cert.LayerEndVjpIdeal.End.r138 _ _ _ _ _ _ _ _ _ _ _ j).trans (Cert.LayerEndIdeal.End.res_v29 m g c j).symm
  · rw [h5, Cert.LayerEndVjpIdeal.Read.val_main_v118_eq, a0, a1, a2, a3, a4, a5, a6, a7, a8, a9, a10]
    funext i
    obtain ⟨j, rfl⟩ : ∃ j : Fin 512, i = ix1 j := ⟨i 0, by funext a; fin_cases a; rfl⟩
    exact (Cert.LayerEndVjpIdeal.End.r118 _ _ _ _ _ _ _ _ _ _ _ j).trans (Cert.LayerEndIdeal.End.res_v30 m g c j).symm
  · rw [h6, Cert.LayerEndVjpIdeal.Read.val_main_v109_eq, a0, a1, a2, a3, a4, a5, a6, a7, a8, a9, a10]
    funext i
    obtain ⟨x, j, rfl⟩ : ∃ (x : Fin 1024) (j : Fin 1024), i = ix2 x j := ⟨i 0, i 1, by funext a; fin_cases a <;> rfl⟩
    exact (Cert.LayerEndVjpIdeal.End.r109 _ _ _ _ _ _ _ _ _ _ _ x j).trans (Cert.LayerEndIdeal.End.res_v18 m g c x j).symm
  · rw [h7, Cert.LayerEndVjpIdeal.Read.val_main_v92_eq, a0, a1, a2, a3, a4, a5, a6, a7, a8, a9, a10]
    funext i
    obtain ⟨j, rfl⟩ : ∃ j : Fin 1024, i = ix1 j := ⟨i 0, by funext a; fin_cases a; rfl⟩
    exact (Cert.LayerEndVjpIdeal.End.r92 _ _ _ _ _ _ _ _ _ _ _ j).trans (Cert.LayerEndIdeal.End.res_v31 m g c j).symm
  · rw [h8, Cert.LayerEndVjpIdeal.Read.val_main_v84_eq, a0, a1, a2, a3, a4, a5, a6, a7, a8, a9, a10]
    funext i
    obtain ⟨x, j, rfl⟩ : ∃ (x : Fin 1024) (j : Fin 2816), i = ix2 x j := ⟨i 0, i 1, by funext a; fin_cases a <;> rfl⟩
    exact (Cert.LayerEndVjpIdeal.End.r84 _ _ _ _ _ _ _ _ _ _ _ x j).trans (Cert.LayerEndIdeal.End.res_v32 m g c x j).symm
  · rw [h9, Cert.LayerEndVjpIdeal.Read.val_main_v80_eq, a0, a1, a2, a3, a4, a5, a6, a7, a8, a9, a10]
    funext i
    obtain ⟨x, j, rfl⟩ : ∃ (x : Fin 1024) (j : Fin 2816), i = ix2 x j := ⟨i 0, i 1, by funext a; fin_cases a <;> rfl⟩
    exact (Cert.LayerEndVjpIdeal.End.r80 _ _ _ _ _ _ _ _ _ _ _ x j).trans (Cert.LayerEndIdeal.End.res_v33 m g c x j).symm
  · rw [h10, Cert.LayerEndVjpIdeal.Read.val_main_v75_eq, a0, a1, a2, a3, a4, a5, a6, a7, a8, a9, a10]
    funext i
    obtain ⟨x, j, rfl⟩ : ∃ (x : Fin 2816) (j : Fin 1024), i = ix2 x j := ⟨i 0, i 1, by funext a; fin_cases a <;> rfl⟩
    exact (Cert.LayerEndVjpIdeal.End.r75 _ _ _ _ _ _ _ _ _ _ _ x j).trans (Cert.LayerEndIdeal.End.res_v21 m g c x j).symm

end Cert.Proof

end
-- ==== Proof.ProjRun.lean ====
module

public import proofs.«01_k».proof.Proof.Gen.ProjectionsIdeal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The run of the projections' program, with every array at the end kept -/

@[expose] public section

set_option maxRecDepth 16384

noncomputable section

namespace Cert.ProjectionsIdeal.Proj

open Cert.ProjectionsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the calls' own ends at the last boundary's contents, and no semaphore counter is left above
    zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The three results, as the last boundary's contents, with the arguments as launched. -/
theorem run : θ_run defs (onTc (τ := τ) (main (F := F))) ⟨m, fun _ => 0, ρ⟩ (fun r => ∀ c : Dev nD,
      r.2.mem ((c.tc : Thread nD τ).loc main_v40) = W5 m ρ c (Proc.devRef .tc main_v40)
      ∧ r.2.mem ((c.tc : Thread nD τ).loc main_v41) = W5 m ρ c (Proc.devRef .tc main_v41)
      ∧ r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h.1 c _ (mem_uc main_v40 (by decide)),
     h.1 c _ (mem_uc main_v41 (by decide)),
     h.1 c _ (mem_uc main_v42 (by decide)),
     (h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c),
     (h.1 c _ (mem_uc main_arg4 (by decide))).trans (W5_main_arg4 m ρ c),
     (h.1 c _ (mem_uc main_arg5 (by decide))).trans (W5_main_arg5 m ρ c),
     (h.1 c _ (mem_uc main_arg6 (by decide))).trans (W5_main_arg6 m ρ c)⟩) (run_all m ρ)

end Cert.ProjectionsIdeal.Proj

end
-- ==== Proof.ProjArrays.lean ====
module

public import proofs.«01_k».proof.Proof.Gen.ProjectionsIdeal.Frame
public import proofs.«01_k».proof.Proof.EndArgs
public import Idealize.ShloMosaic.Lib.Pipeline.ValueKit
public import Idealize.ShloMosaic.Lib.Pointwise

/-! # The calls of the projections' weight gradients: each output as the product, over all rows, of its two input arrays -/

@[expose] public section

set_option maxRecDepth 16384

noncomputable section

namespace Cert.ProjectionsIdeal.Proj

open Idealize.ShloMosaic Cert.ProjectionsIdeal Cert.ProjectionsIdeal.Gen
open Idealize.ShloMosaic.TcCoe

/-- The product of two arrays over their rows, at a pair of columns. -/
def gram {R K J : ℕ} (a : (⟨2, ![R, K]⟩ : Shape).Idx → EReal) (b : (⟨2, ![R, J]⟩ : Shape).Idx → EReal) (x : Fin K) (j : Fin J) : EReal :=
  ∑ r : Fin R, a (ix2 r x) * b (ix2 r j)

/-- The products of the two blocks of rows add up to the product over all rows. -/
theorem gram_blocks {k K n N : ℕ} (a : Fin 2 → (⟨2, ![2176, k]⟩ : Shape).Idx → EReal) (b : Fin 2 → (⟨2, ![2176, n]⟩ : Shape).Idx → EReal)
    (A : (⟨2, ![4352, K]⟩ : Shape).Idx → EReal) (B : (⟨2, ![4352, N]⟩ : Shape).Idx → EReal) (x : Fin k) (j : Fin n) (X : Fin K) (J : Fin N)
    (ha : ∀ (s : Fin 2) (r : Fin 2176) (R : Fin 4352), s.val * 2176 + r.val = R.val → a s (ix2 r x) = A (ix2 R X))
    (hb : ∀ (s : Fin 2) (r : Fin 2176) (R : Fin 4352), s.val * 2176 + r.val = R.val → b s (ix2 r j) = B (ix2 R J)) :
    0 + ∑ s : Fin 2, gram (a s) (b s) x j = gram A B X J := by
  rw [zero_add]
  unfold gram
  exact Fin.sum_mul_add_congr (S := 2) (n := 2176) fun s r hl => congrArg₂ (fun p q : EReal => p * q) (ha s r _ rfl) (hb s r _ rfl)

theorem ix2_eta {a b : ℕ} (y : (⟨2, ![a, b]⟩ : Shape).Idx) : ∃ (x : Fin a) (j : Fin b), y = ix2 x j :=
  ⟨y 0, y 1, by funext a; fin_cases a <;> rfl⟩

variable (V : (c : Dev nD) → (b : Ref sig .tc) → Buf (Elt Ideal) ((c : Thread nD τ).loc b)) (c : Dev nD)

/-! ## The gradient of w_in -/

theorem idx0 (t : Fin grid0.N) : win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0]) t

theorem blk0_0 (t : Fin cfg0.N) (r : Fin 2176) (x : Fin 896) (R : Fin 4352) (X : Fin 1792) (hR : t.val % 2 * 2176 + r.val = R.val)
    (hX : t.val / 2 * 896 + x.val = X.val) : iblk0 V c 0 t (ix2 r x) = V c main_v8 (ix2 R X) := by
  obtain ⟨R, hR'⟩ := R
  obtain ⟨X, hX'⟩ := X
  dsimp only at hR hX
  subst hR hX
  blk_ext [iblk0, idx0]

theorem blk0_1 (t : Fin cfg0.N) (r : Fin 2176) (j : Fin 1024) (R : Fin 4352) (J : Fin 1024) (hR : t.val % 2 * 2176 + r.val = R.val)
    (hJ : j.val = J.val) : iblk0 V c 1 t (ix2 r j) = V c main_v11 (ix2 R J) := by
  obtain ⟨R, hR'⟩ := R
  obtain rfl := Fin.ext hJ
  dsimp only at hR
  subst hR
  blk_ext [iblk0, idx0]

theorem pay0 (o : Vec Ideal S896x1024 .f32) (a : Vec Ideal S2176x896 .bf16) (b : Vec Ideal S2176x1024 .bf16) (x : Fin 896) (j : Fin 1024) :
    k0_pay2 (F := Ideal) o a b (ix2 x j) = o (ix2 x j) + gram a b x j := by
  unfold gram
  pointwise [k0_pay2]

theorem outA0 (t : Fin cfg0.N) (h : t.val % 2 = 0) :
    outsAt0 V c t.val t.isLt = k0_pay2 (F := Ideal) (k0_pay1 (F := Ideal)) (iblk0 V c 0 t) (iblk0 V c 1 t) := by
  rw [outsAt0_A V c t h]
  frame_out

theorem outB0 (t : Fin cfg0.N) (h : ¬t.val % 2 = 0) : outsAt0 V c t.val t.isLt = k0_pay2 (F := Ideal)
    (outsAt0 V c (t.val - 1) (Nat.lt_of_le_of_lt (Nat.sub_le _ _) t.isLt)) (iblk0 V c 0 t) (iblk0 V c 1 t) := by
  rw [outsAt0_B V c t h]
  frame_out

theorem acc0 (t : Fin cfg0.N) (ht : t.val % 2 = 2 - 1) (x : Fin 896) (j : Fin 1024) :
    outsAt0 V c t.val t.isLt (ix2 x j) = 0 + ∑ s : Fin 2,
      gram (iblk0 V c 0 ⟨2 * (t.val / 2) + s.val, Pipeline.run_point_lt_of_flush t ht s⟩)
        (iblk0 V c 1 ⟨2 * (t.val / 2) + s.val, Pipeline.run_point_lt_of_flush t ht s⟩) x j := by
  refine Pipeline.eq_sum_fin_of_reset_step_apply_of_flush (fun n h => outsAt0 V c n h) 2 (fun _ => 0)
    (fun p y => gram (iblk0 V c 0 p) (iblk0 V c 1 p) (y 0) (y 1)) (fun t h y => ?_) (fun t h y => ?_) t ht (ix2 x j)
  · obtain ⟨x, j, rfl⟩ := ix2_eta y
    rw [outA0 V c t h]
    refine (pay0 _ _ _ x j).trans (congrArg (· + _) ?_)
    pointwise [k0_pay1]
  · obtain ⟨x, j, rfl⟩ := ix2_eta y
    rw [outB0 V c t h]
    exact pay0 _ _ _ x j

theorem wgrad0 (x : Fin 1792) (j : Fin 1024) :
    (dat0 V c).arrAt 2 cfg0.N (ix2 x j) = gram (V c main_v8) (V c main_v11) x j := by
  have h : (dat0 V c).arrAt 2 cfg0.N = fun y : S1792x1024.Idx => gram (V c main_v8) (V c main_v11) (y 0) (y 1) := by
    refine (dat0 V c).arrAt_eq_of_covers 2 _ (by decide +kernel) fun t hf y => ?_
    have ht : t.val % 2 = 2 - 1 := (flush0_2 t).mp hf
    obtain ⟨x, j, rfl⟩ := ix2_eta y
    blk_simp [idx0]
    rw [after0_2]
    have hd : ∀ s : Fin 2, (2 * (t.val / 2) + s.val) / 2 = t.val / 2 := fun s => by omega
    refine (acc0 V c t ht x j).trans (gram_blocks _ _ _ _ x j _ _ (fun s r R hR => blk0_0 V c _ r x _ _ ?_ ?_) (fun s r R hR => blk0_1 V c _ r j _ _ ?_ ?_))
    · dsimp only; omega
    · dsimp only; rw [hd s]; blk_simp [idx0]
    · dsimp only; omega
    · blk_simp [idx0]
  rw [h]
  rfl

/-! ## The gradients of w_uq and w_ukv -/

theorem idx1 (t : Fin grid1.N) : win1_0.index t = ![t.val, 0] ∧ win1_1.index t = ![t.val, 0] ∧ win1_2.index t = ![t.val, 0]
    ∧ win1_3.index t = ![t.val, 0] ∧ win1_4.index t = ![t.val, 0] ∧ win1_5.index t = ![0, 0] ∧ win1_6.index t = ![0, 0] ∧ win1_7.index t = ![0, 0] :=
  (by decide +kernel : ∀ t : Fin grid1.N, win1_0.index t = ![t.val, 0] ∧ win1_1.index t = ![t.val, 0] ∧ win1_2.index t = ![t.val, 0]
    ∧ win1_3.index t = ![t.val, 0] ∧ win1_4.index t = ![t.val, 0] ∧ win1_5.index t = ![0, 0] ∧ win1_6.index t = ![0, 0] ∧ win1_7.index t = ![0, 0]) t

theorem blk1_0 (t : Fin cfg1.N) (r : Fin 2176) (x : Fin 1024) (R : Fin 4352) (hR : t.val * 2176 + r.val = R.val) :
    iblk1 V c 0 t (ix2 r x) = V c main_v15 (ix2 R x) := by
  obtain ⟨R, hR'⟩ := R; dsimp only at hR; subst hR
  blk_ext [iblk1, idx1]

theorem blk1_1 (t : Fin cfg1.N) (r : Fin 2176) (x : Fin 1024) (R : Fin 4352) (hR : t.val * 2176 + r.val = R.val) :
    iblk1 V c 1 t (ix2 r x) = V c main_v18 (ix2 R x) := by
  obtain ⟨R, hR'⟩ := R; dsimp only at hR; subst hR
  blk_ext [iblk1, idx1]

theorem blk1_2 (t : Fin cfg1.N) (r : Fin 2176) (x : Fin 512) (R : Fin 4352) (hR : t.val * 2176 + r.val = R.val) :
    iblk1 V c 2 t (ix2 r x) = V c main_v20 (ix2 R x) := by
  obtain ⟨R, hR'⟩ := R; dsimp only at hR; subst hR
  blk_ext [iblk1, idx1]

theorem blk1_3 (t : Fin cfg1.N) (r : Fin 2176) (x : Fin 384) (R : Fin 4352) (hR : t.val * 2176 + r.val = R.val) :
    iblk1 V c 3 t (ix2 r x) = V c main_v23 (ix2 R x) := by
  obtain ⟨R, hR'⟩ := R; dsimp only at hR; subst hR
  blk_ext [iblk1, idx1]

theorem blk1_4 (t : Fin cfg1.N) (r : Fin 2176) (x : Fin 256) (R : Fin 4352) (hR : t.val * 2176 + r.val = R.val) :
    iblk1 V c 4 t (ix2 r x) = V c main_v26 (ix2 R x) := by
  obtain ⟨R, hR'⟩ := R; dsimp only at hR; subst hR
  blk_ext [iblk1, idx1]

theorem pay5 (o : Vec Ideal S1024x384 .f32) (a : Vec Ideal S2176x1024 .bf16) (b : Vec Ideal S2176x384 .bf16) (x : Fin 1024) (j : Fin 384) :
    k1_pay5 (F := Ideal) o a b (ix2 x j) = o (ix2 x j) + gram a b x j := by
  unfold gram
  pointwise [k1_pay5]

theorem pay6 (o : Vec Ideal S1024x256 .f32) (a : Vec Ideal S2176x1024 .bf16) (b : Vec Ideal S2176x256 .bf16) (x : Fin 1024) (j : Fin 256) :
    k1_pay6 (F := Ideal) b o a (ix2 x j) = o (ix2 x j) + gram a b x j := by
  unfold gram
  pointwise [k1_pay6, k1_pay4]

theorem pay7 (o : Vec Ideal S512x256 .f32) (a : Vec Ideal S2176x512 .f32) (b : Vec Ideal S2176x256 .bf16) (x : Fin 512) (j : Fin 256) :
    k1_pay7 (F := Ideal) b o a (ix2 x j) = o (ix2 x j) + gram a b x j := by
  unfold gram
  pointwise [k1_pay7, k1_pay4]

theorem outA1 (t : Fin cfg1.N) (h : t.val % 2 = 0) : outsAt1 V c t.val t.isLt
    = (k1_pay5 (F := Ideal) (k1_pay1 (F := Ideal)) (iblk1 V c 0 t) (iblk1 V c 3 t), k1_pay6 (F := Ideal) (iblk1 V c 4 t) (k1_pay2 (F := Ideal)) (iblk1 V c 1 t),
      k1_pay7 (F := Ideal) (iblk1 V c 4 t) (k1_pay3 (F := Ideal)) (iblk1 V c 2 t)) := by
  rw [outsAt1_A V c t h]
  refine Prod.ext ?_ (Prod.ext ?_ ?_) <;> frame_out

theorem outB1 (t : Fin cfg1.N) (h : ¬t.val % 2 = 0) : outsAt1 V c t.val t.isLt
    = (k1_pay5 (F := Ideal) (outsAt1 V c (t.val - 1) (Nat.lt_of_le_of_lt (Nat.sub_le _ _) t.isLt)).1 (iblk1 V c 0 t) (iblk1 V c 3 t),
      k1_pay6 (F := Ideal) (iblk1 V c 4 t) (outsAt1 V c (t.val - 1) (Nat.lt_of_le_of_lt (Nat.sub_le _ _) t.isLt)).2.1 (iblk1 V c 1 t),
      k1_pay7 (F := Ideal) (iblk1 V c 4 t) (outsAt1 V c (t.val - 1) (Nat.lt_of_le_of_lt (Nat.sub_le _ _) t.isLt)).2.2 (iblk1 V c 2 t)) := by
  rw [outsAt1_B V c t h]
  refine Prod.ext ?_ (Prod.ext ?_ ?_) <;> frame_out

theorem acc5 (t : Fin cfg1.N) (ht : t.val % 2 = 2 - 1) (x : Fin 1024) (j : Fin 384) :
    (outsAt1 V c t.val t.isLt).1 (ix2 x j) = 0 + ∑ s : Fin 2,
      gram (iblk1 V c 0 ⟨2 * (t.val / 2) + s.val, Pipeline.run_point_lt_of_flush t ht s⟩)
        (iblk1 V c 3 ⟨2 * (t.val / 2) + s.val, Pipeline.run_point_lt_of_flush t ht s⟩) x j := by
  refine Pipeline.eq_sum_fin_of_reset_step_apply_of_flush (fun n h => (outsAt1 V c n h).1) 2 (fun _ => 0)
    (fun p y => gram (iblk1 V c 0 p) (iblk1 V c 3 p) (y 0) (y 1)) (fun t h y => ?_) (fun t h y => ?_) t ht (ix2 x j)
  · obtain ⟨x, j, rfl⟩ := ix2_eta y
    rw [outA1 V c t h]
    refine (pay5 _ _ _ x j).trans (congrArg (· + _) ?_)
    pointwise [k1_pay1]
  · obtain ⟨x, j, rfl⟩ := ix2_eta y
    rw [outB1 V c t h]
    exact pay5 _ _ _ x j

theorem acc6 (t : Fin cfg1.N) (ht : t.val % 2 = 2 - 1) (x : Fin 1024) (j : Fin 256) :
    (outsAt1 V c t.val t.isLt).2.1 (ix2 x j) = 0 + ∑ s : Fin 2,
      gram (iblk1 V c 1 ⟨2 * (t.val / 2) + s.val, Pipeline.run_point_lt_of_flush t ht s⟩)
        (iblk1 V c 4 ⟨2 * (t.val / 2) + s.val, Pipeline.run_point_lt_of_flush t ht s⟩) x j := by
  refine Pipeline.eq_sum_fin_of_reset_step_apply_of_flush (fun n h => (outsAt1 V c n h).2.1) 2 (fun _ => 0)
    (fun p y => gram (iblk1 V c 1 p) (iblk1 V c 4 p) (y 0) (y 1)) (fun t h y => ?_) (fun t h y => ?_) t ht (ix2 x j)
  · obtain ⟨x, j, rfl⟩ := ix2_eta y
    rw [outA1 V c t h]
    refine (pay6 _ _ _ x j).trans (congrArg (· + _) ?_)
    pointwise [k1_pay2]
  · obtain ⟨x, j, rfl⟩ := ix2_eta y
    rw [outB1 V c t h]
    exact pay6 _ _ _ x j

theorem acc7 (t : Fin cfg1.N) (ht : t.val % 2 = 2 - 1) (x : Fin 512) (j : Fin 256) :
    (outsAt1 V c t.val t.isLt).2.2 (ix2 x j) = 0 + ∑ s : Fin 2,
      gram (iblk1 V c 2 ⟨2 * (t.val / 2) + s.val, Pipeline.run_point_lt_of_flush t ht s⟩)
        (iblk1 V c 4 ⟨2 * (t.val / 2) + s.val, Pipeline.run_point_lt_of_flush t ht s⟩) x j := by
  refine Pipeline.eq_sum_fin_of_reset_step_apply_of_flush (fun n h => (outsAt1 V c n h).2.2) 2 (fun _ => 0)
    (fun p y => gram (iblk1 V c 2 p) (iblk1 V c 4 p) (y 0) (y 1)) (fun t h y => ?_) (fun t h y => ?_) t ht (ix2 x j)
  · obtain ⟨x, j, rfl⟩ := ix2_eta y
    rw [outA1 V c t h]
    refine (pay7 _ _ _ x j).trans (congrArg (· + _) ?_)
    pointwise [k1_pay3]
  · obtain ⟨x, j, rfl⟩ := ix2_eta y
    rw [outB1 V c t h]
    exact pay7 _ _ _ x j

theorem point_of (t : Fin cfg1.N) (s : Fin 2) : 2 * (t.val / 2) + s.val = s.val := by
  have := lt_of_lt_of_eq t.isLt N_1
  omega

theorem wgrad5 (x : Fin 1024) (j : Fin 384) : (dat1 V c).arrAt 5 cfg1.N (ix2 x j) = gram (V c main_v15) (V c main_v23) x j := by
  have h : (dat1 V c).arrAt 5 cfg1.N = fun y : S1024x384.Idx => gram (V c main_v15) (V c main_v23) (y 0) (y 1) := by
    refine (dat1 V c).arrAt_eq_of_covers 5 _ (by decide +kernel) fun t hf y => ?_
    have ht : t.val % 2 = 2 - 1 := (flush1_5 t).mp hf
    obtain ⟨x, j, rfl⟩ := ix2_eta y
    blk_simp [idx1]
    rw [after1_5]
    refine (acc5 V c t ht x j).trans ((gram_blocks _ _ _ _ x j x j (fun s r R hR => blk1_0 V c _ r x _ ?_) (fun s r R hR => blk1_3 V c _ r j _ ?_)).trans (congrArg₂ (gram _ _) (Fin.ext ?_) (Fin.ext ?_)))
    · dsimp only; rw [point_of t s, hR]
    · dsimp only; rw [point_of t s, hR]
    · blk_simp [idx1]
    · blk_simp [idx1]
  rw [h]
  rfl

theorem wgrad6 (x : Fin 1024) (j : Fin 256) : (dat1 V c).arrAt 6 cfg1.N (ix2 x j) = gram (V c main_v18) (V c main_v26) x j := by
  have h : (dat1 V c).arrAt 6 cfg1.N = fun y : S1024x256.Idx => gram (V c main_v18) (V c main_v26) (y 0) (y 1) := by
    refine (dat1 V c).arrAt_eq_of_covers 6 _ (by decide +kernel) fun t hf y => ?_
    have ht : t.val % 2 = 2 - 1 := (flush1_6 t).mp hf
    obtain ⟨x, j, rfl⟩ := ix2_eta y
    blk_simp [idx1]
    rw [after1_6]
    refine (acc6 V c t ht x j).trans ((gram_blocks _ _ _ _ x j x j (fun s r R hR => blk1_1 V c _ r x _ ?_) (fun s r R hR => blk1_4 V c _ r j _ ?_)).trans (congrArg₂ (gram _ _) (Fin.ext ?_) (Fin.ext ?_)))
    · dsimp only; rw [point_of t s, hR]
    · dsimp only; rw [point_of t s, hR]
    · blk_simp [idx1]
    · blk_simp [idx1]
  rw [h]
  rfl

theorem wgrad7 (x : Fin 512) (j : Fin 256) : (dat1 V c).arrAt 7 cfg1.N (ix2 x j) = gram (V c main_v20) (V c main_v26) x j := by
  have h : (dat1 V c).arrAt 7 cfg1.N = fun y : S512x256.Idx => gram (V c main_v20) (V c main_v26) (y 0) (y 1) := by
    refine (dat1 V c).arrAt_eq_of_covers 7 _ (by decide +kernel) fun t hf y => ?_
    have ht : t.val % 2 = 2 - 1 := (flush1_7 t).mp hf
    obtain ⟨x, j, rfl⟩ := ix2_eta y
    blk_simp [idx1]
    rw [after1_7]
    refine (acc7 V c t ht x j).trans ((gram_blocks _ _ _ _ x j x j (fun s r R hR => blk1_2 V c _ r x _ ?_) (fun s r R hR => blk1_4 V c _ r j _ ?_)).trans (congrArg₂ (gram _ _) (Fin.ext ?_) (Fin.ext ?_)))
    · dsimp only; rw [point_of t s, hR]
    · dsimp only; rw [point_of t s, hR]
    · blk_simp [idx1]
    · blk_simp [idx1]
  rw [h]
  rfl

end Cert.ProjectionsIdeal.Proj

end
-- ==== Proof.ProjHost.lean ====
module

public import proofs.«01_k».proof.Proof.ProjArrays
public import Idealize.ShloMosaic.Lib.StableHlo.ReadAt

/-! # What the projections' program computes from its arguments: the padding, the calls, the slices -/

@[expose] public section

set_option maxRecDepth 16384

noncomputable section

namespace Cert.ProjectionsIdeal.Proj

open Idealize.ShloMosaic Cert.ProjectionsIdeal Cert.ProjectionsIdeal.Gen Cert.End
open Idealize.ShloMosaic.TcCoe

variable (m : (ℓ : Loc nD τ sig) → Buf (Elt Ideal) ℓ) (ρ : Dev nD → PrngReg) (c : Dev nD)

/-- Row `t` of sequence `b` of an array: zero beyond the sequence. -/
def row3 {n : ℕ} (x : T3 2 2064 n) (b t : ℕ) (j : Fin n) : EReal := if h : b < 2 ∧ t < 2064 then x (ix3 ⟨b, h.1⟩ ⟨t, h.2⟩ j) else 0

/-- The same for an array over heads. -/
def row4 {n : ℕ} (x : (⟨4, ![2, 2064, 8, n]⟩ : Shape).Idx → EReal) (b t : ℕ) (h : Fin 8) (j : Fin n) : EReal :=
  if g : b < 2 ∧ t < 2064 then x (ix4 ⟨b, g.1⟩ ⟨t, g.2⟩ h j) else 0

theorem rd_v11 (r : Fin 4352) (k : Fin 1024) : V1 m ρ c main_v11 (ix2 r k) = row3 (m ((c : Thread nD τ).loc main_arg0)) (r.val / 2176) (r.val % 2176) k := by
  unfold V1 W1 hostOps0
  after_reads_at
  rfl

/-- Where the call finds a column of the input projection: 64 lanes of padding before the rotary key, 32 after. -/
def col (j : Fin 1696) : Fin 1792 := ⟨if j.val < 640 then j.val else if j.val < 672 then j.val + 64 else j.val + 96, by split_ifs <;> omega⟩

theorem col_val (j : Fin 1696) : (j.val < 640 ∧ (col j).val = j.val) ∨ (640 ≤ j.val ∧ j.val < 672 ∧ (col j).val = j.val + 64)
    ∨ (672 ≤ j.val ∧ (col j).val = j.val + 96) := by
  unfold col
  dsimp only
  split_ifs <;> omega

set_option maxHeartbeats 2000000 in
theorem rd_v8 (r : Fin 4352) (j : Fin 1696) : V1 m ρ c main_v8 (ix2 r (col j)) = row3 (m ((c : Thread nD τ).loc main_arg3)) (r.val / 2176) (r.val % 2176) j := by
  have hc := col_val j
  have hj := j.isLt
  unfold V1 W1 hostOps0 row3
  after_reads_at
  split_ifs
  all_goals first
    | (exfalso; omega)
    | (after_reads_at; exact congrArg (fun k => m ((c : Thread nD τ).loc main_arg3) (ix3 _ _ k)) (Fin.ext (by show _ = j.val; dsimp only; omega)))
    | rfl

theorem arg (r : Ref sig .tc) (h : r ∈ argRefs) : W2 m ρ c (Proc.devRef .tc r) = m ((c : Thread nD τ).loc r) := W2_args m ρ c r h

theorem rd_v23 (r : Fin 4352) (k : Fin 384) : V3 m ρ c main_v23 (ix2 r k) = row3 (m ((c : Thread nD τ).loc main_arg1)) (r.val / 2176) (r.val % 2176) k := by
  rw [← arg m ρ c main_arg1 (by decide)]
  unfold V3 W3 hostOps1
  after_reads_at
  rfl

theorem rd_v26 (r : Fin 4352) (k : Fin 256) : V3 m ρ c main_v26 (ix2 r k) = row3 (m ((c : Thread nD τ).loc main_arg2)) (r.val / 2176) (r.val % 2176) k := by
  rw [← arg m ρ c main_arg2 (by decide)]
  unfold V3 W3 hostOps1
  after_reads_at
  rfl

set_option maxHeartbeats 2000000 in
theorem rd_v15 (r : Fin 4352) (h : Fin 8) (l : Fin 96) : V3 m ρ c main_v15 (ix2 r ⟨h.val * 128 + l.val, by omega⟩)
    = row4 (m ((c : Thread nD τ).loc main_arg4)) (r.val / 2176) (r.val % 2176) h l := by
  rw [← arg m ρ c main_arg4 (by decide)]
  unfold V3 W3 hostOps1 row4
  after_reads_at
  split_ifs
  all_goals first
    | (exfalso; omega)
    | exact congrArg₂ (fun h l => W2 m ρ c (Proc.devRef .tc main_arg4) (ix4 _ _ h l)) (Fin.ext (by dsimp only; omega)) (Fin.ext (by dsimp only; omega))
    | rfl

set_option maxHeartbeats 2000000 in
theorem rd_v18 (r : Fin 4352) (h : Fin 8) (l : Fin 64) : V3 m ρ c main_v18 (ix2 r ⟨h.val * 128 + l.val, by omega⟩)
    = row4 (m ((c : Thread nD τ).loc main_arg5)) (r.val / 2176) (r.val % 2176) h l := by
  rw [← arg m ρ c main_arg5 (by decide)]
  unfold V3 W3 hostOps1 row4
  after_reads_at
  split_ifs
  all_goals first
    | (exfalso; omega)
    | exact congrArg₂ (fun h l => W2 m ρ c (Proc.devRef .tc main_arg5) (ix4 _ _ h l)) (Fin.ext (by dsimp only; omega)) (Fin.ext (by dsimp only; omega))
    | rfl

set_option maxHeartbeats 2000000 in
theorem rd_v20 (r : Fin 4352) (h : Fin 8) (l : Fin 64) : V3 m ρ c main_v20 (ix2 r ⟨h.val * 64 + l.val, by omega⟩)
    = row4 (m ((c : Thread nD τ).loc main_arg6)) (r.val / 2176) (r.val % 2176) h l := by
  rw [← arg m ρ c main_arg6 (by decide)]
  unfold V3 W3 hostOps1 row4
  after_reads_at

/-- The product of two arrays' columns, added over the rows of both sequences, -/
def rows33 {n k : ℕ} (x : T3 2 2064 n) (y : T3 2 2064 k) (j : Fin n) (i : Fin k) : EReal :=
  ∑ b : Fin 2, ∑ t : Fin 2064, x (ix3 b t j) * y (ix3 b t i)

/-- and the same of an array over heads. -/
def rows43 {n k : ℕ} (x : (⟨4, ![2, 2064, 8, n]⟩ : Shape).Idx → EReal) (y : T3 2 2064 k) (h : Fin 8) (j : Fin n) (i : Fin k) : EReal :=
  ∑ b : Fin 2, ∑ t : Fin 2064, x (ix4 b t h j) * y (ix3 b t i)

/-- The rows beyond the sequence add nothing. -/
theorem live33 {n k K J : ℕ} (x : T3 2 2064 n) (y : T3 2 2064 k) (j : Fin n) (i : Fin k)
    (a : (⟨2, ![4352, K]⟩ : Shape).Idx → EReal) (b : (⟨2, ![4352, J]⟩ : Shape).Idx → EReal) (X : Fin K) (Y : Fin J)
    (ha : ∀ r : Fin 4352, a (ix2 r X) = row3 x (r.val / 2176) (r.val % 2176) j)
    (hb : ∀ r : Fin 4352, b (ix2 r Y) = row3 y (r.val / 2176) (r.val % 2176) i) : gram a b X Y = rows33 x y j i := by
  unfold gram rows33
  simp only [ha, hb]
  rw [rows_live (fun b t => row3 x b t j * row3 y b t i) (fun b t ht => by unfold row3; rw [dif_neg (by omega), zero_mul])]
  exact Finset.sum_congr rfl fun b _ => Finset.sum_congr rfl fun t _ => by
    unfold row3; rw [dif_pos ⟨b.isLt, t.isLt⟩, dif_pos ⟨b.isLt, t.isLt⟩]

theorem live43 {n k K J : ℕ} (x : (⟨4, ![2, 2064, 8, n]⟩ : Shape).Idx → EReal) (y : T3 2 2064 k) (h : Fin 8) (j : Fin n) (i : Fin k)
    (a : (⟨2, ![4352, K]⟩ : Shape).Idx → EReal) (b : (⟨2, ![4352, J]⟩ : Shape).Idx → EReal) (X : Fin K) (Y : Fin J)
    (ha : ∀ r : Fin 4352, a (ix2 r X) = row4 x (r.val / 2176) (r.val % 2176) h j)
    (hb : ∀ r : Fin 4352, b (ix2 r Y) = row3 y (r.val / 2176) (r.val % 2176) i) : gram a b X Y = rows43 x y h j i := by
  unfold gram rows43
  simp only [ha, hb]
  rw [rows_live (fun b t => row4 x b t h j * row3 y b t i) (fun b t ht => by unfold row4; rw [dif_neg (by omega), zero_mul])]
  exact Finset.sum_congr rfl fun b _ => Finset.sum_congr rfl fun t _ => by
    unfold row4 row3; rw [dif_pos ⟨b.isLt, t.isLt⟩, dif_pos ⟨b.isLt, t.isLt⟩]

set_option maxHeartbeats 2000000 in
/-- The gradient of the input projection's weight. -/
theorem res_v40 (k : Fin 1024) (j : Fin 1696) : W5 m ρ c (Proc.devRef .tc main_v40) (ix2 k j)
    = rows33 (m ((c : Thread nD τ).loc main_arg3)) (m ((c : Thread nD τ).loc main_arg0)) j k := by
  have hw : W4 m ρ c (Proc.devRef .tc main_v12) (ix2 (col j) k) = rows33 (m ((c : Thread nD τ).loc main_arg3)) (m ((c : Thread nD τ).loc main_arg0)) j k := by
    rw [show W4 m ρ c (Proc.devRef .tc main_v12) = W3 m ρ c (Proc.devRef .tc main_v12) from W4_of m ρ c main_v12 (by decide +kernel),
      show W3 m ρ c (Proc.devRef .tc main_v12) = W2 m ρ c (Proc.devRef .tc main_v12) from W3_of m ρ c main_v12 (by decide +kernel),
      show W2 m ρ c (Proc.devRef .tc main_v12) = (dat0 (V1 m ρ) c).arrAt 2 cfg0.N from W2_arr m ρ c 2, wgrad0]
    exact live33 _ _ _ _ _ _ _ _ (fun r => rd_v8 m ρ c r j) (fun r => rd_v11 m ρ c r k)
  have hc := col_val j
  have hj := j.isLt
  rw [← hw]
  unfold W5 hostOps2
  after_reads_at
  split_ifs
  all_goals first
    | (exfalso; omega)
    | (after_reads_at; exact congrArg (fun x => W4 m ρ c (Proc.devRef .tc main_v12) (ix2 x k)) (Fin.ext (by dsimp only; omega)))

set_option maxHeartbeats 2000000 in
/-- The gradient of the query projection's weight. -/
theorem res_v41 (k : Fin 384) (j : Fin 768) : W5 m ρ c (Proc.devRef .tc main_v41) (ix2 k j)
    = rows43 (m ((c : Thread nD τ).loc main_arg4)) (m ((c : Thread nD τ).loc main_arg1)) ⟨j.val / 96, by omega⟩ ⟨j.val % 96, by omega⟩ k := by
  have hw : ∀ (h : Fin 8) (l : Fin 96), W4 m ρ c (Proc.devRef .tc main_v27_0) (ix2 ⟨h.val * 128 + l.val, by omega⟩ k)
      = rows43 (m ((c : Thread nD τ).loc main_arg4)) (m ((c : Thread nD τ).loc main_arg1)) h l k := fun h l => by
    rw [show W4 m ρ c (Proc.devRef .tc main_v27_0) = (dat1 (V3 m ρ) c).arrAt 5 cfg1.N from W4_arr m ρ c 5, wgrad5]
    exact live43 _ _ _ _ _ _ _ _ _ (fun r => rd_v15 m ρ c r h l) (fun r => rd_v23 m ρ c r k)
  rw [← hw]
  unfold W5 hostOps2
  after_reads_at

set_option maxHeartbeats 2000000 in
/-- The gradient of the key and value projection's weight: the key's 64 lanes of each head, then the value's. -/
theorem res_v42 (k : Fin 256) (j : Fin 1024) : W5 m ρ c (Proc.devRef .tc main_v42) (ix2 k j)
    = if h : j.val % 128 < 64 then rows43 (m ((c : Thread nD τ).loc main_arg5)) (m ((c : Thread nD τ).loc main_arg2)) ⟨j.val / 128, by omega⟩ ⟨j.val % 128, h⟩ k
      else rows43 (m ((c : Thread nD τ).loc main_arg6)) (m ((c : Thread nD τ).loc main_arg2)) ⟨j.val / 128, by omega⟩ ⟨j.val % 128 - 64, by omega⟩ k := by
  have hk : ∀ (h : Fin 8) (l : Fin 64), W4 m ρ c (Proc.devRef .tc main_v27_1) (ix2 ⟨h.val * 128 + l.val, by omega⟩ k)
      = rows43 (m ((c : Thread nD τ).loc main_arg5)) (m ((c : Thread nD τ).loc main_arg2)) h l k := fun h l => by
    rw [show W4 m ρ c (Proc.devRef .tc main_v27_1) = (dat1 (V3 m ρ) c).arrAt 6 cfg1.N from W4_arr m ρ c 6, wgrad6]
    exact live43 _ _ _ _ _ _ _ _ _ (fun r => rd_v18 m ρ c r h l) (fun r => rd_v26 m ρ c r k)
  have hv : ∀ (h : Fin 8) (l : Fin 64), W4 m ρ c (Proc.devRef .tc main_v27_2) (ix2 ⟨h.val * 64 + l.val, by omega⟩ k)
      = rows43 (m ((c : Thread nD τ).loc main_arg6)) (m ((c : Thread nD τ).loc main_arg2)) h l k := fun h l => by
    rw [show W4 m ρ c (Proc.devRef .tc main_v27_2) = (dat1 (V3 m ρ) c).arrAt 7 cfg1.N from W4_arr m ρ c 7, wgrad7]
    exact live43 _ _ _ _ _ _ _ _ _ (fun r => rd_v20 m ρ c r h l) (fun r => rd_v26 m ρ c r k)
  simp only [← hk, ← hv]
  unfold W5 hostOps2
  after_reads_at
  split_ifs
  all_goals after_reads_at
  all_goals first
    | (exfalso; omega)
    | exact congrArg (fun x => W4 m ρ c (Proc.devRef .tc main_v27_1) (ix2 x k)) (Fin.ext (by dsimp only; omega))
    | exact congrArg (fun x => W4 m ρ c (Proc.devRef .tc main_v27_2) (ix2 x k)) (Fin.ext (by dsimp only; omega))

end Cert.ProjectionsIdeal.Proj

end
-- ==== Proof.ProjRef.lean ====
module

public import proofs.«01_k».proof.Proof.Gen.ProjectionsVjpIdeal.Read
public import proofs.«01_k».proof.Proof.EndArgs
public import Idealize.ShloMosaic.Lib.Pointwise

/-! # The projections' reference: each weight gradient as a sum over the rows of both sequences -/

@[expose] public section

set_option maxRecDepth 16384

noncomputable section

namespace Cert.ProjectionsVjpIdeal.Proj

open Idealize.ShloMosaic Cert.ProjectionsVjpIdeal Cert.ProjectionsVjpIdeal.Read Cert.End

theorem r20 (x0 : T3 2 2064 1024) (x3 : T3 2 2064 1696) (k : Fin 1024) (j : Fin 1696) : val_main_v20 (F := Ideal) x0 x3 (ix2 k j)
    = ∑ b : Fin 2, ∑ t : Fin 2064, x3 (ix3 b t j) * x0 (ix3 b t k) := by
  pointwise [val_main_v20, val_main_v19]

theorem r18 (x1 : T3 2 2064 384) (x4 : (⟨4, ![2, 2064, 8, 96]⟩ : Shape).Idx → EReal) (k : Fin 384) (j : Fin 768) : val_main_v18 (F := Ideal) x1 x4 (ix2 k j)
    = ∑ b : Fin 2, ∑ t : Fin 2064, x4 (ix4 b t ⟨j.val / 96, by omega⟩ ⟨j.val % 96, by omega⟩) * x1 (ix3 b t k) := by
  pointwise [val_main_v18, val_main_v17, val_main_v16]

theorem r15 (x2 : T3 2 2064 256) (x5 x6 : (⟨4, ![2, 2064, 8, 64]⟩ : Shape).Idx → EReal) (k : Fin 256) (j : Fin 1024) :
    val_main_v15 (F := Ideal) x2 x5 x6 (ix2 k j) = ∑ b : Fin 2, ∑ t : Fin 2064,
      (if h : j.val % 128 < 64 then x5 (ix4 b t ⟨j.val / 128, by omega⟩ ⟨j.val % 128, h⟩)
        else x6 (ix4 b t ⟨j.val / 128, by omega⟩ ⟨j.val % 128 - 64, by omega⟩)) * x2 (ix3 b t k) := by
  pointwise [val_main_v15, val_main_v14, val_main_v13, val_main_v12, val_main_v11, val_main_v10, val_main_cst_2, val_main_cst_3]
  refine Finset.sum_congr rfl fun b _ => Finset.sum_congr rfl fun t _ => ?_
  split_ifs
  all_goals first
    | (exfalso; omega)
    | rw [zero_add]
    | rw [add_zero]

end Cert.ProjectionsVjpIdeal.Proj

end
-- ==== Proof.ProjValue.lean ====
module

public import proofs.«01_k».proof.Defs
public import proofs.«01_k».proof.Proof.Gen.Projections
public import proofs.«01_k».proof.Proof.EndFrame
public import proofs.«01_k».proof.Proof.ProjRun
public import proofs.«01_k».proof.Proof.ProjHost
public import proofs.«01_k».proof.Proof.ProjRef
public import proofs.«01_k».proof.Proof.Gen.ProjectionsVjpIdeal.Run

/-! # The projections' frames, and the equality of their weight gradients with the reference's -/

@[expose] public section

noncomputable section

namespace Cert.Proof

open Idealize.ShloMosaic Idealize.SL.Sem

set_option maxHeartbeats 2000000 in
/-- The projections' text is the same in both programs. -/
theorem defs₀_proj : letI := Cert.Projections.Gen.facts; letI := Cert.ProjectionsIdeal.Gen.facts
    Cert.Projections.defs₀ (F := Bits) = Cert.ProjectionsIdeal.defs₀ (F := Bits) := by
  refine congrArg Defs.onTc (funext fun l => funext fun a => ?_)
  match l, a with
  | 0, a => exact rfl
  | 1, a => exact rfl

set_option maxHeartbeats 2000000 in
theorem frame_proj : letI := Cert.Projections.Gen.facts; quiescent_Projections := fun m ρ _ =>
  letI := Cert.Projections.Gen.facts
  letI := Cert.ProjectionsIdeal.Gen.facts
  run_of_eq (congrArg (Pipeline.defs _) defs₀_proj) (show Cert.Projections.main (F := Bits) = Cert.ProjectionsIdeal.main (F := Bits) from rfl)
    (Cert.ProjectionsIdeal.Gen.frame (F := Bits) m ρ)

theorem frame_proj_ideal : letI := Cert.ProjectionsIdeal.Gen.facts; quiescent_ProjectionsIdeal := fun m ρ _ =>
  Cert.ProjectionsIdeal.Gen.frame (F := Ideal) m ρ

theorem frame_proj_vjp : letI := Cert.ProjectionsVjpIdeal.Gen.facts; quiescent_ProjectionsVjpIdeal := fun m ρ _ =>
  (θ_run Cert.ProjectionsVjpIdeal.defs _ _).mono
    (fun r h => ⟨fun c => (h c).2.2.2, sem_eq_zero_of_no_sems (by decide) r.2⟩) (Cert.ProjectionsVjpIdeal.Value.run m ρ)

set_option maxHeartbeats 2000000 in
/-- The projections' program and its reference end with equal weight gradients, whatever the arguments. -/
theorem value_proj : letI := Cert.ProjectionsIdeal.Gen.facts; letI := Cert.ProjectionsVjpIdeal.Gen.facts
    algebraic_ProjectionsIdeal_ProjectionsVjpIdeal := by
  intro m g m' g' _ hag
  refine ⟨_, _, _, Cert.ProjectionsIdeal.Proj.run m g,
    (θ_run Cert.ProjectionsVjpIdeal.defs _ _).mono (fun _ h c => ?_) (Cert.ProjectionsVjpIdeal.Value.run m' g')⟩
  obtain ⟨h0, h1, h2, rest⟩ := h c
  obtain ⟨a0, a1, a2, a3, a4, a5, a6⟩ := hag c
  refine ⟨?_, ?_, ?_, rest⟩
  · rw [h0, Cert.ProjectionsVjpIdeal.Read.val_main_v20_eq, a0, a3]
    funext i
    obtain ⟨k, j, rfl⟩ : ∃ (k : Fin 1024) (j : Fin 1696), i = ix2 k j := ⟨i 0, i 1, by funext a; fin_cases a <;> rfl⟩
    exact (Cert.ProjectionsVjpIdeal.Proj.r20 _ _ k j).trans (Cert.ProjectionsIdeal.Proj.res_v40 m g c k j).symm
  · rw [h1, Cert.ProjectionsVjpIdeal.Read.val_main_v18_eq, a1, a4]
    funext i
    obtain ⟨k, j, rfl⟩ : ∃ (k : Fin 384) (j : Fin 768), i = ix2 k j := ⟨i 0, i 1, by funext a; fin_cases a <;> rfl⟩
    exact (Cert.ProjectionsVjpIdeal.Proj.r18 _ _ k j).trans (Cert.ProjectionsIdeal.Proj.res_v41 m g c k j).symm
  · rw [h2, Cert.ProjectionsVjpIdeal.Read.val_main_v15_eq, a2, a5, a6]
    funext i
    obtain ⟨k, j, rfl⟩ : ∃ (k : Fin 256) (j : Fin 1024), i = ix2 k j := ⟨i 0, i 1, by funext a; fin_cases a <;> rfl⟩
    refine (Cert.ProjectionsVjpIdeal.Proj.r15 _ _ _ k j).trans (Eq.trans ?_ (Cert.ProjectionsIdeal.Proj.res_v42 m g c k j).symm)
    by_cases hl : j.val % 128 < 64
    · simp only [dif_pos hl]; rfl
    · simp only [dif_neg hl]; rfl

end Cert.Proof

end
-- ==== Proof.SumsRun.lean ====
module

public import proofs.«01_k».proof.Proof.Gen.SmallSumsIdeal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pointwise

/-! # The sums of the small weights' gradients: the run with every array at the end kept, and the two calls' outputs -/

@[expose] public section

set_option maxRecDepth 16384

noncomputable section

namespace Cert.SmallSumsIdeal.Sums

open Cert.SmallSumsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the calls' own ends at the last boundary's contents, and no semaphore counter is left above
    zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

theorem hz : (![0, 0] : Fin 2 → Nat) = fun _ => 0 := funext fun a => by fin_cases a <;> rfl

/-- The one block of each call is the whole array. -/
theorem whole (o : Fin 2 → ℕ) (ho : o = fun _ => 0) (h : ∀ a, o a + S160x1024.size a ≤ S160x1024.size a) (i : S160x1024.Idx) :
    i ∈ (Rect.unit (s := S160x1024) o S160x1024.size h).set := by
  subst ho
  rw [Rect.mem_set_unit]
  exact fun a => ⟨Nat.zero_le _, by show (i a).val < 0 + S160x1024.size a; rw [Nat.zero_add]; exact (i a).isLt⟩

section
variable (V : (c : Dev nD) → (b : Ref sig .tc) → Buf (Elt F) ((c : Thread nD τ).loc b)) (c : Dev nD)

/-- The first call adds its two arrays. -/
theorem pair_sum : (dat0 V c).arrAt 2 cfg0.N = addf (V c main_arg0) (V c main_arg1) := by
  refine (dat0 V c).arrAt_eq_of_cover 2 _ (fun t _ => ?_) fun i => ⟨t0_0, by decide +kernel, ?_⟩
  · obtain rfl := fin_N0 t
    show (cfg0.win 2).cut (grid0.coords t0_0) ((dat0 V c).after 2 t0_0) = _
    rw [after0_2]
    unfold out0_2
    rw [View.canon_unit_zero hz]
    simp only [View.ld_unit_zero (S := S160x1024) hz]
    rfl
  · show i ∈ ((View.whole main_v0).slice (win0_2.rect t0_0)).set
    rw [View.set_slice_whole]
    exact whole _ (by decide +kernel) _ i

/-- The second call adds its four arrays. -/
theorem chip_sum : (dat1 V c).arrAt 4 cfg1.N
    = addf (addf (V c main_v0) (V c main_arg4)) (addf (V c main_arg2) (V c main_arg3)) := by
  refine (dat1 V c).arrAt_eq_of_cover 4 _ (fun t _ => ?_) fun i => ⟨t1_0, by decide +kernel, ?_⟩
  · obtain rfl := fin_N1 t
    show (cfg1.win 4).cut (grid1.coords t1_0) ((dat1 V c).after 4 t1_0) = _
    rw [after1_4]
    unfold out1_4 k1_pay1
    rw [View.canon_unit_zero hz, shapeCast_self]
    simp only [View.ld_unit_zero (S := S160x1024) hz]
    rfl
  · show i ∈ ((View.whole main_v1).slice (win1_4.rect t1_0)).set
    rw [View.set_slice_whole]
    exact whole _ (by decide +kernel) _ i
end

/-- The array the two calls end with: the sum of the five arguments. -/
theorem sum (c : Dev nD) : W2 m ρ c (Proc.devRef .tc main_v1)
    = addf (addf (addf (m ((c : Thread nD τ).loc main_arg0)) (m ((c : Thread nD τ).loc main_arg1))) (m ((c : Thread nD τ).loc main_arg4)))
      (addf (m ((c : Thread nD τ).loc main_arg2)) (m ((c : Thread nD τ).loc main_arg3))) := by
  rw [show W2 m ρ c (Proc.devRef .tc main_v1) = (dat1 (V1 m ρ) c).arrAt 4 cfg1.N from W2_arr m ρ c 4, chip_sum,
    show V1 m ρ c main_v0 = (dat0 (V0 m ρ) c).arrAt 2 cfg0.N from W1_arr m ρ c 2, pair_sum,
    show V1 m ρ c main_arg2 = _ from W1_args m ρ c main_arg2 (by decide),
    show V1 m ρ c main_arg3 = _ from W1_args m ρ c main_arg3 (by decide),
    show V1 m ρ c main_arg4 = _ from W1_args m ρ c main_arg4 (by decide)]

end Cert.SmallSumsIdeal.Sums

end
-- ==== Proof.SumsValue.lean ====
module

public import proofs.«01_k».proof.Defs
public import proofs.«01_k».proof.Proof.Gen.SmallSums
public import proofs.«01_k».proof.Proof.EndFrame
public import Idealize.ShloMosaic.Lib.StableHlo.RunClose
public import proofs.«01_k».proof.Proof.SumsRun
public import proofs.«01_k».proof.Proof.Gen.SmallSumsRefIdeal.Run

/-! # The sums of the small weights' gradients: frames, and equality with the reference -/

@[expose] public section

noncomputable section

namespace Cert.Proof

open Idealize.ShloMosaic Idealize.SL.Sem

set_option maxHeartbeats 2000000 in
/-- The text of the sums is the same in both programs. -/
theorem defs₀_sums : letI := Cert.SmallSums.Gen.facts; letI := Cert.SmallSumsIdeal.Gen.facts
    Cert.SmallSums.defs₀ (F := Bits) = Cert.SmallSumsIdeal.defs₀ (F := Bits) := by
  refine congrArg Defs.onTc (funext fun l => funext fun a => ?_)
  match l, a with
  | 0, a => exact rfl
  | 1, a => exact rfl

set_option maxHeartbeats 2000000 in
theorem frame_sums : letI := Cert.SmallSums.Gen.facts; quiescent_SmallSums := fun m ρ _ =>
  letI := Cert.SmallSums.Gen.facts
  letI := Cert.SmallSumsIdeal.Gen.facts
  run_of_eq (congrArg (Pipeline.defs _) defs₀_sums) (show Cert.SmallSums.main (F := Bits) = Cert.SmallSumsIdeal.main (F := Bits) from rfl)
    (Cert.SmallSumsIdeal.Gen.frame (F := Bits) m ρ)

theorem frame_sums_ideal : letI := Cert.SmallSumsIdeal.Gen.facts; quiescent_SmallSumsIdeal := fun m ρ _ =>
  Cert.SmallSumsIdeal.Gen.frame (F := Ideal) m ρ

theorem frame_sums_ref : letI := Cert.SmallSumsRefIdeal.Gen.facts; quiescent_SmallSumsRefIdeal := fun m ρ _ =>
  (θ_run Cert.SmallSumsRefIdeal.defs _ _).mono
    (fun r h => ⟨fun c => (h c).2.2.2.2.2.2.2.2.2.2.2.2.2.2.2.2.2, sem_eq_zero_of_no_sems (by decide) r.2⟩) (Cert.SmallSumsRefIdeal.Value.run m ρ)

/-- The sum of five arrays does not depend on its order. -/
theorem sum_order {S : Shape} (a b x y z : S.Idx → Ideal .f32) :
    addf (addf (addf (addf a b) x) y) z = addf (addf (addf a b) z) (addf x y) :=
  funext fun i => show a i + b i + x i + y i + z i = a i + b i + z i + (x i + y i) by
    generalize a i + b i = s
    exact (congrArg (· + z i) (add_assoc s (x i) (y i))).trans (add_right_comm s (x i + y i) (z i))

set_option maxHeartbeats 40000000 in
/-- The sums and their reference end with equal results, whatever the arguments. -/
theorem value_sums : letI := Cert.SmallSumsIdeal.Gen.facts; letI := Cert.SmallSumsRefIdeal.Gen.facts
    algebraic_SmallSumsIdeal_SmallSumsRefIdeal := by
  intro m g m' g' _ hag
  refine ⟨fun c => Cert.SmallSumsIdeal.Gen.W3 m g c (Proc.devRef .tc Cert.SmallSumsIdeal.main_v42),
    fun c => Cert.SmallSumsIdeal.Gen.W3 m g c (Proc.devRef .tc Cert.SmallSumsIdeal.main_v6),
    fun c => Cert.SmallSumsIdeal.Gen.W3 m g c (Proc.devRef .tc Cert.SmallSumsIdeal.main_v8),
    fun c => Cert.SmallSumsIdeal.Gen.W3 m g c (Proc.devRef .tc Cert.SmallSumsIdeal.main_v10),
    fun c => Cert.SmallSumsIdeal.Gen.W3 m g c (Proc.devRef .tc Cert.SmallSumsIdeal.main_v12),
    fun c => Cert.SmallSumsIdeal.Gen.W3 m g c (Proc.devRef .tc Cert.SmallSumsIdeal.main_v14),
    fun c => Cert.SmallSumsIdeal.Gen.W3 m g c (Proc.devRef .tc Cert.SmallSumsIdeal.main_v48),
    fun c => Cert.SmallSumsIdeal.Gen.W3 m g c (Proc.devRef .tc Cert.SmallSumsIdeal.main_v18),
    fun c => Cert.SmallSumsIdeal.Gen.W3 m g c (Proc.devRef .tc Cert.SmallSumsIdeal.main_v20),
    fun c => Cert.SmallSumsIdeal.Gen.W3 m g c (Proc.devRef .tc Cert.SmallSumsIdeal.main_v54),
    fun c => Cert.SmallSumsIdeal.Gen.W3 m g c (Proc.devRef .tc Cert.SmallSumsIdeal.main_v24),
    fun c => Cert.SmallSumsIdeal.Gen.W3 m g c (Proc.devRef .tc Cert.SmallSumsIdeal.main_v60),
    fun c => Cert.SmallSumsIdeal.Gen.W3 m g c (Proc.devRef .tc Cert.SmallSumsIdeal.main_v66),
    fun c => Cert.SmallSumsIdeal.Gen.W3 m g c (Proc.devRef .tc Cert.SmallSumsIdeal.main_v30),
    fun c => Cert.SmallSumsIdeal.Gen.W3 m g c (Proc.devRef .tc Cert.SmallSumsIdeal.main_v32),
    fun c => Cert.SmallSumsIdeal.Gen.W3 m g c (Proc.devRef .tc Cert.SmallSumsIdeal.main_v34),
    fun c => Cert.SmallSumsIdeal.Gen.W3 m g c (Proc.devRef .tc Cert.SmallSumsIdeal.main_v36),
    (θ_run Cert.SmallSumsIdeal.defs _ _).mono (fun r h c => ?_) (Cert.SmallSumsIdeal.Sums.run_all m g),
    (θ_run Cert.SmallSumsRefIdeal.defs _ _).mono (fun _ h c => ?_) (Cert.SmallSumsRefIdeal.Value.run m' g')⟩
  · refine ⟨?_, ?_, ?_, ?_, ?_, ?_, ?_, ?_, ?_, ?_, ?_, ?_, ?_, ?_, ?_, ?_, ?_, ?_, ?_, ?_, ?_, ?_, ?_⟩
    all_goals first
      | exact h.1 c _ (Cert.SmallSumsIdeal.Gen.mem_uc _ (by decide))
      | exact (h.1 c _ (Cert.SmallSumsIdeal.Gen.mem_uc _ (by decide))).trans (Cert.SmallSumsIdeal.Gen.W3_args m g c _ (by decide))
  · obtain ⟨h0, h1, h2, h3, h4, h5, h6, h7, h8, h9, h10, h11, h12, h13, h14, h15, h16, rest⟩ := h c
    obtain ⟨a0, a1, a2, a3, a4, a5⟩ := hag c
    have hs := (sum_order _ _ _ _ _).trans (Cert.SmallSumsIdeal.Sums.sum m g c).symm
    have hc := (Cert.SmallSumsIdeal.Gen.W2_args m g c Cert.SmallSumsIdeal.main_arg5 (by decide)).symm
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, rest⟩
    all_goals
      rw [a0, a1, a2, a3, a4, hs]
      try rw [a5, hc]
      dsimp only [Cert.SmallSumsIdeal.Gen.W3]
      generalize Cert.SmallSumsIdeal.Gen.W2 m g c = V
      unfold Cert.SmallSumsIdeal.Gen.hostOps2
      after_results_simp_entrywise
      rfl

end Cert.Proof

end
-- ==== Proof.lean ====
module

public import proofs.«01_k».proof.Proof.Gen.LayerEnd
public import proofs.«01_k».proof.Proof.Gen.LayerEndIdeal
public import proofs.«01_k».proof.Proof.Gen.LayerEndVjpIdeal
public import proofs.«01_k».proof.Proof.Gen.LayerEndVjpIdeal.Run
public import proofs.«01_k».proof.Proof.Gen.LayerEndVjpIdeal.Read
public import proofs.«01_k».proof.Proof.Gen.Projections
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Points
public import proofs.«01_k».proof.Proof.Gen.ProjectionsIdeal.Frame
public import proofs.«01_k».proof.Proof.Gen.ProjectionsVjpIdeal
public import proofs.«01_k».proof.Proof.Gen.ProjectionsVjpIdeal.Run
public import proofs.«01_k».proof.Proof.Gen.ProjectionsVjpIdeal.Read
public import proofs.«01_k».proof.Proof.Gen.SmallSums
public import proofs.«01_k».proof.Proof.Gen.SmallSumsIdeal
public import proofs.«01_k».proof.Proof.Gen.SmallSumsIdeal.Skeleton
public import proofs.«01_k».proof.Proof.Gen.SmallSumsIdeal.Launch
public import proofs.«01_k».proof.Proof.Gen.SmallSumsIdeal.Points
public import proofs.«01_k».proof.Proof.Gen.SmallSumsIdeal.Frame
public import proofs.«01_k».proof.Proof.Gen.SmallSumsRefIdeal
public import proofs.«01_k».proof.Proof.Gen.SmallSumsRefIdeal.Run
public import proofs.«01_k».proof.Proof.Gen.SmallSumsRefIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Host
public import proofs.«01_k».proof.Proof.Run
public import proofs.«01_k».proof.Proof.Ref
public import proofs.«01_k».proof.Proof.Pre
public import proofs.«01_k».proof.Proof.Gen.AdamwRefLateIdeal.Run
public import proofs.«01_k».proof.Proof.Gen.AdamwRefLateIdeal.Read
public import proofs.«01_k».proof.Proof.Gen.AdamwInIdeal.Frame
public import proofs.«01_k».proof.Proof.Gen.AdamwInIdeal.Value
public import proofs.«01_k».proof.Proof.Gen.AdamwRefInIdeal.Run
public import proofs.«01_k».proof.Proof.Gen.AdamwRefInIdeal.Read
public import proofs.«01_k».proof.Proof.Gen.AdamwUqIdeal.Frame
public import proofs.«01_k».proof.Proof.Gen.AdamwUqIdeal.Value
public import proofs.«01_k».proof.Proof.Gen.AdamwRefUqIdeal.Run
public import proofs.«01_k».proof.Proof.Gen.AdamwRefUqIdeal.Read
public import proofs.«01_k».proof.Proof.Gen.AdamwUkvIdeal.Frame
public import proofs.«01_k».proof.Proof.Gen.AdamwUkvIdeal.Value
public import proofs.«01_k».proof.Proof.Gen.AdamwRefUkvIdeal.Run
public import proofs.«01_k».proof.Proof.Gen.AdamwRefUkvIdeal.Read
public import proofs.«01_k».proof.Proof.AdamwValue
public import proofs.«01_k».proof.Proof.EndFrame
public import proofs.«01_k».proof.Proof.EndValue
public import proofs.«01_k».proof.Proof.ProjValue
public import proofs.«01_k».proof.Proof.SumsValue
public import Idealize.ShloMosaic.Adequacy
public import Idealize.ShloMosaic.Init

@[expose] public section

noncomputable section

namespace Cert.Proof

open Idealize.ShloMosaic Idealize.SL.Sem Cert.Attn

/-- The kernel program and the reference end with equal results. -/
theorem value : letI := Cert.KernelIdeal.Gen.facts; letI := Cert.ReferenceIdeal.Gen.facts; letI := Cert.Pre_finite.Gen.facts
    algebraic_KernelIdeal_ReferenceIdeal := by
  intro m g m' g' hpre hag
  have hr := fun c => Cert.Pre_finite.Attn.pre_real _ _ _ _ (hpre c)
  refine ⟨fun c => Cert.KernelIdeal.Gen.W4 m g c (Proc.devRef .tc Cert.KernelIdeal.main_v26),
    fun c => Cert.KernelIdeal.Gen.W4 m g c (Proc.devRef .tc Cert.KernelIdeal.main_v28),
    fun c => Cert.KernelIdeal.Gen.W4 m g c (Proc.devRef .tc Cert.KernelIdeal.main_v30), Cert.KernelIdeal.Attn.run m g,
    (θ_run Cert.ReferenceIdeal.defs _ _).mono (fun _ h c => ?_) (Cert.ReferenceIdeal.Value.run m' g')⟩
  obtain ⟨e60, e59, e58, rest⟩ := h c
  obtain ⟨h0, h1, h2, h3⟩ := hr c
  obtain ⟨a0, a1, a2, a3⟩ := hag c
  obtain ⟨M, hM⟩ := Cert.ReferenceIdeal.Attn.r13 h0 h1
  refine ⟨?_, ?_, ?_, rest⟩
  · rw [e60, Cert.ReferenceIdeal.Read.val_main_v60_eq, a0, a1, a2, a3]
    funext i
    obtain ⟨b, t, hd, d, rfl⟩ : ∃ (b : Fin 2) (t : Fin 2064) (hd : Fin 8) (d : Fin 96), i = ix4 b t hd d :=
      ⟨i 0, i 1, i 2, i 3, by funext a; fin_cases a <;> rfl⟩
    exact (Cert.ReferenceIdeal.Attn.r60 M hM h0 h1 h2 h3 _).trans (Cert.KernelIdeal.Attn.dq_res m g c h0 h1 h2 h3 b t hd d).symm
  · rw [e59, Cert.ReferenceIdeal.Read.val_main_v59_eq, a0, a1, a2, a3]
    funext i
    obtain ⟨b, t, hd, d, rfl⟩ : ∃ (b : Fin 2) (t : Fin 2064) (hd : Fin 8) (d : Fin 96), i = ix4 b t hd d :=
      ⟨i 0, i 1, i 2, i 3, by funext a; fin_cases a <;> rfl⟩
    exact (Cert.ReferenceIdeal.Attn.r59 M hM h0 h1 h2 h3 _).trans (Cert.KernelIdeal.Attn.dk_res m g c h0 h1 h2 h3 b t hd d).symm
  · rw [e58, Cert.ReferenceIdeal.Read.val_main_v58_eq, a0, a1, a3]
    funext i
    obtain ⟨b, t, hd, d, rfl⟩ : ∃ (b : Fin 2) (t : Fin 2064) (hd : Fin 8) (d : Fin 64), i = ix4 b t hd d :=
      ⟨i 0, i 1, i 2, i 3, by funext a; fin_cases a <;> rfl⟩
    exact (Cert.ReferenceIdeal.Attn.r58 M hM h0 h1 h3 _).trans (Cert.KernelIdeal.Attn.dv_res m g c h0 h1 h2 h3 b t hd d).symm

theorem claim : Cert.Claim := ⟨Cert.Kernel.Gen.facts, Cert.KernelIdeal.Gen.facts, Cert.ReferenceIdeal.Gen.facts,
  Cert.LayerEnd.Gen.facts, Cert.LayerEndIdeal.Gen.facts, Cert.LayerEndVjpIdeal.Gen.facts,
  Cert.AdamwLate.Gen.facts, Cert.AdamwLateIdeal.Gen.facts, Cert.AdamwRefLateIdeal.Gen.facts,
  Cert.AdamwIn.Gen.facts, Cert.AdamwInIdeal.Gen.facts, Cert.AdamwRefInIdeal.Gen.facts,
  Cert.AdamwUq.Gen.facts, Cert.AdamwUqIdeal.Gen.facts, Cert.AdamwRefUqIdeal.Gen.facts,
  Cert.AdamwUkv.Gen.facts, Cert.AdamwUkvIdeal.Gen.facts, Cert.AdamwRefUkvIdeal.Gen.facts,
  Cert.Projections.Gen.facts, Cert.ProjectionsIdeal.Gen.facts, Cert.ProjectionsVjpIdeal.Gen.facts,
  Cert.SmallSums.Gen.facts, Cert.SmallSumsIdeal.Gen.facts, Cert.SmallSumsRefIdeal.Gen.facts,
  Cert.Pre_finite.Gen.facts,
  fun m ρ _ => Cert.Kernel.Gen.frame m ρ, fun m ρ _ => Cert.KernelIdeal.Gen.frame m ρ,
  fun m ρ _ => (θ_run Cert.ReferenceIdeal.defs _ _).mono
    (fun r h => ⟨fun c => (h c).2.2.2, sem_eq_zero_of_no_sems (by decide) r.2⟩) (Cert.ReferenceIdeal.Value.run m ρ),
  frame_end, frame_end_ideal, frame_end_vjp,
  frame_Late, frame_Late_ideal, frame_Late_ref, frame_In, frame_In_ideal, frame_In_ref, frame_Uq, frame_Uq_ideal, frame_Uq_ref, frame_Ukv, frame_Ukv_ideal, frame_Ukv_ref,
  frame_proj, frame_proj_ideal, frame_proj_vjp,
  frame_sums, frame_sums_ideal, frame_sums_ref,
  ⟨IdealRules.named_const.statement Cert.KernelIdeal.κ "s_log2" .f32 0x3E16C740#32 (((3424635 / 33554432) * (Real.log 2)⁻¹ : ℝ) : EReal) rfl,
    IdealRules.named_const.statement Cert.KernelIdeal.κ "log2_e" .f32 0x3FB8AA3B#32 (((Real.log 2)⁻¹ : ℝ) : EReal) rfl⟩,
  value, trivial, value_end, trivial, value_Late, trivial, value_In, trivial, value_Uq, trivial, value_Ukv, trivial, value_proj, trivial, value_sums⟩

end Cert.Proof

end
